-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4)
      ∧ r.2.mem ((c.tc : Thread Cert.Wgrad.nD Cert.Wgrad.τ).loc Cert.Wgrad.main_arg5) = m ((c.tc : Thread Cert.Wgrad.nD Cert.Wgrad.τ).loc Cert.Wgrad.main_arg5)
      ∧ r.2.mem ((c.tc : Thread Cert.Wgrad.nD Cert.Wgrad.τ).loc Cert.Wgrad.main_arg6) = m ((c.tc : Thread Cert.Wgrad.nD Cert.Wgrad.τ).loc Cert.Wgrad.main_arg6))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
      ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5)
      ∧ r.2.mem ((c.tc : Thread Cert.WgradIdeal.nD Cert.WgradIdeal.τ).loc Cert.WgradIdeal.main_arg6) = m ((c.tc : Thread Cert.WgradIdeal.nD Cert.WgradIdeal.τ).loc Cert.WgradIdeal.main_arg6))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4)
      ∧ r.2.mem ((c.tc : Thread Cert.WgradRefIdeal.nD Cert.WgradRefIdeal.τ).loc Cert.WgradRefIdeal.main_arg5) = m ((c.tc : Thread Cert.WgradRefIdeal.nD Cert.WgradRefIdeal.τ).loc Cert.WgradRefIdeal.main_arg5)
      ∧ r.2.mem ((c.tc : Thread Cert.WgradRefIdeal.nD Cert.WgradRefIdeal.τ).loc Cert.WgradRefIdeal.main_arg6) = m ((c.tc : Thread Cert.WgradRefIdeal.nD Cert.WgradRefIdeal.τ).loc Cert.WgradRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v14_2)) (v1 : (c : Dev Cert.MlpIdeal.nD) → Buf (Elt Ideal) ((c.tc : Thread Cert.MlpIdeal.nD Cert.MlpIdeal.τ).loc Cert.MlpIdeal.main_v14_3)) (v2 : (c : Dev Cert.MlpIdeal.nD) → Buf (Elt Ideal) ((c.tc : Thread Cert.MlpIdeal.nD Cert.MlpIdeal.τ).loc Cert.MlpIdeal.main_v14_4)) (v3 : (c : Dev Cert.MlpIdeal.nD) → Buf (Elt Ideal) ((c.tc : Thread Cert.MlpIdeal.nD Cert.MlpIdeal.τ).loc Cert.MlpIdeal.main_v15)) (v4 : (c : Dev Cert.MlpIdeal.nD) → Buf (Elt Ideal) ((c.tc : Thread Cert.MlpIdeal.nD Cert.MlpIdeal.τ).loc Cert.MlpIdeal.main_v16)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v14_2) = v0 c
          ∧ r.2.mem ((c.tc : Thread Cert.MlpIdeal.nD Cert.MlpIdeal.τ).loc Cert.MlpIdeal.main_v14_3) = v1 c
          ∧ r.2.mem ((c.tc : Thread Cert.MlpIdeal.nD Cert.MlpIdeal.τ).loc Cert.MlpIdeal.main_v14_4) = v2 c
          ∧ r.2.mem ((c.tc : Thread Cert.MlpIdeal.nD Cert.MlpIdeal.τ).loc Cert.MlpIdeal.main_v15) = v3 c
          ∧ r.2.mem ((c.tc : Thread Cert.MlpIdeal.nD Cert.MlpIdeal.τ).loc Cert.MlpIdeal.main_v16) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v104) = v0 c
          ∧ r.2.mem ((c.tc : Thread Cert.MlpRefIdeal.nD Cert.MlpRefIdeal.τ).loc Cert.MlpRefIdeal.main_v87) = v1 c
          ∧ r.2.mem ((c.tc : Thread Cert.MlpRefIdeal.nD Cert.MlpRefIdeal.τ).loc Cert.MlpRefIdeal.main_v59) = v2 c
          ∧ r.2.mem ((c.tc : Thread Cert.MlpRefIdeal.nD Cert.MlpRefIdeal.τ).loc Cert.MlpRefIdeal.main_v83) = v3 c
          ∧ r.2.mem ((c.tc : Thread Cert.MlpRefIdeal.nD Cert.MlpRefIdeal.τ).loc Cert.MlpRefIdeal.main_v77) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v53) = v0 c
          ∧ r.2.mem ((c.tc : Thread Cert.InprojRefIdeal.nD Cert.InprojRefIdeal.τ).loc Cert.InprojRefIdeal.main_v36) = v1 c
          ∧ r.2.mem ((c.tc : Thread Cert.InprojRefIdeal.nD Cert.InprojRefIdeal.τ).loc Cert.InprojRefIdeal.main_v54) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)
      ∧ m' ((c.tc : Thread Cert.WgradRefIdeal.nD Cert.WgradRefIdeal.τ).loc Cert.WgradRefIdeal.main_arg5) = m ((c.tc : Thread Cert.WgradIdeal.nD Cert.WgradIdeal.τ).loc Cert.WgradIdeal.main_arg5)
      ∧ m' ((c.tc : Thread Cert.WgradRefIdeal.nD Cert.WgradRefIdeal.τ).loc Cert.WgradRefIdeal.main_arg6) = m ((c.tc : Thread Cert.WgradIdeal.nD Cert.WgradIdeal.τ).loc Cert.WgradIdeal.main_arg6)) →
    ∃ (v0 : (c : Dev Cert.WgradIdeal.nD) → Buf (Elt Ideal) ((c.tc : Thread Cert.WgradIdeal.nD Cert.WgradIdeal.τ).loc Cert.WgradIdeal.main_v13)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v13) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
          ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5)
          ∧ r.2.mem ((c.tc : Thread Cert.WgradIdeal.nD Cert.WgradIdeal.τ).loc Cert.WgradIdeal.main_arg6) = m ((c.tc : Thread Cert.WgradIdeal.nD Cert.WgradIdeal.τ).loc Cert.WgradIdeal.main_arg6))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v26) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4)
          ∧ r.2.mem ((c.tc : Thread Cert.WgradRefIdeal.nD Cert.WgradRefIdeal.τ).loc Cert.WgradRefIdeal.main_arg5) = m' ((c.tc : Thread Cert.WgradRefIdeal.nD Cert.WgradRefIdeal.τ).loc Cert.WgradRefIdeal.main_arg5)
          ∧ r.2.mem ((c.tc : Thread Cert.WgradRefIdeal.nD Cert.WgradRefIdeal.τ).loc Cert.WgradRefIdeal.main_arg6) = m' ((c.tc : Thread Cert.WgradRefIdeal.nD Cert.WgradRefIdeal.τ).loc Cert.WgradRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v15) = v0 c
          ∧ r.2.mem ((c.tc : Thread Cert.MixRefIdeal.nD Cert.MixRefIdeal.τ).loc Cert.MixRefIdeal.main_v28) = v1 c
          ∧ r.2.mem ((c.tc : Thread Cert.MixRefIdeal.nD Cert.MixRefIdeal.τ).loc Cert.MixRefIdeal.main_v41) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v34_0)) (v1 : (c : Dev Cert.ProjIdeal.nD) → Buf (Elt Ideal) ((c.tc : Thread Cert.ProjIdeal.nD Cert.ProjIdeal.τ).loc Cert.ProjIdeal.main_v34_1)) (v2 : (c : Dev Cert.ProjIdeal.nD) → Buf (Elt Ideal) ((c.tc : Thread Cert.ProjIdeal.nD Cert.ProjIdeal.τ).loc Cert.ProjIdeal.main_v34_2)) (v3 : (c : Dev Cert.ProjIdeal.nD) → Buf (Elt Ideal) ((c.tc : Thread Cert.ProjIdeal.nD Cert.ProjIdeal.τ).loc Cert.ProjIdeal.main_v34_3)) (v4 : (c : Dev Cert.ProjIdeal.nD) → Buf (Elt Ideal) ((c.tc : Thread Cert.ProjIdeal.nD Cert.ProjIdeal.τ).loc Cert.ProjIdeal.main_v34_4)) (v5 : (c : Dev Cert.ProjIdeal.nD) → Buf (Elt Ideal) ((c.tc : Thread Cert.ProjIdeal.nD Cert.ProjIdeal.τ).loc Cert.ProjIdeal.main_v34_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v34_0) = v0 c
          ∧ r.2.mem ((c.tc : Thread Cert.ProjIdeal.nD Cert.ProjIdeal.τ).loc Cert.ProjIdeal.main_v34_1) = v1 c
          ∧ r.2.mem ((c.tc : Thread Cert.ProjIdeal.nD Cert.ProjIdeal.τ).loc Cert.ProjIdeal.main_v34_2) = v2 c
          ∧ r.2.mem ((c.tc : Thread Cert.ProjIdeal.nD Cert.ProjIdeal.τ).loc Cert.ProjIdeal.main_v34_3) = v3 c
          ∧ r.2.mem ((c.tc : Thread Cert.ProjIdeal.nD Cert.ProjIdeal.τ).loc Cert.ProjIdeal.main_v34_4) = v4 c
          ∧ r.2.mem ((c.tc : Thread Cert.ProjIdeal.nD Cert.ProjIdeal.τ).loc Cert.ProjIdeal.main_v34_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v75) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v77) = v2 c
          ∧ r.2.mem ((c.tc : Thread Cert.ProjRefIdeal.nD Cert.ProjRefIdeal.τ).loc Cert.ProjRefIdeal.main_v82) = v3 c
          ∧ r.2.mem ((c.tc : Thread Cert.ProjRefIdeal.nD Cert.ProjRefIdeal.τ).loc Cert.ProjRefIdeal.main_v87) = v4 c
          ∧ r.2.mem ((c.tc : Thread Cert.ProjRefIdeal.nD Cert.ProjRefIdeal.τ).loc Cert.ProjRefIdeal.main_v94) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hWgrad : Cert.Wgrad.Facts) (hWgradIdeal : Cert.WgradIdeal.Facts) (hWgradRefIdeal : Cert.WgradRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite : Cert.Pre_finite.Facts) (hPre_mlp_finite : Cert.Pre_mlp_finite.Facts) (hPre_inproj_finite : Cert.Pre_inproj_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Wgrad (hWgrad := hWgrad)
    ∧ quiescent_WgradIdeal (hWgradIdeal := hWgradIdeal)
    ∧ quiescent_WgradRefIdeal (hWgradRefIdeal := hWgradRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Wgrad_WgradIdeal
    ∧ algebraic_WgradIdeal_WgradRefIdeal (hWgradIdeal := hWgradIdeal) (hWgradRefIdeal := hWgradRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
-- ==== Pre_finite.lean ====
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bitsLt_bf16_f32 : FTy.bits .bf16 < FTy.bits .f32
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v14 : IVec S_ 1) (main_v15 : FVec F S1x512 .f32) (main_v16 : FVec F S1x512 .f32) : IVec S_ 1 :=
  let main_v17 : IVec S1x512 1 := cmpf .olt main_v15 main_v16
  let main_c_5 : IVec S_ 1 := constantI S_ 1 1#1
  let main_v18 : IVec S_ 1 := (fun x v => Host.reduce IntOp.andi x v reducesTo_S1x512_S_d0_1 h_S_) main_v17 main_c_5
  let main_v19 : IVec S_ 1 := andi main_v14 main_v18
  main_v19

def fn {F : FTy → Type} [FloatOps F] (main_arg0 : FVec F S4096x512 .f32) (main_arg1 : FVec F S4096x512 .f32) (main_arg2 : FVec F S4x128x128 .bf16) (main_arg3 : FVec F S1x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4x128x128 .f32 := (extf .f32 · bitsLt_bf16_f32) main_arg2
  let main_v10 : FVec F S4x128x128 .f32 := Host.absf main_v9
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : IVec S_ 1 := andi main_v8 main_v13
  let main_v15 : FVec F S1x512 .f32 := Host.absf main_arg3
  let main_cst_4 : FVec F S_ .f32 := constant S_ .f32 0x7F800000#32
  let main_v16 : FVec F S1x512 .f32 := broadcastInDim S1x512 ![] bcast_S_S1x512 main_cst_4
  fn_part1 (F := F) main_v14 main_v15 main_v16
-- ==== Pre_inproj_finite.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S3328x1024 : Shape := ⟨2, ![3328, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S3328x1024 : S_.BroadcastsInDim S3328x1024 (![] : Fin 0 → Fin S3328x1024.rank)
  reducesTo_S3328x1024_S_d0_1 : S3328x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S3328x1024 .bf16) (main_arg8 : FVec F S1x1024 .f32) (main_v33 : IVec S_ 1) (main_v34 : FVec F S4096x1024 .f32) (main_cst_10 : FVec F S_ .f32) : IVec S_ 1 :=
  let main_v35 : FVec F S4096x1024 .f32 := broadcastInDim S4096x1024 ![] bcast_S_S4096x1024 main_cst_10
  let main_v36 : IVec S4096x1024 1 := cmpf .olt main_v34 main_v35
  let main_c_11 : IVec S_ 1 := constantI S_ 1 1#1
  let main_v37 : IVec S_ 1 := (fun x v => Host.reduce IntOp.andi x v reducesTo_S4096x1024_S_d0_1 h_S_) main_v36 main_c_11
  let main_v38 : IVec S_ 1 := andi main_v33 main_v37
  let main_v39 : FVec F S3328x1024 .f32 := (extf .f32 · bitsLt_bf16_f32) main_arg7
  let main_v40 : FVec F S3328x1024 .f32 := Host.absf main_v39
  let main_cst_12 : FVec F S_ .f32 := constant S_ .f32 0x7F800000#32
  let main_v41 : FVec F S3328x1024 .f32 := broadcastInDim S3328x1024 ![] bcast_S_S3328x1024 main_cst_12
  let main_v42 : IVec S3328x1024 1 := cmpf .olt main_v40 main_v41
  let main_c_13 : IVec S_ 1 := constantI S_ 1 1#1
  let main_v43 : IVec S_ 1 := (fun x v => Host.reduce IntOp.andi x v reducesTo_S3328x1024_S_d0_1 h_S_) main_v42 main_c_13
  let main_v44 : IVec S_ 1 := andi main_v38 main_v43
  let main_v45 : FVec F S1x1024 .f32 := Host.absf main_arg8
  let main_cst_14 : FVec F S_ .f32 := constant S_ .f32 0x7F800000#32
  let main_v46 : FVec F S1x1024 .f32 := broadcastInDim S1x1024 ![] bcast_S_S1x1024 main_cst_14
  let main_v47 : IVec S1x1024 1 := cmpf .olt main_v45 main_v46
  let main_c_15 : IVec S_ 1 := constantI S_ 1 1#1
  let main_v48 : IVec S_ 1 := (fun x v => Host.reduce IntOp.andi x v reducesTo_S1x1024_S_d0_1 h_S_) main_v47 main_c_15
  let main_v49 : IVec S_ 1 := andi main_v44 main_v48
  main_v49

def fn_part1 {F : FTy → Type} [FloatOps F] (main_arg4 : FVec F S4096x2048 .bf16) (main_arg5 : FVec F S4096x1024 .f32) (main_arg6 : FVec F S4096x1024 .f32) (main_arg7 : FVec F S3328x1024 .bf16) (main_arg8 : FVec F S1x1024 .f32) (main_v16 : IVec S_ 1) (main_v17 : FVec F S4096x128 .f32) : IVec S_ 1 :=
  let main_v18 : FVec F S4096x128 .f32 := Host.absf main_v17
  let main_cst_4 : FVec F S_ .f32 := constant S_ .f32 0x7F800000#32
  let main_v19 : FVec F S4096x128 .f32 := broadcastInDim S4096x128 ![] bcast_S_S4096x128 main_cst_4
  let main_v20 : IVec S4096x128 1 := cmpf .olt main_v18 main_v19
  let main_c_5 : IVec S_ 1 := constantI S_ 1 1#1
  let main_v21 : IVec S_ 1 := (fun x v => Host.reduce IntOp.andi x v reducesTo_S4096x128_S_d0_1 h_S_) main_v20 main_c_5
  let main_v22 : IVec S_ 1 := andi main_v16 main_v21
  let main_v23 : FVec F S4096x2048 .f32 := (extf .f32 · bitsLt_bf16_f32) main_arg4
  let main_v24 : FVec F S4096x2048 .f32 := Host.absf main_v23
  let main_cst_6 : FVec F S_ .f32 := constant S_ .f32 0x7F800000#32
  let main_v25 : FVec F S4096x2048 .f32 := broadcastInDim S4096x2048 ![] bcast_S_S4096x2048 main_cst_6
  let main_v26 : IVec S4096x2048 1 := cmpf .olt main_v24 main_v25
  let main_c_7 : IVec S_ 1 := constantI S_ 1 1#1
  let main_v27 : IVec S_ 1 := (fun x v => Host.reduce IntOp.andi x v reducesTo_S4096x2048_S_d0_1 h_S_) main_v26 main_c_7
  let main_v28 : IVec S_ 1 := andi main_v22 main_v27
  let main_v29 : FVec F S4096x1024 .f32 := Host.absf main_arg5
  let main_cst_8 : FVec F S_ .f32 := constant S_ .f32 0x7F800000#32
  let main_v30 : FVec F S4096x1024 .f32 := broadcastInDim S4096x1024 ![] bcast_S_S4096x1024 main_cst_8
  let main_v31 : IVec S4096x1024 1 := cmpf .olt main_v29 main_v30
  let main_c_9 : IVec S_ 1 := constantI S_ 1 1#1
  let main_v32 : IVec S_ 1 := (fun x v => Host.reduce IntOp.andi x v reducesTo_S4096x1024_S_d0_1 h_S_) main_v31 main_c_9
  let main_v33 : IVec S_ 1 := andi main_v28 main_v32
  let main_v34 : FVec F S4096x1024 .f32 := Host.absf main_arg6
  let main_cst_10 : FVec F S_ .f32 := constant S_ .f32 0x7F800000#32
  fn_part2 (F := F) main_arg7 main_arg8 main_v33 main_v34 main_cst_10

def fn {F : FTy → Type} [FloatOps F] (main_arg0 : FVec F S4096x512 .bf16) (main_arg1 : FVec F S4096x512 .bf16) (main_arg2 : FVec F S4096x128 .bf16) (main_arg3 : FVec F S4096x128 .bf16) (main_arg4 : FVec F S4096x2048 .bf16) (main_arg5 : FVec F S4096x1024 .f32) (main_arg6 : FVec F S4096x1024 .f32) (main_arg7 : FVec F S3328x1024 .bf16) (main_arg8 : FVec F S1x1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x128 .f32 := (extf .f32 · bitsLt_bf16_f32) main_arg3
  fn_part1 (F := F) main_arg4 main_arg5 main_arg6 main_arg7 main_arg8 main_v16 main_v17
-- ==== Pre_mlp_finite.lean ====
abbrev S4096x1024 : Shape := ⟨2, ![4096, 1024]⟩
abbrev S8x1024x512 : Shape := ⟨3, ![8, 1024, 512]⟩
abbrev S8x512x1024 : Shape := ⟨3, ![8, 512, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S8x1024x512 : S_.BroadcastsInDim S8x1024x512 (![] : Fin 0 → Fin S8x1024x512.rank)
  reducesTo_S8x1024x512_S_d0_1_2 : S8x1024x512.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v14 : IVec S_ 1) (main_v16 : FVec F S8x512x1024 .f32) (main_cst_4 : FVec F S_ .f32) : IVec S_ 1 :=
  let main_v17 : FVec F S8x512x1024 .f32 := broadcastInDim S8x512x1024 ![] bcast_S_S8x512x1024 main_cst_4
  let main_v18 : IVec S8x512x1024 1 := cmpf .olt main_v16 main_v17
  let main_c_5 : IVec S_ 1 := constantI S_ 1 1#1
  let main_v19 : IVec S_ 1 := (fun x v => Host.reduce IntOp.andi x v reducesTo_S8x512x1024_S_d0_1_2 h_S_) main_v18 main_c_5
  let main_v20 : IVec S_ 1 := andi main_v14 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  main_v30

def fn {F : FTy → Type} [FloatOps F] (main_arg0 : FVec F S4096x1024 .f32) (main_arg1 : FVec F S4096x1024 .f32) (main_arg2 : FVec F S8x1024x512 .bf16) (main_arg3 : FVec F S8x512x1024 .bf16) (main_arg4 : FVec F S1x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8x1024x512 .f32 := (extf .f32 · bitsLt_bf16_f32) main_arg2
  let main_v10 : FVec F S8x1024x512 .f32 := Host.absf main_v9
  let main_cst_2 : FVec F S_ .f32 := constant S_ .f32 0x7F800000#32
  let main_v11 : FVec F S8x1024x512 .f32 := broadcastInDim S8x1024x512 ![] bcast_S_S8x1024x512 main_cst_2
  let main_v12 : IVec S8x1024x512 1 := cmpf .olt main_v10 main_v11
  let main_c_3 : IVec S_ 1 := constantI S_ 1 1#1
  let main_v13 : IVec S_ 1 := (fun x v => Host.reduce IntOp.andi x v reducesTo_S8x1024x512_S_d0_1_2 h_S_) main_v12 main_c_3
  let main_v14 : IVec S_ 1 := andi main_v8 main_v13
  let main_v15 : FVec F S8x512x1024 .f32 := (extf .f32 · bitsLt_bf16_f32) main_arg3
  let main_v16 : FVec F S8x512x1024 .f32 := Host.absf main_v15
  let main_cst_4 : FVec F S_ .f32 := constant S_ .f32 0x7F800000#32
  fn_part1 (F := F) main_arg4 main_arg5 main_v14 main_v16 main_cst_4
-- ==== Kernel.lean ====
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩
abbrev S8x128 : Shape := ⟨2, ![8, 128]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4x128x128, .bf16⟩
  | .hbm, ⟨3, _⟩ => ⟨S1x512, .f32⟩
  | .hbm, ⟨4, _⟩ => ⟨S_, .f32⟩
  | .hbm, ⟨5, _⟩ => ⟨S8x128, .f32⟩
  | .hbm, ⟨6, _⟩ => ⟨S4096x512, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x512 : Shape := ⟨2, ![4096, 512]⟩
abbrev S4x128x128 : Shape := ⟨3, ![4, 128, 128]⟩
abbrev S1x512 : Shape := ⟨2, ![1, 512]⟩
abbrev S2x2048x512 : Shape := ⟨3, ![2, 2048, 512]⟩
abbrev S512 : Shape := ⟨1, ![512]⟩
abbrev S_ : Shape := ⟨0, ![]⟩
abbrev S2x1x512 : Shape := ⟨3, ![2, 1, 512]⟩
abbrev S2x2049x512 : Shape := ⟨3, ![2, 2049, 512]⟩
abbrev S2048 : Shape := ⟨1, ![2048]⟩
abbrev S2x2049x128 : Shape := ⟨3, ![2, 2049, 128]⟩
abbrev S2x2048x128 : Shape := ⟨3, ![2, 2048, 128]⟩
abbrev S2x1x128 : Shape := ⟨3, ![2, 1, 128]⟩
abbrev S2x2047x128 : Shape := ⟨3, ![2, 2047, 128]⟩
abbrev S1x2048x1 : Shape := ⟨3, ![1, 2048, 1]⟩
abbrev S2x3x128 : Shape := ⟨3, ![2, 3, 128]⟩
abbrev S2x2045x128 : Shape := ⟨3, ![2, 2045, 128]⟩
abbrev S2x7x128 : Shape := ⟨3, ![2, 7, 128]⟩
abbrev S2x2041x128 : Shape := ⟨3, ![2, 2041, 128]⟩
abbrev S2x15x128 : Shape := ⟨3, ![2, 15, 128]⟩
abbrev S2x2033x128 : Shape := ⟨3, ![2, 2033, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩

abbrev nBuf : Space → Nat
  | .hbm => 191
  | .vmem => 0
  | .smem => 0
  | _ => 0

abbrev hbmTy0_0 (i : Nat) : BufTy := match i % 128 with
  | 0 => ⟨S4096x512, .f32⟩
  | 1 => ⟨S4096x512, .f32⟩
  | 2 => ⟨S4x128x128, .bf16⟩
  | 3 => ⟨S1x512, .f32⟩
  | 4 => ⟨S4x128x128, .f32⟩
  | 5 => ⟨S2x2048x512, .f32⟩
  | 6 => ⟨S512, .f32⟩
  | 7 => ⟨S_, .f32⟩
  | 8 => ⟨S2x1x512, .f32⟩
  | 9 => ⟨S_, .f32⟩
  | 10 => ⟨S_, .f32⟩
  | 11 => ⟨S2x2048x512, .f32⟩
  | 12 => ⟨S2x2049x512, .f32⟩
  | 13 => ⟨S_, .f32⟩
  | 14 => ⟨S2x1x512, .f32⟩
  | 15 => ⟨S2048, .i32⟩
  | 16 => ⟨S2x2049x128, .f32⟩
  | 17 => ⟨S2x2048x128, .f32⟩
  | 18 => ⟨S_, .f32⟩
  | 19 => ⟨S2x1x128, .f32⟩
  | 20 => ⟨S2x2047x128, .f32⟩
  | 21 => ⟨S2x2048x128, .f32⟩
  | 22 => ⟨S_, .f32⟩
  | 23 => ⟨S2x1x128, .f32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048, .f32⟩
  | 31 => ⟨S1x2048x1, .f32⟩
  | 32 => ⟨S2x2048x128, .f32⟩
  | 33 => ⟨S2x2048x128, .f32⟩
  | 34 => ⟨S2x2048x128, .f32⟩
  | 35 => ⟨S2x2049x128, .f32⟩
  | 36 => ⟨S2x2048x128, .f32⟩
  | 37 => ⟨S_, .f32⟩
  | 38 => ⟨S2x3x128, .f32⟩
  | 39 => ⟨S2x2045x128, .f32⟩
  | 40 => ⟨S2x2048x128, .f32⟩
  | 41 => ⟨S_, .f32⟩
  | 42 => ⟨S2x3x128, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .f32⟩
  | 50 => ⟨S1x2048x1, .f32⟩
  | 51 => ⟨S2x2048x128, .f32⟩
  | 52 => ⟨S2x2048x128, .f32⟩
  | 53 => ⟨S2x2048x128, .f32⟩
  | 54 => ⟨S2x2049x128, .f32⟩
  | 55 => ⟨S2x2048x128, .f32⟩
  | 56 => ⟨S_, .f32⟩
  | 57 => ⟨S2x7x128, .f32⟩
  | 58 => ⟨S2x2041x128, .f32⟩
  | 59 => ⟨S2x2048x128, .f32⟩
  | 60 => ⟨S_, .f32⟩
  | 61 => ⟨S2x7x128, .f32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S2048, .f32⟩
  | 69 => ⟨S1x2048x1, .f32⟩
  | 70 => ⟨S2x2048x128, .f32⟩
  | 71 => ⟨S2x2048x128, .f32⟩
  | 72 => ⟨S2x2048x128, .f32⟩
  | 73 => ⟨S2x2049x128, .f32⟩
  | 74 => ⟨S2x2048x128, .f32⟩
  | 75 => ⟨S_, .f32⟩
  | 76 => ⟨S2x15x128, .f32⟩
  | 77 => ⟨S2x2033x128, .f32⟩
  | 78 => ⟨S2x2048x128, .f32⟩
  | 79 => ⟨S_, .f32⟩
  | 80 => ⟨S2x15x128, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S2048, .f32⟩
  | 88 => ⟨S1x2048x1, .f32⟩
  | 89 => ⟨S2x2048x128, .f32⟩
  | 90 => ⟨S2x2048x128, .f32⟩
  | 91 => ⟨S2x2048x128, .f32⟩
  | 92 => ⟨S2x2048x1x128, .f32⟩
  | 93 => ⟨S2x2048x1x128, .f32⟩
  | 94 => ⟨S2x2048x1x128, .f32⟩
  | 95 => ⟨S2x2048x1x128, .f32⟩
  | 96 => ⟨S2x2048x4x128, .f32⟩
  | 97 => ⟨S2x2048x4x128, .f32⟩
  | 98 => ⟨S2x2048x4x128, .f32⟩
  | 99 => ⟨S4x128x2x2048, .f32⟩
  | 100 => ⟨S2x2048x4x128, .f32⟩
  | 101 => ⟨S2x2048x512, .f32⟩
  | 102 => ⟨S1x1x512, .f32⟩
  | 103 => ⟨S2x2048x512, .f32⟩
  | 104 => ⟨S2x2048x512, .f32⟩
  | 105 => ⟨S4096x512, .f32⟩
  | 106 => ⟨S2x2048x512, .f32⟩
  | 107 => ⟨S2x2048x512, .f32⟩
  | 108 => ⟨S_, .f32⟩
  | 109 => ⟨S512, .f32⟩
  | 110 => ⟨S1x1x512, .f32⟩
  | 111 => ⟨S2x2048x512, .f32⟩
  | 112 => ⟨S2x2048x512, .f32⟩
  | 113 => ⟨S_, .f32⟩
  | 114 => ⟨S512, .f32⟩
  | 115 => ⟨S2x2048x4x128, .f32⟩
  | 116 => ⟨S4x128x2x2048, .f32⟩
  | 117 => ⟨S4x2x2048x128, .f32⟩
  | 118 => ⟨S2x2048x4x128, .f32⟩
  | 119 => ⟨S4x128x128, .f32⟩
  | 120 => ⟨S4x128x128, .f32⟩
  | 121 => ⟨S2x2048x4x128, .f32⟩
  | 122 => ⟨S2x2048x512, .f32⟩
  | 123 => ⟨S2x2048x1x128, .f32⟩
  | 124 => ⟨S2x2048x128, .f32⟩
  | 125 => ⟨S2x2048x1x128, .f32⟩
  | 126 => ⟨S2x2048x128, .f32⟩
  | 127 => ⟨S2x2048x1x128, .f32⟩
  | _ => ⟨S4096x512, .f32⟩

abbrev hbmTy0_1 (i : Nat) : BufTy := match i % 128 with
  | 0 => ⟨S2x2048x128, .f32⟩
  | 1 => ⟨S2x2048x1x128, .f32⟩
  | 2 => ⟨S2x2048x128, .f32⟩
  | 3 => ⟨S2x2048x128, .f32⟩
  | 4 => ⟨S2x2048x128, .f32⟩
  | 5 => ⟨S2x2048x128, .f32⟩
  | 6 => ⟨S2x15x128, .f32⟩
  | 7 => ⟨S2x2033x128, .f32⟩
  | 8 => ⟨S_, .f32⟩
  | 9 => ⟨S2x2049x128, .f32⟩
  | 10 => ⟨S_, .f32⟩
  | 11 => ⟨S2x2049x128, .f32⟩
  | 12 => ⟨S2x2049x128, .f32⟩
  | 13 => ⟨S_, .f32⟩
  | 14 => ⟨S2x2049x512, .f32⟩
  | 15 => ⟨S2x2048x128, .f32⟩
  | 16 => ⟨S2x2048x128, .f32⟩
  | 17 => ⟨S2x2048x128, .f32⟩
  | 18 => ⟨S2x7x128, .f32⟩
  | 19 => ⟨S2x2041x128, .f32⟩
  | 20 => ⟨S_, .f32⟩
  | 21 => ⟨S2x2049x128, .f32⟩
  | 22 => ⟨S_, .f32⟩
  | 23 => ⟨S2x2049x128, .f32⟩
  | 24 => ⟨S2x2049x128, .f32⟩
  | 25 => ⟨S_, .f32⟩
  | 26 => ⟨S2x2049x512, .f32⟩
  | 27 => ⟨S2x2049x512, .f32⟩
  | 28 => ⟨S2x2048x128, .f32⟩
  | 29 => ⟨S2x2048x128, .f32⟩
  | 30 => ⟨S2x2048x128, .f32⟩
  | 31 => ⟨S2x3x128, .f32⟩
  | 32 => ⟨S2x2045x128, .f32⟩
  | 33 => ⟨S_, .f32⟩
  | 34 => ⟨S2x2049x128, .f32⟩
  | 35 => ⟨S_, .f32⟩
  | 36 => ⟨S2x2049x128, .f32⟩
  | 37 => ⟨S2x2049x128, .f32⟩
  | 38 => ⟨S_, .f32⟩
  | 39 => ⟨S2x2049x512, .f32⟩
  | 40 => ⟨S2x2049x512, .f32⟩
  | 41 => ⟨S2x2048x128, .f32⟩
  | 42 => ⟨S2x2048x128, .f32⟩
  | 43 => ⟨S2x2048x128, .f32⟩
  | 44 => ⟨S2x1x128, .f32⟩
  | 45 => ⟨S2x2047x128, .f32⟩
  | 46 => ⟨S_, .f32⟩
  | 47 => ⟨S2x2049x128, .f32⟩
  | 48 => ⟨S_, .f32⟩
  | 49 => ⟨S2x2049x128, .f32⟩
  | 50 => ⟨S2x2049x128, .f32⟩
  | 51 => ⟨S_, .f32⟩
  | 52 => ⟨S2x2049x512, .f32⟩
  | 53 => ⟨S2x2049x512, .f32⟩
  | 54 => ⟨S2x1x512, .f32⟩
  | 55 => ⟨S2x2048x512, .f32⟩
  | 56 => ⟨S_, .f32⟩
  | 57 => ⟨S_, .f32⟩
  | 58 => ⟨S2x2048x512, .f32⟩
  | 59 => ⟨S2x2048x512, .f32⟩
  | 60 => ⟨S1x512, .f32⟩
  | 61 => ⟨S4096x512, .f32⟩
  | 62 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_17 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_21 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_24 : Ref sig .tc := ⟨.hbm, 161, rfl⟩
abbrev main_v129 : Ref sig .tc := ⟨.hbm, 162, rfl⟩
abbrev main_cst_25 : Ref sig .tc := ⟨.hbm, 163, rfl⟩
abbrev main_v130 : Ref sig .tc := ⟨.hbm, 164, rfl⟩
abbrev main_v131 : Ref sig .tc := ⟨.hbm, 165, rfl⟩
abbrev main_cst_26 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_27 : Ref sig .tc := ⟨.hbm, 174, rfl⟩
abbrev main_v139 : Ref sig .tc := ⟨.hbm, 175, rfl⟩
abbrev main_cst_28 : Ref sig .tc := ⟨.hbm, 176, rfl⟩
abbrev main_v140 : Ref sig .tc := ⟨.hbm, 177, rfl⟩
abbrev main_v141 : Ref sig .tc := ⟨.hbm, 178, rfl⟩
abbrev main_cst_29 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_call1_call0_cst : Ref sig .tc := ⟨.hbm, 184, rfl⟩
abbrev main_call1_call0_v0 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩

abbrev nD : Nat := 1
abbrev τ : Topo := Topo.v7x

variable {F : FTy → Type} [FloatOps F]
-- ==== Mlp.lean ====
abbrev S4096x1024 : Shape := ⟨2, ![4096, 1024]⟩
abbrev S8x1024x512 : Shape := ⟨3, ![8, 1024, 512]⟩
abbrev S8x512x1024 : Shape := ⟨3, ![8, 512, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S256x1024 : Shape := ⟨2, ![256, 1024]⟩
abbrev S256x4096 : Shape := ⟨2, ![256, 4096]⟩
abbrev S256x512 : Shape := ⟨2, ![256, 512]⟩
abbrev S1x512x1024 : Shape := ⟨3, ![1, 512, 1024]⟩
abbrev S256 : Shape := ⟨1, ![256]⟩
abbrev S256x1 : Shape := ⟨2, ![256, 1]⟩
abbrev S1024 : Shape := ⟨1, ![1024]⟩
abbrev S1024x1024 : Shape := ⟨2, ![1024, 1024]⟩
abbrev S2x1024x512 : Shape := ⟨3, ![2, 1024, 512]⟩
abbrev S2x512x1024 : Shape := ⟨3, ![2, 512, 1024]⟩

abbrev nBuf : Space → Nat
  | .hbm => 31
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024x512, .bf16⟩
  | .hbm, ⟨3, _⟩ => ⟨S8x512x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x4096, .bf16⟩
  | .hbm, ⟨23, _⟩ => ⟨S4096x4096, .bf16⟩
  | .hbm, ⟨24, _⟩ => ⟨S4096x1024, .bf16⟩
  | .hbm, ⟨25, _⟩ => ⟨S4096x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8x1024x512, .f32⟩
  | .hbm, ⟨30, _⟩ => ⟨S8x512x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S256x1024, .f32⟩
  | .local _ .vmem, ⟨6, _⟩ => ⟨S256x1024, .f32⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | .local _ .vmem, ⟨11, _⟩ => ⟨S8x1024x512, .bf16⟩
  | .local _ .vmem, ⟨12, _⟩ => ⟨S8x512x1024, .bf16⟩
  | .local _ .vmem, ⟨13, _⟩ => ⟨S1x1024, .f32⟩
  | .local _ .vmem, ⟨14, _⟩ => ⟨S1x1024, .f32⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S2x1024x512, .f32⟩
  | .local _ .vmem, ⟨29, _⟩ => ⟨S2x1024x512, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S2x512x1024, .f32⟩
  | .local _ .vmem, ⟨35, _⟩ => ⟨S2x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem11_0 : DmaSem sig := 22
abbrev cc1_sem12_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]
-- ==== MlpRefIdeal.lean ====
abbrev S4096x1024 : Shape := ⟨2, ![4096, 1024]⟩
abbrev S8x1024x512 : Shape := ⟨3, ![8, 1024, 512]⟩
abbrev S8x512x1024 : Shape := ⟨3, ![8, 512, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x8x512 : Shape := ⟨3, ![4096, 8, 512]⟩
abbrev S1024 : Shape := ⟨1, ![1024]⟩
abbrev S1024x8x512 : Shape := ⟨3, ![1024, 8, 512]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x1024, .f32⟩
  | 2 => ⟨S8x1024x512, .bf16⟩
  | 3 => ⟨S8x512x1024, .bf16⟩
  | 4 => ⟨S1x1024, .f32⟩
  | 5 => ⟨S1x1024, .f32⟩
  | 6 => ⟨S8x1024x512, .f32⟩
  | 7 => ⟨S8x512x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x8x512, .f32⟩
  | 28 => ⟨S_, .f32⟩
  | 29 => ⟨S4096x8x512, .f32⟩
  | 30 => ⟨S4096x8x512, .f32⟩
  | 31 => ⟨S_, .f32⟩
  | 32 => ⟨S4096x8x512, .f32⟩
  | 33 => ⟨S4096x8x512, .i1⟩
  | 34 => ⟨S_, .f32⟩
  | 35 => ⟨S4096x8x512, .f32⟩
  | 36 => ⟨S4096x8x512, .f32⟩
  | 37 => ⟨S_, .f32⟩
  | 38 => ⟨S4096x8x512, .f32⟩
  | 39 => ⟨S4096x8x512, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S1024x8x512, .f32⟩
  | 108 => ⟨S8x512x1024, .f32⟩
  | 109 => ⟨S4096x8x512, .f32⟩
  | 110 => ⟨S4096x8x512, .f32⟩
  | 111 => ⟨S_, .f32⟩
  | 112 => ⟨S4096x8x512, .f32⟩
  | 113 => ⟨S4096x8x512, .f32⟩
  | 114 => ⟨S8x512x1024, .f32⟩
  | 115 => ⟨S8x1024x512, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_cst_15 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_22 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_23 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_24 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_25 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]
-- ==== Inproj.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S3328x1024 : Shape := ⟨2, ![3328, 1024]⟩
abbrev S1x1024 : Shape := ⟨2, ![1, 1024]⟩
abbrev S_ : Shape := ⟨0, ![]⟩
abbrev S8x128 : Shape := ⟨2, ![8, 128]⟩
abbrev S1x1280 : Shape := ⟨2, ![1, 1280]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S1x512 : Shape := ⟨2, ![1, 512]⟩
abbrev S512 : Shape := ⟨1, ![512]⟩
abbrev S128x1024 : Shape := ⟨2, ![128, 1024]⟩
abbrev S1x128 : Shape := ⟨2, ![1, 128]⟩
abbrev S128 : Shape := ⟨1, ![128]⟩
abbrev S2048x1024 : Shape := ⟨2, ![2048, 1024]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S3328x1024, .bf16⟩
  | .hbm, ⟨8, _⟩ => ⟨S1x1024, .f32⟩
  | .hbm, ⟨9, _⟩ => ⟨S_, .f32⟩
  | .hbm, ⟨10, _⟩ => ⟨S8x128, .f32⟩
  | .hbm, ⟨11, _⟩ => ⟨S4096x1024, .f32⟩
  | .hbm, ⟨12, _⟩ => ⟨S1x1024, .f32⟩
  | .hbm, ⟨13, _⟩ => ⟨S1x1280, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3328x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1280, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3328x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojRefIdeal.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S3328x1024 : Shape := ⟨2, ![3328, 1024]⟩
abbrev S1x1024 : Shape := ⟨2, ![1, 1024]⟩
abbrev S_ : Shape := ⟨0, ![]⟩
abbrev S1x3328 : Shape := ⟨2, ![1, 3328]⟩
abbrev S4096 : Shape := ⟨1, ![4096]⟩
abbrev S4096x1 : Shape := ⟨2, ![4096, 1]⟩
abbrev S4096x3328 : Shape := ⟨2, ![4096, 3328]⟩
abbrev S3328 : Shape := ⟨1, ![3328]⟩
abbrev S1024 : Shape := ⟨1, ![1024]⟩
abbrev S1x1280 : Shape := ⟨2, ![1, 1280]⟩

abbrev nBuf : Space → Nat
  | .hbm => 74
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S3328x1024, .bf16⟩
  | .hbm, ⟨8, _⟩ => ⟨S1x1024, .f32⟩
  | .hbm, ⟨9, _⟩ => ⟨S4096x512, .f32⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x2048, .f32⟩
  | .hbm, ⟨14, _⟩ => ⟨S_, .f32⟩
  | .hbm, ⟨15, _⟩ => ⟨S1x3328, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S3328x1024, .f32⟩
  | .hbm, ⟨36, _⟩ => ⟨S4096x3328, .f32⟩
  | .hbm, ⟨37, _⟩ => ⟨S4096x3328, .f32⟩
  | .hbm, ⟨38, _⟩ => ⟨S4096x3328, .f32⟩
  | .hbm, ⟨39, _⟩ => ⟨S4096x512, .f32⟩
  | .hbm, ⟨40, _⟩ => ⟨S4096x512, .f32⟩
  | .hbm, ⟨41, _⟩ => ⟨S4096x128, .f32⟩
  | .hbm, ⟨42, _⟩ => ⟨S4096x128, .f32⟩
  | .hbm, ⟨43, _⟩ => ⟨S4096x2048, .f32⟩
  | .hbm, ⟨44, _⟩ => ⟨S4096x3328, .f32⟩
  | .hbm, ⟨45, _⟩ => ⟨S_, .f32⟩
  | .hbm, ⟨46, _⟩ => ⟨S3328, .f32⟩
  | .hbm, ⟨47, _⟩ => ⟨S1x3328, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x1280, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Wgrad.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x416x1024 : Shape := ⟨3, ![8, 416, 1024]⟩
abbrev S1024x512 : Shape := ⟨2, ![1024, 512]⟩
abbrev S1024x128 : Shape := ⟨2, ![1024, 128]⟩
abbrev S1024x2048 : Shape := ⟨2, ![1024, 2048]⟩
abbrev S1024x1024 : Shape := ⟨2, ![1024, 1024]⟩
abbrev S3328x1024 : Shape := ⟨2, ![3328, 1024]⟩
abbrev S8 : Shape := ⟨1, ![8]⟩
abbrev S512x1024 : Shape := ⟨2, ![512, 1024]⟩
abbrev S128x1024 : Shape := ⟨2, ![128, 1024]⟩
abbrev S2048x1024 : Shape := ⟨2, ![2048, 1024]⟩
abbrev S1 : Shape := ⟨1, ![1]⟩
abbrev S1x416x1024 : Shape := ⟨3, ![1, 416, 1024]⟩
abbrev S416x1024 : Shape := ⟨2, ![416, 1024]⟩

abbrev nBuf : Space → Nat
  | .hbm => 24
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S8x416x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S1024x1024, .bf16⟩
  | .local _ .vmem, ⟨12, _⟩ => ⟨S3328x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WgradRefIdeal.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1x1024 : Shape := ⟨2, ![1, 1024]⟩
abbrev S_ : Shape := ⟨0, ![]⟩
abbrev S3328x1024 : Shape := ⟨2, ![3328, 1024]⟩
abbrev S4096 : Shape := ⟨1, ![4096]⟩
abbrev S4096x1 : Shape := ⟨2, ![4096, 1]⟩
abbrev S4096x3328 : Shape := ⟨2, ![4096, 3328]⟩
abbrev S8x416x1024 : Shape := ⟨3, ![8, 416, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S1x1024, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x2048, .f32⟩
  | .hbm, ⟨12, _⟩ => ⟨S_, .f32⟩
  | .hbm, ⟨13, _⟩ => ⟨S3328x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3328, .f32⟩
  | .hbm, ⟨30, _⟩ => ⟨S4096x512, .f32⟩
  | .hbm, ⟨31, _⟩ => ⟨S4096x512, .f32⟩
  | .hbm, ⟨32, _⟩ => ⟨S4096x128, .f32⟩
  | .hbm, ⟨33, _⟩ => ⟨S4096x128, .f32⟩
  | .hbm, ⟨34, _⟩ => ⟨S4096x2048, .f32⟩
  | .hbm, ⟨35, _⟩ => ⟨S4096x3328, .f32⟩
  | .hbm, ⟨36, _⟩ => ⟨S3328x1024, .f32⟩
  | .hbm, ⟨37, _⟩ => ⟨S8x416x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Mix.lean ====
abbrev S4096x512 : Shape := ⟨2, ![4096, 512]⟩
abbrev S4096x2048 : Shape := ⟨2, ![4096, 2048]⟩
abbrev S4096x1024 : Shape := ⟨2, ![4096, 1024]⟩
abbrev S8x512x128 : Shape := ⟨3, ![8, 512, 128]⟩
abbrev S1024x1024 : Shape := ⟨2, ![1024, 1024]⟩
abbrev S1x1024 : Shape := ⟨2, ![1, 1024]⟩
abbrev S512x512 : Shape := ⟨2, ![512, 512]⟩
abbrev S512x2048 : Shape := ⟨2, ![512, 2048]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .bf16⟩
  | .hbm, ⟨3, _⟩ => ⟨S4096x1024, .f32⟩
  | .hbm, ⟨4, _⟩ => ⟨S8x512x128, .bf16⟩
  | .hbm, ⟨5, _⟩ => ⟨S8x512x128, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixRefIdeal.lean ====
abbrev S4096x512 : Shape := ⟨2, ![4096, 512]⟩
abbrev S4096x2048 : Shape := ⟨2, ![4096, 2048]⟩
abbrev S4096x1024 : Shape := ⟨2, ![4096, 1024]⟩
abbrev S8x512x128 : Shape := ⟨3, ![8, 512, 128]⟩
abbrev S1024x1024 : Shape := ⟨2, ![1024, 1024]⟩
abbrev S1x1024 : Shape := ⟨2, ![1, 1024]⟩
abbrev S4096x8x128 : Shape := ⟨3, ![4096, 8, 128]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .bf16⟩
  | .hbm, ⟨3, _⟩ => ⟨S4096x1024, .f32⟩
  | .hbm, ⟨4, _⟩ => ⟨S8x512x128, .bf16⟩
  | .hbm, ⟨5, _⟩ => ⟨S8x512x128, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x512, .f32⟩
  | .hbm, ⟨10, _⟩ => ⟨S4096x512, .f32⟩
  | .hbm, ⟨11, _⟩ => ⟨S4096x2048, .f32⟩
  | .hbm, ⟨12, _⟩ => ⟨S8x512x128, .f32⟩
  | .hbm, ⟨13, _⟩ => ⟨S8x512x128, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x8x128, .f32⟩
  | .hbm, ⟨18, _⟩ => ⟨S4096x1024, .f32⟩
  | .hbm, ⟨19, _⟩ => ⟨S4096x1024, .f32⟩
  | .hbm, ⟨20, _⟩ => ⟨S4096x8x128, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S3328x1024 : Shape := ⟨2, ![3328, 1024]⟩
abbrev S1x3328 : Shape := ⟨2, ![1, 3328]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4096x512 : Shape := ⟨2, ![4096, 512]⟩
abbrev S4096x2048 : Shape := ⟨2, ![4096, 2048]⟩
abbrev S512x1024 : Shape := ⟨2, ![512, 1024]⟩
abbrev S512x128 : Shape := ⟨2, ![512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S256x1024 : Shape := ⟨2, ![256, 1024]⟩
abbrev S512x256 : Shape := ⟨2, ![512, 256]⟩
abbrev S1x256 : Shape := ⟨2, ![1, 256]⟩
abbrev S2048x1024 : Shape := ⟨2, ![2048, 1024]⟩
abbrev S1x2048 : Shape := ⟨2, ![1, 2048]⟩

abbrev nBuf : Space → Nat
  | .hbm => 51
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3328x1024, .bf16⟩
  | .hbm, ⟨3, _⟩ => ⟨S1x3328, .f32⟩
  | .hbm, ⟨4, _⟩ => ⟨S2048, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048x1, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x8, .f32⟩
  | .hbm, ⟨32, _⟩ => ⟨S2048x64, .f32⟩
  | .hbm, ⟨33, _⟩ => ⟨S2048x8, .f32⟩
  | .hbm, ⟨34, _⟩ => ⟨S2048x64, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S4096x1024, .bf16⟩
  | .hbm, ⟨46, _⟩ => ⟨S4096x512, .f32⟩
  | .hbm, ⟨47, _⟩ => ⟨S4096x512, .bf16⟩
  | .hbm, ⟨48, _⟩ => ⟨S4096x512, .bf16⟩
  | .hbm, ⟨49, _⟩ => ⟨S4096x512, .bf16⟩
  | .hbm, ⟨50, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S1x3328, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v34_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S4096x1024 : Shape := ⟨2, ![4096, 1024]⟩
abbrev S1x1024 : Shape := ⟨2, ![1, 1024]⟩
abbrev S3328x1024 : Shape := ⟨2, ![3328, 1024]⟩
abbrev S1x3328 : Shape := ⟨2, ![1, 3328]⟩
abbrev S_ : Shape := ⟨0, ![]⟩
abbrev S4096 : Shape := ⟨1, ![4096]⟩
abbrev S4096x1 : Shape := ⟨2, ![4096, 1]⟩
abbrev S4096x3328 : Shape := ⟨2, ![4096, 3328]⟩
abbrev S4096x512 : Shape := ⟨2, ![4096, 512]⟩
abbrev S4096x128 : Shape := ⟨2, ![4096, 128]⟩
abbrev S4096x2048 : Shape := ⟨2, ![4096, 2048]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2x2048x8x64 : Shape := ⟨4, ![2, 2048, 8, 64]⟩
abbrev S2x2048x8x8 : Shape := ⟨4, ![2, 2048, 8, 8]⟩
abbrev S1x2048x1x8 : Shape := ⟨4, ![1, 2048, 1, 8]⟩
abbrev S2x2048x8x48 : Shape := ⟨4, ![2, 2048, 8, 48]⟩
abbrev S2x2048x2x64 : Shape := ⟨4, ![2, 2048, 2, 64]⟩
abbrev S2x2048x2x8 : Shape := ⟨4, ![2, 2048, 2, 8]⟩
abbrev S2x2048x2x48 : Shape := ⟨4, ![2, 2048, 2, 48]⟩
abbrev S4096x2x64 : Shape := ⟨3, ![4096, 2, 64]⟩
abbrev S4096x2x4x64 : Shape := ⟨4, ![4096, 2, 4, 64]⟩
abbrev S4096x8x64 : Shape := ⟨3, ![4096, 8, 64]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3328x1024, .bf16⟩
  | .hbm, ⟨3, _⟩ => ⟨S1x3328, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S3328x1024, .f32⟩
  | .hbm, ⟨20, _⟩ => ⟨S4096x3328, .f32⟩
  | .hbm, ⟨21, _⟩ => ⟨S4096x3328, .f32⟩
  | .hbm, ⟨22, _⟩ => ⟨S4096x3328, .f32⟩
  | .hbm, ⟨23, _⟩ => ⟨S4096x512, .f32⟩
  | .hbm, ⟨24, _⟩ => ⟨S4096x512, .f32⟩
  | .hbm, ⟨25, _⟩ => ⟨S4096x128, .f32⟩
  | .hbm, ⟨26, _⟩ => ⟨S4096x128, .f32⟩
  | .hbm, ⟨27, _⟩ => ⟨S4096x2048, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S2048, .f32⟩
  | .hbm, ⟨43, _⟩ => ⟨S2048x1, .f32⟩
  | .hbm, ⟨44, _⟩ => ⟨S1x8, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2x2048x8x64, .f32⟩
  | .hbm, ⟨51, _⟩ => ⟨S2x2048x8x8, .f32⟩
  | .hbm, ⟨52, _⟩ => ⟨S2x2048x8x8, .f32⟩
  | .hbm, ⟨53, _⟩ => ⟨S1x2048x1x8, .f32⟩
  | .hbm, ⟨54, _⟩ => ⟨S1x2048x1x8, .f32⟩
  | .hbm, ⟨55, _⟩ => ⟨S2x2048x8x8, .f32⟩
  | .hbm, ⟨56, _⟩ => ⟨S2x2048x8x8, .f32⟩
  | .hbm, ⟨57, _⟩ => ⟨S2x2048x8x8, .f32⟩
  | .hbm, ⟨58, _⟩ => ⟨S2x2048x8x8, .f32⟩
  | .hbm, ⟨59, _⟩ => ⟨S2x2048x8x8, .f32⟩
  | .hbm, ⟨60, _⟩ => ⟨S2x2048x8x8, .f32⟩
  | .hbm, ⟨61, _⟩ => ⟨S2x2048x8x8, .f32⟩
  | .hbm, ⟨62, _⟩ => ⟨S2x2048x8x8, .f32⟩
  | .hbm, ⟨63, _⟩ => ⟨S2x2048x8x8, .f32⟩
  | .hbm, ⟨64, _⟩ => ⟨S2x2048x8x8, .f32⟩
  | .hbm, ⟨65, _⟩ => ⟨S2x2048x8x48, .f32⟩
  | .hbm, ⟨66, _⟩ => ⟨S2x2048x8x64, .f32⟩
  | .hbm, ⟨67, _⟩ => ⟨S_, .f32⟩
  | .hbm, ⟨68, _⟩ => ⟨S2x2048x8x64, .f32⟩
  | .hbm, ⟨69, _⟩ => ⟨S2x2048x8x64, .f32⟩
  | .hbm, ⟨70, _⟩ => ⟨S2x2048x2x64, .f32⟩
  | .hbm, ⟨71, _⟩ => ⟨S2x2048x2x8, .f32⟩
  | .hbm, ⟨72, _⟩ => ⟨S2x2048x2x8, .f32⟩
  | .hbm, ⟨73, _⟩ => ⟨S1x2048x1x8, .f32⟩
  | .hbm, ⟨74, _⟩ => ⟨S1x2048x1x8, .f32⟩
  | .hbm, ⟨75, _⟩ => ⟨S2x2048x2x8, .f32⟩
  | .hbm, ⟨76, _⟩ => ⟨S2x2048x2x8, .f32⟩
  | .hbm, ⟨77, _⟩ => ⟨S2x2048x2x8, .f32⟩
  | .hbm, ⟨78, _⟩ => ⟨S2x2048x2x8, .f32⟩
  | .hbm, ⟨79, _⟩ => ⟨S2x2048x2x8, .f32⟩
  | .hbm, ⟨80, _⟩ => ⟨S2x2048x2x8, .f32⟩
  | .hbm, ⟨81, _⟩ => ⟨S2x2048x2x8, .f32⟩
  | .hbm, ⟨82, _⟩ => ⟨S2x2048x2x8, .f32⟩
  | .hbm, ⟨83, _⟩ => ⟨S2x2048x2x8, .f32⟩
  | .hbm, ⟨84, _⟩ => ⟨S2x2048x2x8, .f32⟩
  | .hbm, ⟨85, _⟩ => ⟨S2x2048x2x48, .f32⟩
  | .hbm, ⟨86, _⟩ => ⟨S2x2048x2x64, .f32⟩
  | .hbm, ⟨87, _⟩ => ⟨S4096x1024, .bf16⟩
  | .hbm, ⟨88, _⟩ => ⟨S4096x512, .f32⟩
  | .hbm, ⟨89, _⟩ => ⟨S4096x512, .bf16⟩
  | .hbm, ⟨90, _⟩ => ⟨S4096x2x64, .f32⟩
  | .hbm, ⟨91, _⟩ => ⟨S4096x2x4x64, .f32⟩
  | .hbm, ⟨92, _⟩ => ⟨S4096x8x64, .f32⟩
  | .hbm, ⟨93, _⟩ => ⟨S4096x512, .f32⟩
  | .hbm, ⟨94, _⟩ => ⟨S4096x512, .bf16⟩
  | .hbm, ⟨95, _⟩ => ⟨S4096x2x64, .f32⟩
  | .hbm, ⟨96, _⟩ => ⟨S4096x2x4x64, .f32⟩
  | .hbm, ⟨97, _⟩ => ⟨S4096x8x64, .f32⟩
  | .hbm, ⟨98, _⟩ => ⟨S4096x512, .f32⟩
  | .hbm, ⟨99, _⟩ => ⟨S4096x512, .bf16⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096x2048, .f32⟩
  | .hbm, ⟨107, _⟩ => ⟨S4096x2048, .f32⟩
  | .hbm, ⟨108, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_7 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩

abbrev nD : Nat := 1
abbrev τ : Topo := Topo.v7x

variable {F : FTy → Type} [FloatOps F]
-- ==== Proof.PoolPay.lean ====
/-
  What the stored blocks of the pooling gradient hold, entry by entry, over the extended reals.
-/
module
public import proofs.«01_k».proof.Proof.Gen.KernelIdeal.Value
public import Idealize.ShloMosaic.Lib.Pipeline.Value
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

open scoped BigOperators

/-- Row `t - n` of a column where there is one, zero before the first row. -/
def back (n : ℕ) (f : Fin 2048 → EReal) (t : Fin 2048) : EReal :=
  if h : n ≤ t.val then f ⟨t.val - n, lt_of_le_of_lt (Nat.sub_le _ _) t.isLt⟩ else 0

/-- Row `t + n` of a column where there is one, zero past the last row. -/
def ahead (n : ℕ) (f : Fin 2048 → EReal) (t : Fin 2048) : EReal :=
  if h : t.val + n < 2048 then f ⟨t.val + n, h⟩ else 0

/-- The sum over a window of `2 ^ k` rows ending at a row, by doubling. -/
def winB : ℕ → (Fin 2048 → EReal) → Fin 2048 → EReal
  | 0, f => f
  | k + 1, f => fun t => winB k f t + back (2 ^ k) (winB k f) t

/-- The sum over a window of `2 ^ k` rows starting at a row, by doubling. -/
def winA : ℕ → (Fin 2048 → EReal) → Fin 2048 → EReal
  | 0, f => f
  | k + 1, f => fun t => winA k f t + ahead (2 ^ k) (winA k f) t

/-- The number of rows in the window of `w` rows ending at row `t`. -/
def cnt (w : ℕ) (t : Fin 2048) : ℝ := ((min (t.val + 1) w : ℕ) : ℝ)

/-- The reciprocal of `cnt`. -/
def inv (w : ℕ) (t : Fin 2048) : EReal := Ideal.div 1 (cnt w t : EReal)

theorem slt_word (t : Fin 2048) (n : ℕ) (hn : n < 2048) : (BitVec.ofNat 32 t.val).slt (BitVec.ofNat 32 n) = decide (t.val < n) := by
  have := t.isLt
  rw [BitVec.slt_eq_decide]
  simp only [BitVec.toInt_eq_toNat_cond, BitVec.toNat_ofNat]
  congr 1
  apply propext
  omega

theorem sle_word (t : Fin 2048) (n : ℕ) (hn : n < 2048) : (BitVec.ofNat 32 n).sle (BitVec.ofNat 32 t.val) = decide (n ≤ t.val) := by
  have := t.isLt
  rw [BitVec.sle_eq_decide]
  simp only [BitVec.toInt_eq_toNat_cond, BitVec.toNat_ofNat]
  congr 1
  apply propext
  omega

theorem shiftDown_apply {α : Type} (n : ℕ) (hn : n < 2048) (x : S2048x128.Idx → α) (z : α) (t : Fin 2048) (d : Fin 128) :
    select (cmpi .sge (iota .tc S2048x128 32 [0] iota_S2048x128_d0_w32) (broadcast S2048x128 (BitVec.ofNat 32 n)))
      (dynamicRotate 0 (BitVec.ofNat 32 n) none x rotates_S2048x128_d0) (broadcast S2048x128 z) (ix2 t d)
    = if h : n ≤ t.val then x (ix2 ⟨t.val - n, lt_of_le_of_lt (Nat.sub_le _ _) t.isLt⟩ d) else z := by
  have ht := t.isLt
  pointwise
  simp only [IntOp.cmpi, sle_word t n hn, Scalar.select, BitVec.toNat_ofNat]
  by_cases h : n ≤ t.val
  · rw [dif_pos h]
    simp only [h, decide_true, BitVec.ofBool_true, ↓reduceIte]
    congr 2
    apply Fin.ext
    show (t.val + 2048 - n % 2 ^ 32 % 2048) % 2048 = t.val - n
    omega
  · rw [dif_neg h]
    simp [h]

theorem shiftUp_apply {α : Type} (n : ℕ) (hn : 0 < n) (hn' : n < 2048) (x : S2048x128.Idx → α) (z : α) (t : Fin 2048) (d : Fin 128) :
    select (cmpi .slt (iota .tc S2048x128 32 [0] iota_S2048x128_d0_w32) (broadcast S2048x128 (BitVec.ofNat 32 (2048 - n))))
      (dynamicRotate 0 (BitVec.ofNat 32 (2048 - n)) none x rotates_S2048x128_d0) (broadcast S2048x128 z) (ix2 t d)
    = if h : t.val + n < 2048 then x (ix2 ⟨t.val + n, h⟩ d) else z := by
  have ht := t.isLt
  pointwise
  simp only [IntOp.cmpi, slt_word t (2048 - n) (by omega), Scalar.select, BitVec.toNat_ofNat]
  by_cases h : t.val + n < 2048
  · rw [dif_pos h]
    have h' : t.val < 2048 - n := by omega
    simp only [h', decide_true, BitVec.ofBool_true, ↓reduceIte]
    congr 2
    apply Fin.ext
    show (t.val + 2048 - (2048 - n) % 2 ^ 32 % 2048) % 2048 = t.val + n
    omega
  · rw [dif_neg h]
    have h' : ¬ t.val < 2048 - n := by omega
    simp [h']

/-- The signed minimum of `t + 1` and `w`, as a real number. -/
theorem count_word (w : ℕ) (hw : 0 < w) (hw' : w < 2048) (t : Fin 2048) :
    (((IntOp.minsi (IntOp.addi (BitVec.ofNat 32 t.val) 1#32) (BitVec.ofNat 32 w)).toInt : ℝ) : EReal) = (cnt w t : EReal) := by
  have ht := t.isLt
  have e : (IntOp.minsi (IntOp.addi (BitVec.ofNat 32 t.val) 1#32) (BitVec.ofNat 32 w)).toInt = ((min (t.val + 1) w : ℕ) : ℤ) := by
    have ha : IntOp.addi (BitVec.ofNat 32 t.val) 1#32 = BitVec.ofNat 32 (t.val + 1) := by
      apply BitVec.eq_of_toNat_eq
      simp [IntOp.addi, BitVec.toNat_add]
    rw [ha]
    have hs : (BitVec.ofNat 32 (t.val + 1)).slt (BitVec.ofNat 32 w) = decide (t.val + 1 < w) := by
      rw [BitVec.slt_eq_decide]
      simp only [BitVec.toInt_eq_toNat_cond, BitVec.toNat_ofNat]
      congr 1
      apply propext
      omega
    simp only [IntOp.minsi, hs]
    by_cases h : t.val + 1 < w
    · simp only [h, decide_true, ↓reduceIte, BitVec.toInt_eq_toNat_cond, BitVec.toNat_ofNat]
      omega
    · simp only [h, decide_false, Bool.false_eq_true, ↓reduceIte, BitVec.toInt_eq_toNat_cond, BitVec.toNat_ofNat]
      omega
  rw [e, cnt]
  push_cast
  rfl

theorem inv_apply (w : ℕ) (hw : 0 < w) (hw' : w < 2048) (t : Fin 2048) (d : Fin 128) :
    divf (broadcast S2048x128 (Scalar.ofBits (F := Ideal) .f32 0x3F800000#32))
      (sitofp .f32 (minsi (addi (iota .tc S2048x128 32 [0] iota_S2048x128_d0_w32) (broadcast S2048x128 1#32)) (broadcast S2048x128 (BitVec.ofNat 32 w)))) (ix2 t d)
    = inv w t := by
  have ht := t.isLt
  pointwise
  unfold inv
  congr 1
  show (((IntOp.minsi (IntOp.addi (BitVec.ofNat 32 t.val) 1#32) (BitVec.ofNat 32 w)).toInt : ℝ) : EReal) = _
  exact count_word w hw hw' t

theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem truncf_at {s : Shape} (x : FVec Ideal s .f32) (h) (i : s.Idx) : truncf .bf16 x h i = x i := rfl

theorem matmul_in (x : FVec Ideal S2048x128 .bf16) (w : FVec Ideal S128x128 .bf16) (t : Fin 2048) (d : Fin 128) :
    matmul dot_S2048x128_S128x128_S2048x128_1_0_0_1_n_n none x w (constant S2048x128 .f32 0x00000000#32) (ix2 t d)
    = ∑ c : Fin 128, x (ix2 t c) * w (ix2 c d) := by
  pointwise [dot_S2048x128_S128x128_S2048x128_1_0_0_1_n_n]

theorem matmul_back (x : FVec Ideal S2048x128 .bf16) (w : FVec Ideal S128x128 .bf16) (t : Fin 2048) (c : Fin 128) :
    matmul dot_S2048x128_S128x128_S2048x128_1_1_0_0_n_n none x w (constant S2048x128 .f32 0x00000000#32) (ix2 t c)
    = ∑ d : Fin 128, x (ix2 t d) * w (ix2 c d) := by
  pointwise [dot_S2048x128_S128x128_S2048x128_1_1_0_0_n_n]

theorem matmul_rows (x y : FVec Ideal S2048x128 .bf16) (c d : Fin 128) :
    matmul dot_S2048x128_S2048x128_S128x128_0_0_1_1_n_n none x y (constant S128x128 .f32 0x00000000#32) (ix2 c d)
    = ∑ t : Fin 2048, x (ix2 t c) * y (ix2 t d) := by
  pointwise [dot_S2048x128_S2048x128_S128x128_0_0_1_1_n_n]

theorem slab_at {α : Type} (w : S1x128x128.Idx → α) (c d : Fin 128) :
    shapeCast S128x128 w shapeCasts_S1x128x128_S128x128 (ix2 c d) = w (ix3 0 c d) := by
  pointwise

theorem unslab_at {α : Type} (w : S128x128.Idx → α) (c d : Fin 128) :
    shapeCast S1x128x128 w shapeCasts_S128x128_S1x128x128 (ix3 0 c d) = w (ix2 c d) := by
  pointwise

theorem row_at {α : Type} (p : S1x128.Idx → α) (t : Fin 2048) (d : Fin 128) :
    broadcastTo S2048x128 p broadcasts_S1x128_S2048x128 (ix2 t d) = p (ix2 0 d) := by
  pointwise

theorem rowsum_at (x : FVec Ideal S2048x128 .f32) (a : List (Fin S2048x128.rank)) (ha : a = [0]) (h : S2048x128.Reduces a S128) (h1 h2)
    (d : Fin 128) :
    shapeCast S1x128 (multiReduction .add a S128 x 0x00000000#32 h h1 h2) shapeCasts_S128_S1x128 (ix2 0 d)
    = ∑ t : Fin 2048, x (ix2 t d) := by
  subst ha
  pointwise

theorem same_at {α : Type} (x : S1x128.Idx → α) (d : Fin 128) :
    shapeCast S1x128 x shapeCasts_S1x128_S1x128 (ix2 0 d) = x (ix2 0 d) := by
  pointwise

/-- The row number at each entry of a slab. -/
abbrev rowId : IVec S2048x128 32 := iota .tc S2048x128 32 [0] iota_S2048x128_d0_w32

theorem down1 {α : Type} (I : IVec S2048x128 32) (hI : I = rowId) (a : Fin S2048x128.rank) (ha : a = 0) (st) (hst : st = none) (hr) (x : S2048x128.Idx → α) (z : α) (t : Fin 2048) (d : Fin 128) :
    select (cmpi .sge I (broadcast S2048x128 1#32)) (dynamicRotate a 1#32 st x hr) (broadcast S2048x128 z) (ix2 t d)
    = if h : 1 ≤ t.val then x (ix2 ⟨t.val - 1, lt_of_le_of_lt (Nat.sub_le _ _) t.isLt⟩ d) else z := by
  subst hI ha hst
  exact shiftDown_apply 1 (by decide) x z t d

theorem up1 {α : Type} (I : IVec S2048x128 32) (hI : I = rowId) (a : Fin S2048x128.rank) (ha : a = 0) (st) (hst : st = none) (hr) (x : S2048x128.Idx → α) (z : α) (t : Fin 2048) (d : Fin 128) :
    select (cmpi .slt I (broadcast S2048x128 2047#32)) (dynamicRotate a 2047#32 st x hr) (broadcast S2048x128 z) (ix2 t d)
    = if h : t.val + 1 < 2048 then x (ix2 ⟨t.val + 1, h⟩ d) else z := by
  subst hI ha hst
  exact shiftUp_apply 1 (by decide) (by decide) x z t d

theorem inv2 (I : IVec S2048x128 32) (hI : I = rowId) (t : Fin 2048) (d : Fin 128) :
    divf (broadcast S2048x128 (FloatOps.ofBits (F := Ideal) .f32 0x3F800000#32))
      (sitofp .f32 (minsi (addi I (broadcast S2048x128 1#32)) (broadcast S2048x128 2#32))) (ix2 t d)
    = inv 2 t := by
  subst hI
  exact inv_apply 2 (by decide) (by decide) t d

theorem down2 {α : Type} (I : IVec S2048x128 32) (hI : I = rowId) (a : Fin S2048x128.rank) (ha : a = 0) (st) (hst : st = none) (hr) (x : S2048x128.Idx → α) (z : α) (t : Fin 2048) (d : Fin 128) :
    select (cmpi .sge I (broadcast S2048x128 2#32)) (dynamicRotate a 2#32 st x hr) (broadcast S2048x128 z) (ix2 t d)
    = if h : 2 ≤ t.val then x (ix2 ⟨t.val - 2, lt_of_le_of_lt (Nat.sub_le _ _) t.isLt⟩ d) else z := by
  subst hI ha hst
  exact shiftDown_apply 2 (by decide) x z t d

theorem up2 {α : Type} (I : IVec S2048x128 32) (hI : I = rowId) (a : Fin S2048x128.rank) (ha : a = 0) (st) (hst : st = none) (hr) (x : S2048x128.Idx → α) (z : α) (t : Fin 2048) (d : Fin 128) :
    select (cmpi .slt I (broadcast S2048x128 2046#32)) (dynamicRotate a 2046#32 st x hr) (broadcast S2048x128 z) (ix2 t d)
    = if h : t.val + 2 < 2048 then x (ix2 ⟨t.val + 2, h⟩ d) else z := by
  subst hI ha hst
  exact shiftUp_apply 2 (by decide) (by decide) x z t d

theorem inv4 (I : IVec S2048x128 32) (hI : I = rowId) (t : Fin 2048) (d : Fin 128) :
    divf (broadcast S2048x128 (FloatOps.ofBits (F := Ideal) .f32 0x3F800000#32))
      (sitofp .f32 (minsi (addi I (broadcast S2048x128 1#32)) (broadcast S2048x128 4#32))) (ix2 t d)
    = inv 4 t := by
  subst hI
  exact inv_apply 4 (by decide) (by decide) t d

theorem down4 {α : Type} (I : IVec S2048x128 32) (hI : I = rowId) (a : Fin S2048x128.rank) (ha : a = 0) (st) (hst : st = none) (hr) (x : S2048x128.Idx → α) (z : α) (t : Fin 2048) (d : Fin 128) :
    select (cmpi .sge I (broadcast S2048x128 4#32)) (dynamicRotate a 4#32 st x hr) (broadcast S2048x128 z) (ix2 t d)
    = if h : 4 ≤ t.val then x (ix2 ⟨t.val - 4, lt_of_le_of_lt (Nat.sub_le _ _) t.isLt⟩ d) else z := by
  subst hI ha hst
  exact shiftDown_apply 4 (by decide) x z t d

theorem up4 {α : Type} (I : IVec S2048x128 32) (hI : I = rowId) (a : Fin S2048x128.rank) (ha : a = 0) (st) (hst : st = none) (hr) (x : S2048x128.Idx → α) (z : α) (t : Fin 2048) (d : Fin 128) :
    select (cmpi .slt I (broadcast S2048x128 2044#32)) (dynamicRotate a 2044#32 st x hr) (broadcast S2048x128 z) (ix2 t d)
    = if h : t.val + 4 < 2048 then x (ix2 ⟨t.val + 4, h⟩ d) else z := by
  subst hI ha hst
  exact shiftUp_apply 4 (by decide) (by decide) x z t d

theorem inv8 (I : IVec S2048x128 32) (hI : I = rowId) (t : Fin 2048) (d : Fin 128) :
    divf (broadcast S2048x128 (FloatOps.ofBits (F := Ideal) .f32 0x3F800000#32))
      (sitofp .f32 (minsi (addi I (broadcast S2048x128 1#32)) (broadcast S2048x128 8#32))) (ix2 t d)
    = inv 8 t := by
  subst hI
  exact inv_apply 8 (by decide) (by decide) t d

theorem down8 {α : Type} (I : IVec S2048x128 32) (hI : I = rowId) (a : Fin S2048x128.rank) (ha : a = 0) (st) (hst : st = none) (hr) (x : S2048x128.Idx → α) (z : α) (t : Fin 2048) (d : Fin 128) :
    select (cmpi .sge I (broadcast S2048x128 8#32)) (dynamicRotate a 8#32 st x hr) (broadcast S2048x128 z) (ix2 t d)
    = if h : 8 ≤ t.val then x (ix2 ⟨t.val - 8, lt_of_le_of_lt (Nat.sub_le _ _) t.isLt⟩ d) else z := by
  subst hI ha hst
  exact shiftDown_apply 8 (by decide) x z t d

theorem up8 {α : Type} (I : IVec S2048x128 32) (hI : I = rowId) (a : Fin S2048x128.rank) (ha : a = 0) (st) (hst : st = none) (hr) (x : S2048x128.Idx → α) (z : α) (t : Fin 2048) (d : Fin 128) :
    select (cmpi .slt I (broadcast S2048x128 2040#32)) (dynamicRotate a 2040#32 st x hr) (broadcast S2048x128 z) (ix2 t d)
    = if h : t.val + 8 < 2048 then x (ix2 ⟨t.val + 8, h⟩ d) else z := by
  subst hI ha hst
  exact shiftUp_apply 8 (by decide) (by decide) x z t d

theorem inv16 (I : IVec S2048x128 32) (hI : I = rowId) (t : Fin 2048) (d : Fin 128) :
    divf (broadcast S2048x128 (FloatOps.ofBits (F := Ideal) .f32 0x3F800000#32))
      (sitofp .f32 (minsi (addi I (broadcast S2048x128 1#32)) (broadcast S2048x128 16#32))) (ix2 t d)
    = inv 16 t := by
  subst hI
  exact inv_apply 16 (by decide) (by decide) t d

/-- A window's mean of a group's columns minus the column. -/
def diffE (k : ℕ) (U : Fin 2048 → Fin 128 → EReal) (t : Fin 2048) (c : Fin 128) : EReal :=
  winB k (fun t => U t c) t * inv (2 ^ k) t - U t c

/-- The gradient of `diffE`, from the scaled upstream gradient times the group's weights. -/
def ddE (Y : Fin 2048 → Fin 128 → EReal) (P : Fin 128 → EReal) (W : Fin 128 → Fin 128 → EReal) (t : Fin 2048) (c : Fin 128) : EReal :=
  ∑ d : Fin 128, Y t d * P d * W c d

/-- The gradient of the group's columns, before rounding. -/
def duE (k : ℕ) (Y : Fin 2048 → Fin 128 → EReal) (P : Fin 128 → EReal) (W : Fin 128 → Fin 128 → EReal) (t : Fin 2048) (c : Fin 128) : EReal :=
  winA k (fun t => ddE Y P W t c * inv (2 ^ k) t) t - ddE Y P W t c

/-- One block's term of the gradient of the group's weights. -/
def dwE (k : ℕ) (U Y : Fin 2048 → Fin 128 → EReal) (P : Fin 128 → EReal) (c d : Fin 128) : EReal :=
  ∑ t : Fin 2048, diffE k U t c * (Y t d * P d)

/-- One block's term of the gradient of the group's scale. -/
def dpsE (k : ℕ) (U Y : Fin 2048 → Fin 128 → EReal) (W : Fin 128 → Fin 128 → EReal) (d : Fin 128) : EReal :=
  ∑ t : Fin 2048, Y t d * ∑ c : Fin 128, diffE k U t c * W c d

section
variable (x y : Vec Ideal S2048x128 .f32) (w : Vec Ideal S1x128x128 .bf16) (p o : Vec Ideal S1x128 .f32) (q : Vec Ideal S1x128x128 .f32)

set_option backward.isDefEq.respectTransparency false in
theorem du_at0 (t : Fin 2048) (c : Fin 128) : k0_pay11 rowId k0_pay4 (k0_pay6 w) y (k0_pay8 p) (ix2 t c) = duE 1 (fun t c => y (ix2 t c)) (fun d => p (ix2 0 d)) (fun c d => w (ix3 0 c d)) t c := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, duE, ddE, back, ahead, winB, winA, Nat.reducePow, Nat.reduceAdd, pow_zero, pow_one]

set_option backward.isDefEq.respectTransparency false in
theorem dw_at0 (c d : Fin 128) : k0_pay10 (k0_pay5 x) y (k0_pay8 p) q (ix3 0 c d) = q (ix3 0 c d) + dwE 1 (fun t c => x (ix2 t c)) (fun t c => y (ix2 t c)) (fun d => p (ix2 0 d)) c d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dwE, diffE, back, ahead, winB, winA, Nat.reducePow, Nat.reduceAdd, pow_zero, pow_one]

set_option backward.isDefEq.respectTransparency false in
theorem dps_at0 (d : Fin 128) : k0_pay7 x w y o (ix2 0 d) = o (ix2 0 d) + dpsE 1 (fun t c => x (ix2 t c)) (fun t c => y (ix2 t c)) (fun c d => w (ix3 0 c d)) d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dpsE, diffE, back, ahead, winB, winA, Nat.reducePow, Nat.reduceAdd, pow_zero, pow_one]

set_option backward.isDefEq.respectTransparency false in
theorem du_at1 (t : Fin 2048) (c : Fin 128) : k0_pay23 rowId (k0_pay20 w y p) (k0_pay21 (k0_pay12 rowId) w y p) (k0_pay22 rowId) 2047#32 (ix2 t c) = duE 2 (fun t c => y (ix2 t c)) (fun d => p (ix2 0 d)) (fun c d => w (ix3 0 c d)) t c := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, duE, ddE, back, ahead, winB, winA, Nat.reducePow, Nat.reduceAdd, pow_zero, pow_one]

set_option backward.isDefEq.respectTransparency false in
theorem dw_at1 (c d : Fin 128) : k0_pay19 x (k0_pay12 rowId) (k0_pay13 rowId x) (k0_pay14 rowId) y p q (ix3 0 c d) = q (ix3 0 c d) + dwE 2 (fun t c => x (ix2 t c)) (fun t c => y (ix2 t c)) (fun d => p (ix2 0 d)) c d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dwE, diffE, back, ahead, winB, winA, Nat.reducePow, Nat.reduceAdd, pow_zero, pow_one]

set_option backward.isDefEq.respectTransparency false in
theorem dps_at1 (d : Fin 128) : k0_pay17 x (k0_pay12 rowId) (k0_pay13 rowId x) (k0_pay14 rowId) w y o (ix2 0 d) = o (ix2 0 d) + dpsE 2 (fun t c => x (ix2 t c)) (fun t c => y (ix2 t c)) (fun c d => w (ix3 0 c d)) d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dpsE, diffE, back, ahead, winB, winA, Nat.reducePow, Nat.reduceAdd, pow_zero, pow_one]

set_option backward.isDefEq.respectTransparency false in
theorem du_at2 (t : Fin 2048) (c : Fin 128) : k0_pay33 rowId (k0_pay31 w y p) (k0_pay32 rowId (k0_pay24 rowId) w y p) 2046#32 (ix2 t c) = duE 3 (fun t c => y (ix2 t c)) (fun d => p (ix2 0 d)) (fun c d => w (ix3 0 c d)) t c := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, duE, ddE, back, ahead, winB, winA, Nat.reducePow, Nat.reduceAdd, pow_zero, pow_one]

set_option backward.isDefEq.respectTransparency false in
theorem dw_at2 (c d : Fin 128) : k0_pay30 x (k0_pay24 rowId) (k0_pay25 rowId x) y p q (ix3 0 c d) = q (ix3 0 c d) + dwE 3 (fun t c => x (ix2 t c)) (fun t c => y (ix2 t c)) (fun d => p (ix2 0 d)) c d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dwE, diffE, back, ahead, winB, winA, Nat.reducePow, Nat.reduceAdd, pow_zero, pow_one]

set_option backward.isDefEq.respectTransparency false in
theorem dps_at2 (d : Fin 128) : k0_pay28 x (k0_pay24 rowId) (k0_pay25 rowId x) w y o (ix2 0 d) = o (ix2 0 d) + dpsE 3 (fun t c => x (ix2 t c)) (fun t c => y (ix2 t c)) (fun c d => w (ix3 0 c d)) d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dpsE, diffE, back, ahead, winB, winA, Nat.reducePow, Nat.reduceAdd, pow_zero, pow_one]

set_option backward.isDefEq.respectTransparency false in
theorem du_at3 (t : Fin 2048) (c : Fin 128) : k0_pay1 rowId (k0_pay34 rowId) (k0_pay39 w) (k0_pay41 y p) (constant S2048x128 FTy.f32 0#32) (ix2 t c) = duE 4 (fun t c => y (ix2 t c)) (fun d => p (ix2 0 d)) (fun c d => w (ix3 0 c d)) t c := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, duE, ddE, back, ahead, winB, winA, Nat.reducePow, Nat.reduceAdd, pow_zero, pow_one]

set_option backward.isDefEq.respectTransparency false in
theorem dw_at3 (c d : Fin 128) : k0_pay42 rowId x (k0_pay34 rowId) (k0_pay35 rowId x) (k0_pay36 rowId) (k0_pay37 rowId x) (FloatOps.ofBits (F := Ideal) FTy.f32 0#32) y p q (ix3 0 c d) = q (ix3 0 c d) + dwE 4 (fun t c => x (ix2 t c)) (fun t c => y (ix2 t c)) (fun d => p (ix2 0 d)) c d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dwE, diffE, back, ahead, winB, winA, Nat.reducePow, Nat.reduceAdd, pow_zero, pow_one]

set_option backward.isDefEq.respectTransparency false in
theorem dps_at3 (d : Fin 128) : k0_pay40 rowId x (k0_pay34 rowId) (k0_pay35 rowId x) (k0_pay36 rowId) (k0_pay37 rowId x) (FloatOps.ofBits (F := Ideal) FTy.f32 0#32) w y o (ix2 0 d) = o (ix2 0 d) + dpsE 4 (fun t c => x (ix2 t c)) (fun t c => y (ix2 t c)) (fun c d => w (ix3 0 c d)) d := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, addf_at, subf_at, mulf_at, truncf_at, matmul_in, matmul_back, matmul_rows, slab_at, unslab_at, row_at, rowsum_at, same_at, down1, down2, down4, down8, up1, up2, up4, up8, inv2, inv4, inv8, inv16]
  simp only [Ideal.ofBits_def, Ideal.ofBits_zero_f32, dpsE, diffE, back, ahead, winB, winA, Nat.reducePow, Nat.reduceAdd, pow_zero, pow_one]

end

end Cert.KernelIdeal.Value
end
-- ==== Proof.PoolOut.lean ====
/-
  The three output blocks of one grid step of the pooling gradient, entry by entry.
-/
module
public import proofs.«01_k».proof.Proof.PoolPay
public import Idealize.ShloMosaic.Lib.Pipeline.ValueKit.Tiles
public import Idealize.ShloMosaic.Lib.Pipeline.Value
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

open scoped BigOperators

/-- Column `c` of group `g`. -/
def col (g : Fin 4) (c : Fin 128) : Fin 512 := ⟨128 * g.val + c.val, by have := g.isLt; have := c.isLt; omega⟩

theorem canon_hit {s : Shape} {e : EltTy} (off size : Fin s.rank → ℕ) (inb) (w : (Rect.unit off size inb).shape.Idx → Elt Ideal e)
    (L : List (View.Piece (Elt Ideal) s e)) (i : s.Idx) (x : (Rect.unit off size inb).shape.Idx) (hi : ∀ a, (i a : ℕ) = off a + x a) :
    View.canon (⟨Rect.unit off size inb, w⟩ :: L) i = w x := by
  have : i = (Rect.unit off size inb).emb x := by
    funext a
    apply Fin.ext
    rw [hi a]
    show _ = off a + 1 * x a
    omega
  rw [this]
  exact View.canon_cons_emb _ w L x

theorem canon_miss {s : Shape} {e : EltTy} (off size : Fin s.rank → ℕ) (inb) (w : (Rect.unit off size inb).shape.Idx → Elt Ideal e)
    (L : List (View.Piece (Elt Ideal) s e)) (i : s.Idx) (a : Fin s.rank) (h : (i a : ℕ) < off a ∨ off a + size a ≤ (i a : ℕ)) :
    View.canon (⟨Rect.unit off size inb, w⟩ :: L) i = View.canon L i := by
  refine View.canon_cons_of_not_mem _ L fun hm => ?_
  have := (Rect.mem_set_unit (inb := inb)).1 hm a
  omega

/-- The rows and columns of group `g` of an input block. -/
def cols (x : Vec Ideal S2048x512 .f32) (g : Fin 4) (t : Fin 2048) (c : Fin 128) : EReal := x (ix2 t (col g c))
/-- The weights of group `g`. -/
def wts (w : Vec Ideal S4x128x128 .bf16) (g : Fin 4) (c d : Fin 128) : EReal := w (ix3 g c d)
/-- The scales of group `g`. -/
def scl (p : Vec Ideal S1x512 .f32) (g : Fin 4) (d : Fin 128) : EReal := p (ix2 0 (col g d))

theorem ld_cols0 (x : Vec Ideal S2048x512 .f32) (inb) : (fun t c => View.ld x (Rect.unit (s := S2048x512) ![0, 0] ![2048, 128] inb) (ix2 t c)) = cols x 0 := by
  funext t c
  exact View.ld_unit_apply_of x _ _ inb _ (ix2 t (col 0 c)) (fun a => by
    match a with
    | ⟨0, _⟩ => show t.val = 0 + t.val; omega
    | ⟨1, _⟩ => show 128 * 0 + c.val = 0 + c.val; omega)
theorem ld_wts0 (w : Vec Ideal S4x128x128 .bf16) (inb) : (fun c d => View.ld w (Rect.unit (s := S4x128x128) ![0, 0, 0] ![1, 128, 128] inb) (ix3 0 c d)) = wts w 0 := by
  funext c d
  exact View.ld_unit_apply_of w _ _ inb _ (ix3 0 c d) (fun a => by
    match a with
    | ⟨0, _⟩ => rfl
    | ⟨1, _⟩ => show c.val = 0 + c.val; omega
    | ⟨2, _⟩ => show d.val = 0 + d.val; omega)
theorem ld_scl0 (p : Vec Ideal S1x512 .f32) (inb) : (fun d => View.ld p (Rect.unit (s := S1x512) ![0, 0] ![1, 128] inb) (ix2 0 d)) = scl p 0 := by
  funext d
  exact View.ld_unit_apply_of p _ _ inb _ (ix2 0 (col 0 d)) (fun a => by
    match a with
    | ⟨0, _⟩ => rfl
    | ⟨1, _⟩ => show 128 * 0 + d.val = 0 + d.val; omega)
theorem ld_q0 (q : Vec Ideal S4x128x128 .f32) (inb) (c d : Fin 128) : View.ld q (Rect.unit (s := S4x128x128) ![0, 0, 0] ![1, 128, 128] inb) (ix3 0 c d) = q (ix3 0 c d) :=
  View.ld_unit_apply_of q _ _ inb _ (ix3 0 c d) (fun a => by
    match a with
    | ⟨0, _⟩ => rfl
    | ⟨1, _⟩ => show c.val = 0 + c.val; omega
    | ⟨2, _⟩ => show d.val = 0 + d.val; omega)

theorem ld_cols1 (x : Vec Ideal S2048x512 .f32) (inb) : (fun t c => View.ld x (Rect.unit (s := S2048x512) ![0, 128] ![2048, 128] inb) (ix2 t c)) = cols x 1 := by
  funext t c
  exact View.ld_unit_apply_of x _ _ inb _ (ix2 t (col 1 c)) (fun a => by
    match a with
    | ⟨0, _⟩ => show t.val = 0 + t.val; omega
    | ⟨1, _⟩ => show 128 * 1 + c.val = 128 + c.val; omega)
theorem ld_wts1 (w : Vec Ideal S4x128x128 .bf16) (inb) : (fun c d => View.ld w (Rect.unit (s := S4x128x128) ![1, 0, 0] ![1, 128, 128] inb) (ix3 0 c d)) = wts w 1 := by
  funext c d
  exact View.ld_unit_apply_of w _ _ inb _ (ix3 1 c d) (fun a => by
    match a with
    | ⟨0, _⟩ => rfl
    | ⟨1, _⟩ => show c.val = 0 + c.val; omega
    | ⟨2, _⟩ => show d.val = 0 + d.val; omega)
theorem ld_scl1 (p : Vec Ideal S1x512 .f32) (inb) : (fun d => View.ld p (Rect.unit (s := S1x512) ![0, 128] ![1, 128] inb) (ix2 0 d)) = scl p 1 := by
  funext d
  exact View.ld_unit_apply_of p _ _ inb _ (ix2 0 (col 1 d)) (fun a => by
    match a with
    | ⟨0, _⟩ => rfl
    | ⟨1, _⟩ => show 128 * 1 + d.val = 128 + d.val; omega)
theorem ld_q1 (q : Vec Ideal S4x128x128 .f32) (inb) (c d : Fin 128) : View.ld q (Rect.unit (s := S4x128x128) ![1, 0, 0] ![1, 128, 128] inb) (ix3 0 c d) = q (ix3 1 c d) :=
  View.ld_unit_apply_of q _ _ inb _ (ix3 1 c d) (fun a => by
    match a with
    | ⟨0, _⟩ => rfl
    | ⟨1, _⟩ => show c.val = 0 + c.val; omega
    | ⟨2, _⟩ => show d.val = 0 + d.val; omega)

theorem ld_cols2 (x : Vec Ideal S2048x512 .f32) (inb) : (fun t c => View.ld x (Rect.unit (s := S2048x512) ![0, 256] ![2048, 128] inb) (ix2 t c)) = cols x 2 := by
  funext t c
  exact View.ld_unit_apply_of x _ _ inb _ (ix2 t (col 2 c)) (fun a => by
    match a with
    | ⟨0, _⟩ => show t.val = 0 + t.val; omega
    | ⟨1, _⟩ => show 128 * 2 + c.val = 256 + c.val; omega)
theorem ld_wts2 (w : Vec Ideal S4x128x128 .bf16) (inb) : (fun c d => View.ld w (Rect.unit (s := S4x128x128) ![2, 0, 0] ![1, 128, 128] inb) (ix3 0 c d)) = wts w 2 := by
  funext c d
  exact View.ld_unit_apply_of w _ _ inb _ (ix3 2 c d) (fun a => by
    match a with
    | ⟨0, _⟩ => rfl
    | ⟨1, _⟩ => show c.val = 0 + c.val; omega
    | ⟨2, _⟩ => show d.val = 0 + d.val; omega)
theorem ld_scl2 (p : Vec Ideal S1x512 .f32) (inb) : (fun d => View.ld p (Rect.unit (s := S1x512) ![0, 256] ![1, 128] inb) (ix2 0 d)) = scl p 2 := by
  funext d
  exact View.ld_unit_apply_of p _ _ inb _ (ix2 0 (col 2 d)) (fun a => by
    match a with
    | ⟨0, _⟩ => rfl
    | ⟨1, _⟩ => show 128 * 2 + d.val = 256 + d.val; omega)
theorem ld_q2 (q : Vec Ideal S4x128x128 .f32) (inb) (c d : Fin 128) : View.ld q (Rect.unit (s := S4x128x128) ![2, 0, 0] ![1, 128, 128] inb) (ix3 0 c d) = q (ix3 2 c d) :=
  View.ld_unit_apply_of q _ _ inb _ (ix3 2 c d) (fun a => by
    match a with
    | ⟨0, _⟩ => rfl
    | ⟨1, _⟩ => show c.val = 0 + c.val; omega
    | ⟨2, _⟩ => show d.val = 0 + d.val; omega)

theorem ld_cols3 (x : Vec Ideal S2048x512 .f32) (inb) : (fun t c => View.ld x (Rect.unit (s := S2048x512) ![0, 384] ![2048, 128] inb) (ix2 t c)) = cols x 3 := by
  funext t c
  exact View.ld_unit_apply_of x _ _ inb _ (ix2 t (col 3 c)) (fun a => by
    match a with
    | ⟨0, _⟩ => show t.val = 0 + t.val; omega
    | ⟨1, _⟩ => show 128 * 3 + c.val = 384 + c.val; omega)
theorem ld_wts3 (w : Vec Ideal S4x128x128 .bf16) (inb) : (fun c d => View.ld w (Rect.unit (s := S4x128x128) ![3, 0, 0] ![1, 128, 128] inb) (ix3 0 c d)) = wts w 3 := by
  funext c d
  exact View.ld_unit_apply_of w _ _ inb _ (ix3 3 c d) (fun a => by
    match a with
    | ⟨0, _⟩ => rfl
    | ⟨1, _⟩ => show c.val = 0 + c.val; omega
    | ⟨2, _⟩ => show d.val = 0 + d.val; omega)
theorem ld_scl3 (p : Vec Ideal S1x512 .f32) (inb) : (fun d => View.ld p (Rect.unit (s := S1x512) ![0, 384] ![1, 128] inb) (ix2 0 d)) = scl p 3 := by
  funext d
  exact View.ld_unit_apply_of p _ _ inb _ (ix2 0 (col 3 d)) (fun a => by
    match a with
    | ⟨0, _⟩ => rfl
    | ⟨1, _⟩ => show 128 * 3 + d.val = 384 + d.val; omega)
theorem ld_q3 (q : Vec Ideal S4x128x128 .f32) (inb) (c d : Fin 128) : View.ld q (Rect.unit (s := S4x128x128) ![3, 0, 0] ![1, 128, 128] inb) (ix3 0 c d) = q (ix3 3 c d) :=
  View.ld_unit_apply_of q _ _ inb _ (ix3 3 c d) (fun a => by
    match a with
    | ⟨0, _⟩ => rfl
    | ⟨1, _⟩ => show c.val = 0 + c.val; omega
    | ⟨2, _⟩ => show d.val = 0 + d.val; omega)

theorem congrEq3 {α β γ δ : Type} (f : α → β → γ → δ) {a a' : α} {b b' : β} {c c' : γ} (h : a = a') (h' : b = b') (h'' : c = c') : f a b c = f a' b' c' := by
  subst h h' h''
  rfl

theorem out_A4 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i)  (x0 : Vec Ideal S2048x512 .f32) (x1 : Vec Ideal S2048x512 .f32) (x2 : Vec Ideal S4x128x128 .bf16) (x3 : Vec Ideal S1x512 .f32) (g : Fin 4) (t : Fin 2048) (c : Fin 128) :
    out0_A_4 (F := Ideal) dev i arg1 harg1 arg2 harg2 arg3 harg3 arg4 harg4 arg6 harg6 arg7 harg7 arg8 harg8 hc0 x0 x1 x2 x3 (ix2 t (col g c)) = duE (g.val + 1) (cols x1 g) (scl x3 g) (wts x2 g) t c := by
  unfold out0_A_4
  rw [View.read_writes_eq_canon _ _ _ (cover0_A_4 dev i arg1 harg1 arg2 harg2 arg3 harg3 arg4 harg4 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg7.read_unread, harg8.read_unread]
  match g with
  | 0 =>
    refine (canon_miss _ _ _ _ _ _ (1 : Fin 2) (by show 128 * 0 + c.val < 384 ∨ _; have := c.isLt; omega)).trans ?_
    refine (canon_miss _ _ _ _ _ _ (1 : Fin 2) (by show 128 * 0 + c.val < 256 ∨ _; have := c.isLt; omega)).trans ?_
    refine (canon_miss _ _ _ _ _ _ (1 : Fin 2) (by show 128 * 0 + c.val < 128 ∨ _; have := c.isLt; omega)).trans ?_
    refine (canon_hit _ _ _ _ _ _ (ix2 t c) (fun a => by
      match a with
      | ⟨0, _⟩ => show t.val = 0 + t.val; omega
      | ⟨1, _⟩ => show 128 * 0 + c.val = 0 + c.val; omega)).trans ?_
    refine (du_at0 _ _ _ t c).trans ?_
    exact congrFun (congrFun (congrEq3 (duE (0 + 1)) (ld_cols0 x1 _) (ld_scl0 x3 _) (ld_wts0 x2 _)) t) c
  | 1 =>
    refine (canon_miss _ _ _ _ _ _ (1 : Fin 2) (by show 128 * 1 + c.val < 384 ∨ _; have := c.isLt; omega)).trans ?_
    refine (canon_miss _ _ _ _ _ _ (1 : Fin 2) (by show 128 * 1 + c.val < 256 ∨ _; have := c.isLt; omega)).trans ?_
    refine (canon_hit _ _ _ _ _ _ (ix2 t c) (fun a => by
      match a with
      | ⟨0, _⟩ => show t.val = 0 + t.val; omega
      | ⟨1, _⟩ => show 128 * 1 + c.val = 128 + c.val; omega)).trans ?_
    refine (du_at1 _ _ _ t c).trans ?_
    exact congrFun (congrFun (congrEq3 (duE (1 + 1)) (ld_cols1 x1 _) (ld_scl1 x3 _) (ld_wts1 x2 _)) t) c
  | 2 =>
    refine (canon_miss _ _ _ _ _ _ (1 : Fin 2) (by show 128 * 2 + c.val < 384 ∨ _; have := c.isLt; omega)).trans ?_
    refine (canon_hit _ _ _ _ _ _ (ix2 t c) (fun a => by
      match a with
      | ⟨0, _⟩ => show t.val = 0 + t.val; omega
      | ⟨1, _⟩ => show 128 * 2 + c.val = 256 + c.val; omega)).trans ?_
    refine (du_at2 _ _ _ t c).trans ?_
    exact congrFun (congrFun (congrEq3 (duE (2 + 1)) (ld_cols2 x1 _) (ld_scl2 x3 _) (ld_wts2 x2 _)) t) c
  | 3 =>
    refine (canon_hit _ _ _ _ _ _ (ix2 t c) (fun a => by
      match a with
      | ⟨0, _⟩ => show t.val = 0 + t.val; omega
      | ⟨1, _⟩ => show 128 * 3 + c.val = 384 + c.val; omega)).trans ?_
    refine (du_at3 _ _ _ t c).trans ?_
    exact congrFun (congrFun (congrEq3 (duE (3 + 1)) (ld_cols3 x1 _) (ld_scl3 x3 _) (ld_wts3 x2 _)) t) c

theorem out_A5 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i)  (x0 : Vec Ideal S2048x512 .f32) (x1 : Vec Ideal S2048x512 .f32) (x2 : Vec Ideal S4x128x128 .bf16) (x3 : Vec Ideal S1x512 .f32) (g : Fin 4) (c d : Fin 128) :
    out0_A_5 (F := Ideal) dev i arg1 harg1 arg2 harg2 arg3 harg3 arg4 harg4 arg6 harg6 arg7 harg7 arg8 harg8 hc0 x0 x1 x2 x3 (ix3 g c d) = dwE (g.val + 1) (cols x0 g) (cols x1 g) (scl x3 g) c d := by
  unfold out0_A_5
  rw [View.read_writes_eq_canon _ _ _ (cover0_A_5 dev i arg1 harg1 arg2 harg2 arg3 harg3 arg4 harg4 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg7.read_unread, harg8.read_unread]
  simp only [View.readCov_eq_canon']
  match g with
  | 0 =>
    refine (canon_miss _ _ _ _ _ _ (0 : Fin 3) (by show 0 < 3 ∨ _; omega)).trans ?_
    refine (canon_miss _ _ _ _ _ _ (0 : Fin 3) (by show 0 < 2 ∨ _; omega)).trans ?_
    refine (canon_miss _ _ _ _ _ _ (0 : Fin 3) (by show 0 < 1 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at0 _ _ _ _ c d).trans ?_
    refine (congrArg₂ (· + ·) ?_ (congrFun (congrFun (congrEq3 (dwE (0 + 1)) (ld_cols0 x0 _) (ld_cols0 x1 _) (ld_scl0 x3 _)) c) d)).trans (zero_add _)
    refine (canon_hit _ _ _ _ _ _ (ix3 0 c d) (fun a => by
      match a with
      | ⟨0, _⟩ => rfl
      | ⟨1, _⟩ => show 0 + 1 * c.val = 0 + c.val; omega
      | ⟨2, _⟩ => show 0 + 1 * d.val = 0 + d.val; omega)).trans ?_
    exact Ideal.ofBits_zero_f32
  | 1 =>
    refine (canon_miss _ _ _ _ _ _ (0 : Fin 3) (by show 1 < 3 ∨ _; omega)).trans ?_
    refine (canon_miss _ _ _ _ _ _ (0 : Fin 3) (by show 1 < 2 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at1 _ _ _ _ c d).trans ?_
    refine (congrArg₂ (· + ·) ?_ (congrFun (congrFun (congrEq3 (dwE (1 + 1)) (ld_cols1 x0 _) (ld_cols1 x1 _) (ld_scl1 x3 _)) c) d)).trans (zero_add _)
    refine (canon_miss _ _ _ _ _ _ (0 : Fin 3) (by show _ ∨ 0 + 1 ≤ 1 + 1 * 0; omega)).trans ?_
    refine (canon_hit _ _ _ _ _ _ (ix3 1 c d) (fun a => by
      match a with
      | ⟨0, _⟩ => rfl
      | ⟨1, _⟩ => show 0 + 1 * c.val = 0 + c.val; omega
      | ⟨2, _⟩ => show 0 + 1 * d.val = 0 + d.val; omega)).trans ?_
    exact Ideal.ofBits_zero_f32
  | 2 =>
    refine (canon_miss _ _ _ _ _ _ (0 : Fin 3) (by show 2 < 3 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at2 _ _ _ _ c d).trans ?_
    refine (congrArg₂ (· + ·) ?_ (congrFun (congrFun (congrEq3 (dwE (2 + 1)) (ld_cols2 x0 _) (ld_cols2 x1 _) (ld_scl2 x3 _)) c) d)).trans (zero_add _)
    refine (canon_miss _ _ _ _ _ _ (0 : Fin 3) (by show _ ∨ 1 + 1 ≤ 2 + 1 * 0; omega)).trans ?_
    refine (canon_miss _ _ _ _ _ _ (0 : Fin 3) (by show _ ∨ 0 + 1 ≤ 2 + 1 * 0; omega)).trans ?_
    refine (canon_hit _ _ _ _ _ _ (ix3 2 c d) (fun a => by
      match a with
      | ⟨0, _⟩ => rfl
      | ⟨1, _⟩ => show 0 + 1 * c.val = 0 + c.val; omega
      | ⟨2, _⟩ => show 0 + 1 * d.val = 0 + d.val; omega)).trans ?_
    exact Ideal.ofBits_zero_f32
  | 3 =>
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at3 _ _ _ _ c d).trans ?_
    refine (congrArg₂ (· + ·) ?_ (congrFun (congrFun (congrEq3 (dwE (3 + 1)) (ld_cols3 x0 _) (ld_cols3 x1 _) (ld_scl3 x3 _)) c) d)).trans (zero_add _)
    refine (canon_miss _ _ _ _ _ _ (0 : Fin 3) (by show _ ∨ 2 + 1 ≤ 3 + 1 * 0; omega)).trans ?_
    refine (canon_miss _ _ _ _ _ _ (0 : Fin 3) (by show _ ∨ 1 + 1 ≤ 3 + 1 * 0; omega)).trans ?_
    refine (canon_miss _ _ _ _ _ _ (0 : Fin 3) (by show _ ∨ 0 + 1 ≤ 3 + 1 * 0; omega)).trans ?_
    refine (canon_hit _ _ _ _ _ _ (ix3 3 c d) (fun a => by
      match a with
      | ⟨0, _⟩ => rfl
      | ⟨1, _⟩ => show 0 + 1 * c.val = 0 + c.val; omega
      | ⟨2, _⟩ => show 0 + 1 * d.val = 0 + d.val; omega)).trans ?_
    exact Ideal.ofBits_zero_f32

theorem out_A6 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : cond0_0 i)  (x0 : Vec Ideal S2048x512 .f32) (x1 : Vec Ideal S2048x512 .f32) (x2 : Vec Ideal S4x128x128 .bf16) (x3 : Vec Ideal S1x512 .f32) (g : Fin 4) (d : Fin 128) :
    out0_A_6 (F := Ideal) dev i arg1 harg1 arg2 harg2 arg3 harg3 arg4 harg4 arg6 harg6 arg7 harg7 arg8 harg8 hc0 x0 x1 x2 x3 (ix2 0 (col g d)) = dpsE (g.val + 1) (cols x0 g) (cols x1 g) (wts x2 g) d := by
  unfold out0_A_6
  rw [View.read_writes_eq_canon _ _ _ (cover0_A_6 dev i arg1 harg1 arg2 harg2 arg3 harg3 arg4 harg4 arg6 harg6 arg7 harg7 arg8 harg8 hc0 x0 x1 x2 x3)]
  unfold kernelRun0_A
  dsimp only
  sl_unfold_words
  simp only [View.readAt_eq_ld, harg1.read_unread, harg2.read_unread, harg3.read_unread, harg4.read_unread, harg7.read_unread, harg8.read_unread]
  simp only [View.readCov_eq_canon']
  match g with
  | 0 =>
    refine (canon_miss _ _ _ _ _ _ (1 : Fin 2) (by show 128 * 0 + d.val < 384 ∨ _; have := d.isLt; omega)).trans ?_
    refine (canon_miss _ _ _ _ _ _ (1 : Fin 2) (by show 128 * 0 + d.val < 256 ∨ _; have := d.isLt; omega)).trans ?_
    refine (canon_miss _ _ _ _ _ _ (1 : Fin 2) (by show 128 * 0 + d.val < 128 ∨ _; have := d.isLt; omega)).trans ?_
    refine (canon_hit _ _ _ _ _ _ (ix2 0 d) (fun a => by
      match a with
      | ⟨0, _⟩ => rfl
      | ⟨1, _⟩ => show 128 * 0 + d.val = 0 + d.val; omega)).trans ?_
    refine (dps_at0 _ _ _ _ d).trans ?_
    refine (congrArg₂ (· + ·) ?_ (congrFun (congrEq3 (dpsE (0 + 1)) (ld_cols0 x0 _) (ld_cols0 x1 _) (ld_wts0 x2 _)) d)).trans (zero_add _)
    refine (canon_hit _ _ _ _ _ _ (ix2 0 (col 0 d)) (fun a => by
      match a with
      | ⟨0, _⟩ => rfl
      | ⟨1, _⟩ => show 0 + 1 * d.val = 0 + (128 * 0 + d.val); omega)).trans ?_
    exact Ideal.ofBits_zero_f32
  | 1 =>
    refine (canon_miss _ _ _ _ _ _ (1 : Fin 2) (by show 128 * 1 + d.val < 384 ∨ _; have := d.isLt; omega)).trans ?_
    refine (canon_miss _ _ _ _ _ _ (1 : Fin 2) (by show 128 * 1 + d.val < 256 ∨ _; have := d.isLt; omega)).trans ?_
    refine (canon_hit _ _ _ _ _ _ (ix2 0 d) (fun a => by
      match a with
      | ⟨0, _⟩ => rfl
      | ⟨1, _⟩ => show 128 * 1 + d.val = 128 + d.val; omega)).trans ?_
    refine (dps_at1 _ _ _ _ d).trans ?_
    refine (congrArg₂ (· + ·) ?_ (congrFun (congrEq3 (dpsE (1 + 1)) (ld_cols1 x0 _) (ld_cols1 x1 _) (ld_wts1 x2 _)) d)).trans (zero_add _)
    refine (canon_miss _ _ _ _ _ _ (1 : Fin 2) (by show _ ∨ 0 + 128 ≤ 128 + 1 * d.val; have := d.isLt; omega)).trans ?_
    refine (canon_hit _ _ _ _ _ _ (ix2 0 (col 1 d)) (fun a => by
      match a with
      | ⟨0, _⟩ => rfl
      | ⟨1, _⟩ => show 128 + 1 * d.val = 0 + (128 * 1 + d.val); omega)).trans ?_
    exact Ideal.ofBits_zero_f32
  | 2 =>
    refine (canon_miss _ _ _ _ _ _ (1 : Fin 2) (by show 128 * 2 + d.val < 384 ∨ _; have := d.isLt; omega)).trans ?_
    refine (canon_hit _ _ _ _ _ _ (ix2 0 d) (fun a => by
      match a with
      | ⟨0, _⟩ => rfl
      | ⟨1, _⟩ => show 128 * 2 + d.val = 256 + d.val; omega)).trans ?_
    refine (dps_at2 _ _ _ _ d).trans ?_
    refine (congrArg₂ (· + ·) ?_ (congrFun (congrEq3 (dpsE (2 + 1)) (ld_cols2 x0 _) (ld_cols2 x1 _) (ld_wts2 x2 _)) d)).trans (zero_add _)
    refine (canon_miss _ _ _ _ _ _ (1 : Fin 2) (by show _ ∨ 128 + 128 ≤ 256 + 1 * d.val; have := d.isLt; omega)).trans ?_
    refine (canon_miss _ _ _ _ _ _ (1 : Fin 2) (by show _ ∨ 0 + 128 ≤ 256 + 1 * d.val; have := d.isLt; omega)).trans ?_
    refine (canon_hit _ _ _ _ _ _ (ix2 0 (col 2 d)) (fun a => by
      match a with
      | ⟨0, _⟩ => rfl
      | ⟨1, _⟩ => show 256 + 1 * d.val = 0 + (128 * 2 + d.val); omega)).trans ?_
    exact Ideal.ofBits_zero_f32
  | 3 =>
    refine (canon_hit _ _ _ _ _ _ (ix2 0 d) (fun a => by
      match a with
      | ⟨0, _⟩ => rfl
      | ⟨1, _⟩ => show 128 * 3 + d.val = 384 + d.val; omega)).trans ?_
    refine (dps_at3 _ _ _ _ d).trans ?_
    refine (congrArg₂ (· + ·) ?_ (congrFun (congrEq3 (dpsE (3 + 1)) (ld_cols3 x0 _) (ld_cols3 x1 _) (ld_wts3 x2 _)) d)).trans (zero_add _)
    refine (canon_miss _ _ _ _ _ _ (1 : Fin 2) (by show _ ∨ 256 + 128 ≤ 384 + 1 * d.val; have := d.isLt; omega)).trans ?_
    refine (canon_miss _ _ _ _ _ _ (1 : Fin 2) (by show _ ∨ 128 + 128 ≤ 384 + 1 * d.val; have := d.isLt; omega)).trans ?_
    refine (canon_miss _ _ _ _ _ _ (1 : Fin 2) (by show _ ∨ 0 + 128 ≤ 384 + 1 * d.val; have := d.isLt; omega)).trans ?_
    refine (canon_hit _ _ _ _ _ _ (ix2 0 (col 3 d)) (fun a => by
      match a with
      | ⟨0, _⟩ => rfl
      | ⟨1, _⟩ => show 384 + 1 * d.val = 0 + (128 * 3 + d.val); omega)).trans ?_
    exact Ideal.ofBits_zero_f32

theorem out_B4 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i)  (x0 : Vec Ideal S2048x512 .f32) (x1 : Vec Ideal S2048x512 .f32) (x2 : Vec Ideal S4x128x128 .bf16) (x3 : Vec Ideal S1x512 .f32) (xo5 : Vec Ideal S4x128x128 .f32) (xo6 : Vec Ideal S1x512 .f32) (g : Fin 4) (t : Fin 2048) (c : Fin 128) :
    out0_B_4 (F := Ideal) dev i arg1 harg1 arg2 harg2 arg3 harg3 arg4 harg4 arg6 harg6 arg7 harg7 arg8 harg8 hc0 x0 x1 x2 x3 xo5 xo6 (ix2 t (col g c)) = duE (g.val + 1) (cols x1 g) (scl x3 g) (wts x2 g) t c := by
  unfold out0_B_4
  rw [View.read_writes_eq_canon _ _ _ (cover0_B_4 dev i arg1 harg1 arg2 harg2 arg3 harg3 arg4 harg4 arg6 harg6 arg7 harg7 arg8 harg8 hc0 x0 x1 x2 x3 xo5 xo6)]
  unfold kernelRun0_B
  dsimp only
  sl_unfold_words
  simp only [View.readAt_eq_ld, harg1.read_unread, harg2.read_unread, harg3.read_unread, harg4.read_unread, harg7.read_unread, harg8.read_unread]
  match g with
  | 0 =>
    refine (canon_miss _ _ _ _ _ _ (1 : Fin 2) (by show 128 * 0 + c.val < 384 ∨ _; have := c.isLt; omega)).trans ?_
    refine (canon_miss _ _ _ _ _ _ (1 : Fin 2) (by show 128 * 0 + c.val < 256 ∨ _; have := c.isLt; omega)).trans ?_
    refine (canon_miss _ _ _ _ _ _ (1 : Fin 2) (by show 128 * 0 + c.val < 128 ∨ _; have := c.isLt; omega)).trans ?_
    refine (canon_hit _ _ _ _ _ _ (ix2 t c) (fun a => by
      match a with
      | ⟨0, _⟩ => show t.val = 0 + t.val; omega
      | ⟨1, _⟩ => show 128 * 0 + c.val = 0 + c.val; omega)).trans ?_
    refine (du_at0 _ _ _ t c).trans ?_
    exact congrFun (congrFun (congrEq3 (duE (0 + 1)) (ld_cols0 x1 _) (ld_scl0 x3 _) (ld_wts0 x2 _)) t) c
  | 1 =>
    refine (canon_miss _ _ _ _ _ _ (1 : Fin 2) (by show 128 * 1 + c.val < 384 ∨ _; have := c.isLt; omega)).trans ?_
    refine (canon_miss _ _ _ _ _ _ (1 : Fin 2) (by show 128 * 1 + c.val < 256 ∨ _; have := c.isLt; omega)).trans ?_
    refine (canon_hit _ _ _ _ _ _ (ix2 t c) (fun a => by
      match a with
      | ⟨0, _⟩ => show t.val = 0 + t.val; omega
      | ⟨1, _⟩ => show 128 * 1 + c.val = 128 + c.val; omega)).trans ?_
    refine (du_at1 _ _ _ t c).trans ?_
    exact congrFun (congrFun (congrEq3 (duE (1 + 1)) (ld_cols1 x1 _) (ld_scl1 x3 _) (ld_wts1 x2 _)) t) c
  | 2 =>
    refine (canon_miss _ _ _ _ _ _ (1 : Fin 2) (by show 128 * 2 + c.val < 384 ∨ _; have := c.isLt; omega)).trans ?_
    refine (canon_hit _ _ _ _ _ _ (ix2 t c) (fun a => by
      match a with
      | ⟨0, _⟩ => show t.val = 0 + t.val; omega
      | ⟨1, _⟩ => show 128 * 2 + c.val = 256 + c.val; omega)).trans ?_
    refine (du_at2 _ _ _ t c).trans ?_
    exact congrFun (congrFun (congrEq3 (duE (2 + 1)) (ld_cols2 x1 _) (ld_scl2 x3 _) (ld_wts2 x2 _)) t) c
  | 3 =>
    refine (canon_hit _ _ _ _ _ _ (ix2 t c) (fun a => by
      match a with
      | ⟨0, _⟩ => show t.val = 0 + t.val; omega
      | ⟨1, _⟩ => show 128 * 3 + c.val = 384 + c.val; omega)).trans ?_
    refine (du_at3 _ _ _ t c).trans ?_
    exact congrFun (congrFun (congrEq3 (duE (3 + 1)) (ld_cols3 x1 _) (ld_scl3 x3 _) (ld_wts3 x2 _)) t) c

theorem out_B5 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i)  (x0 : Vec Ideal S2048x512 .f32) (x1 : Vec Ideal S2048x512 .f32) (x2 : Vec Ideal S4x128x128 .bf16) (x3 : Vec Ideal S1x512 .f32) (xo5 : Vec Ideal S4x128x128 .f32) (xo6 : Vec Ideal S1x512 .f32) (g : Fin 4) (c d : Fin 128) :
    out0_B_5 (F := Ideal) dev i arg1 harg1 arg2 harg2 arg3 harg3 arg4 harg4 arg6 harg6 arg7 harg7 arg8 harg8 hc0 x0 x1 x2 x3 xo5 xo6 (ix3 g c d) = xo5 (ix3 g c d) + dwE (g.val + 1) (cols x0 g) (cols x1 g) (scl x3 g) c d := by
  unfold out0_B_5
  rw [View.read_writes_eq_canon _ _ _ (cover0_B_5 dev i arg1 harg1 arg2 harg2 arg3 harg3 arg4 harg4 arg6 harg6 arg7 harg7 arg8 harg8 hc0 x0 x1 x2 x3 xo5 xo6)]
  unfold kernelRun0_B
  dsimp only
  sl_unfold_words
  simp only [View.readAt_eq_ld, harg1.read_unread, harg2.read_unread, harg3.read_unread, harg4.read_unread, harg7.read_unread, harg8.read_unread]
  match g with
  | 0 =>
    refine (canon_miss _ _ _ _ _ _ (0 : Fin 3) (by show 0 < 3 ∨ _; omega)).trans ?_
    refine (canon_miss _ _ _ _ _ _ (0 : Fin 3) (by show 0 < 2 ∨ _; omega)).trans ?_
    refine (canon_miss _ _ _ _ _ _ (0 : Fin 3) (by show 0 < 1 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at0 _ _ _ _ c d).trans ?_
    exact congrArg₂ (· + ·) (ld_q0 xo5 _ c d) (congrFun (congrFun (congrEq3 (dwE (0 + 1)) (ld_cols0 x0 _) (ld_cols0 x1 _) (ld_scl0 x3 _)) c) d)
  | 1 =>
    refine (canon_miss _ _ _ _ _ _ (0 : Fin 3) (by show 1 < 3 ∨ _; omega)).trans ?_
    refine (canon_miss _ _ _ _ _ _ (0 : Fin 3) (by show 1 < 2 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at1 _ _ _ _ c d).trans ?_
    exact congrArg₂ (· + ·) (ld_q1 xo5 _ c d) (congrFun (congrFun (congrEq3 (dwE (1 + 1)) (ld_cols1 x0 _) (ld_cols1 x1 _) (ld_scl1 x3 _)) c) d)
  | 2 =>
    refine (canon_miss _ _ _ _ _ _ (0 : Fin 3) (by show 2 < 3 ∨ _; omega)).trans ?_
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at2 _ _ _ _ c d).trans ?_
    exact congrArg₂ (· + ·) (ld_q2 xo5 _ c d) (congrFun (congrFun (congrEq3 (dwE (2 + 1)) (ld_cols2 x0 _) (ld_cols2 x1 _) (ld_scl2 x3 _)) c) d)
  | 3 =>
    refine (canon_hit _ _ _ _ _ _ (ix3 0 c d) (fun a => by
      match a with
      | ⟨0, _⟩ => rfl
      | ⟨1, _⟩ => show c.val = 0 + c.val; omega
      | ⟨2, _⟩ => show d.val = 0 + d.val; omega)).trans ?_
    refine (dw_at3 _ _ _ _ c d).trans ?_
    exact congrArg₂ (· + ·) (ld_q3 xo5 _ c d) (congrFun (congrFun (congrEq3 (dwE (3 + 1)) (ld_cols3 x0 _) (ld_cols3 x1 _) (ld_scl3 x3 _)) c) d)

theorem out_B6 (dev : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S1x512 .f32) (harg4 : arg4.IsWhole) (arg6 : Memref sig .tc .vmem S2048x512 .bf16) (harg6 : arg6.IsWhole) (arg7 : Memref sig .tc .vmem S4x128x128 .f32) (harg7 : arg7.IsWhole) (arg8 : Memref sig .tc .vmem S1x512 .f32) (harg8 : arg8.IsWhole) (hc0 : ¬cond0_0 i)  (x0 : Vec Ideal S2048x512 .f32) (x1 : Vec Ideal S2048x512 .f32) (x2 : Vec Ideal S4x128x128 .bf16) (x3 : Vec Ideal S1x512 .f32) (xo5 : Vec Ideal S4x128x128 .f32) (xo6 : Vec Ideal S1x512 .f32) (g : Fin 4) (d : Fin 128) :
    out0_B_6 (F := Ideal) dev i arg1 harg1 arg2 harg2 arg3 harg3 arg4 harg4 arg6 harg6 arg7 harg7 arg8 harg8 hc0 x0 x1 x2 x3 xo5 xo6 (ix2 0 (col g d)) = xo6 (ix2 0 (col g d)) + dpsE (g.val + 1) (cols x0 g) (cols x1 g) (wts x2 g) d := by
  unfold out0_B_6
  rw [View.read_writes_eq_canon _ _ _ (cover0_B_6 dev i arg1 harg1 arg2 harg2 arg3 harg3 arg4 harg4 arg6 harg6 arg7 harg7 arg8 harg8 hc0 x0 x1 x2 x3 xo5 xo6)]
  unfold kernelRun0_B
  dsimp only
  sl_unfold_words
  simp only [View.readAt_eq_ld, harg1.read_unread, harg2.read_unread, harg3.read_unread, harg4.read_unread, harg7.read_unread, harg8.read_unread]
  match g with
  | 0 =>
    refine (canon_miss _ _ _ _ _ _ (1 : Fin 2) (by show 128 * 0 + d.val < 384 ∨ _; have := d.isLt; omega)).trans ?_
    refine (canon_miss _ _ _ _ _ _ (1 : Fin 2) (by show 128 * 0 + d.val < 256 ∨ _; have := d.isLt; omega)).trans ?_
    refine (canon_miss _ _ _ _ _ _ (1 : Fin 2) (by show 128 * 0 + d.val < 128 ∨ _; have := d.isLt; omega)).trans ?_
    refine (canon_hit _ _ _ _ _ _ (ix2 0 d) (fun a => by
      match a with
      | ⟨0, _⟩ => rfl
      | ⟨1, _⟩ => show 128 * 0 + d.val = 0 + d.val; omega)).trans ?_
    refine (dps_at0 _ _ _ _ d).trans ?_
    exact congrArg₂ (· + ·) (congrFun (ld_scl0 xo6 _) d) (congrFun (congrEq3 (dpsE (0 + 1)) (ld_cols0 x0 _) (ld_cols0 x1 _) (ld_wts0 x2 _)) d)
  | 1 =>
    refine (canon_miss _ _ _ _ _ _ (1 : Fin 2) (by show 128 * 1 + d.val < 384 ∨ _; have := d.isLt; omega)).trans ?_
    refine (canon_miss _ _ _ _ _ _ (1 : Fin 2) (by show 128 * 1 + d.val < 256 ∨ _; have := d.isLt; omega)).trans ?_
    refine (canon_hit _ _ _ _ _ _ (ix2 0 d) (fun a => by
      match a with
      | ⟨0, _⟩ => rfl
      | ⟨1, _⟩ => show 128 * 1 + d.val = 128 + d.val; omega)).trans ?_
    refine (dps_at1 _ _ _ _ d).trans ?_
    exact congrArg₂ (· + ·) (congrFun (ld_scl1 xo6 _) d) (congrFun (congrEq3 (dpsE (1 + 1)) (ld_cols1 x0 _) (ld_cols1 x1 _) (ld_wts1 x2 _)) d)
  | 2 =>
    refine (canon_miss _ _ _ _ _ _ (1 : Fin 2) (by show 128 * 2 + d.val < 384 ∨ _; have := d.isLt; omega)).trans ?_
    refine (canon_hit _ _ _ _ _ _ (ix2 0 d) (fun a => by
      match a with
      | ⟨0, _⟩ => rfl
      | ⟨1, _⟩ => show 128 * 2 + d.val = 256 + d.val; omega)).trans ?_
    refine (dps_at2 _ _ _ _ d).trans ?_
    exact congrArg₂ (· + ·) (congrFun (ld_scl2 xo6 _) d) (congrFun (congrEq3 (dpsE (2 + 1)) (ld_cols2 x0 _) (ld_cols2 x1 _) (ld_wts2 x2 _)) d)
  | 3 =>
    refine (canon_hit _ _ _ _ _ _ (ix2 0 d) (fun a => by
      match a with
      | ⟨0, _⟩ => rfl
      | ⟨1, _⟩ => show 128 * 3 + d.val = 384 + d.val; omega)).trans ?_
    refine (dps_at3 _ _ _ _ d).trans ?_
    exact congrArg₂ (· + ·) (congrFun (ld_scl3 xo6 _) d) (congrFun (congrEq3 (dpsE (3 + 1)) (ld_cols3 x0 _) (ld_cols3 x1 _) (ld_wts3 x2 _)) d)

end Cert.KernelIdeal.Value
end
-- ==== Proof.PoolRun.lean ====
/-
  The three result arrays of the pooling gradient after the run, entry by entry, from the argument arrays.
-/
module
public import proofs.«01_k».proof.Proof.PoolOut
public import Idealize.ShloMosaic.Lib.Pipeline.Value
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

open scoped BigOperators
variable (m : (ℓ : Loc nD τ sig) → Buf (Elt Ideal) ℓ) (ρ : Dev nD → PrngReg)

/-- Row `r` of block `b`. -/
def row (b : Fin 2) (r : Fin 2048) : Fin 4096 := ⟨2048 * b.val + r.val, by have := b.isLt; have := r.isLt; omega⟩

/-- Block `b` of an argument, the columns of group `g`. -/
def part (x : Vec Ideal S4096x512 .f32) (b : Fin 2) (g : Fin 4) (t : Fin 2048) (c : Fin 128) : EReal := x (ix2 (row b t) (col g c))

/-- The grid point of block `b`. -/
def pt (b : Fin 2) : Fin cfg0.N := ⟨b.val, b.isLt⟩

/-- The argument arrays. -/
abbrev aU (c : Dev nD) : Vec Ideal S4096x512 .f32 := m ((c : Thread nD τ).loc main_arg0)
abbrev aY (c : Dev nD) : Vec Ideal S4096x512 .f32 := m ((c : Thread nD τ).loc main_arg1)
abbrev aW (c : Dev nD) : Vec Ideal S4x128x128 .bf16 := m ((c : Thread nD τ).loc main_arg2)
abbrev aP (c : Dev nD) : Vec Ideal S1x512 .f32 := m ((c : Thread nD τ).loc main_arg3)

theorem index_0 : ∀ b : Fin 2, win0_0.index (pt b) 0 = b.val ∧ win0_0.index (pt b) 1 = 0 := by decide +kernel
theorem index_1 : ∀ b : Fin 2, win0_1.index (pt b) 0 = b.val ∧ win0_1.index (pt b) 1 = 0 := by decide +kernel
theorem index_2 : ∀ b : Fin 2, win0_2.index (pt b) 0 = 0 ∧ win0_2.index (pt b) 1 = 0 ∧ win0_2.index (pt b) 2 = 0 := by decide +kernel
theorem index_3 : ∀ b : Fin 2, win0_3.index (pt b) 0 = 0 ∧ win0_3.index (pt b) 1 = 0 := by decide +kernel
theorem index_4 : ∀ b : Fin 2, win0_4.index (pt b) 0 = b.val ∧ win0_4.index (pt b) 1 = 0 := by decide +kernel
theorem index_5 : ∀ b : Fin 2, win0_5.index (pt b) 0 = 0 ∧ win0_5.index (pt b) 1 = 0 ∧ win0_5.index (pt b) 2 = 0 := by decide +kernel
theorem index_6 : ∀ b : Fin 2, win0_6.index (pt b) 0 = 0 ∧ win0_6.index (pt b) 1 = 0 := by decide +kernel

theorem in0 (c : Dev nD) (b : Fin 2) (g : Fin 4) : cols (iblk m c 0 (pt b)) g = part (aU m c) b g := by
  funext t k
  unfold cols part iblk
  rw [View.read_apply]
  show V m c main_arg0 _ = m (c.tc.loc main_arg0) _
  refine (congrFun (V_main_arg0 m c) _).trans (congrArg _ ?_)
  funext a
  apply Fin.ext
  match a with
  | ⟨0, _⟩ => show win0_0.index (pt b) 0 * 2048 + 1 * t.val = 2048 * b.val + t.val; rw [(index_0 b).1]; omega
  | ⟨1, _⟩ => show win0_0.index (pt b) 1 * 512 + 1 * (col g k).val = (col g k).val; rw [(index_0 b).2]; omega

theorem in1 (c : Dev nD) (b : Fin 2) (g : Fin 4) : cols (iblk m c 1 (pt b)) g = part (aY m c) b g := by
  funext t k
  unfold cols part iblk
  rw [View.read_apply]
  show V m c main_arg1 _ = m (c.tc.loc main_arg1) _
  refine (congrFun (V_main_arg1 m c) _).trans (congrArg _ ?_)
  funext a
  apply Fin.ext
  match a with
  | ⟨0, _⟩ => show win0_1.index (pt b) 0 * 2048 + 1 * t.val = 2048 * b.val + t.val; rw [(index_1 b).1]; omega
  | ⟨1, _⟩ => show win0_1.index (pt b) 1 * 512 + 1 * (col g k).val = (col g k).val; rw [(index_1 b).2]; omega

theorem in2 (c : Dev nD) (b : Fin 2) (g : Fin 4) : wts (iblk m c 2 (pt b)) g = wts (aW m c) g := by
  funext i k
  unfold wts iblk
  rw [View.read_apply]
  show V m c main_arg2 _ = m (c.tc.loc main_arg2) _
  refine (congrFun (V_main_arg2 m c) _).trans (congrArg _ ?_)
  funext a
  apply Fin.ext
  match a with
  | ⟨0, _⟩ => show win0_2.index (pt b) 0 * 4 + 1 * g.val = g.val; rw [(index_2 b).1]; omega
  | ⟨1, _⟩ => show win0_2.index (pt b) 1 * 128 + 1 * i.val = i.val; rw [(index_2 b).2.1]; omega
  | ⟨2, _⟩ => show win0_2.index (pt b) 2 * 128 + 1 * k.val = k.val; rw [(index_2 b).2.2]; omega

theorem in3 (c : Dev nD) (b : Fin 2) (g : Fin 4) : scl (iblk m c 3 (pt b)) g = scl (aP m c) g := by
  funext k
  unfold scl iblk
  rw [View.read_apply]
  show V m c main_arg3 _ = m (c.tc.loc main_arg3) _
  refine (congrFun (V_main_arg3 m c) _).trans (congrArg _ ?_)
  funext a
  apply Fin.ext
  match a with
  | ⟨0, _⟩ => show win0_3.index (pt b) 0 * 1 + 1 * 0 = 0; rw [(index_3 b).1]
  | ⟨1, _⟩ => show win0_3.index (pt b) 1 * 512 + 1 * (col g k).val = (col g k).val; rw [(index_3 b).2]; omega

theorem outs_eq (c : Dev nD) (n n' : Nat) (h : n < cfg0.N) (h' : n' < cfg0.N) (e : n = n') : outsAt0 m c n h = outsAt0 m c n' h' := by
  subst e
  rfl

/-- The first result at row `t` of block `b`, column `k` of group `g`. -/
theorem du_run (c : Dev nD) (b : Fin 2) (g : Fin 4) (t : Fin 2048) (k : Fin 128) :
    ((dats m 0 c).arrAt 4 cfg0.N : Vec Ideal S4096x512 .bf16) (ix2 (row b t) (col g k))
    = duE (g.val + 1) (part (aY m c) b g) (scl (aP m c) g) (wts (aW m c) g) t k := by
  have he : ((cfg0.win 4).blk (pt b)).view.emb (ix2 t (col g k) : S2048x512.Idx) = (ix2 (row b t) (col g k) : S4096x512.Idx) := by
    funext a
    apply Fin.ext
    match a with
    | ⟨0, _⟩ => show win0_4.index (pt b) 0 * 2048 + 1 * t.val = 2048 * b.val + t.val; rw [(index_4 b).1]; omega
    | ⟨1, _⟩ => show win0_4.index (pt b) 1 * 512 + 1 * (col g k).val = (col g k).val; rw [(index_4 b).2]; omega
  have h := (dats m 0 c).arrAt_emb_eq_flushed 4 disjoint4 (pt b) (flush0_4 (pt b)) (ix2 t (col g k) : S2048x512.Idx)
  rw [he] at h
  have hcut : ∀ X, (cfg0.win 4).cut (grid0.coords (pt b)) X (ix2 t (col g k) : S2048x512.Idx) = (X : Vec Ideal S2048x512 .bf16) (ix2 t (col g k)) := fun _ => rfl
  refine h.trans ?_
  rw [cast_eq, ← in1 m c b g, ← in3 m c b g, ← in2 m c b g]
  by_cases h0 : (pt b).val % 2 = 0
  · rw [flushed4_A m c (pt b) h0, hcut, out_A4]
  · rw [flushed4_B m c (pt b) h0, hcut, out_B4]

/-- The second result: the blocks' terms added, first block first. -/
theorem dw_run (c : Dev nD) (g : Fin 4) (i k : Fin 128) :
    ((dats m 0 c).arrAt 5 cfg0.N : Vec Ideal S4x128x128 .f32) (ix3 g i k)
    = dwE (g.val + 1) (part (aU m c) 0 g) (part (aY m c) 0 g) (scl (aP m c) g) i k
      + dwE (g.val + 1) (part (aU m c) 1 g) (part (aY m c) 1 g) (scl (aP m c) g) i k := by
  have hg : (dats m 0 c).arrAt 5 cfg0.N = ((outsAt0 m c (pt 1).val (pt 1).isLt).2.1 : Vec Ideal S4x128x128 .f32) := by
    refine (dats m 0 c).arrAt_eq_of_cover 5 _ (fun t hf => ?_) (fun x => ⟨pt 1, (flush0_5 (pt 1)).2 rfl, ?_⟩)
    · obtain rfl : t = pt 1 := Fin.ext (by
        have h1 := (flush0_5 t).1 hf
        have h2 : t.val < 2 := t.isLt
        show t.val = 1
        omega)
      rw [flushed5]
      have hz' : (fun a => win0_5.index (pt 1) a * main_v1_1.ty.shape.size a) = fun _ => 0 := funext fun a => by fin_cases a <;> decide
      exact (Memref.read_access_unit_zero (Elt Ideal) main_v1_1 hz' (fun a => by rw [congrFun hz' a]; simp) _).symm
    · show x ∈ ((View.whole main_v1_1).slice (win0_5.rect (pt 1))).set
      rw [View.set_slice_whole, Rect.mem_set_unit]
      intro a
      have h0 : (x 0 : Nat) < 4 := (x 0).isLt
      have h1 : (x 1 : Nat) < 128 := (x 1).isLt
      have h2 : (x 2 : Nat) < 128 := (x 2).isLt
      match a with
      | ⟨0, _⟩ => show win0_5.index (pt 1) 0 * 4 ≤ (x 0 : Nat) ∧ (x 0 : Nat) < win0_5.index (pt 1) 0 * 4 + 4; rw [(index_5 1).1]; omega
      | ⟨1, _⟩ => show win0_5.index (pt 1) 1 * 128 ≤ (x 1 : Nat) ∧ (x 1 : Nat) < win0_5.index (pt 1) 1 * 128 + 128; rw [(index_5 1).2.1]; omega
      | ⟨2, _⟩ => show win0_5.index (pt 1) 2 * 128 ≤ (x 2 : Nat) ∧ (x 2 : Nat) < win0_5.index (pt 1) 2 * 128 + 128; rw [(index_5 1).2.2]; omega
  rw [hg, outsAt0_B m c (pt 1) (by decide)]
  dsimp only
  rw [out_B5]
  rw [in0, in1, in3]
  refine congrArg₂ (· + ·) ?_ rfl
  rw [outs_eq m c ((pt 1).val - 1) (pt 0).val _ (pt 0).isLt rfl]
  rw [outsAt0_A m c (pt 0) (by decide)]
  dsimp only
  rw [out_A5]
  rw [in0, in1, in3]

/-- The third result likewise. -/
theorem dps_run (c : Dev nD) (g : Fin 4) (k : Fin 128) :
    ((dats m 0 c).arrAt 6 cfg0.N : Vec Ideal S1x512 .f32) (ix2 0 (col g k))
    = dpsE (g.val + 1) (part (aU m c) 0 g) (part (aY m c) 0 g) (wts (aW m c) g) k
      + dpsE (g.val + 1) (part (aU m c) 1 g) (part (aY m c) 1 g) (wts (aW m c) g) k := by
  have hg : (dats m 0 c).arrAt 6 cfg0.N = ((outsAt0 m c (pt 1).val (pt 1).isLt).2.2 : Vec Ideal S1x512 .f32) := by
    refine (dats m 0 c).arrAt_eq_of_cover 6 _ (fun t hf => ?_) (fun x => ⟨pt 1, (flush0_6 (pt 1)).2 rfl, ?_⟩)
    · obtain rfl : t = pt 1 := Fin.ext (by
        have h1 := (flush0_6 t).1 hf
        have h2 : t.val < 2 := t.isLt
        show t.val = 1
        omega)
      rw [flushed6]
      have hz' : (fun a => win0_6.index (pt 1) a * main_v1_2.ty.shape.size a) = fun _ => 0 := funext fun a => by fin_cases a <;> decide
      exact (Memref.read_access_unit_zero (Elt Ideal) main_v1_2 hz' (fun a => by rw [congrFun hz' a]; simp) _).symm
    · show x ∈ ((View.whole main_v1_2).slice (win0_6.rect (pt 1))).set
      rw [View.set_slice_whole, Rect.mem_set_unit]
      intro a
      have h0 : (x 0 : Nat) < 1 := (x 0).isLt
      have h1 : (x 1 : Nat) < 512 := (x 1).isLt
      match a with
      | ⟨0, _⟩ => show win0_6.index (pt 1) 0 * 1 ≤ (x 0 : Nat) ∧ (x 0 : Nat) < win0_6.index (pt 1) 0 * 1 + 1; rw [(index_6 1).1]; omega
      | ⟨1, _⟩ => show win0_6.index (pt 1) 1 * 512 ≤ (x 1 : Nat) ∧ (x 1 : Nat) < win0_6.index (pt 1) 1 * 512 + 512; rw [(index_6 1).2]; omega
  rw [hg, outsAt0_B m c (pt 1) (by decide)]
  dsimp only
  rw [out_B6]
  rw [in0, in1, in2]
  refine congrArg₂ (· + ·) ?_ rfl
  rw [outs_eq m c ((pt 1).val - 1) (pt 0).val _ (pt 0).isLt rfl]
  rw [outsAt0_A m c (pt 0) (by decide)]
  dsimp only
  rw [out_A6]
  rw [in0, in1, in2]

end Cert.KernelIdeal.Value
end
-- ==== Proof.PoolMath.lean ====
/-
  The window sums of the pooling gradient over real columns: both are differences of prefix sums.
-/
module
public import proofs.«01_k».proof.Proof.PoolPay
@[expose] public section
noncomputable section
open Idealize.ShloMosaic
open scoped BigOperators
namespace Cert.KernelIdeal.Value

/-- An extended real that is a real number. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

/-- A column of 2048 reals, zero past its end. -/
def ext0 (r : Fin 2048 → ℝ) (n : ℕ) : ℝ := if h : n < 2048 then r ⟨n, h⟩ else 0

/-- The sum of the first `n` rows. -/
def psum (r : Fin 2048 → ℝ) (n : ℕ) : ℝ := ∑ i ∈ Finset.range n, ext0 r i

theorem psum_succ (r : Fin 2048 → ℝ) (t : Fin 2048) : psum r (t.val + 1) = psum r t.val + r t := by
  unfold psum
  rw [Finset.sum_range_succ, ext0, dif_pos t.isLt]

theorem psum_sat (r : Fin 2048 → ℝ) (n : ℕ) (h : 2048 ≤ n) : psum r n = psum r 2048 := by
  unfold psum
  rw [← Finset.sum_range_add_sum_Ico _ h, add_eq_left]
  refine Finset.sum_eq_zero fun i hi => ?_
  rw [ext0, dif_neg]
  have := (Finset.mem_Ico.1 hi).1
  omega

theorem prefix_sum (r : Fin 2048 → ℝ) (n : ℕ) (h : n ≤ 2048) : (∑ i : Fin 2048, if i.val < n then r i else 0) = psum r n := by
  have e : ∀ i : Fin 2048, (if i.val < n then r i else 0) = (fun k : ℕ => if k < n then ext0 r k else 0) i.val := fun i => by
    simp only [ext0, i.isLt, dif_pos]
  rw [Finset.sum_congr rfl fun i _ => e i, Fin.sum_univ_eq_sum_range (fun k : ℕ => if k < n then ext0 r k else 0) 2048, psum,
    ← Finset.sum_filter]
  refine Finset.sum_congr (Finset.ext fun k => ?_) fun _ _ => rfl
  rw [Finset.mem_filter, Finset.mem_range, Finset.mem_range]
  omega

theorem suffix_sum (r : Fin 2048 → ℝ) (w : ℕ) (t : Fin 2048) :
    (∑ i : Fin 2048, if t ≤ i then ext0 r (i.val + w) else 0) = psum r 2048 - psum r (t.val + w) := by
  have ht := t.isLt
  have e : ∀ i : Fin 2048, (if t ≤ i then ext0 r (i.val + w) else 0) = (fun k : ℕ => if t.val ≤ k then ext0 r (k + w) else 0) i.val := fun i => rfl
  rw [Finset.sum_congr rfl fun i _ => e i, Fin.sum_univ_eq_sum_range (fun k : ℕ => if t.val ≤ k then ext0 r (k + w) else 0) 2048,
    ← Finset.sum_filter]
  have h1 : (Finset.range 2048).filter (fun k => t.val ≤ k) = Finset.Ico t.val 2048 := by
    ext k
    rw [Finset.mem_filter, Finset.mem_range, Finset.mem_Ico]
    omega
  rw [h1, Finset.sum_Ico_add' (ext0 r) t.val 2048 w, eq_sub_iff_add_eq, ← psum_sat r (2048 + w) (by omega), add_comm]
  exact Finset.sum_range_add_sum_Ico (ext0 r) (by omega)

theorem winB_real (r : Fin 2048 → ℝ) (k : ℕ) (t : Fin 2048) :
    winB k (fun t => (r t : EReal)) t = ((psum r (t.val + 1) - psum r (t.val + 1 - 2 ^ k) : ℝ) : EReal) := by
  induction k generalizing t with
  | zero =>
    show (r t : EReal) = _
    rw [pow_zero, Nat.add_sub_cancel, psum_succ, add_sub_cancel_left]
  | succ k ih =>
    show winB k _ t + back (2 ^ k) (winB k _) t = _
    rw [ih, back]
    split
    · next h =>
      rw [ih, ← EReal.coe_add]
      congr 1
      rw [show t.val - 2 ^ k + 1 = t.val + 1 - 2 ^ k by omega, show t.val + 1 - 2 ^ k - 2 ^ k = t.val + 1 - 2 ^ (k + 1) by rw [pow_succ]; omega]
      ring
    · next h =>
      rw [add_zero, show t.val + 1 - 2 ^ k = t.val + 1 - 2 ^ (k + 1) by rw [pow_succ]; omega]

theorem winA_real (r : Fin 2048 → ℝ) (k : ℕ) (t : Fin 2048) :
    winA k (fun t => (r t : EReal)) t = ((psum r (t.val + 2 ^ k) - psum r t.val : ℝ) : EReal) := by
  induction k generalizing t with
  | zero =>
    show (r t : EReal) = _
    rw [pow_zero, psum_succ, add_sub_cancel_left]
  | succ k ih =>
    show winA k _ t + ahead (2 ^ k) (winA k _) t = _
    rw [ih, ahead]
    split
    · next h =>
      rw [ih, ← EReal.coe_add]
      congr 1
      show psum r (t.val + 2 ^ k) - psum r t.val + (psum r (t.val + 2 ^ k + 2 ^ k) - psum r (t.val + 2 ^ k)) = _
      rw [show t.val + 2 ^ k + 2 ^ k = t.val + 2 ^ (k + 1) by rw [pow_succ]; omega]
      ring
    · next h =>
      rw [add_zero, psum_sat r (t.val + 2 ^ k) (by omega), psum_sat r (t.val + 2 ^ (k + 1)) (by rw [pow_succ]; omega)]

theorem cnt_ne (k : ℕ) (t : Fin 2048) : cnt (2 ^ k) t ≠ 0 := by
  unfold cnt
  have : 0 < min (t.val + 1) (2 ^ k) := lt_min (Nat.succ_pos _) (by positivity)
  exact_mod_cast this.ne'

theorem inv_real (k : ℕ) (t : Fin 2048) : inv (2 ^ k) t = ((1 / cnt (2 ^ k) t : ℝ) : EReal) := by
  unfold inv
  rw [Ideal.div_coe (cnt_ne k t), one_mul]

theorem div_cnt (k : ℕ) (t : Fin 2048) (x : EReal) : Ideal.div x (cnt (2 ^ k) t : EReal) = x * inv (2 ^ k) t := by
  rw [Ideal.div_coe (cnt_ne k t), inv_real]

theorem Real'.inv (k : ℕ) (t : Fin 2048) : Real' (inv (2 ^ k) t) := ⟨_, inv_real k t⟩

/-- The sum of the first `n` rows of a column, as a masked sum. -/
def pre (f : Fin 2048 → EReal) (n : ℕ) : EReal := ∑ i : Fin 2048, if i.val < n then f i else 0

theorem pre_real (r : Fin 2048 → ℝ) (n : ℕ) (h : n ≤ 2048) : pre (fun t => (r t : EReal)) n = (psum r n : EReal) := by
  rw [← prefix_sum r n h, coe_sum]
  refine Finset.sum_congr rfl fun i _ => ?_
  split <;> rfl

/-- A window sum is a difference of prefix sums where the column is real. -/
theorem winB_pre (f : Fin 2048 → EReal) (hf : ∀ t, Real' (f t)) (k : ℕ) (t : Fin 2048) :
    pre f (t.val + 1) - pre f (t.val + 1 - 2 ^ k) = winB k f t := by
  choose r hr using hf
  obtain rfl : f = fun t => (r t : EReal) := funext hr
  have := t.isLt
  rw [pre_real r _ (by omega), pre_real r _ ((Nat.sub_le _ _).trans (by omega)), winB_real, EReal.coe_sub]

/-- A window sum forward is what the running sum from the end gives of the column less the column `2 ^ k` rows on. -/
theorem winA_suf (f : Fin 2048 → EReal) (hf : ∀ t, Real' (f t)) (k : ℕ) (t : Fin 2048) :
    (∑ i : Fin 2048, if t ≤ i then ahead (2 ^ k) (fun t => -f t) i + f i else 0) = winA k f t := by
  choose r hr using hf
  obtain rfl : f = fun t => (r t : EReal) := funext hr
  rw [winA_real]
  have e : ∀ i : Fin 2048, (if t ≤ i then ahead (2 ^ k) (fun t => -(r t : EReal)) i + (r i : EReal) else 0)
      = (((if t ≤ i then ext0 r (i.val + 0) else 0) - (if t ≤ i then ext0 r (i.val + 2 ^ k) else 0) : ℝ) : EReal) := fun i => by
    by_cases h : t ≤ i
    · rw [if_pos h, if_pos h, if_pos h, ahead, ext0, ext0, add_zero, dif_pos i.isLt]
      by_cases h2 : i.val + 2 ^ k < 2048
      · rw [dif_pos h2, dif_pos h2, ← EReal.coe_neg, ← EReal.coe_add]
        congr 1
        ring
      · rw [dif_neg h2, dif_neg h2, zero_add, sub_zero]
    · rw [if_neg h, if_neg h, if_neg h, sub_zero]
      rfl
  rw [Finset.sum_congr rfl fun i _ => e i, ← coe_sum, Finset.sum_sub_distrib, suffix_sum, suffix_sum]
  congr 1
  rw [add_zero]
  ring

end Cert.KernelIdeal.Value
end
-- ==== Proof.PoolRed.lean ====
/-
  Running sums along the rows of a `[2, 2048, 512]` array and a sum over its first two axes, read at an index.
-/
module
public import Idealize.ShloMosaic.Lib.Pipeline.Value
public import Idealize.ShloMosaic.Lib.ValueIdx
public import Idealize.ShloMosaic.Lib.Pointwise
public import Idealize.ShloMosaic.Lib.Pointwise.Tactic
@[expose] public section
noncomputable section
open Idealize.ShloMosaic
open scoped BigOperators
namespace Cert.PoolRed

abbrev B3 (A M C : Nat) : Shape := ⟨3, ![A, M + 1, C]⟩
abbrev W3 (M : Nat) : Shape := ⟨3, ![1, M + 1, 1]⟩

/-- A window position is its row. -/
def posEquiv (M : Nat) : (W3 M).Idx ≃ Fin (M + 1) where
  toFun q := q 1
  invFun n := ix3 0 n 0
  left_inv q := by
    funext a
    match a with
    | ⟨0, _⟩ => exact Fin.ext (by have : (q 0).val < 1 := (q 0).isLt; show 0 = (q 0).val; omega)
    | ⟨1, _⟩ => rfl
    | ⟨2, _⟩ => exact Fin.ext (by have : (q 2).val < 1 := (q 2).isLt; show 0 = (q 2).val; omega)
  right_inv n := rfl

theorem foldl_add {α : Type} (l : List α) (f : α → EReal) (z : EReal) : l.foldl (fun r n => r + f n) z = z + (l.map f).sum := by
  induction l generalizing z with
  | nil => simp
  | cons a l ih => rw [List.foldl_cons, ih, List.map_cons, List.sum_cons, add_assoc]

variable {A M C : Nat} (x : (B3 A M C).Idx → EReal)

/-- The running sum from the first row. -/
theorem cumsum_down (h : (B3 A M C).ReduceWindows (![1, M + 1, 1] : Fin 3 → Nat) ![1, 1, 1] ![0, M, 0] ![0, 0, 0] (B3 A M C)) (hu : 0 < (⟨0, ![]⟩ : Shape).numel)
    (b : Fin A) (t : Fin (M + 1)) (k : Fin C) :
    Host.reduceWindow (· + ·) ![1, M + 1, 1] ![1, 1, 1] ![0, M, 0] ![0, 0, 0] x (fun _ : (⟨0, ![]⟩ : Shape).Idx => (0 : EReal)) h hu (ix3 b t k)
      = ∑ i : Fin (M + 1), if i ≤ t then x (ix3 b i k) else 0 := by
  unfold Host.reduceWindow
  dsimp only
  refine (foldl_add _ _ _).trans ?_
  rw [zero_add, ← Fin.sum_univ_def]
  refine Fintype.sum_equiv (((W3 M).rowMajor.symm.trans (posEquiv M)).trans (Equiv.addRight (t + 1))) _ _ fun n₀ => ?_
  have w0 : ((W3 M).rowMajor.symm n₀ 0).val < 1 := ((W3 M).rowMajor.symm n₀ 0).isLt
  have w2 : ((W3 M).rowMajor.symm n₀ 2).val < 1 := ((W3 M).rowMajor.symm n₀ 2).isLt
  change _ = if posEquiv M ((W3 M).rowMajor.symm n₀) + (t + 1) ≤ t then x (ix3 b (posEquiv M ((W3 M).rowMajor.symm n₀) + (t + 1)) k) else 0
  have w1 : ((W3 M).rowMajor.symm n₀ 1).val = (posEquiv M ((W3 M).rowMajor.symm n₀)).val := rfl
  generalize posEquiv M ((W3 M).rowMajor.symm n₀) = n at w1 ⊢
  have ht := t.isLt
  have hn := n.isLt
  have hb := b.isLt
  have hk := k.isLt
  have hv : (n + (t + 1)).val = (n.val + t.val + 1) % (M + 1) := by
    rw [Fin.val_add, Fin.val_add, Nat.add_mod_mod, Fin.val_one', Nat.add_assoc, Nat.add_mod n.val, Nat.add_mod t.val, Nat.mod_mod, ← Nat.add_mod t.val, ← Nat.add_mod]
  by_cases hc : M ≤ t.val + n.val
  · have hv' : (n + (t + 1)).val = t.val + n.val - M := by
      rw [hv, Nat.mod_eq_sub_mod (by omega), Nat.mod_eq_of_lt (by omega)]; omega
    rw [if_pos (show n + (t + 1) ≤ t by rw [Fin.le_def, hv']; omega), dif_pos fun a => by
      match a with
      | ⟨0, _⟩ => show 0 ≤ b.val * 1 + ((W3 M).rowMajor.symm n₀ 0).val ∧ b.val * 1 + ((W3 M).rowMajor.symm n₀ 0).val - 0 < A; omega
      | ⟨1, _⟩ => show M ≤ t.val * 1 + ((W3 M).rowMajor.symm n₀ 1).val ∧ t.val * 1 + ((W3 M).rowMajor.symm n₀ 1).val - M < M + 1; omega
      | ⟨2, _⟩ => show 0 ≤ k.val * 1 + ((W3 M).rowMajor.symm n₀ 2).val ∧ k.val * 1 + ((W3 M).rowMajor.symm n₀ 2).val - 0 < C; omega]
    refine congrArg x (funext fun a => Fin.ext ?_)
    match a with
    | ⟨0, _⟩ => show b.val * 1 + ((W3 M).rowMajor.symm n₀ 0).val - 0 = b.val; omega
    | ⟨1, _⟩ => show t.val * 1 + ((W3 M).rowMajor.symm n₀ 1).val - M = (n + (t + 1)).val; rw [hv']; omega
    | ⟨2, _⟩ => show k.val * 1 + ((W3 M).rowMajor.symm n₀ 2).val - 0 = k.val; omega
  · have hv' : (n + (t + 1)).val = t.val + n.val + 1 := by rw [hv, Nat.mod_eq_of_lt (by omega)]; omega
    rw [if_neg (show ¬ n + (t + 1) ≤ t by rw [Fin.le_def, hv']; omega), dif_neg]
    intro hin
    have h1 : M ≤ t.val * 1 + ((W3 M).rowMajor.symm n₀ 1).val := (hin 1).1
    omega

/-- The running sum from the last row. -/
theorem cumsum_up (h : (B3 A M C).ReduceWindows (![1, M + 1, 1] : Fin 3 → Nat) ![1, 1, 1] ![0, 0, 0] ![0, M, 0] (B3 A M C)) (hu : 0 < (⟨0, ![]⟩ : Shape).numel)
    (b : Fin A) (t : Fin (M + 1)) (k : Fin C) :
    Host.reduceWindow (· + ·) ![1, M + 1, 1] ![1, 1, 1] ![0, 0, 0] ![0, M, 0] x (fun _ : (⟨0, ![]⟩ : Shape).Idx => (0 : EReal)) h hu (ix3 b t k)
      = ∑ i : Fin (M + 1), if t ≤ i then x (ix3 b i k) else 0 := by
  unfold Host.reduceWindow
  dsimp only
  refine (foldl_add _ _ _).trans ?_
  rw [zero_add, ← Fin.sum_univ_def]
  refine Fintype.sum_equiv (((W3 M).rowMajor.symm.trans (posEquiv M)).trans (Equiv.addRight t)) _ _ fun n₀ => ?_
  have w0 : ((W3 M).rowMajor.symm n₀ 0).val < 1 := ((W3 M).rowMajor.symm n₀ 0).isLt
  have w2 : ((W3 M).rowMajor.symm n₀ 2).val < 1 := ((W3 M).rowMajor.symm n₀ 2).isLt
  change _ = if t ≤ posEquiv M ((W3 M).rowMajor.symm n₀) + t then x (ix3 b (posEquiv M ((W3 M).rowMajor.symm n₀) + t) k) else 0
  have w1 : ((W3 M).rowMajor.symm n₀ 1).val = (posEquiv M ((W3 M).rowMajor.symm n₀)).val := rfl
  generalize posEquiv M ((W3 M).rowMajor.symm n₀) = n at w1 ⊢
  have ht := t.isLt
  have hn := n.isLt
  have hb := b.isLt
  have hk := k.isLt
  have hv : (n + t).val = (n.val + t.val) % (M + 1) := Fin.val_add _ _
  by_cases hc : t.val + n.val < M + 1
  · have hv' : (n + t).val = t.val + n.val := by rw [hv, Nat.mod_eq_of_lt (by omega)]; omega
    rw [if_pos (show t ≤ n + t by rw [Fin.le_def, hv']; omega), dif_pos fun a => by
      match a with
      | ⟨0, _⟩ => show 0 ≤ b.val * 1 + ((W3 M).rowMajor.symm n₀ 0).val ∧ b.val * 1 + ((W3 M).rowMajor.symm n₀ 0).val - 0 < A; omega
      | ⟨1, _⟩ => show 0 ≤ t.val * 1 + ((W3 M).rowMajor.symm n₀ 1).val ∧ t.val * 1 + ((W3 M).rowMajor.symm n₀ 1).val - 0 < M + 1; omega
      | ⟨2, _⟩ => show 0 ≤ k.val * 1 + ((W3 M).rowMajor.symm n₀ 2).val ∧ k.val * 1 + ((W3 M).rowMajor.symm n₀ 2).val - 0 < C; omega]
    refine congrArg x (funext fun a => Fin.ext ?_)
    match a with
    | ⟨0, _⟩ => show b.val * 1 + ((W3 M).rowMajor.symm n₀ 0).val - 0 = b.val; omega
    | ⟨1, _⟩ => show t.val * 1 + ((W3 M).rowMajor.symm n₀ 1).val - 0 = (n + t).val; rw [hv']; omega
    | ⟨2, _⟩ => show k.val * 1 + ((W3 M).rowMajor.symm n₀ 2).val - 0 = k.val; omega
  · have hv' : (n + t).val = t.val + n.val - (M + 1) := by rw [hv, Nat.mod_eq_sub_mod (by omega), Nat.mod_eq_of_lt (by omega)]; omega
    rw [if_neg (show ¬ t ≤ n + t by rw [Fin.le_def, hv']; omega), dif_neg]
    intro hin
    have h1 : t.val * 1 + ((W3 M).rowMajor.symm n₀ 1).val - 0 < M + 1 := (hin 1).2
    omega

theorem cumsum_down_host (y : FVec Ideal (B3 A M C) .f32) (init : (⟨0, ![]⟩ : Shape).Idx → Ideal .f32)
    (h : (B3 A M C).ReduceWindows (![1, M + 1, 1] : Fin 3 → Nat) ![1, 1, 1] ![0, M, 0] ![0, 0, 0] (B3 A M C)) (hu : 0 < (⟨0, ![]⟩ : Shape).numel)
    (hz : init (Shape.Idx.first hu) = (0 : EReal)) (b : Fin A) (t : Fin (M + 1)) (k : Fin C) :
    Host.reduceWindowAdd ![1, M + 1, 1] ![1, 1, 1] ![0, M, 0] ![0, 0, 0] y init h hu (ix3 b t k) = ∑ i : Fin (M + 1), if i ≤ t then y (ix3 b i k) else 0 := by
  refine Eq.trans ?_ (cumsum_down y h (by decide) b t k)
  rw [← hz]
  rfl

theorem cumsum_up_host (y : FVec Ideal (B3 A M C) .f32) (init : (⟨0, ![]⟩ : Shape).Idx → Ideal .f32)
    (h : (B3 A M C).ReduceWindows (![1, M + 1, 1] : Fin 3 → Nat) ![1, 1, 1] ![0, 0, 0] ![0, M, 0] (B3 A M C)) (hu : 0 < (⟨0, ![]⟩ : Shape).numel)
    (hz : init (Shape.Idx.first hu) = (0 : EReal)) (b : Fin A) (t : Fin (M + 1)) (k : Fin C) :
    Host.reduceWindowAdd ![1, M + 1, 1] ![1, 1, 1] ![0, 0, 0] ![0, M, 0] y init h hu (ix3 b t k) = ∑ i : Fin (M + 1), if t ≤ i then y (ix3 b i k) else 0 := by
  refine Eq.trans ?_ (cumsum_up y h (by decide) b t k)
  rw [← hz]
  rfl

/-- The host's sum over the first two of three axes. -/
theorem sum_first_two {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  congr 1
  refine (Finset.sum_filter_eq_sum_of_fiber _ (fun q : Fin n0 × Fin n1 => (ix3 q.1 q.2 k : (⟨3, ![n0, n1, n2]⟩ : Shape).Idx))
    (fun _ _ e => Prod.ext (congrFun e 0) (congrFun e 1)) (fun i => ⟨fun e => ⟨(i 0, i 1), ?_⟩, ?_⟩) v).trans ?_
  · funext a
    apply Fin.ext
    match a with
    | ⟨0, _⟩ => rfl
    | ⟨1, _⟩ => rfl
    | ⟨2, _⟩ => exact (congrArg Fin.val (congrFun e (0 : Fin 1))).symm
  · rintro ⟨q, rfl⟩
    funext a
    apply Fin.ext
    match a with
    | ⟨0, _⟩ => rfl
  · rw [Fintype.sum_prod_type]

end Cert.PoolRed
end
-- ==== Proof.PoolRef.lean ====
/-
  The reference's forward stages read at an index: running sums, window means, their difference from the argument.
-/
module
public import proofs.«01_k».proof.Proof.Gen.ReferenceIdeal.Read
public import proofs.«01_k».proof.Proof.PoolMath
public import proofs.«01_k».proof.Proof.PoolRed
public import proofs.«01_k».proof.Proof.PoolRun
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open scoped BigOperators
namespace Cert.ReferenceIdeal.Read
open Cert.ReferenceIdeal Cert.ReferenceIdeal.Gen
open Cert.KernelIdeal.Value (row col part winB winA back ahead cnt inv pre diffE ddE duE dwE dpsE wts scl Real')

variable (x0 : (⟨S4096x512, .f32⟩ : BufTy).Contents (Elt Ideal)) (x1 : (⟨S4096x512, .f32⟩ : BufTy).Contents (Elt Ideal))
variable (x2 : (⟨S4x128x128, .bf16⟩ : BufTy).Contents (Elt Ideal)) (x3 : (⟨S1x512, .f32⟩ : BufTy).Contents (Elt Ideal))

theorem v1_at (b : Fin 2) (t : Fin 2048) (k : Fin 512) : val_main_v1 (F := Ideal) x0 (ix3 b t k) = x0 (ix2 (row b t) k) := by
  rw [val_main_v1_apply]
  refine congrArg x0 (funext fun a => Fin.ext ?_)
  have hb := b.isLt
  have ht := t.isLt
  have hk := k.isLt
  match a with
  | ⟨0, _⟩ => show ((b.val * 2048 + t.val) * 512 + k.val) / 512 = 2048 * b.val + t.val; omega
  | ⟨1, _⟩ => show ((b.val * 2048 + t.val) * 512 + k.val) % 512 = k.val; omega

theorem v4_at (b : Fin 2) (t : Fin 2048) (k : Fin 512) :
    val_main_v4 (F := Ideal) x0 (ix3 b t k) = ∑ i : Fin 2048, if i ≤ t then x0 (ix2 (row b i) k) else 0 := by
  unfold val_main_v4
  have hz : val_main_call0_call0_v0 (F := Ideal) (Shape.Idx.first h_S_) = (0 : EReal) := Ideal.ofBits_zero_f32
  refine (Cert.PoolRed.cumsum_down_host (A := 2) (M := 2047) (C := 512) (val_main_v1 (F := Ideal) x0) _ _ _ hz b t k).trans ?_
  exact Finset.sum_congr rfl fun i _ => by rw [v1_at]

/-- The padded running sum at row `s` is the sum of the first `s` rows. -/
theorem v5_at (b : Fin 2) (s : Fin 2049) (k : Fin 512) :
    val_main_v5 (F := Ideal) x0 (ix3 b s k) = pre (fun t => x0 (ix2 (row b t) k)) s.val := by
  have hs := s.isLt
  unfold val_main_v5
  pointwise
  unfold pre
  split
  · next h =>
    refine Ideal.ofBits_zero_f32.trans (Finset.sum_eq_zero fun i _ => if_neg (by omega)).symm
  · next h =>
    rw [v4_at]
    refine Finset.sum_congr rfl fun i _ => if_congr ?_ rfl rfl
    rw [Fin.le_def]
    show i.val ≤ s.val - 1 ↔ _
    omega

theorem pre_col (b : Fin 2) (g : Fin 4) (c : Fin 128) (k : Fin 512) (n n' : ℕ) (hk : k.val = 128 * g.val + c.val) (hn : n = n') :
    pre (fun t => x0 (ix2 (row b t) k)) n = pre (fun t => part x0 b g t c) n' := by
  obtain rfl : k = col g c := Fin.ext hk
  subst hn
  rfl

/-- A column of the array split into groups of 128. -/
theorem v73_at (b : Fin 2) (t : Fin 2048) (g : Fin 4) (c : Fin 128) :
    val_main_v73 (F := Ideal) x0 (ix4 b t g c) = part x0 b g t c := by
  rw [val_main_v73_apply, part, ← v1_at x0]
  refine congrArg _ (funext fun a => Fin.ext ?_)
  have hb := b.isLt
  have ht := t.isLt
  have hg := g.isLt
  have hc := c.isLt
  match a with
  | ⟨0, _⟩ => show (((b.val * 2048 + t.val) * 4 + g.val) * 128 + c.val) / 1048576 = b.val; omega
  | ⟨1, _⟩ => show (((b.val * 2048 + t.val) * 4 + g.val) * 128 + c.val) / 512 % 2048 = t.val; omega
  | ⟨2, _⟩ => show (((b.val * 2048 + t.val) * 4 + g.val) * 128 + c.val) % 512 = 128 * g.val + c.val; omega

/-- Group 0: the upper end of the window. -/
theorem v9_at (b : Fin 2) (t : Fin 2048) (c : Fin 128) :
    val_main_v9 (F := Ideal) x0 (ix3 b t c) = pre (fun t => part x0 b 0 t c) (t.val + 1) := by
  unfold val_main_v9 val_main_v8
  pointwise
  rw [v5_at]
  exact pre_col x0 b 0 c _ _ _ (by show c.val = 128 * 0 + c.val; omega) (Nat.add_comm 1 t.val)

/-- Group 0: the lower end, no rows where the window would begin before the first. -/
theorem v12_at (b : Fin 2) (t : Fin 2048) (c : Fin 128) :
    val_main_v12 (F := Ideal) x0 (ix3 b t c) = pre (fun t => part x0 b 0 t c) (t.val + 1 - 2 ^ 1) := by
  have ht := t.isLt
  unfold val_main_v12 val_main_v11 val_main_v8
  pointwise
  split
  · next h =>
    rw [show t.val + 1 - 2 ^ 1 = 0 by omega]
    refine Ideal.ofBits_zero_f32.trans (Finset.sum_eq_zero fun i _ => if_neg (by omega)).symm
  · next h =>
    rw [v5_at, show t.val + 1 - 2 ^ 1 = t.val - 1 by omega]
    exact pre_col x0 b 0 c _ _ _ (by show c.val = 128 * 0 + c.val; omega) rfl

theorem v18_at (t : Fin 2048) : val_main_v18 (F := Ideal) (ix1 t) = (cnt (2 ^ 1) t : EReal) :=
  Cert.KernelIdeal.Value.count_word 2 (by omega) (by omega) t

/-- Group 0: the mean over the window. -/
theorem v22_at (b : Fin 2) (t : Fin 2048) (c : Fin 128) (h : ∀ i, Real' (x0 i)) :
    val_main_v22 (F := Ideal) x0 (ix3 b t c) = winB 1 (fun t => part x0 b 0 t c) t * inv (2 ^ 1) t := by
  unfold val_main_v22 val_main_v21 val_main_v20 val_main_v19
  pointwise
  rw [v9_at, v12_at, v18_at, Cert.KernelIdeal.Value.winB_pre (fun t => part x0 b 0 t c) (fun t => h _)]
  exact Cert.KernelIdeal.Value.div_cnt 1 t _

/-- Group 1: the upper end of the window. -/
theorem v24_at (b : Fin 2) (t : Fin 2048) (c : Fin 128) :
    val_main_v24 (F := Ideal) x0 (ix3 b t c) = pre (fun t => part x0 b 1 t c) (t.val + 1) := by
  unfold val_main_v24 val_main_v23
  pointwise
  rw [v5_at]
  exact pre_col x0 b 1 c _ _ _ (by show 128 + c.val = 128 * 1 + c.val; omega) (Nat.add_comm 1 t.val)

/-- Group 1: the lower end, no rows where the window would begin before the first. -/
theorem v27_at (b : Fin 2) (t : Fin 2048) (c : Fin 128) :
    val_main_v27 (F := Ideal) x0 (ix3 b t c) = pre (fun t => part x0 b 1 t c) (t.val + 1 - 2 ^ 2) := by
  have ht := t.isLt
  unfold val_main_v27 val_main_v26 val_main_v23
  pointwise
  split
  · next h =>
    rw [show t.val + 1 - 2 ^ 2 = 0 by omega]
    refine Ideal.ofBits_zero_f32.trans (Finset.sum_eq_zero fun i _ => if_neg (by omega)).symm
  · next h =>
    rw [v5_at, show t.val + 1 - 2 ^ 2 = t.val - 3 by omega]
    exact pre_col x0 b 1 c _ _ _ (by show 128 + c.val = 128 * 1 + c.val; omega) rfl

theorem v33_at (t : Fin 2048) : val_main_v33 (F := Ideal) (ix1 t) = (cnt (2 ^ 2) t : EReal) :=
  Cert.KernelIdeal.Value.count_word 4 (by omega) (by omega) t

/-- Group 1: the mean over the window. -/
theorem v37_at (b : Fin 2) (t : Fin 2048) (c : Fin 128) (h : ∀ i, Real' (x0 i)) :
    val_main_v37 (F := Ideal) x0 (ix3 b t c) = winB 2 (fun t => part x0 b 1 t c) t * inv (2 ^ 2) t := by
  unfold val_main_v37 val_main_v36 val_main_v35 val_main_v34
  pointwise
  rw [v24_at, v27_at, v33_at, Cert.KernelIdeal.Value.winB_pre (fun t => part x0 b 1 t c) (fun t => h _)]
  exact Cert.KernelIdeal.Value.div_cnt 2 t _

/-- Group 2: the upper end of the window. -/
theorem v39_at (b : Fin 2) (t : Fin 2048) (c : Fin 128) :
    val_main_v39 (F := Ideal) x0 (ix3 b t c) = pre (fun t => part x0 b 2 t c) (t.val + 1) := by
  unfold val_main_v39 val_main_v38
  pointwise
  rw [v5_at]
  exact pre_col x0 b 2 c _ _ _ (by show 256 + c.val = 128 * 2 + c.val; omega) (Nat.add_comm 1 t.val)

/-- Group 2: the lower end, no rows where the window would begin before the first. -/
theorem v42_at (b : Fin 2) (t : Fin 2048) (c : Fin 128) :
    val_main_v42 (F := Ideal) x0 (ix3 b t c) = pre (fun t => part x0 b 2 t c) (t.val + 1 - 2 ^ 3) := by
  have ht := t.isLt
  unfold val_main_v42 val_main_v41 val_main_v38
  pointwise
  split
  · next h =>
    rw [show t.val + 1 - 2 ^ 3 = 0 by omega]
    refine Ideal.ofBits_zero_f32.trans (Finset.sum_eq_zero fun i _ => if_neg (by omega)).symm
  · next h =>
    rw [v5_at, show t.val + 1 - 2 ^ 3 = t.val - 7 by omega]
    exact pre_col x0 b 2 c _ _ _ (by show 256 + c.val = 128 * 2 + c.val; omega) rfl

theorem v48_at (t : Fin 2048) : val_main_v48 (F := Ideal) (ix1 t) = (cnt (2 ^ 3) t : EReal) :=
  Cert.KernelIdeal.Value.count_word 8 (by omega) (by omega) t

/-- Group 2: the mean over the window. -/
theorem v52_at (b : Fin 2) (t : Fin 2048) (c : Fin 128) (h : ∀ i, Real' (x0 i)) :
    val_main_v52 (F := Ideal) x0 (ix3 b t c) = winB 3 (fun t => part x0 b 2 t c) t * inv (2 ^ 3) t := by
  unfold val_main_v52 val_main_v51 val_main_v50 val_main_v49
  pointwise
  rw [v39_at, v42_at, v48_at, Cert.KernelIdeal.Value.winB_pre (fun t => part x0 b 2 t c) (fun t => h _)]
  exact Cert.KernelIdeal.Value.div_cnt 3 t _

/-- Group 3: the upper end of the window. -/
theorem v54_at (b : Fin 2) (t : Fin 2048) (c : Fin 128) :
    val_main_v54 (F := Ideal) x0 (ix3 b t c) = pre (fun t => part x0 b 3 t c) (t.val + 1) := by
  unfold val_main_v54 val_main_v53
  pointwise
  rw [v5_at]
  exact pre_col x0 b 3 c _ _ _ (by show 384 + c.val = 128 * 3 + c.val; omega) (Nat.add_comm 1 t.val)

/-- Group 3: the lower end, no rows where the window would begin before the first. -/
theorem v57_at (b : Fin 2) (t : Fin 2048) (c : Fin 128) :
    val_main_v57 (F := Ideal) x0 (ix3 b t c) = pre (fun t => part x0 b 3 t c) (t.val + 1 - 2 ^ 4) := by
  have ht := t.isLt
  unfold val_main_v57 val_main_v56 val_main_v53
  pointwise
  split
  · next h =>
    rw [show t.val + 1 - 2 ^ 4 = 0 by omega]
    refine Ideal.ofBits_zero_f32.trans (Finset.sum_eq_zero fun i _ => if_neg (by omega)).symm
  · next h =>
    rw [v5_at, show t.val + 1 - 2 ^ 4 = t.val - 15 by omega]
    exact pre_col x0 b 3 c _ _ _ (by show 384 + c.val = 128 * 3 + c.val; omega) rfl

theorem v63_at (t : Fin 2048) : val_main_v63 (F := Ideal) (ix1 t) = (cnt (2 ^ 4) t : EReal) :=
  Cert.KernelIdeal.Value.count_word 16 (by omega) (by omega) t

/-- Group 3: the mean over the window. -/
theorem v67_at (b : Fin 2) (t : Fin 2048) (c : Fin 128) (h : ∀ i, Real' (x0 i)) :
    val_main_v67 (F := Ideal) x0 (ix3 b t c) = winB 4 (fun t => part x0 b 3 t c) t * inv (2 ^ 4) t := by
  unfold val_main_v67 val_main_v66 val_main_v65 val_main_v64
  pointwise
  rw [v54_at, v57_at, v63_at, Cert.KernelIdeal.Value.winB_pre (fun t => part x0 b 3 t c) (fun t => h _)]
  exact Cert.KernelIdeal.Value.div_cnt 4 t _

/-- The means less the argument. -/
theorem v74_at (b : Fin 2) (t : Fin 2048) (g : Fin 4) (c : Fin 128) (h : ∀ i, Real' (x0 i)) :
    val_main_v74 (F := Ideal) x0 (ix4 b t g c) = diffE (g.val + 1) (part x0 b g) t c := by
  rw [val_main_v74_apply, v73_at]
  show val_main_v72 (F := Ideal) x0 (ix4 b t g c) - _ = winB _ (fun t => part x0 b g t c) t * inv _ t - part x0 b g t c
  refine congrArg (· - part x0 b g t c) ?_
  unfold val_main_v72 val_main_v71 val_main_v70 val_main_v69 val_main_v68
  fin_cases g
  · refine Eq.trans ?_ (v22_at x0 b t c h)
    pointwise
  · refine Eq.trans ?_ (v37_at x0 b t c h)
    pointwise
  · refine Eq.trans ?_ (v52_at x0 b t c h)
    pointwise
  · refine Eq.trans ?_ (v67_at x0 b t c h)
    pointwise

end Cert.ReferenceIdeal.Read
end
-- ==== Proof.PoolRef2.lean ====
/-
  The reference's backward stages read at an index.
-/
module
public import proofs.«01_k».proof.Proof.PoolRef
@[expose] public section
set_option maxRecDepth 16384
noncomputable section
open Idealize.ShloMosaic Idealize.ShloMosaic.TcCoe Idealize.SL.Sem
open scoped BigOperators
namespace Cert.ReferenceIdeal.Read
open Cert.ReferenceIdeal Cert.ReferenceIdeal.Gen
open Cert.KernelIdeal.Value (row col part winB winA back ahead cnt inv pre diffE ddE duE dwE dpsE wts scl Real')

variable (x0 : (⟨S4096x512, .f32⟩ : BufTy).Contents (Elt Ideal)) (x1 : (⟨S4096x512, .f32⟩ : BufTy).Contents (Elt Ideal))
variable (x2 : (⟨S4x128x128, .bf16⟩ : BufTy).Contents (Elt Ideal)) (x3 : (⟨S1x512, .f32⟩ : BufTy).Contents (Elt Ideal))

theorem join_col {α : Type} (x : S2x2048x4x128.Idx → α) (h : S2x2048x4x128.ShapeCasts S2x2048x512) (b : Fin 2) (t : Fin 2048) (g : Fin 4) (c : Fin 128) :
    shapeCast S2x2048x512 x h (ix3 b t (col g c)) = x (ix4 b t g c) := by
  refine shapeCast_apply x h _ _ ?_
  rw [Shape.rowMajor_val_three, Shape.rowMajor_val_four]
  show ((b.val * 2048 + t.val) * 4 + g.val) * 128 + c.val = (b.val * 2048 + t.val) * 512 + (128 * g.val + c.val)
  omega

theorem v82_at (b : Fin 2) (t : Fin 2048) (g : Fin 4) (d : Fin 128) : val_main_v82 (F := Ideal) x1 (ix3 b t (col g d)) = part x1 b g t d :=
  v1_at x1 b t (col g d)

theorem v2_at (k : Fin 512) : val_main_v2 (F := Ideal) x3 (ix1 k) = x3 (ix2 0 k) := by
  rw [val_main_v2_apply]
  refine congrArg x3 (funext fun a => Fin.ext ?_)
  have hk := k.isLt
  match a with
  | ⟨0, _⟩ => rfl
  | ⟨1, _⟩ => show k.val % 512 = k.val; omega

/-- The upstream gradient times the scale. -/
theorem v90_at (b : Fin 2) (t : Fin 2048) (g : Fin 4) (d : Fin 128) :
    val_main_v90 (F := Ideal) x1 x3 (ix4 g d b t) = part x1 b g t d * scl x3 g d := by
  unfold val_main_v90 val_main_v89
  pointwise
  have hk (hc : g.val * 128 + d.val < 512) : (⟨g.val * 128 + d.val, hc⟩ : Fin 512) = col g d :=
    Fin.ext (by show g.val * 128 + d.val = 128 * g.val + d.val; omega)
  rw [hk]
  unfold val_main_v87 val_main_v86 val_main_v78
  pointwise
  rw [v82_at]
  exact congrArg _ (v2_at x3 (col g d))

theorem v92_at (b : Fin 2) (t : Fin 2048) (g : Fin 4) (c : Fin 128) :
    val_main_v92 (F := Ideal) x1 x2 x3 (ix4 b t g c) = ddE (part x1 b g) (scl x3 g) (wts x2 g) t c := by
  unfold val_main_v92 val_main_v91 val_main_v0
  pointwise [dot_S4x128x2x2048_S4x128x128_S4x2x2048x128_1_2_23_1_0_0]
  simp only [v90_at]
  rfl

theorem v94_at (g : Fin 4) (c d : Fin 128) (h : ∀ i, Real' (x0 i)) :
    val_main_v94 (F := Ideal) x0 x1 x3 (ix3 g c d)
      = dwE (g.val + 1) (part x0 0 g) (part x1 0 g) (scl x3 g) c d + dwE (g.val + 1) (part x0 1 g) (part x1 1 g) (scl x3 g) c d := by
  unfold val_main_v94 val_main_v93
  pointwise [dot_S4x128x2x2048_S2x2048x4x128_S4x128x128_23_01_1_3_0_2]
  simp only [v90_at, v74_at x0 _ _ _ _ h]
  rw [Fin.sum_univ_two]
  simp only [dwE, mul_comm (diffE _ _ _ _)]

theorem v77_at (b : Fin 2) (t : Fin 2048) (g : Fin 4) (d : Fin 128) (h : ∀ i, Real' (x0 i)) :
    val_main_v77 (F := Ideal) x0 x2 (ix3 b t (col g d)) = ∑ c : Fin 128, diffE (g.val + 1) (part x0 b g) t c * wts x2 g c d := by
  unfold val_main_v77
  refine (join_col _ _ b t g d).trans ?_
  unfold val_main_v76 val_main_v75 val_main_v0
  pointwise [dot_S4x128x128_S2x2048x4x128_S4x128x2x2048_1_3_2_01_0_2]
  simp only [v74_at x0 _ _ _ _ h]
  exact Finset.sum_congr rfl fun c _ => mul_comm _ _

theorem v148_at (g : Fin 4) (d : Fin 128) (h : ∀ i, Real' (x0 i)) :
    val_main_v148 (F := Ideal) x0 x1 x2 (ix2 0 (col g d))
      = dpsE (g.val + 1) (part x0 0 g) (part x1 0 g) (wts x2 g) d + dpsE (g.val + 1) (part x0 1 g) (part x1 1 g) (wts x2 g) d := by
  unfold val_main_v148 val_main_v88 val_main_v85 val_main_v84 val_main_v83
  pointwise
  simp only [Cert.PoolRed.sum_first_two]
  pointwise
  have z16 : val_main_cst_16 (F := Ideal) (Shape.Idx.first h_S_) = (0 : EReal) := Ideal.ofBits_zero_f32
  have z17 : val_main_cst_17 (F := Ideal) (Shape.Idx.first h_S_) = (0 : EReal) := Ideal.ofBits_zero_f32
  simp only [z16, z17, zero_add, Cert.PoolRed.sum_first_two]
  simp only [Fin.sum_univ_one, Fin.sum_univ_two, mulf_apply, v77_at x0 x2 _ _ _ _ h, v82_at]
  simp only [dpsE]
  refine congrArg₂ (· + ·) (Finset.sum_congr rfl fun t _ => mul_comm _ _) (Finset.sum_congr rfl fun t _ => mul_comm _ _)

/-- A group's upstream gradient over its row count. -/
def meanE (b : Fin 2) (g : Fin 4) (c : Fin 128) (t : Fin 2048) : EReal :=
  ddE (part x1 b g) (scl x3 g) (wts x2 g) t c * inv (2 ^ (g.val + 1)) t

theorem v135_at (b : Fin 2) (t : Fin 2048) (c : Fin 128) :
    val_main_v135 (F := Ideal) x1 x2 x3 (ix3 b t c) = meanE x1 x2 x3 b 0 c t := by
  unfold val_main_v135 val_main_v134 val_main_v19 val_main_v98 val_main_v97
  pointwise
  rw [v92_at, v18_at]
  exact Cert.KernelIdeal.Value.div_cnt 1 t _

theorem v141_at (b : Fin 2) (t : Fin 2048) (s : Fin 2049) (hs : s.val = t.val + 1) (c : Fin 128) :
    val_main_v141 (F := Ideal) x1 x2 x3 (ix3 b s c)
      = ahead (2 ^ 1) (fun t => -meanE x1 x2 x3 b 0 c t) t + meanE x1 x2 x3 b 0 c t := by
  have ht := t.isLt
  unfold val_main_v141
  rw [addf_apply]
  refine congrArg₂ (· + ·) ?_ ?_
  · unfold val_main_v139 val_main_v138 val_main_v136 ahead
    pointwise
    split
    · next h =>
      rw [dif_pos (by omega : t.val + 2 ^ 1 < 2048), v135_at]
      refine congrArg (fun k => -meanE x1 x2 x3 b 0 c k) (Fin.ext ?_)
      show 1 + s.val = t.val + 2
      omega
    · next h =>
      rw [dif_neg (by omega : ¬(t.val + 2 ^ 1 < 2048))]
      exact Ideal.ofBits_zero_f32
  · unfold val_main_v140
    pointwise
    split
    · next h =>
      rw [v135_at]
      exact congrArg (meanE x1 x2 x3 b 0 c) (Fin.ext (by show s.val - 1 = t.val; omega))
    · next h => exact absurd (by omega) h

theorem v142_in (b : Fin 2) (t : Fin 2048) (s : Fin 2049) (hs : s.val = t.val + 1) (c : Fin 128) (k : Fin 512) (hk : k.val = 128 * 0 + c.val) :
    val_main_v142 (F := Ideal) x1 x2 x3 (ix3 b s k)
      = ahead (2 ^ 1) (fun t => -meanE x1 x2 x3 b 0 c t) t + meanE x1 x2 x3 b 0 c t := by
  have hc := c.isLt
  unfold val_main_v142
  pointwise
  split
  · next h =>
    refine Eq.trans (congrArg _ (congrArg (ix3 b s) (Fin.ext ?_))) (v141_at x1 x2 x3 b t s hs c)
    show k.val = c.val
    omega
  · next h => exact absurd (by omega) h

theorem v142_out (b : Fin 2) (s : Fin 2049) (k : Fin 512) (hk : k.val < 128 * 0 ∨ 128 * 0 + 128 ≤ k.val) :
    val_main_v142 (F := Ideal) x1 x2 x3 (ix3 b s k) = (0 : EReal) := by
  unfold val_main_v142
  pointwise
  split
  · next h => exact absurd h (by omega)
  · next h => exact Ideal.ofBits_zero_f32

theorem v125_at (b : Fin 2) (t : Fin 2048) (c : Fin 128) :
    val_main_v125 (F := Ideal) x1 x2 x3 (ix3 b t c) = meanE x1 x2 x3 b 1 c t := by
  unfold val_main_v125 val_main_v124 val_main_v34 val_main_v100 val_main_v99
  pointwise
  rw [v92_at, v33_at]
  exact Cert.KernelIdeal.Value.div_cnt 2 t _

theorem v131_at (b : Fin 2) (t : Fin 2048) (s : Fin 2049) (hs : s.val = t.val + 1) (c : Fin 128) :
    val_main_v131 (F := Ideal) x1 x2 x3 (ix3 b s c)
      = ahead (2 ^ 2) (fun t => -meanE x1 x2 x3 b 1 c t) t + meanE x1 x2 x3 b 1 c t := by
  have ht := t.isLt
  unfold val_main_v131
  rw [addf_apply]
  refine congrArg₂ (· + ·) ?_ ?_
  · unfold val_main_v129 val_main_v128 val_main_v126 ahead
    pointwise
    split
    · next h =>
      rw [dif_pos (by omega : t.val + 2 ^ 2 < 2048), v125_at]
      refine congrArg (fun k => -meanE x1 x2 x3 b 1 c k) (Fin.ext ?_)
      show 3 + s.val = t.val + 4
      omega
    · next h =>
      rw [dif_neg (by omega : ¬(t.val + 2 ^ 2 < 2048))]
      exact Ideal.ofBits_zero_f32
  · unfold val_main_v130
    pointwise
    split
    · next h =>
      rw [v125_at]
      exact congrArg (meanE x1 x2 x3 b 1 c) (Fin.ext (by show s.val - 1 = t.val; omega))
    · next h => exact absurd (by omega) h

theorem v132_in (b : Fin 2) (t : Fin 2048) (s : Fin 2049) (hs : s.val = t.val + 1) (c : Fin 128) (k : Fin 512) (hk : k.val = 128 * 1 + c.val) :
    val_main_v132 (F := Ideal) x1 x2 x3 (ix3 b s k)
      = ahead (2 ^ 2) (fun t => -meanE x1 x2 x3 b 1 c t) t + meanE x1 x2 x3 b 1 c t := by
  have hc := c.isLt
  unfold val_main_v132
  pointwise
  split
  · next h =>
    refine Eq.trans (congrArg _ (congrArg (ix3 b s) (Fin.ext ?_))) (v131_at x1 x2 x3 b t s hs c)
    show k.val - 128 = c.val
    omega
  · next h => exact absurd (by omega) h

theorem v132_out (b : Fin 2) (s : Fin 2049) (k : Fin 512) (hk : k.val < 128 * 1 ∨ 128 * 1 + 128 ≤ k.val) :
    val_main_v132 (F := Ideal) x1 x2 x3 (ix3 b s k) = (0 : EReal) := by
  unfold val_main_v132
  pointwise
  split
  · next h => exact absurd h (by omega)
  · next h => exact Ideal.ofBits_zero_f32

theorem v115_at (b : Fin 2) (t : Fin 2048) (c : Fin 128) :
    val_main_v115 (F := Ideal) x1 x2 x3 (ix3 b t c) = meanE x1 x2 x3 b 2 c t := by
  unfold val_main_v115 val_main_v114 val_main_v49 val_main_v102 val_main_v101
  pointwise
  rw [v92_at, v48_at]
  exact Cert.KernelIdeal.Value.div_cnt 3 t _

theorem v121_at (b : Fin 2) (t : Fin 2048) (s : Fin 2049) (hs : s.val = t.val + 1) (c : Fin 128) :
    val_main_v121 (F := Ideal) x1 x2 x3 (ix3 b s c)
      = ahead (2 ^ 3) (fun t => -meanE x1 x2 x3 b 2 c t) t + meanE x1 x2 x3 b 2 c t := by
  have ht := t.isLt
  unfold val_main_v121
  rw [addf_apply]
  refine congrArg₂ (· + ·) ?_ ?_
  · unfold val_main_v119 val_main_v118 val_main_v116 ahead
    pointwise
    split
    · next h =>
      rw [dif_pos (by omega : t.val + 2 ^ 3 < 2048), v115_at]
      refine congrArg (fun k => -meanE x1 x2 x3 b 2 c k) (Fin.ext ?_)
      show 7 + s.val = t.val + 8
      omega
    · next h =>
      rw [dif_neg (by omega : ¬(t.val + 2 ^ 3 < 2048))]
      exact Ideal.ofBits_zero_f32
  · unfold val_main_v120
    pointwise
    split
    · next h =>
      rw [v115_at]
      exact congrArg (meanE x1 x2 x3 b 2 c) (Fin.ext (by show s.val - 1 = t.val; omega))
    · next h => exact absurd (by omega) h

theorem v122_in (b : Fin 2) (t : Fin 2048) (s : Fin 2049) (hs : s.val = t.val + 1) (c : Fin 128) (k : Fin 512) (hk : k.val = 128 * 2 + c.val) :
    val_main_v122 (F := Ideal) x1 x2 x3 (ix3 b s k)
      = ahead (2 ^ 3) (fun t => -meanE x1 x2 x3 b 2 c t) t + meanE x1 x2 x3 b 2 c t := by
  have hc := c.isLt
  unfold val_main_v122
  pointwise
  split
  · next h =>
    refine Eq.trans (congrArg _ (congrArg (ix3 b s) (Fin.ext ?_))) (v121_at x1 x2 x3 b t s hs c)
    show k.val - 256 = c.val
    omega
  · next h => exact absurd (by omega) h

theorem v122_out (b : Fin 2) (s : Fin 2049) (k : Fin 512) (hk : k.val < 128 * 2 ∨ 128 * 2 + 128 ≤ k.val) :
    val_main_v122 (F := Ideal) x1 x2 x3 (ix3 b s k) = (0 : EReal) := by
  unfold val_main_v122
  pointwise
  split
  · next h => exact absurd h (by omega)
  · next h => exact Ideal.ofBits_zero_f32

theorem v106_at (b : Fin 2) (t : Fin 2048) (c : Fin 128) :
    val_main_v106 (F := Ideal) x1 x2 x3 (ix3 b t c) = meanE x1 x2 x3 b 3 c t := by
  unfold val_main_v106 val_main_v105 val_main_v64 val_main_v104 val_main_v103
  pointwise
  rw [v92_at, v63_at]
  exact Cert.KernelIdeal.Value.div_cnt 4 t _

theorem v112_at (b : Fin 2) (t : Fin 2048) (s : Fin 2049) (hs : s.val = t.val + 1) (c : Fin 128) :
    val_main_v112 (F := Ideal) x1 x2 x3 (ix3 b s c)
      = ahead (2 ^ 4) (fun t => -meanE x1 x2 x3 b 3 c t) t + meanE x1 x2 x3 b 3 c t := by
  have ht := t.isLt
  unfold val_main_v112
  rw [addf_apply]
  refine congrArg₂ (· + ·) ?_ ?_
  · unfold val_main_v110 val_main_v109 val_main_v107 ahead
    pointwise
    split
    · next h =>
      rw [dif_pos (by omega : t.val + 2 ^ 4 < 2048), v106_at]
      refine congrArg (fun k => -meanE x1 x2 x3 b 3 c k) (Fin.ext ?_)
      show 15 + s.val = t.val + 16
      omega
    · next h =>
      rw [dif_neg (by omega : ¬(t.val + 2 ^ 4 < 2048))]
      exact Ideal.ofBits_zero_f32
  · unfold val_main_v111
    pointwise
    split
    · next h =>
      rw [v106_at]
      exact congrArg (meanE x1 x2 x3 b 3 c) (Fin.ext (by show s.val - 1 = t.val; omega))
    · next h => exact absurd (by omega) h

theorem v113_in (b : Fin 2) (t : Fin 2048) (s : Fin 2049) (hs : s.val = t.val + 1) (c : Fin 128) (k : Fin 512) (hk : k.val = 128 * 3 + c.val) :
    val_main_v113 (F := Ideal) x1 x2 x3 (ix3 b s k)
      = ahead (2 ^ 4) (fun t => -meanE x1 x2 x3 b 3 c t) t + meanE x1 x2 x3 b 3 c t := by
  have hc := c.isLt
  unfold val_main_v113
  pointwise
  split
  · next h =>
    refine Eq.trans (congrArg _ (congrArg (ix3 b s) (Fin.ext ?_))) (v112_at x1 x2 x3 b t s hs c)
    show k.val - 384 = c.val
    omega
  · next h => exact absurd (by omega) h

theorem v113_out (b : Fin 2) (s : Fin 2049) (k : Fin 512) (hk : k.val < 128 * 3 ∨ 128 * 3 + 128 ≤ k.val) :
    val_main_v113 (F := Ideal) x1 x2 x3 (ix3 b s k) = (0 : EReal) := by
  unfold val_main_v113
  pointwise
  split
  · next h => exact absurd h (by omega)
  · next h => exact Ideal.ofBits_zero_f32

theorem v143_at0 (b : Fin 2) (t : Fin 2048) (s : Fin 2049) (hs : s.val = t.val + 1) (c : Fin 128) :
    val_main_v143 (F := Ideal) x1 x2 x3 (ix3 b s (col 0 c))
      = ahead (2 ^ 1) (fun t => -meanE x1 x2 x3 b 0 c t) t + meanE x1 x2 x3 b 0 c t := by
  have hc := c.isLt
  unfold val_main_v143 val_main_v133 val_main_v123
  simp only [addf_apply]
  rw [v113_out x1 x2 x3 b _ _ (by show (128 * 0 + c.val < 128 * 3) ∨ (128 * 3 + 128 ≤ 128 * 0 + c.val); omega), v122_out x1 x2 x3 b _ _ (by show (128 * 0 + c.val < 128 * 2) ∨ (128 * 2 + 128 ≤ 128 * 0 + c.val); omega), v132_out x1 x2 x3 b _ _ (by show (128 * 0 + c.val < 128 * 1) ∨ (128 * 1 + 128 ≤ 128 * 0 + c.val); omega), v142_in x1 x2 x3 b t _ hs c _ rfl]
  have key (x : EReal) : ((0 + 0) + 0) + x = x := by simp only [add_zero, zero_add]
  exact key _

theorem v143_at1 (b : Fin 2) (t : Fin 2048) (s : Fin 2049) (hs : s.val = t.val + 1) (c : Fin 128) :
    val_main_v143 (F := Ideal) x1 x2 x3 (ix3 b s (col 1 c))
      = ahead (2 ^ 2) (fun t => -meanE x1 x2 x3 b 1 c t) t + meanE x1 x2 x3 b 1 c t := by
  have hc := c.isLt
  unfold val_main_v143 val_main_v133 val_main_v123
  simp only [addf_apply]
  rw [v113_out x1 x2 x3 b _ _ (by show (128 * 1 + c.val < 128 * 3) ∨ (128 * 3 + 128 ≤ 128 * 1 + c.val); omega), v122_out x1 x2 x3 b _ _ (by show (128 * 1 + c.val < 128 * 2) ∨ (128 * 2 + 128 ≤ 128 * 1 + c.val); omega), v132_in x1 x2 x3 b t _ hs c _ rfl, v142_out x1 x2 x3 b _ _ (by show (128 * 1 + c.val < 128 * 0) ∨ (128 * 0 + 128 ≤ 128 * 1 + c.val); omega)]
  have key (x : EReal) : ((0 + 0) + x) + 0 = x := by simp only [add_zero, zero_add]
  exact key _

theorem v143_at2 (b : Fin 2) (t : Fin 2048) (s : Fin 2049) (hs : s.val = t.val + 1) (c : Fin 128) :
    val_main_v143 (F := Ideal) x1 x2 x3 (ix3 b s (col 2 c))
      = ahead (2 ^ 3) (fun t => -meanE x1 x2 x3 b 2 c t) t + meanE x1 x2 x3 b 2 c t := by
  have hc := c.isLt
  unfold val_main_v143 val_main_v133 val_main_v123
  simp only [addf_apply]
  rw [v113_out x1 x2 x3 b _ _ (by show (128 * 2 + c.val < 128 * 3) ∨ (128 * 3 + 128 ≤ 128 * 2 + c.val); omega), v122_in x1 x2 x3 b t _ hs c _ rfl, v132_out x1 x2 x3 b _ _ (by show (128 * 2 + c.val < 128 * 1) ∨ (128 * 1 + 128 ≤ 128 * 2 + c.val); omega), v142_out x1 x2 x3 b _ _ (by show (128 * 2 + c.val < 128 * 0) ∨ (128 * 0 + 128 ≤ 128 * 2 + c.val); omega)]
  have key (x : EReal) : ((0 + x) + 0) + 0 = x := by simp only [add_zero, zero_add]
  exact key _

theorem v143_at3 (b : Fin 2) (t : Fin 2048) (s : Fin 2049) (hs : s.val = t.val + 1) (c : Fin 128) :
    val_main_v143 (F := Ideal) x1 x2 x3 (ix3 b s (col 3 c))
      = ahead (2 ^ 4) (fun t => -meanE x1 x2 x3 b 3 c t) t + meanE x1 x2 x3 b 3 c t := by
  have hc := c.isLt
  unfold val_main_v143 val_main_v133 val_main_v123
  simp only [addf_apply]
  rw [v113_in x1 x2 x3 b t _ hs c _ rfl, v122_out x1 x2 x3 b _ _ (by show (128 * 3 + c.val < 128 * 2) ∨ (128 * 2 + 128 ≤ 128 * 3 + c.val); omega), v132_out x1 x2 x3 b _ _ (by show (128 * 3 + c.val < 128 * 1) ∨ (128 * 1 + 128 ≤ 128 * 3 + c.val); omega), v142_out x1 x2 x3 b _ _ (by show (128 * 3 + c.val < 128 * 0) ∨ (128 * 0 + 128 ≤ 128 * 3 + c.val); omega)]
  have key (x : EReal) : ((x + 0) + 0) + 0 = x := by simp only [add_zero, zero_add]
  exact key _

theorem v145_at (b : Fin 2) (t : Fin 2048) (g : Fin 4) (c : Fin 128) :
    val_main_v145 (F := Ideal) x1 x2 x3 (ix3 b t (col g c))
      = ahead (2 ^ (g.val + 1)) (fun t => -meanE x1 x2 x3 b g c t) t + meanE x1 x2 x3 b g c t := by
  unfold val_main_v145
  pointwise
  match g with
  | ⟨0, _⟩ => exact v143_at0 x1 x2 x3 b t _ (Nat.add_comm 1 t.val) c
  | ⟨1, _⟩ => exact v143_at1 x1 x2 x3 b t _ (Nat.add_comm 1 t.val) c
  | ⟨2, _⟩ => exact v143_at2 x1 x2 x3 b t _ (Nat.add_comm 1 t.val) c
  | ⟨3, _⟩ => exact v143_at3 x1 x2 x3 b t _ (Nat.add_comm 1 t.val) c

theorem meanE_real (h1 : ∀ i, Real' (x1 i)) (h2 : ∀ i, Real' (x2 i)) (h3 : ∀ i, Real' (x3 i)) (b : Fin 2) (g : Fin 4) (c : Fin 128) (t : Fin 2048) :
    Real' (meanE x1 x2 x3 b g c t) := by
  refine Real'.mul (Real'.sum _ fun d => ?_) (Real'.inv _ t)
  exact ((h1 _).mul (h3 _)).mul (h2 _)

theorem v146_at (h1 : ∀ i, Real' (x1 i)) (h2 : ∀ i, Real' (x2 i)) (h3 : ∀ i, Real' (x3 i)) (b : Fin 2) (t : Fin 2048) (g : Fin 4) (c : Fin 128) :
    val_main_v146 (F := Ideal) x1 x2 x3 (ix3 b t (col g c)) = winA (g.val + 1) (meanE x1 x2 x3 b g c) t := by
  unfold val_main_v146
  have hz : val_main_call1_call0_v0 (F := Ideal) (Shape.Idx.first h_S_) = (0 : EReal) := Ideal.ofBits_zero_f32
  refine (Cert.PoolRed.cumsum_up_host (A := 2) (M := 2047) (C := 512) (val_main_v145 (F := Ideal) x1 x2 x3) _ _ _ hz b t (col g c)).trans ?_
  refine Eq.trans ?_ (Cert.KernelIdeal.Value.winA_suf (meanE x1 x2 x3 b g c) (meanE_real x1 x2 x3 h1 h2 h3 b g c) (g.val + 1) t)
  exact Finset.sum_congr rfl fun i _ => by rw [v145_at]

theorem v150_at (h1 : ∀ i, Real' (x1 i)) (h2 : ∀ i, Real' (x2 i)) (h3 : ∀ i, Real' (x3 i)) (b : Fin 2) (t : Fin 2048) (g : Fin 4) (c : Fin 128) :
    val_main_v150 (F := Ideal) x1 x2 x3 (ix2 (row b t) (col g c)) = duE (g.val + 1) (part x1 b g) (scl x3 g) (wts x2 g) t c := by
  have e1 : val_main_v149 (F := Ideal) x1 x2 x3 (ix2 (row b t) (col g c)) = val_main_v147 (F := Ideal) x1 x2 x3 (ix3 b t (col g c)) := by
    refine shapeCast_apply _ _ _ _ ?_
    rw [Shape.rowMajor_val_three, Shape.rowMajor_val_two]
    show (b.val * 2048 + t.val) * 512 + (col g c).val = (2048 * b.val + t.val) * 512 + (col g c).val
    omega
  have e2 : val_main_v96 (F := Ideal) x1 x2 x3 (ix3 b t (col g c)) = -ddE (part x1 b g) (scl x3 g) (wts x2 g) t c := by
    refine (join_col _ _ b t g c).trans ?_
    rw [← v92_at]
    rfl
  refine Eq.trans (b := val_main_v147 (F := Ideal) x1 x2 x3 (ix3 b t (col g c))) e1 ?_
  unfold val_main_v147
  rw [addf_apply, e2, v146_at x1 x2 x3 h1 h2 h3]
  unfold duE
  rw [sub_eq_add_neg]
  exact add_comm (-ddE (part x1 b g) (scl x3 g) (wts x2 g) t c) (winA (g.val + 1) (meanE x1 x2 x3 b g c) t)

end Cert.ReferenceIdeal.Read
end
-- ==== Proof.PoolFin.lean ====
/-
  What the precondition says: every entry of the four arguments is a real number.
-/
module
public import proofs.«01_k».proof.Proof.PoolMath
public import proofs.«01_k».proof.Proof.Gen.Pre_finite
public import Idealize.ShloMosaic.Lib.ReduceAll
@[expose] public section
set_option maxRecDepth 16384
noncomputable section
open Idealize.ShloMosaic Idealize.ShloMosaic.TcCoe Idealize.SL.Sem
namespace Cert.Fin
open Cert.Pre_finite Cert.Pre_finite.Gen
open Cert.KernelIdeal.Value (Real')

/-- A value whose magnitude is below infinity is a real number. -/
theorem real_of_lt (x : EReal)
    (h : FloatOps.cmpf (F := Ideal) (φ := .f32) .olt (FloatOps.hostAbsf (F := Ideal) (φ := .f32) x) (FloatOps.ofBits (F := Ideal) .f32 0x7F800000#32) = 1#1) : Real' x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x using EReal.rec with
  | bot => simp at h'
  | coe r => exact ⟨r, rfl⟩
  | top => simp at h'

theorem real_args (x0 x1 : FVec Ideal S4096x512 .f32) (x2 : FVec Ideal S4x128x128 .bf16) (x3 : FVec Ideal S1x512 .f32)
    (h : Cert.Pre_finite.fn (F := Ideal) x0 x1 x2 x3 = fun _ => 1#1) :
    (∀ i, Real' (x0 i)) ∧ (∀ i, Real' (x1 i)) ∧ (∀ i, Real' (x2 i)) ∧ (∀ i, Real' (x3 i)) := by
  haveI : Subsingleton S_.Idx := ⟨fun a b => funext fun k => k.elim0⟩
  have h0 := congrFun h (Shape.Idx.first facts.h_S_)
  unfold Cert.Pre_finite.fn Cert.Pre_finite.fn_part1 at h0
  obtain ⟨h012, h3⟩ := IntOp.andi_eq_one.1 h0
  obtain ⟨h01, h2⟩ := IntOp.andi_eq_one.1 h012
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Fin
end
-- ==== Proof.MlpMath.lean ====
/-
  The MLP block's loss gradient over the reals: one token's row at a time.
-/
module
public import Idealize.ShloMosaic.Lib.Pointwise
public import Idealize.ShloMosaic.Lib.Pointwise.Tactic
public import Idealize.ShloMosaic.Lib.IdealHost
@[expose] public section
noncomputable section
open Idealize.ShloMosaic
open scoped BigOperators
namespace Cert.MlpMath

/-- The epsilon under the root. -/
def eps : ℝ := 8796093 / 8796093022208

theorem eps_pos : 0 < eps := by unfold eps; norm_num

theorem eps_bits : Ideal.ofBits .f32 0x358637BD#32 = ((eps : ℝ) : EReal) := by
  simp [Ideal.ofBits, Ideal.ieee, eps]
  rw [← EReal.coe_mul]
  congr 1
  norm_num

theorem n_bits : Ideal.ofBits .f32 0x44800000#32 = ((1024 : ℝ) : EReal) := by
  simp [Ideal.ofBits, Ideal.ieee]
  rw [← EReal.coe_mul]
  congr 1
  norm_num

theorem inv_n_bits : Ideal.ofBits .f32 0x3A800000#32 = ((1 / 1024 : ℝ) : EReal) := by
  simp [Ideal.ofBits, Ideal.ieee]
  rw [← EReal.coe_mul]
  congr 1
  norm_num

theorem two_bits : Ideal.ofBits .f32 0x40000000#32 = ((2 : ℝ) : EReal) := by
  simp [Ideal.ofBits, Ideal.ieee]
  rw [← EReal.coe_mul]
  congr 1
  norm_num

theorem half_bits : Ideal.ofBits .f32 0x3F000000#32 = ((1 / 2 : ℝ) : EReal) := by
  simp [Ideal.ofBits, Ideal.ieee]
  rw [← EReal.coe_mul]
  congr 1
  norm_num

theorem neg_half_bits : Ideal.ofBits .f32 0xBF000000#32 = ((-(1 / 2) : ℝ) : EReal) := by
  simp [Ideal.ofBits, Ideal.ieee]
  rw [← EReal.coe_mul]
  congr 1
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_mul {n : ℕ} (a b : Fin n → EReal) (f g : Fin n → ℝ) (ha : ∀ k, a k = (f k : EReal)) (hb : ∀ k, b k = (g k : EReal)) :
    (∑ k, a k * b k) = ((∑ k, f k * g k : ℝ) : EReal) := by
  rw [coe_sum]
  exact Finset.sum_congr rfl fun k _ => by rw [ha, hb, EReal.coe_mul]

theorem sum_coe {n : ℕ} (a : Fin n → EReal) (f : Fin n → ℝ) (ha : ∀ k, a k = (f k : EReal)) : (∑ k, a k) = ((∑ k, f k : ℝ) : EReal) := by
  rw [coe_sum]
  exact Finset.sum_congr rfl fun k _ => ha k

theorem div_n (x : ℝ) : Ideal.div (x : EReal) (Ideal.ofBits .f32 0x44800000#32) = ((x / 1024 : ℝ) : EReal) := by
  rw [n_bits, Ideal.div_coe (by norm_num : (1024 : ℝ) ≠ 0), ← EReal.coe_mul]
  congr 1
  ring

theorem rsqrt_pos (x : ℝ) (h : 0 < x) : Ideal.rsqrt (x : EReal) = (((√x)⁻¹ : ℝ) : EReal) := by
  rw [Ideal.rsqrt_coe, if_neg (not_lt.2 h.le), if_neg h.ne']

theorem sqrt_sq (x : ℝ) (h : 0 ≤ x) : Ideal.sqrt ((x * x : ℝ) : EReal) = (x : EReal) := by
  rw [Ideal.sqrt_coe, if_neg (not_lt.2 (mul_nonneg h h)), Real.sqrt_mul_self h]

/-- The mean square of a row, plus epsilon. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The reciprocal root mean square of a row. -/
def rr (x : Fin 1024 → ℝ) : ℝ := (√(ms x))⁻¹

/-- The gradient of the norm, for a row. -/
def rmsB (dn x g : Fin 1024 → ℝ) (d : Fin 1024) : ℝ :=
  rr x * (dn d * g d - x d * rr x * ((∑ k, dn k * g k * (x k * rr x)) / 1024))

/-- The down projection of a row of activations. -/
def ffR (ac : Fin 8 → Fin 512 → ℝ) (WD : Fin 8 → Fin 512 → Fin 1024 → ℝ) (d : Fin 1024) : ℝ := ∑ j, ∑ f, ac j f * WD j f d

/-- The loss' gradient in the block's output, for a row. -/
def dyR (x tg ff g4 : Fin 1024 → ℝ) (d : Fin 1024) : ℝ := (x d + ff d * rr ff * g4 d - tg d) * (1 / 1024)

/-- The gradient in the down projection's result, for a row. -/
def dffR (x tg ff g4 : Fin 1024 → ℝ) : Fin 1024 → ℝ := rmsB (dyR x tg ff g4) ff g4

/-- The gradient in the up projection's result, for a row; `rl` is its positive part. -/
def daR (dff : Fin 1024 → ℝ) (WD : Fin 8 → Fin 512 → Fin 1024 → ℝ) (rl : Fin 8 → Fin 512 → ℝ) (j : Fin 8) (f : Fin 512) : ℝ :=
  (∑ d, dff d * WD j f d) * (2 * rl j f)

/-- The gradient in the block's normed input, for a row. -/
def dhR (da : Fin 8 → Fin 512 → ℝ) (WU : Fin 8 → Fin 1024 → Fin 512 → ℝ) (d : Fin 1024) : ℝ := ∑ j, ∑ f, da j f * WU j d f

/-- The normed input, for a row. -/
def hR (x g3 : Fin 1024 → ℝ) (d : Fin 1024) : ℝ := x d * rr x * g3 d

/-- The positive part of the up projection, for a row. -/
def rlR (h : Fin 1024 → ℝ) (WU : Fin 8 → Fin 1024 → Fin 512 → ℝ) (j : Fin 8) (f : Fin 512) : ℝ := max (∑ d, h d * WU j d f) 0

theorem rlR_nonneg (h : Fin 1024 → ℝ) (WU : Fin 8 → Fin 1024 → Fin 512 → ℝ) (j : Fin 8) (f : Fin 512) : 0 ≤ rlR h WU j f := le_max_right _ _

theorem coe_max_zero (x : ℝ) : max (x : EReal) 0 = ((max x 0 : ℝ) : EReal) := by
  rcases le_total x 0 with h | h
  · rw [max_eq_right h, max_eq_right (by exact_mod_cast h)]; rfl
  · rw [max_eq_left h, max_eq_left (by exact_mod_cast h)]

/-- The norm's gradient as the chain rule writes it out. -/
theorem rmsB_chain (dn x g : Fin 1024 → ℝ) (d : Fin 1024) :
    g d * dn d * rr x + ((∑ k, x k * (dn k * g k)) * (-(1 / 2) * (rr x / ms x)) / 1024 * x d + x d * ((∑ k, x k * (dn k * g k)) * (-(1 / 2) * (rr x / ms x)) / 1024))
      = rmsB dn x g d := by
  have e : rr x / ms x = rr x * rr x * rr x := by
    have h := ms_pos x
    have hs : √(ms x) * √(ms x) = ms x := Real.mul_self_sqrt h.le
    have h0 : √(ms x) ≠ 0 := (Real.sqrt_pos.2 h).ne'
    unfold rr
    rw [div_eq_iff h.ne']
    have key : ∀ s : ℝ, s ≠ 0 → s⁻¹ = s⁻¹ * s⁻¹ * s⁻¹ * (s * s) := fun s hs => by field_simp
    have := key _ h0
    rwa [hs] at this
  have s : (∑ k, dn k * g k * (x k * rr x)) = (∑ k, x k * (dn k * g k)) * rr x := by
    rw [Finset.sum_mul]
    exact Finset.sum_congr rfl fun k _ => by ring
  unfold rmsB
  rw [e, s]
  ring

end Cert.MlpMath
end
-- ==== Proof.MlpPay.lean ====
/-
  What the MLP kernels' stored values hold, entry by entry, where their operands hold reals.
-/
module
public import proofs.«01_k».proof.Proof.Gen.MlpIdeal.Skeleton
public import proofs.«01_k».proof.Proof.MlpMath
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MlpIdeal.Value
open Cert.MlpIdeal Cert.MlpIdeal.Gen Cert.MlpMath

theorem drop1_down {α : Type} (x : S1x512x1024.Idx → α) (h : S1x512x1024.ShapeCasts S512x1024) (f : Fin 512) (d : Fin 1024) :
    shapeCast S512x1024 x h (ix2 f d) = x (ix3 0 f d) := by
  pointwise

theorem drop1_up {α : Type} (x : S1x1024x512.Idx → α) (h : S1x1024x512.ShapeCasts S1024x512) (d : Fin 1024) (f : Fin 512) :
    shapeCast S1024x512 x h (ix2 d f) = x (ix3 0 d f) := by
  pointwise

/-! ### The up projection -/

/-- The squared positive part of a product with a shard of the up projection. -/
theorem up_at (v1 : FVec Ideal S512x1024 .bf16) (v : FVec Ideal S1x1024x512 .bf16) (h : Fin 512 → Fin 1024 → ℝ) (w : Fin 1024 → Fin 512 → ℝ)
    (h1 : ∀ p d, v1 (ix2 p d) = ((h p d : ℝ) : EReal)) (hw : ∀ d f, v (ix3 0 d f) = ((w d f : ℝ) : EReal)) (p : Fin 512) (f : Fin 512) :
    k0_pay1 (F := Ideal) v1 v (ix2 p f) = ((max (∑ d, h p d * w d f) 0 * max (∑ d, h p d * w d f) 0 : ℝ) : EReal) := by
  unfold k0_pay1
  pointwise [dot_S512x1024_S1024x512_S512x512_1_0_0_1_n_n]
  simp only [h1, hw, ← EReal.coe_mul, ← coe_sum, coe_max_zero]

theorem up3 (v0 : FVec Ideal S512x1024 .bf16) (v : FVec Ideal S1x1024x512 .bf16) : k0_pay3 (F := Ideal) v0 v = k0_pay1 (k0_pay2 v0) v := rfl
theorem up4 (v0 : FVec Ideal S512x1024 .bf16) (v : FVec Ideal S1x1024x512 .bf16) : k0_pay4 (F := Ideal) v0 v = k0_pay1 (k0_pay2 v0) v := rfl
theorem up5 (v0 : FVec Ideal S512x1024 .bf16) (v : FVec Ideal S1x1024x512 .bf16) : k0_pay5 (F := Ideal) v0 v = k0_pay1 (k0_pay2 v0) v := rfl
theorem up7 (v0 : FVec Ideal S512x1024 .bf16) (v : FVec Ideal S1x1024x512 .bf16) : k0_pay7 (F := Ideal) (k0_pay6 v0 v) = k0_pay1 (k0_pay2 v0) v := rfl
theorem up8 (v0 : FVec Ideal S512x1024 .bf16) (v : FVec Ideal S1x1024x512 .bf16) : k0_pay8 (F := Ideal) (k0_pay2 v0) v = k0_pay1 (k0_pay2 v0) v := rfl
theorem up9 (v0 : FVec Ideal S512x1024 .bf16) (v : FVec Ideal S1x1024x512 .bf16) : k0_pay9 (F := Ideal) (k0_pay2 v0) v = k0_pay1 (k0_pay2 v0) v := rfl
theorem up10 (v0 : FVec Ideal S512x1024 .bf16) (v : FVec Ideal S1x1024x512 .bf16) : k0_pay10 (F := Ideal) (k0_pay2 v0) v = k0_pay1 (k0_pay2 v0) v := rfl

theorem up2_at (v0 : FVec Ideal S512x1024 .bf16) (p : Fin 512) (d : Fin 1024) : k0_pay2 (F := Ideal) v0 (ix2 p d) = v0 (ix2 p d) := by
  unfold k0_pay2
  pointwise

/-! ### The down projection and its gradient, a tile of 256 tokens -/

theorem pay4_at (a0 a1 a2 a3 : FVec Ideal S256x512 .bf16) (w0 w1 w2 w3 : FVec Ideal S1x512x1024 .bf16)
    (ac : Fin 256 → Fin 8 → Fin 512 → ℝ) (WD : Fin 8 → Fin 512 → Fin 1024 → ℝ)
    (h0 : ∀ p f, a0 (ix2 p f) = ((ac p 0 f : ℝ) : EReal)) (h1 : ∀ p f, a1 (ix2 p f) = ((ac p 1 f : ℝ) : EReal))
    (h2 : ∀ p f, a2 (ix2 p f) = ((ac p 2 f : ℝ) : EReal)) (h3 : ∀ p f, a3 (ix2 p f) = ((ac p 3 f : ℝ) : EReal))
    (k0 : ∀ f d, w0 (ix3 0 f d) = ((WD 0 f d : ℝ) : EReal)) (k1 : ∀ f d, w1 (ix3 0 f d) = ((WD 1 f d : ℝ) : EReal))
    (k2 : ∀ f d, w2 (ix3 0 f d) = ((WD 2 f d : ℝ) : EReal)) (k3 : ∀ f d, w3 (ix3 0 f d) = ((WD 3 f d : ℝ) : EReal))
    (p : Fin 256) (d : Fin 1024) :
    k1_pay4 (F := Ideal) a0 w0 a1 w1 a2 w2 a3 w3 (ix2 p d)
      = (((∑ f, ac p 0 f * WD 0 f d) + (∑ f, ac p 1 f * WD 1 f d) + (∑ f, ac p 2 f * WD 2 f d) + (∑ f, ac p 3 f * WD 3 f d) : ℝ) : EReal) := by
  unfold k1_pay4
  pointwise [dot_S256x512_S512x1024_S256x1024_1_0_0_1_n_n]
  simp only [h0, h1, h2, h3, k0, k1, k2, k3, ← EReal.coe_mul, ← coe_sum, ← EReal.coe_add, zero_add]

theorem pay5_at (v27 : FVec Ideal S256x1024 .f32) (a0 a1 a2 a3 : FVec Ideal S256x512 .bf16) (w0 w1 w2 w3 : FVec Ideal S1x512x1024 .bf16)
    (ac : Fin 256 → Fin 8 → Fin 512 → ℝ) (WD : Fin 8 → Fin 512 → Fin 1024 → ℝ)
    (hv : ∀ p d, v27 (ix2 p d)
      = (((∑ f, ac p 0 f * WD 0 f d) + (∑ f, ac p 1 f * WD 1 f d) + (∑ f, ac p 2 f * WD 2 f d) + (∑ f, ac p 3 f * WD 3 f d) : ℝ) : EReal))
    (h0 : ∀ p f, a0 (ix2 p f) = ((ac p 4 f : ℝ) : EReal)) (h1 : ∀ p f, a1 (ix2 p f) = ((ac p 5 f : ℝ) : EReal))
    (h2 : ∀ p f, a2 (ix2 p f) = ((ac p 6 f : ℝ) : EReal)) (h3 : ∀ p f, a3 (ix2 p f) = ((ac p 7 f : ℝ) : EReal))
    (k0 : ∀ f d, w0 (ix3 0 f d) = ((WD 4 f d : ℝ) : EReal)) (k1 : ∀ f d, w1 (ix3 0 f d) = ((WD 5 f d : ℝ) : EReal))
    (k2 : ∀ f d, w2 (ix3 0 f d) = ((WD 6 f d : ℝ) : EReal)) (k3 : ∀ f d, w3 (ix3 0 f d) = ((WD 7 f d : ℝ) : EReal))
    (p : Fin 256) (d : Fin 1024) :
    k1_pay5 (F := Ideal) v27 a0 w0 a1 w1 a2 w2 a3 w3 (ix2 p d) = ((ffR (ac p) WD d : ℝ) : EReal) := by
  unfold k1_pay5
  pointwise [dot_S256x512_S512x1024_S256x1024_1_0_0_1_n_n]
  simp only [hv, h0, h1, h2, h3, k0, k1, k2, k3, ← EReal.coe_mul, ← coe_sum, ← EReal.coe_add]
  unfold ffR
  rw [Fin.sum_univ_eight]

/-- The reciprocal root mean square of a row of reals. -/
theorem rr_coe (x : Fin 1024 → ℝ) :
    Ideal.rsqrt (Ideal.div (((∑ k, x k * x k : ℝ)) : EReal) (Ideal.ofBits .f32 0x44800000#32) + Ideal.ofBits .f32 0x358637BD#32) = ((rr x : ℝ) : EReal) := by
  rw [div_n, eps_bits, ← EReal.coe_add]
  exact rsqrt_pos (ms x) (ms_pos x)

theorem pay27_at (v : FVec Ideal S256x1024 .f32) (x : Fin 256 → Fin 1024 → ℝ) (hx : ∀ p d, v (ix2 p d) = ((x p d : ℝ) : EReal)) (p : Fin 256) :
    k1_pay27 (F := Ideal) v (ix2 p 0) = ((rr (x p) : ℝ) : EReal) := by
  unfold k1_pay27
  pointwise
  simp only [hx, ← EReal.coe_mul, ← coe_sum]
  exact rr_coe (x p)

theorem pay6_eq (v27 : FVec Ideal S256x1024 .f32) (a0 a1 a2 a3 : FVec Ideal S256x512 .bf16) (w0 w1 w2 w3 : FVec Ideal S1x512x1024 .bf16) :
    k1_pay6 (F := Ideal) v27 a0 w0 a1 w1 a2 w2 a3 w3 = k1_pay27 (k1_pay5 v27 a0 w0 a1 w1 a2 w2 a3 w3) := rfl

theorem pay7_at (v27 : FVec Ideal S256x1024 .f32) (a0 a1 a2 a3 : FVec Ideal S256x512 .bf16) (w0 w1 w2 w3 : FVec Ideal S1x512x1024 .bf16)
    (p : Fin 256) (d : Fin 1024) :
    k1_pay7 (F := Ideal) v27 a0 w0 a1 w1 a2 w2 a3 w3 (ix2 p d) = k1_pay6 (F := Ideal) v27 a0 w0 a1 w1 a2 w2 a3 w3 (ix2 p 0) := by
  unfold k1_pay7
  pointwise

theorem pay28_at (v : FVec Ideal S256x1024 .f32) (x : Fin 256 → Fin 1024 → ℝ) (hx : ∀ p d, v (ix2 p d) = ((x p d : ℝ) : EReal)) (p : Fin 256) (d : Fin 1024) :
    k1_pay28 (F := Ideal) v (ix2 p d) = ((x p d * rr (x p) : ℝ) : EReal) := by
  unfold k1_pay28
  pointwise
  simp only [hx, pay27_at v x hx, ← EReal.coe_mul]

/-- What the tile's loss gradient reads: the down projection's result, the block's input, the target and the gain. -/
structure Tile (v51 v52 v61 v67 : FVec Ideal S256x1024 .f32) (v60 : FVec Ideal S256x1 .f32) (v63 : FVec Ideal S1x1024 .f32)
    (x tg ff : Fin 256 → Fin 1024 → ℝ) (g4 : Fin 1024 → ℝ) : Prop where
  h51 : ∀ p d, v51 (ix2 p d) = ((ff p d : ℝ) : EReal)
  h52 : ∀ p d, v52 (ix2 p d) = ((x p d : ℝ) : EReal)
  h60 : ∀ p, v60 (ix2 p 0) = ((rr (ff p) : ℝ) : EReal)
  h61 : ∀ p d, v61 (ix2 p d) = ((rr (ff p) : ℝ) : EReal)
  h63 : ∀ d, v63 (ix2 0 d) = ((g4 d : ℝ) : EReal)
  h67 : ∀ p d, v67 (ix2 p d) = ((tg p d : ℝ) : EReal)

variable {v51 v52 v61 v67 : FVec Ideal S256x1024 .f32} {v60 : FVec Ideal S256x1 .f32} {v63 : FVec Ideal S1x1024 .f32}
  {x tg ff : Fin 256 → Fin 1024 → ℝ} {g4 : Fin 1024 → ℝ} (H : Tile v51 v52 v61 v67 v60 v63 x tg ff g4)
include H

theorem pay10_at (p : Fin 256) (d : Fin 1024) :
    k1_pay10 (F := Ideal) v51 v52 v61 v63 v67 (ix2 p d) = ((dyR (x p) (tg p) (ff p) g4 d : ℝ) : EReal) := by
  unfold k1_pay10 k1_pay8
  pointwise
  simp only [H.h51, H.h52, H.h61, H.h63, H.h67, inv_n_bits, ← EReal.coe_mul, ← EReal.coe_add, ← EReal.coe_sub]
  rfl

theorem pay11_at (p : Fin 256) (d : Fin 1024) : k1_pay11 (F := Ideal) v51 v60 (ix2 p d) = ((ff p d * rr (ff p) : ℝ) : EReal) := by
  unfold k1_pay11
  pointwise
  simp only [H.h51, H.h60, ← EReal.coe_mul]

theorem pay12_at (v94 : FVec Ideal S1x1024 .f32) (d : Fin 1024) :
    k1_pay12 (F := Ideal) v51 v52 v60 v61 v63 v67 v94 (ix2 0 d)
      = v94 (ix2 0 d) + ((∑ p, dyR (x p) (tg p) (ff p) g4 d * (ff p d * rr (ff p)) : ℝ) : EReal) := by
  unfold k1_pay12
  pointwise
  simp only [pay10_at H, pay11_at H, ← EReal.coe_mul, ← coe_sum]

theorem pay13_at (p : Fin 256) (d : Fin 1024) :
    k1_pay13 (F := Ideal) v51 v52 v60 v61 v63 v67 v63 (ix2 p d) = ((dffR (x p) (tg p) (ff p) g4 d : ℝ) : EReal) := by
  unfold k1_pay13
  pointwise
  simp only [pay10_at H, pay11_at H, H.h60, H.h63, ← EReal.coe_mul, ← coe_sum, div_n, ← EReal.coe_sub]
  rfl

omit H

theorem pay14_at (v100 : FVec Ideal S256x1024 .bf16) (a : FVec Ideal S256x512 .bf16) (w : FVec Ideal S1x512x1024 .bf16)
    (dff : Fin 256 → Fin 1024 → ℝ) (rl : Fin 256 → Fin 512 → ℝ) (WD : Fin 512 → Fin 1024 → ℝ)
    (h100 : ∀ p d, v100 (ix2 p d) = ((dff p d : ℝ) : EReal)) (ha : ∀ p f, a (ix2 p f) = ((rl p f * rl p f : ℝ) : EReal))
    (hrl : ∀ p f, 0 ≤ rl p f) (hw : ∀ f d, w (ix3 0 f d) = ((WD f d : ℝ) : EReal)) (p : Fin 256) (f : Fin 512) :
    k1_pay14 (F := Ideal) v100 a w (ix2 p f) = (((∑ d, dff p d * WD f d) * (2 * rl p f) : ℝ) : EReal) := by
  unfold k1_pay14
  pointwise [dot_S256x1024_S512x1024_S256x512_1_1_0_0_n_n]
  simp only [h100, ha, hw, sqrt_sq _ (hrl _ _), two_bits, ← EReal.coe_mul, ← coe_sum]

theorem pay16_eq (v100 : FVec Ideal S256x1024 .bf16) (a : FVec Ideal S256x512 .bf16) (w : FVec Ideal S1x512x1024 .bf16) : k1_pay16 (F := Ideal) v100 a w = k1_pay14 v100 a w := rfl
theorem pay17_eq (v100 : FVec Ideal S256x1024 .bf16) (a : FVec Ideal S256x512 .bf16) (w : FVec Ideal S1x512x1024 .bf16) : k1_pay17 (F := Ideal) v100 a w = k1_pay14 v100 a w := rfl
theorem pay19_eq (v100 : FVec Ideal S256x1024 .bf16) (a : FVec Ideal S256x512 .bf16) (w : FVec Ideal S1x512x1024 .bf16) : k1_pay19 (F := Ideal) v100 a w = k1_pay14 v100 a w := rfl
theorem pay20_eq (v100 : FVec Ideal S256x1024 .bf16) (a : FVec Ideal S256x512 .bf16) (w : FVec Ideal S1x512x1024 .bf16) : k1_pay20 (F := Ideal) v100 a w = k1_pay14 v100 a w := rfl
theorem pay22_eq (v100 : FVec Ideal S256x1024 .bf16) (a : FVec Ideal S256x512 .bf16) (w : FVec Ideal S1x512x1024 .bf16) : k1_pay22 (F := Ideal) v100 a w = k1_pay14 v100 a w := rfl
theorem pay23_eq (v100 : FVec Ideal S256x1024 .bf16) (a : FVec Ideal S256x512 .bf16) (w : FVec Ideal S1x512x1024 .bf16) : k1_pay23 (F := Ideal) v100 a w = k1_pay14 v100 a w := rfl
theorem pay25_eq (v100 : FVec Ideal S256x1024 .bf16) (a : FVec Ideal S256x512 .bf16) (w : FVec Ideal S1x512x1024 .bf16) : k1_pay25 (F := Ideal) v100 a w = k1_pay14 v100 a w := rfl

theorem pay26_at (v : FVec Ideal S256x1024 .f32) (b : FVec Ideal S256x512 .bf16) (w : FVec Ideal S1x1024x512 .bf16)
    (s : Fin 256 → Fin 1024 → ℝ) (da : Fin 256 → Fin 512 → ℝ) (WU : Fin 1024 → Fin 512 → ℝ)
    (hv : ∀ p d, v (ix2 p d) = ((s p d : ℝ) : EReal)) (hb : ∀ p f, b (ix2 p f) = ((da p f : ℝ) : EReal))
    (hw : ∀ d f, w (ix3 0 d f) = ((WU d f : ℝ) : EReal)) (p : Fin 256) (d : Fin 1024) :
    k1_pay26 (F := Ideal) v b w (ix2 p d) = ((s p d + ∑ f, da p f * WU d f : ℝ) : EReal) := by
  unfold k1_pay26
  pointwise [dot_S256x512_S1024x512_S256x1024_1_1_0_0_n_n]
  simp only [hv, hb, hw, ← EReal.coe_mul, ← coe_sum, ← EReal.coe_add]

theorem pay15_eq (v100 : FVec Ideal S256x1024 .bf16) (a : FVec Ideal S256x512 .bf16) (w : FVec Ideal S1x512x1024 .bf16) (u : FVec Ideal S1x1024x512 .bf16) :
    k1_pay15 (F := Ideal) v100 a w u = k1_pay26 (broadcast S256x1024 (Scalar.ofBits .f32 0x00000000#32)) (k1_pay14 v100 a w) u := rfl

theorem pay18_eq (v100 : FVec Ideal S256x1024 .bf16) (v : FVec Ideal S256x1024 .f32) (b : FVec Ideal S256x512 .bf16) (u : FVec Ideal S1x1024x512 .bf16)
    (a : FVec Ideal S256x512 .bf16) (w : FVec Ideal S1x512x1024 .bf16) (u' : FVec Ideal S1x1024x512 .bf16) :
    k1_pay18 (F := Ideal) v100 v b u a w u' = k1_pay26 (k1_pay26 v b u) (k1_pay14 v100 a w) u' := rfl
theorem pay21_eq (v100 : FVec Ideal S256x1024 .bf16) (v : FVec Ideal S256x1024 .f32) (b : FVec Ideal S256x512 .bf16) (u : FVec Ideal S1x1024x512 .bf16)
    (a : FVec Ideal S256x512 .bf16) (w : FVec Ideal S1x512x1024 .bf16) (u' : FVec Ideal S1x1024x512 .bf16) :
    k1_pay21 (F := Ideal) v100 v b u a w u' = k1_pay26 (k1_pay26 v b u) (k1_pay14 v100 a w) u' := rfl
theorem pay24_eq (v100 : FVec Ideal S256x1024 .bf16) (v : FVec Ideal S256x1024 .f32) (b : FVec Ideal S256x512 .bf16) (u : FVec Ideal S1x1024x512 .bf16)
    (a : FVec Ideal S256x512 .bf16) (w : FVec Ideal S1x512x1024 .bf16) (u' : FVec Ideal S1x1024x512 .bf16) :
    k1_pay24 (F := Ideal) v100 v b u a w u' = k1_pay26 (k1_pay26 v b u) (k1_pay14 v100 a w) u' := rfl

/-- The gradient in the block's normed input, from the eight shards' products in turn. -/
theorem dh_at (b0 b1 b2 b3 b4 b5 b6 b7 : FVec Ideal S256x512 .bf16) (u0 u1 u2 u3 u4 u5 u6 u7 : FVec Ideal S1x1024x512 .bf16)
    (da : Fin 256 → Fin 8 → Fin 512 → ℝ) (WU : Fin 8 → Fin 1024 → Fin 512 → ℝ)
    (h0 : ∀ p f, b0 (ix2 p f) = ((da p 0 f : ℝ) : EReal)) (h1 : ∀ p f, b1 (ix2 p f) = ((da p 1 f : ℝ) : EReal))
    (h2 : ∀ p f, b2 (ix2 p f) = ((da p 2 f : ℝ) : EReal)) (h3 : ∀ p f, b3 (ix2 p f) = ((da p 3 f : ℝ) : EReal))
    (h4 : ∀ p f, b4 (ix2 p f) = ((da p 4 f : ℝ) : EReal)) (h5 : ∀ p f, b5 (ix2 p f) = ((da p 5 f : ℝ) : EReal))
    (h6 : ∀ p f, b6 (ix2 p f) = ((da p 6 f : ℝ) : EReal)) (h7 : ∀ p f, b7 (ix2 p f) = ((da p 7 f : ℝ) : EReal))
    (k0 : ∀ d f, u0 (ix3 0 d f) = ((WU 0 d f : ℝ) : EReal)) (k1 : ∀ d f, u1 (ix3 0 d f) = ((WU 1 d f : ℝ) : EReal))
    (k2 : ∀ d f, u2 (ix3 0 d f) = ((WU 2 d f : ℝ) : EReal)) (k3 : ∀ d f, u3 (ix3 0 d f) = ((WU 3 d f : ℝ) : EReal))
    (k4 : ∀ d f, u4 (ix3 0 d f) = ((WU 4 d f : ℝ) : EReal)) (k5 : ∀ d f, u5 (ix3 0 d f) = ((WU 5 d f : ℝ) : EReal))
    (k6 : ∀ d f, u6 (ix3 0 d f) = ((WU 6 d f : ℝ) : EReal)) (k7 : ∀ d f, u7 (ix3 0 d f) = ((WU 7 d f : ℝ) : EReal))
    (p : Fin 256) (d : Fin 1024) :
    k1_pay26 (F := Ideal) (k1_pay26 (k1_pay26 (k1_pay26 (k1_pay26 (k1_pay26 (k1_pay26 (k1_pay26 (broadcast S256x1024 (Scalar.ofBits .f32 0x00000000#32)) b0 u0) b1 u1) b2 u2) b3 u3) b4 u4) b5 u5) b6 u6) b7 u7 (ix2 p d)
      = ((dhR (da p) WU d : ℝ) : EReal) := by
  have z : ∀ (p : Fin 256) (d : Fin 1024), (broadcast S256x1024 (Scalar.ofBits (F := Ideal) .f32 0x00000000#32)) (ix2 p d) = ((0 : ℝ) : EReal) := fun p d => Ideal.ofBits_zero_f32
  rw [pay26_at _ _ _ _ _ _ (pay26_at _ _ _ _ _ _ (pay26_at _ _ _ _ _ _ (pay26_at _ _ _ _ _ _ (pay26_at _ _ _ _ _ _ (pay26_at _ _ _ _ _ _ (pay26_at _ _ _ _ _ _
    (pay26_at _ _ _ _ _ _ z h0 k0) h1 k1) h2 k2) h3 k3) h4 k4) h5 k5) h6 k6) h7 k7]
  unfold dhR
  rw [Fin.sum_univ_eight, zero_add]

theorem pay29_at (v52 v214 : FVec Ideal S256x1024 .f32) (b : FVec Ideal S256x512 .bf16) (u : FVec Ideal S1x1024x512 .bf16) (v255 : FVec Ideal S1x1024 .f32)
    (x dh : Fin 256 → Fin 1024 → ℝ) (hx : ∀ p d, v52 (ix2 p d) = ((x p d : ℝ) : EReal))
    (hd : ∀ p d, k1_pay26 (F := Ideal) v214 b u (ix2 p d) = ((dh p d : ℝ) : EReal)) (d : Fin 1024) :
    k1_pay29 (F := Ideal) v52 v214 b u v255 (ix2 0 d) = v255 (ix2 0 d) + ((∑ p, dh p d * (x p d * rr (x p)) : ℝ) : EReal) := by
  unfold k1_pay29
  pointwise
  simp only [pay28_at v52 x hx, hd, ← EReal.coe_mul, ← coe_sum]

theorem pay30_at (v52 v77 v214 : FVec Ideal S256x1024 .f32) (b : FVec Ideal S256x512 .bf16) (u : FVec Ideal S1x1024x512 .bf16) (v239 : FVec Ideal S1x1024 .f32)
    (x dy dh : Fin 256 → Fin 1024 → ℝ) (g3 : Fin 1024 → ℝ) (hx : ∀ p d, v52 (ix2 p d) = ((x p d : ℝ) : EReal))
    (hy : ∀ p d, v77 (ix2 p d) = ((dy p d : ℝ) : EReal)) (hg : ∀ d, v239 (ix2 0 d) = ((g3 d : ℝ) : EReal))
    (hd : ∀ p d, k1_pay26 (F := Ideal) v214 b u (ix2 p d) = ((dh p d : ℝ) : EReal)) (p : Fin 256) (d : Fin 1024) :
    k1_pay30 (F := Ideal) v52 v77 v214 b u v239 (ix2 p d) = ((dy p d + rmsB (dh p) (x p) g3 d : ℝ) : EReal) := by
  unfold k1_pay30
  pointwise
  simp only [pay28_at v52 x hx, pay27_at v52 x hx, hd, hy, hg, ← EReal.coe_mul, ← coe_sum, div_n, ← EReal.coe_sub, ← EReal.coe_add]
  rfl

/-! ### The weights' gradients, tiles of 1024 tokens -/

theorem wup_at (v3 v5 : FVec Ideal S1024x1024 .bf16) (v8 : FVec Ideal S1x1024x512 .f32) (d : Fin 1024) (f : Fin 512) :
    k2_pay3 (F := Ideal) v3 v5 v8 (ix3 0 d f) = v8 (ix3 0 d f) + ∑ t : Fin 1024, v3 (ix2 t d) * v5 (ix2 t ⟨f.val, by omega⟩) := by
  unfold k2_pay3 k2_pay2
  pointwise [dot_S1024x1024_S1024x1024_S1024x1024_0_0_1_1_n_n]

theorem wup_at' (v3 v5 : FVec Ideal S1024x1024 .bf16) (v8 : FVec Ideal S1x1024x512 .f32) (d : Fin 1024) (f : Fin 512) :
    k2_pay4 (F := Ideal) v3 v5 v8 (ix3 0 d f) = v8 (ix3 0 d f) + ∑ t : Fin 1024, v3 (ix2 t d) * v5 (ix2 t ⟨512 + f.val, by omega⟩) := by
  unfold k2_pay4 k2_pay2
  pointwise [dot_S1024x1024_S1024x1024_S1024x1024_0_0_1_1_n_n]

theorem wdown_at (v3 v5 : FVec Ideal S1024x1024 .bf16) (v8 : FVec Ideal S1x512x1024 .f32) (f : Fin 512) (d : Fin 1024) :
    k3_pay3 (F := Ideal) v3 v5 v8 (ix3 0 f d) = v8 (ix3 0 f d) + ∑ t : Fin 1024, v3 (ix2 t ⟨f.val, by omega⟩) * v5 (ix2 t d) := by
  unfold k3_pay3 k3_pay2
  pointwise [dot_S1024x1024_S1024x1024_S1024x1024_0_0_1_1_n_n]

theorem wdown_at' (v3 v5 : FVec Ideal S1024x1024 .bf16) (v8 : FVec Ideal S1x512x1024 .f32) (f : Fin 512) (d : Fin 1024) :
    k3_pay4 (F := Ideal) v3 v5 v8 (ix3 0 f d) = v8 (ix3 0 f d) + ∑ t : Fin 1024, v3 (ix2 t ⟨512 + f.val, by omega⟩) * v5 (ix2 t d) := by
  unfold k3_pay4 k3_pay2
  pointwise [dot_S1024x1024_S1024x1024_S1024x1024_0_0_1_1_n_n]

end Cert.MlpIdeal.Value
end
-- ==== Proof.MlpOut.lean ====
/-
  What one grid step of the MLP gradient leaves in its output blocks, entry by entry.
-/
module
public import proofs.«01_k».proof.Proof.Gen.MlpIdeal.Frame.Region1
public import proofs.«01_k».proof.Proof.MlpPay
public import Idealize.ShloMosaic.Lib.Pipeline.ValueKit.Tiles
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MlpIdeal.Value
open Cert.MlpIdeal Cert.MlpIdeal.Gen Cert.MlpMath

theorem canon_hit {s : Shape} {e : EltTy} (off size : Fin s.rank → ℕ) (inb) (w : (Rect.unit off size inb).shape.Idx → Elt Ideal e)
    (L : List (View.Piece (Elt Ideal) s e)) (i : s.Idx) (x : (Rect.unit off size inb).shape.Idx) (hi : ∀ a, (i a : ℕ) = off a + x a) :
    View.canon (⟨Rect.unit off size inb, w⟩ :: L) i = w x := by
  have : i = (Rect.unit off size inb).emb x := by
    funext a
    apply Fin.ext
    rw [hi a]
    show _ = off a + 1 * x a
    omega
  rw [this]
  exact View.canon_cons_emb _ w L x

theorem canon_miss {s : Shape} {e : EltTy} (off size : Fin s.rank → ℕ) (inb) (w : (Rect.unit off size inb).shape.Idx → Elt Ideal e)
    (L : List (View.Piece (Elt Ideal) s e)) (i : s.Idx) (a : Fin s.rank) (h : (i a : ℕ) < off a ∨ off a + size a ≤ (i a : ℕ)) :
    View.canon (⟨Rect.unit off size inb, w⟩ :: L) i = View.canon L i := by
  refine View.canon_cons_of_not_mem _ L fun hm => ?_
  have := (Rect.mem_set_unit (inb := inb)).1 hm a
  omega

/-- Column `f` of shard `j`. -/
def col (j : Fin 8) (f : Fin 512) : Fin 4096 := ⟨512 * j.val + f.val, by have := j.isLt; have := f.isLt; omega⟩

theorem ld_act (x1 : Vec Ideal S256x4096 .bf16) (off : ℕ) (inb) (j : Fin 8) (h : 512 * j.val = off) (p : Fin 256) (f : Fin 512) :
    View.ld x1 (Rect.unit (s := S256x4096) ![0, off] ![256, 512] inb) (ix2 p f) = x1 (ix2 p (col j f)) :=
  View.ld_unit_apply_of x1 _ _ inb _ (ix2 p (col j f)) (fun a => by
    match a with
    | ⟨0, _⟩ => show p.val = 0 + p.val; omega
    | ⟨1, _⟩ => show 512 * j.val + f.val = off + f.val; omega)

theorem ld_down (x4 : Vec Ideal S8x512x1024 .bf16) (n : ℕ) (inb) (j : Fin 8) (h : j.val = n) (f : Fin 512) (d : Fin 1024) :
    View.ld x4 (Rect.unit (s := S8x512x1024) ![n, 0, 0] ![1, 512, 1024] inb) (ix3 0 f d) = x4 (ix3 j f d) :=
  View.ld_unit_apply_of x4 _ _ inb _ (ix3 j f d) (fun a => by
    match a with
    | ⟨0, _⟩ => show j.val = n + 0; omega
    | ⟨1, _⟩ => show f.val = 0 + f.val; omega
    | ⟨2, _⟩ => show d.val = 0 + d.val; omega)

theorem ld_up (x3 : Vec Ideal S8x1024x512 .bf16) (n : ℕ) (inb) (j : Fin 8) (h : j.val = n) (d : Fin 1024) (f : Fin 512) :
    View.ld x3 (Rect.unit (s := S8x1024x512) ![n, 0, 0] ![1, 1024, 512] inb) (ix3 0 d f) = x3 (ix3 j d f) :=
  View.ld_unit_apply_of x3 _ _ inb _ (ix3 j d f) (fun a => by
    match a with
    | ⟨0, _⟩ => show j.val = n + 0; omega
    | ⟨1, _⟩ => show d.val = 0 + d.val; omega
    | ⟨2, _⟩ => show f.val = 0 + f.val; omega)

theorem ld_tok (x : Vec Ideal S256x1024 .f32) (inb) (p : Fin 256) (d : Fin 1024) :
    View.ld x (Rect.unit (s := S256x1024) ![0, 0] ![256, 1024] inb) (ix2 p d) = x (ix2 p d) :=
  View.ld_unit_apply_of x _ _ inb _ (ix2 p d) (fun a => by
    match a with
    | ⟨0, _⟩ => show p.val = 0 + p.val; omega
    | ⟨1, _⟩ => show d.val = 0 + d.val; omega)

theorem ld_row (x : Vec Ideal S1x1024 .f32) (inb) (d : Fin 1024) :
    View.ld x (Rect.unit (s := S1x1024) ![0, 0] ![1, 1024] inb) (ix2 0 d) = x (ix2 0 d) :=
  View.ld_unit_apply_of x _ _ inb _ (ix2 0 d) (fun a => by
    match a with
    | ⟨0, _⟩ => rfl
    | ⟨1, _⟩ => show d.val = 0 + d.val; omega)

/-- The tile's operands as reals: `rl` is the root of the activations, which are its squares. -/
structure Blk (x0 : Vec Ideal S256x1024 .f32) (x1 : Vec Ideal S256x4096 .bf16) (x2 : Vec Ideal S256x1024 .f32) (x3 : Vec Ideal S8x1024x512 .bf16) (x4 : Vec Ideal S8x512x1024 .bf16) (x5 x6 : Vec Ideal S1x1024 .f32)
    (x tg : Fin 256 → Fin 1024 → ℝ) (rl : Fin 256 → Fin 8 → Fin 512 → ℝ) (WU : Fin 8 → Fin 1024 → Fin 512 → ℝ) (WD : Fin 8 → Fin 512 → Fin 1024 → ℝ) (g3 g4 : Fin 1024 → ℝ) : Prop where
  e0 : ∀ p d, x0 (ix2 p d) = ((x p d : ℝ) : EReal)
  e1 : ∀ p j f, x1 (ix2 p (col j f)) = ((rl p j f * rl p j f : ℝ) : EReal)
  pos : ∀ p j f, 0 ≤ rl p j f
  e2 : ∀ p d, x2 (ix2 p d) = ((tg p d : ℝ) : EReal)
  e3 : ∀ j d f, x3 (ix3 j d f) = ((WU j d f : ℝ) : EReal)
  e4 : ∀ j f d, x4 (ix3 j f d) = ((WD j f d : ℝ) : EReal)
  e5 : ∀ d, x5 (ix2 0 d) = ((g3 d : ℝ) : EReal)
  e6 : ∀ d, x6 (ix2 0 d) = ((g4 d : ℝ) : EReal)

/-- A row's down projection, from the root of its activations. -/
def ffS (rl : Fin 8 → Fin 512 → ℝ) (WD : Fin 8 → Fin 512 → Fin 1024 → ℝ) : Fin 1024 → ℝ := ffR (fun j f => rl j f * rl j f) WD

/-- A row's gradient in the down projection's result. -/
def dffS (x tg : Fin 1024 → ℝ) (rl : Fin 8 → Fin 512 → ℝ) (WD : Fin 8 → Fin 512 → Fin 1024 → ℝ) (g4 : Fin 1024 → ℝ) : Fin 1024 → ℝ := dffR x tg (ffS rl WD) g4

/-- A row's gradient in the up projection's result. -/
def daS (x tg : Fin 1024 → ℝ) (rl : Fin 8 → Fin 512 → ℝ) (WD : Fin 8 → Fin 512 → Fin 1024 → ℝ) (g4 : Fin 1024 → ℝ) : Fin 8 → Fin 512 → ℝ := daR (dffS x tg rl WD g4) WD rl

/-- A row's gradient in the normed input. -/
def dhS (x tg : Fin 1024 → ℝ) (rl : Fin 8 → Fin 512 → ℝ) (WU : Fin 8 → Fin 1024 → Fin 512 → ℝ) (WD : Fin 8 → Fin 512 → Fin 1024 → ℝ) (g4 : Fin 1024 → ℝ) : Fin 1024 → ℝ :=
  dhR (daS x tg rl WD g4) WU

/-- A row's gradient in the block's input. -/
def dxS (x tg : Fin 1024 → ℝ) (rl : Fin 8 → Fin 512 → ℝ) (WU : Fin 8 → Fin 1024 → Fin 512 → ℝ) (WD : Fin 8 → Fin 512 → Fin 1024 → ℝ) (g3 g4 : Fin 1024 → ℝ) (d : Fin 1024) : ℝ :=
  dyR x tg (ffS rl WD) g4 d + rmsB (dhS x tg rl WU WD g4) x g3 d

/-- A row's term of the first gain's gradient. -/
def dg3S (x tg : Fin 1024 → ℝ) (rl : Fin 8 → Fin 512 → ℝ) (WU : Fin 8 → Fin 1024 → Fin 512 → ℝ) (WD : Fin 8 → Fin 512 → Fin 1024 → ℝ) (g4 : Fin 1024 → ℝ) (d : Fin 1024) : ℝ :=
  dhS x tg rl WU WD g4 d * (x d * rr x)

/-- A row's term of the second gain's gradient. -/
def dg4S (x tg : Fin 1024 → ℝ) (rl : Fin 8 → Fin 512 → ℝ) (WD : Fin 8 → Fin 512 → Fin 1024 → ℝ) (g4 : Fin 1024 → ℝ) (d : Fin 1024) : ℝ :=
  dyR x tg (ffS rl WD) g4 d * (ffS rl WD d * rr (ffS rl WD))

section
variable (x1 : Vec Ideal S256x4096 .bf16) (x4 : Vec Ideal S8x512x1024 .bf16)
/-- The tile's down projection. -/
abbrev vff : FVec Ideal S256x1024 .f32 := k1_pay5 (F := Ideal) (k1_pay4 (F := Ideal) (View.ld x1 (Rect.unit (s := S256x4096) ![0, 0] ![256, 512] inb_S256x4096_S256x512_0_0)) (View.ld x4 (Rect.unit (s := S8x512x1024) ![0, 0, 0] ![1, 512, 1024] inb_S8x512x1024_S1x512x1024_0_0_0)) (View.ld x1 (Rect.unit (s := S256x4096) ![0, 512] ![256, 512] inb_S256x4096_S256x512_0_512)) (View.ld x4 (Rect.unit (s := S8x512x1024) ![1, 0, 0] ![1, 512, 1024] inb_S8x512x1024_S1x512x1024_1_0_0)) (View.ld x1 (Rect.unit (s := S256x4096) ![0, 1024] ![256, 512] inb_S256x4096_S256x512_0_1024)) (View.ld x4 (Rect.unit (s := S8x512x1024) ![2, 0, 0] ![1, 512, 1024] inb_S8x512x1024_S1x512x1024_2_0_0)) (View.ld x1 (Rect.unit (s := S256x4096) ![0, 1536] ![256, 512] inb_S256x4096_S256x512_0_1536)) (View.ld x4 (Rect.unit (s := S8x512x1024) ![3, 0, 0] ![1, 512, 1024] inb_S8x512x1024_S1x512x1024_3_0_0))) (View.ld x1 (Rect.unit (s := S256x4096) ![0, 2048] ![256, 512] inb_S256x4096_S256x512_0_2048)) (View.ld x4 (Rect.unit (s := S8x512x1024) ![4, 0, 0] ![1, 512, 1024] inb_S8x512x1024_S1x512x1024_4_0_0)) (View.ld x1 (Rect.unit (s := S256x4096) ![0, 2560] ![256, 512] inb_S256x4096_S256x512_0_2560)) (View.ld x4 (Rect.unit (s := S8x512x1024) ![5, 0, 0] ![1, 512, 1024] inb_S8x512x1024_S1x512x1024_5_0_0)) (View.ld x1 (Rect.unit (s := S256x4096) ![0, 3072] ![256, 512] inb_S256x4096_S256x512_0_3072)) (View.ld x4 (Rect.unit (s := S8x512x1024) ![6, 0, 0] ![1, 512, 1024] inb_S8x512x1024_S1x512x1024_6_0_0)) (View.ld x1 (Rect.unit (s := S256x4096) ![0, 3584] ![256, 512] inb_S256x4096_S256x512_0_3584)) (View.ld x4 (Rect.unit (s := S8x512x1024) ![7, 0, 0] ![1, 512, 1024] inb_S8x512x1024_S1x512x1024_7_0_0))
/-- The reciprocal root mean square of its rows. -/
abbrev vrr : FVec Ideal S256x1 .f32 := k1_pay6 (F := Ideal) (k1_pay4 (F := Ideal) (View.ld x1 (Rect.unit (s := S256x4096) ![0, 0] ![256, 512] inb_S256x4096_S256x512_0_0)) (View.ld x4 (Rect.unit (s := S8x512x1024) ![0, 0, 0] ![1, 512, 1024] inb_S8x512x1024_S1x512x1024_0_0_0)) (View.ld x1 (Rect.unit (s := S256x4096) ![0, 512] ![256, 512] inb_S256x4096_S256x512_0_512)) (View.ld x4 (Rect.unit (s := S8x512x1024) ![1, 0, 0] ![1, 512, 1024] inb_S8x512x1024_S1x512x1024_1_0_0)) (View.ld x1 (Rect.unit (s := S256x4096) ![0, 1024] ![256, 512] inb_S256x4096_S256x512_0_1024)) (View.ld x4 (Rect.unit (s := S8x512x1024) ![2, 0, 0] ![1, 512, 1024] inb_S8x512x1024_S1x512x1024_2_0_0)) (View.ld x1 (Rect.unit (s := S256x4096) ![0, 1536] ![256, 512] inb_S256x4096_S256x512_0_1536)) (View.ld x4 (Rect.unit (s := S8x512x1024) ![3, 0, 0] ![1, 512, 1024] inb_S8x512x1024_S1x512x1024_3_0_0))) (View.ld x1 (Rect.unit (s := S256x4096) ![0, 2048] ![256, 512] inb_S256x4096_S256x512_0_2048)) (View.ld x4 (Rect.unit (s := S8x512x1024) ![4, 0, 0] ![1, 512, 1024] inb_S8x512x1024_S1x512x1024_4_0_0)) (View.ld x1 (Rect.unit (s := S256x4096) ![0, 2560] ![256, 512] inb_S256x4096_S256x512_0_2560)) (View.ld x4 (Rect.unit (s := S8x512x1024) ![5, 0, 0] ![1, 512, 1024] inb_S8x512x1024_S1x512x1024_5_0_0)) (View.ld x1 (Rect.unit (s := S256x4096) ![0, 3072] ![256, 512] inb_S256x4096_S256x512_0_3072)) (View.ld x4 (Rect.unit (s := S8x512x1024) ![6, 0, 0] ![1, 512, 1024] inb_S8x512x1024_S1x512x1024_6_0_0)) (View.ld x1 (Rect.unit (s := S256x4096) ![0, 3584] ![256, 512] inb_S256x4096_S256x512_0_3584)) (View.ld x4 (Rect.unit (s := S8x512x1024) ![7, 0, 0] ![1, 512, 1024] inb_S8x512x1024_S1x512x1024_7_0_0))
/-- The same along each row. -/
abbrev vrb : FVec Ideal S256x1024 .f32 := k1_pay7 (F := Ideal) (k1_pay4 (F := Ideal) (View.ld x1 (Rect.unit (s := S256x4096) ![0, 0] ![256, 512] inb_S256x4096_S256x512_0_0)) (View.ld x4 (Rect.unit (s := S8x512x1024) ![0, 0, 0] ![1, 512, 1024] inb_S8x512x1024_S1x512x1024_0_0_0)) (View.ld x1 (Rect.unit (s := S256x4096) ![0, 512] ![256, 512] inb_S256x4096_S256x512_0_512)) (View.ld x4 (Rect.unit (s := S8x512x1024) ![1, 0, 0] ![1, 512, 1024] inb_S8x512x1024_S1x512x1024_1_0_0)) (View.ld x1 (Rect.unit (s := S256x4096) ![0, 1024] ![256, 512] inb_S256x4096_S256x512_0_1024)) (View.ld x4 (Rect.unit (s := S8x512x1024) ![2, 0, 0] ![1, 512, 1024] inb_S8x512x1024_S1x512x1024_2_0_0)) (View.ld x1 (Rect.unit (s := S256x4096) ![0, 1536] ![256, 512] inb_S256x4096_S256x512_0_1536)) (View.ld x4 (Rect.unit (s := S8x512x1024) ![3, 0, 0] ![1, 512, 1024] inb_S8x512x1024_S1x512x1024_3_0_0))) (View.ld x1 (Rect.unit (s := S256x4096) ![0, 2048] ![256, 512] inb_S256x4096_S256x512_0_2048)) (View.ld x4 (Rect.unit (s := S8x512x1024) ![4, 0, 0] ![1, 512, 1024] inb_S8x512x1024_S1x512x1024_4_0_0)) (View.ld x1 (Rect.unit (s := S256x4096) ![0, 2560] ![256, 512] inb_S256x4096_S256x512_0_2560)) (View.ld x4 (Rect.unit (s := S8x512x1024) ![5, 0, 0] ![1, 512, 1024] inb_S8x512x1024_S1x512x1024_5_0_0)) (View.ld x1 (Rect.unit (s := S256x4096) ![0, 3072] ![256, 512] inb_S256x4096_S256x512_0_3072)) (View.ld x4 (Rect.unit (s := S8x512x1024) ![6, 0, 0] ![1, 512, 1024] inb_S8x512x1024_S1x512x1024_6_0_0)) (View.ld x1 (Rect.unit (s := S256x4096) ![0, 3584] ![256, 512] inb_S256x4096_S256x512_0_3584)) (View.ld x4 (Rect.unit (s := S8x512x1024) ![7, 0, 0] ![1, 512, 1024] inb_S8x512x1024_S1x512x1024_7_0_0))
end
section
variable (x0 : Vec Ideal S256x1024 .f32) (x1 : Vec Ideal S256x4096 .bf16) (x2 : Vec Ideal S256x1024 .f32) (x3 : Vec Ideal S8x1024x512 .bf16) (x4 : Vec Ideal S8x512x1024 .bf16) (x6 : Vec Ideal S1x1024 .f32)
/-- The tile's gradient in the down projection's result. -/
abbrev vdff : FVec Ideal S256x1024 .bf16 := k1_pay13 (F := Ideal) (vff x1 x4) (View.ld x0 (Rect.unit (s := S256x1024) ![0, 0] ![256, 1024] inb_S256x1024_S256x1024_0_0)) (vrr x1 x4) (vrb x1 x4) (View.ld x6 (Rect.unit (s := S1x1024) ![0, 0] ![1, 1024] inb_S1x1024_S1x1024_0_0)) (View.ld x2 (Rect.unit (s := S256x1024) ![0, 0] ![256, 1024] inb_S256x1024_S256x1024_0_0)) (View.ld x6 (Rect.unit (s := S1x1024) ![0, 0] ![1, 1024] inb_S1x1024_S1x1024_0_0))

/-- Shard 0 of the tile's gradient in the up projection's result. -/
abbrev vda0 : FVec Ideal S256x512 .bf16 := k1_pay14 (F := Ideal) (vdff x0 x1 x2 x4 x6) (View.ld x1 (Rect.unit (s := S256x4096) ![0, 0] ![256, 512] inb_S256x4096_S256x512_0_0)) (View.ld x4 (Rect.unit (s := S8x512x1024) ![0, 0, 0] ![1, 512, 1024] inb_S8x512x1024_S1x512x1024_0_0_0))

/-- Shard 1 of the tile's gradient in the up projection's result. -/
abbrev vda1 : FVec Ideal S256x512 .bf16 := k1_pay16 (F := Ideal) (vdff x0 x1 x2 x4 x6) (View.ld x1 (Rect.unit (s := S256x4096) ![0, 512] ![256, 512] inb_S256x4096_S256x512_0_512)) (View.ld x4 (Rect.unit (s := S8x512x1024) ![1, 0, 0] ![1, 512, 1024] inb_S8x512x1024_S1x512x1024_1_0_0))

/-- Shard 2 of the tile's gradient in the up projection's result. -/
abbrev vda2 : FVec Ideal S256x512 .bf16 := k1_pay17 (F := Ideal) (vdff x0 x1 x2 x4 x6) (View.ld x1 (Rect.unit (s := S256x4096) ![0, 1024] ![256, 512] inb_S256x4096_S256x512_0_1024)) (View.ld x4 (Rect.unit (s := S8x512x1024) ![2, 0, 0] ![1, 512, 1024] inb_S8x512x1024_S1x512x1024_2_0_0))

/-- Shard 3 of the tile's gradient in the up projection's result. -/
abbrev vda3 : FVec Ideal S256x512 .bf16 := k1_pay19 (F := Ideal) (vdff x0 x1 x2 x4 x6) (View.ld x1 (Rect.unit (s := S256x4096) ![0, 1536] ![256, 512] inb_S256x4096_S256x512_0_1536)) (View.ld x4 (Rect.unit (s := S8x512x1024) ![3, 0, 0] ![1, 512, 1024] inb_S8x512x1024_S1x512x1024_3_0_0))

/-- Shard 4 of the tile's gradient in the up projection's result. -/
abbrev vda4 : FVec Ideal S256x512 .bf16 := k1_pay20 (F := Ideal) (vdff x0 x1 x2 x4 x6) (View.ld x1 (Rect.unit (s := S256x4096) ![0, 2048] ![256, 512] inb_S256x4096_S256x512_0_2048)) (View.ld x4 (Rect.unit (s := S8x512x1024) ![4, 0, 0] ![1, 512, 1024] inb_S8x512x1024_S1x512x1024_4_0_0))

/-- Shard 5 of the tile's gradient in the up projection's result. -/
abbrev vda5 : FVec Ideal S256x512 .bf16 := k1_pay22 (F := Ideal) (vdff x0 x1 x2 x4 x6) (View.ld x1 (Rect.unit (s := S256x4096) ![0, 2560] ![256, 512] inb_S256x4096_S256x512_0_2560)) (View.ld x4 (Rect.unit (s := S8x512x1024) ![5, 0, 0] ![1, 512, 1024] inb_S8x512x1024_S1x512x1024_5_0_0))

/-- Shard 6 of the tile's gradient in the up projection's result. -/
abbrev vda6 : FVec Ideal S256x512 .bf16 := k1_pay23 (F := Ideal) (vdff x0 x1 x2 x4 x6) (View.ld x1 (Rect.unit (s := S256x4096) ![0, 3072] ![256, 512] inb_S256x4096_S256x512_0_3072)) (View.ld x4 (Rect.unit (s := S8x512x1024) ![6, 0, 0] ![1, 512, 1024] inb_S8x512x1024_S1x512x1024_6_0_0))

/-- Shard 7 of the tile's gradient in the up projection's result. -/
abbrev vda7 : FVec Ideal S256x512 .bf16 := k1_pay25 (F := Ideal) (vdff x0 x1 x2 x4 x6) (View.ld x1 (Rect.unit (s := S256x4096) ![0, 3584] ![256, 512] inb_S256x4096_S256x512_0_3584)) (View.ld x4 (Rect.unit (s := S8x512x1024) ![7, 0, 0] ![1, 512, 1024] inb_S8x512x1024_S1x512x1024_7_0_0))

/-- The gradient in the normed input, the first seven shards' products. -/
abbrev vdh : FVec Ideal S256x1024 .f32 :=
  k1_pay24 (F := Ideal) (vdff x0 x1 x2 x4 x6) (k1_pay21 (vdff x0 x1 x2 x4 x6) (k1_pay18 (vdff x0 x1 x2 x4 x6) (k1_pay15 (vdff x0 x1 x2 x4 x6) (View.ld x1 (Rect.unit (s := S256x4096) ![0, 0] ![256, 512] inb_S256x4096_S256x512_0_0)) (View.ld x4 (Rect.unit (s := S8x512x1024) ![0, 0, 0] ![1, 512, 1024] inb_S8x512x1024_S1x512x1024_0_0_0)) (View.ld x3 (Rect.unit (s := S8x1024x512) ![0, 0, 0] ![1, 1024, 512] inb_S8x1024x512_S1x1024x512_0_0_0))) (vda1 x0 x1 x2 x4 x6) (View.ld x3 (Rect.unit (s := S8x1024x512) ![1, 0, 0] ![1, 1024, 512] inb_S8x1024x512_S1x1024x512_1_0_0)) (View.ld x1 (Rect.unit (s := S256x4096) ![0, 1024] ![256, 512] inb_S256x4096_S256x512_0_1024)) (View.ld x4 (Rect.unit (s := S8x512x1024) ![2, 0, 0] ![1, 512, 1024] inb_S8x512x1024_S1x512x1024_2_0_0)) (View.ld x3 (Rect.unit (s := S8x1024x512) ![2, 0, 0] ![1, 1024, 512] inb_S8x1024x512_S1x1024x512_2_0_0)))
    (vda3 x0 x1 x2 x4 x6) (View.ld x3 (Rect.unit (s := S8x1024x512) ![3, 0, 0] ![1, 1024, 512] inb_S8x1024x512_S1x1024x512_3_0_0)) (View.ld x1 (Rect.unit (s := S256x4096) ![0, 2048] ![256, 512] inb_S256x4096_S256x512_0_2048)) (View.ld x4 (Rect.unit (s := S8x512x1024) ![4, 0, 0] ![1, 512, 1024] inb_S8x512x1024_S1x512x1024_4_0_0)) (View.ld x3 (Rect.unit (s := S8x1024x512) ![4, 0, 0] ![1, 1024, 512] inb_S8x1024x512_S1x1024x512_4_0_0))) (vda5 x0 x1 x2 x4 x6) (View.ld x3 (Rect.unit (s := S8x1024x512) ![5, 0, 0] ![1, 1024, 512] inb_S8x1024x512_S1x1024x512_5_0_0)) (View.ld x1 (Rect.unit (s := S256x4096) ![0, 3072] ![256, 512] inb_S256x4096_S256x512_0_3072)) (View.ld x4 (Rect.unit (s := S8x512x1024) ![6, 0, 0] ![1, 512, 1024] inb_S8x512x1024_S1x512x1024_6_0_0)) (View.ld x3 (Rect.unit (s := S8x1024x512) ![6, 0, 0] ![1, 1024, 512] inb_S8x1024x512_S1x1024x512_6_0_0))
end

variable {x0 : Vec Ideal S256x1024 .f32} {x1 : Vec Ideal S256x4096 .bf16} {x2 : Vec Ideal S256x1024 .f32} {x3 : Vec Ideal S8x1024x512 .bf16} {x4 : Vec Ideal S8x512x1024 .bf16} {x5 : Vec Ideal S1x1024 .f32} {x6 : Vec Ideal S1x1024 .f32}
  {x tg : Fin 256 → Fin 1024 → ℝ} {rl : Fin 256 → Fin 8 → Fin 512 → ℝ} {WU : Fin 8 → Fin 1024 → Fin 512 → ℝ} {WD : Fin 8 → Fin 512 → Fin 1024 → ℝ} {g3 g4 : Fin 1024 → ℝ}
  (B : Blk x0 x1 x2 x3 x4 x5 x6 x tg rl WU WD g3 g4)
include B

theorem a_at (off : ℕ) (inb) (j : Fin 8) (h : 512 * j.val = off) (p : Fin 256) (f : Fin 512) :
    View.ld x1 (Rect.unit (s := S256x4096) ![0, off] ![256, 512] inb) (ix2 p f) = ((rl p j f * rl p j f : ℝ) : EReal) :=
  (ld_act x1 off inb j h p f).trans (B.e1 p j f)

theorem d_at (n : ℕ) (inb) (j : Fin 8) (h : j.val = n) (f : Fin 512) (d : Fin 1024) :
    View.ld x4 (Rect.unit (s := S8x512x1024) ![n, 0, 0] ![1, 512, 1024] inb) (ix3 0 f d) = ((WD j f d : ℝ) : EReal) :=
  (ld_down x4 n inb j h f d).trans (B.e4 j f d)

theorem u_at (n : ℕ) (inb) (j : Fin 8) (h : j.val = n) (d : Fin 1024) (f : Fin 512) :
    View.ld x3 (Rect.unit (s := S8x1024x512) ![n, 0, 0] ![1, 1024, 512] inb) (ix3 0 d f) = ((WU j d f : ℝ) : EReal) :=
  (ld_up x3 n inb j h d f).trans (B.e3 j d f)

theorem vff_at (p : Fin 256) (d : Fin 1024) : vff x1 x4 (ix2 p d) = ((ffS (rl p) WD d : ℝ) : EReal) :=
  pay5_at _ _ _ _ _ _ _ _ _ (fun p j f => rl p j f * rl p j f) WD
    (pay4_at _ _ _ _ _ _ _ _ (fun p j f => rl p j f * rl p j f) WD (a_at B _ _ 0 rfl) (a_at B _ _ 1 rfl) (a_at B _ _ 2 rfl) (a_at B _ _ 3 rfl) (d_at B _ _ 0 rfl) (d_at B _ _ 1 rfl) (d_at B _ _ 2 rfl) (d_at B _ _ 3 rfl))
    (a_at B _ _ 4 rfl) (a_at B _ _ 5 rfl) (a_at B _ _ 6 rfl) (a_at B _ _ 7 rfl) (d_at B _ _ 4 rfl) (d_at B _ _ 5 rfl) (d_at B _ _ 6 rfl) (d_at B _ _ 7 rfl) p d

theorem vrr_at (p : Fin 256) : vrr x1 x4 (ix2 p 0) = ((rr (ffS (rl p) WD) : ℝ) : EReal) := by
  unfold vrr
  rw [pay6_eq]
  exact pay27_at _ (fun p => ffS (rl p) WD) (vff_at B) p

theorem vrb_at (p : Fin 256) (d : Fin 1024) : vrb x1 x4 (ix2 p d) = ((rr (ffS (rl p) WD) : ℝ) : EReal) := by
  unfold vrb
  rw [pay7_at]
  exact vrr_at B p

theorem tile : Tile (vff x1 x4) (View.ld x0 (Rect.unit (s := S256x1024) ![0, 0] ![256, 1024] inb_S256x1024_S256x1024_0_0)) (vrb x1 x4) (View.ld x2 (Rect.unit (s := S256x1024) ![0, 0] ![256, 1024] inb_S256x1024_S256x1024_0_0)) (vrr x1 x4) (View.ld x6 (Rect.unit (s := S1x1024) ![0, 0] ![1, 1024] inb_S1x1024_S1x1024_0_0)) x tg (fun p => ffS (rl p) WD) g4 where
  h51 := vff_at B
  h52 := fun p d => (ld_tok x0 _ p d).trans (B.e0 p d)
  h60 := vrr_at B
  h61 := vrb_at B
  h63 := fun d => (ld_row x6 _ d).trans (B.e6 d)
  h67 := fun p d => (ld_tok x2 _ p d).trans (B.e2 p d)

theorem vdff_at (p : Fin 256) (d : Fin 1024) : vdff x0 x1 x2 x4 x6 (ix2 p d) = ((dffS (x p) (tg p) (rl p) WD g4 d : ℝ) : EReal) :=
  pay13_at (tile B) p d

theorem vda0_at (p : Fin 256) (f : Fin 512) : vda0 x0 x1 x2 x4 x6 (ix2 p f) = ((daS (x p) (tg p) (rl p) WD g4 0 f : ℝ) : EReal) :=
  pay14_at _ _ _ (fun p => dffS (x p) (tg p) (rl p) WD g4) (fun p f => rl p 0 f) (WD 0) (vdff_at B) (a_at B _ _ 0 rfl) (fun p f => B.pos p 0 f) (d_at B _ _ 0 rfl) p f

theorem vda1_at (p : Fin 256) (f : Fin 512) : vda1 x0 x1 x2 x4 x6 (ix2 p f) = ((daS (x p) (tg p) (rl p) WD g4 1 f : ℝ) : EReal) :=
  pay14_at _ _ _ (fun p => dffS (x p) (tg p) (rl p) WD g4) (fun p f => rl p 1 f) (WD 1) (vdff_at B) (a_at B _ _ 1 rfl) (fun p f => B.pos p 1 f) (d_at B _ _ 1 rfl) p f

theorem vda2_at (p : Fin 256) (f : Fin 512) : vda2 x0 x1 x2 x4 x6 (ix2 p f) = ((daS (x p) (tg p) (rl p) WD g4 2 f : ℝ) : EReal) :=
  pay14_at _ _ _ (fun p => dffS (x p) (tg p) (rl p) WD g4) (fun p f => rl p 2 f) (WD 2) (vdff_at B) (a_at B _ _ 2 rfl) (fun p f => B.pos p 2 f) (d_at B _ _ 2 rfl) p f

theorem vda3_at (p : Fin 256) (f : Fin 512) : vda3 x0 x1 x2 x4 x6 (ix2 p f) = ((daS (x p) (tg p) (rl p) WD g4 3 f : ℝ) : EReal) :=
  pay14_at _ _ _ (fun p => dffS (x p) (tg p) (rl p) WD g4) (fun p f => rl p 3 f) (WD 3) (vdff_at B) (a_at B _ _ 3 rfl) (fun p f => B.pos p 3 f) (d_at B _ _ 3 rfl) p f

theorem vda4_at (p : Fin 256) (f : Fin 512) : vda4 x0 x1 x2 x4 x6 (ix2 p f) = ((daS (x p) (tg p) (rl p) WD g4 4 f : ℝ) : EReal) :=
  pay14_at _ _ _ (fun p => dffS (x p) (tg p) (rl p) WD g4) (fun p f => rl p 4 f) (WD 4) (vdff_at B) (a_at B _ _ 4 rfl) (fun p f => B.pos p 4 f) (d_at B _ _ 4 rfl) p f

theorem vda5_at (p : Fin 256) (f : Fin 512) : vda5 x0 x1 x2 x4 x6 (ix2 p f) = ((daS (x p) (tg p) (rl p) WD g4 5 f : ℝ) : EReal) :=
  pay14_at _ _ _ (fun p => dffS (x p) (tg p) (rl p) WD g4) (fun p f => rl p 5 f) (WD 5) (vdff_at B) (a_at B _ _ 5 rfl) (fun p f => B.pos p 5 f) (d_at B _ _ 5 rfl) p f

theorem vda6_at (p : Fin 256) (f : Fin 512) : vda6 x0 x1 x2 x4 x6 (ix2 p f) = ((daS (x p) (tg p) (rl p) WD g4 6 f : ℝ) : EReal) :=
  pay14_at _ _ _ (fun p => dffS (x p) (tg p) (rl p) WD g4) (fun p f => rl p 6 f) (WD 6) (vdff_at B) (a_at B _ _ 6 rfl) (fun p f => B.pos p 6 f) (d_at B _ _ 6 rfl) p f

theorem vda7_at (p : Fin 256) (f : Fin 512) : vda7 x0 x1 x2 x4 x6 (ix2 p f) = ((daS (x p) (tg p) (rl p) WD g4 7 f : ℝ) : EReal) :=
  pay14_at _ _ _ (fun p => dffS (x p) (tg p) (rl p) WD g4) (fun p f => rl p 7 f) (WD 7) (vdff_at B) (a_at B _ _ 7 rfl) (fun p f => B.pos p 7 f) (d_at B _ _ 7 rfl) p f

theorem vdh_at (p : Fin 256) (d : Fin 1024) :
    k1_pay26 (F := Ideal) (vdh x0 x1 x2 x3 x4 x6) (vda7 x0 x1 x2 x4 x6) (View.ld x3 (Rect.unit (s := S8x1024x512) ![7, 0, 0] ![1, 1024, 512] inb_S8x1024x512_S1x1024x512_7_0_0)) (ix2 p d) = ((dhS (x p) (tg p) (rl p) WU WD g4 d : ℝ) : EReal) := by
  unfold vdh
  rw [pay24_eq, pay21_eq, pay18_eq, pay15_eq]
  exact dh_at _ _ _ _ _ _ _ _ _ _ _ _ _ _ _ _ (fun p => daS (x p) (tg p) (rl p) WD g4) WU (vda0_at B) (vda1_at B) (vda2_at B) (vda3_at B) (vda4_at B) (vda5_at B) (vda6_at B) (vda7_at B)
    (u_at B _ _ 0 rfl) (u_at B _ _ 1 rfl) (u_at B _ _ 2 rfl) (u_at B _ _ 3 rfl) (u_at B _ _ 4 rfl) (u_at B _ _ 5 rfl) (u_at B _ _ 6 rfl) (u_at B _ _ 7 rfl) p d

theorem vdx_at (p : Fin 256) (d : Fin 1024) :
    k1_pay30 (F := Ideal) (View.ld x0 (Rect.unit (s := S256x1024) ![0, 0] ![256, 1024] inb_S256x1024_S256x1024_0_0)) (k1_pay10 (vff x1 x4) (View.ld x0 (Rect.unit (s := S256x1024) ![0, 0] ![256, 1024] inb_S256x1024_S256x1024_0_0)) (vrb x1 x4) (View.ld x6 (Rect.unit (s := S1x1024) ![0, 0] ![1, 1024] inb_S1x1024_S1x1024_0_0)) (View.ld x2 (Rect.unit (s := S256x1024) ![0, 0] ![256, 1024] inb_S256x1024_S256x1024_0_0))) (vdh x0 x1 x2 x3 x4 x6) (vda7 x0 x1 x2 x4 x6) (View.ld x3 (Rect.unit (s := S8x1024x512) ![7, 0, 0] ![1, 1024, 512] inb_S8x1024x512_S1x1024x512_7_0_0)) (View.ld x5 (Rect.unit (s := S1x1024) ![0, 0] ![1, 1024] inb_S1x1024_S1x1024_0_0)) (ix2 p d)
      = ((dxS (x p) (tg p) (rl p) WU WD g3 g4 d : ℝ) : EReal) :=
  pay30_at _ _ _ _ _ _ x (fun p => dyR (x p) (tg p) (ffS (rl p) WD) g4) (fun p => dhS (x p) (tg p) (rl p) WU WD g4) g3 (tile B).h52 (pay10_at (tile B))
    (fun d => (ld_row x5 _ d).trans (B.e5 d)) (vdh_at B) p d

theorem vdg3_at (q : FVec Ideal S1x1024 .f32) (d : Fin 1024) :
    k1_pay29 (F := Ideal) (View.ld x0 (Rect.unit (s := S256x1024) ![0, 0] ![256, 1024] inb_S256x1024_S256x1024_0_0)) (vdh x0 x1 x2 x3 x4 x6) (vda7 x0 x1 x2 x4 x6) (View.ld x3 (Rect.unit (s := S8x1024x512) ![7, 0, 0] ![1, 1024, 512] inb_S8x1024x512_S1x1024x512_7_0_0)) q (ix2 0 d)
      = q (ix2 0 d) + ((∑ p, dg3S (x p) (tg p) (rl p) WU WD g4 d : ℝ) : EReal) :=
  pay29_at _ _ _ _ _ x (fun p => dhS (x p) (tg p) (rl p) WU WD g4) (tile B).h52 (vdh_at B) d

theorem vdg4_at (q : FVec Ideal S1x1024 .f32) (d : Fin 1024) :
    k1_pay12 (F := Ideal) (vff x1 x4) (View.ld x0 (Rect.unit (s := S256x1024) ![0, 0] ![256, 1024] inb_S256x1024_S256x1024_0_0)) (vrr x1 x4) (vrb x1 x4) (View.ld x6 (Rect.unit (s := S1x1024) ![0, 0] ![1, 1024] inb_S1x1024_S1x1024_0_0)) (View.ld x2 (Rect.unit (s := S256x1024) ![0, 0] ![256, 1024] inb_S256x1024_S256x1024_0_0)) q (ix2 0 d)
      = q (ix2 0 d) + ((∑ p, dg4S (x p) (tg p) (rl p) WD g4 d : ℝ) : EReal) :=
  pay12_at (tile B) q d

theorem out_A7 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (p : Fin 256) (j : Fin 8) (f : Fin 512) :
    out1_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p (col j f)) = ((daS (x p) (tg p) (rl p) WD g4 j f : ℝ) : EReal) := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread]
  match j with
  | 0 =>
    refine (canon_miss _ _ _ _ _ _ (1 : Fin 2) (Or.inl (by show 512 * 0 + f.val < 3584; omega))).trans ?_
    refine (canon_miss _ _ _ _ _ _ (1 : Fin 2) (Or.inl (by show 512 * 0 + f.val < 3072; omega))).trans ?_
    refine (canon_miss _ _ _ _ _ _ (1 : Fin 2) (Or.inl (by show 512 * 0 + f.val < 2560; omega))).trans ?_
    refine (canon_miss _ _ _ _ _ _ (1 : Fin 2) (Or.inl (by show 512 * 0 + f.val < 2048; omega))).trans ?_
    refine (canon_miss _ _ _ _ _ _ (1 : Fin 2) (Or.inl (by show 512 * 0 + f.val < 1536; omega))).trans ?_
    refine (canon_miss _ _ _ _ _ _ (1 : Fin 2) (Or.inl (by show 512 * 0 + f.val < 1024; omega))).trans ?_
    refine (canon_miss _ _ _ _ _ _ (1 : Fin 2) (Or.inl (by show 512 * 0 + f.val < 512; omega))).trans ?_
    refine (canon_hit _ _ _ _ _ _ (ix2 p f) (fun a => by
      match a with
      | ⟨0, _⟩ => show p.val = 0 + p.val; omega
      | ⟨1, _⟩ => show 512 * 0 + f.val = 0 + f.val; omega)).trans ?_
    exact vda0_at B p f
  | 1 =>
    refine (canon_miss _ _ _ _ _ _ (1 : Fin 2) (Or.inl (by show 512 * 1 + f.val < 3584; omega))).trans ?_
    refine (canon_miss _ _ _ _ _ _ (1 : Fin 2) (Or.inl (by show 512 * 1 + f.val < 3072; omega))).trans ?_
    refine (canon_miss _ _ _ _ _ _ (1 : Fin 2) (Or.inl (by show 512 * 1 + f.val < 2560; omega))).trans ?_
    refine (canon_miss _ _ _ _ _ _ (1 : Fin 2) (Or.inl (by show 512 * 1 + f.val < 2048; omega))).trans ?_
    refine (canon_miss _ _ _ _ _ _ (1 : Fin 2) (Or.inl (by show 512 * 1 + f.val < 1536; omega))).trans ?_
    refine (canon_miss _ _ _ _ _ _ (1 : Fin 2) (Or.inl (by show 512 * 1 + f.val < 1024; omega))).trans ?_
    refine (canon_hit _ _ _ _ _ _ (ix2 p f) (fun a => by
      match a with
      | ⟨0, _⟩ => show p.val = 0 + p.val; omega
      | ⟨1, _⟩ => show 512 * 1 + f.val = 512 + f.val; omega)).trans ?_
    exact vda1_at B p f
  | 2 =>
    refine (canon_miss _ _ _ _ _ _ (1 : Fin 2) (Or.inl (by show 512 * 2 + f.val < 3584; omega))).trans ?_
    refine (canon_miss _ _ _ _ _ _ (1 : Fin 2) (Or.inl (by show 512 * 2 + f.val < 3072; omega))).trans ?_
    refine (canon_miss _ _ _ _ _ _ (1 : Fin 2) (Or.inl (by show 512 * 2 + f.val < 2560; omega))).trans ?_
    refine (canon_miss _ _ _ _ _ _ (1 : Fin 2) (Or.inl (by show 512 * 2 + f.val < 2048; omega))).trans ?_
    refine (canon_miss _ _ _ _ _ _ (1 : Fin 2) (Or.inl (by show 512 * 2 + f.val < 1536; omega))).trans ?_
    refine (canon_hit _ _ _ _ _ _ (ix2 p f) (fun a => by
      match a with
      | ⟨0, _⟩ => show p.val = 0 + p.val; omega
      | ⟨1, _⟩ => show 512 * 2 + f.val = 1024 + f.val; omega)).trans ?_
    exact vda2_at B p f
  | 3 =>
    refine (canon_miss _ _ _ _ _ _ (1 : Fin 2) (Or.inl (by show 512 * 3 + f.val < 3584; omega))).trans ?_
    refine (canon_miss _ _ _ _ _ _ (1 : Fin 2) (Or.inl (by show 512 * 3 + f.val < 3072; omega))).trans ?_
    refine (canon_miss _ _ _ _ _ _ (1 : Fin 2) (Or.inl (by show 512 * 3 + f.val < 2560; omega))).trans ?_
    refine (canon_miss _ _ _ _ _ _ (1 : Fin 2) (Or.inl (by show 512 * 3 + f.val < 2048; omega))).trans ?_
    refine (canon_hit _ _ _ _ _ _ (ix2 p f) (fun a => by
      match a with
      | ⟨0, _⟩ => show p.val = 0 + p.val; omega
      | ⟨1, _⟩ => show 512 * 3 + f.val = 1536 + f.val; omega)).trans ?_
    exact vda3_at B p f
  | 4 =>
    refine (canon_miss _ _ _ _ _ _ (1 : Fin 2) (Or.inl (by show 512 * 4 + f.val < 3584; omega))).trans ?_
    refine (canon_miss _ _ _ _ _ _ (1 : Fin 2) (Or.inl (by show 512 * 4 + f.val < 3072; omega))).trans ?_
    refine (canon_miss _ _ _ _ _ _ (1 : Fin 2) (Or.inl (by show 512 * 4 + f.val < 2560; omega))).trans ?_
    refine (canon_hit _ _ _ _ _ _ (ix2 p f) (fun a => by
      match a with
      | ⟨0, _⟩ => show p.val = 0 + p.val; omega
      | ⟨1, _⟩ => show 512 * 4 + f.val = 2048 + f.val; omega)).trans ?_
    exact vda4_at B p f
  | 5 =>
    refine (canon_miss _ _ _ _ _ _ (1 : Fin 2) (Or.inl (by show 512 * 5 + f.val < 3584; omega))).trans ?_
    refine (canon_miss _ _ _ _ _ _ (1 : Fin 2) (Or.inl (by show 512 * 5 + f.val < 3072; omega))).trans ?_
    refine (canon_hit _ _ _ _ _ _ (ix2 p f) (fun a => by
      match a with
      | ⟨0, _⟩ => show p.val = 0 + p.val; omega
      | ⟨1, _⟩ => show 512 * 5 + f.val = 2560 + f.val; omega)).trans ?_
    exact vda5_at B p f
  | 6 =>
    refine (canon_miss _ _ _ _ _ _ (1 : Fin 2) (Or.inl (by show 512 * 6 + f.val < 3584; omega))).trans ?_
    refine (canon_hit _ _ _ _ _ _ (ix2 p f) (fun a => by
      match a with
      | ⟨0, _⟩ => show p.val = 0 + p.val; omega
      | ⟨1, _⟩ => show 512 * 6 + f.val = 3072 + f.val; omega)).trans ?_
    exact vda6_at B p f
  | 7 =>
    refine (canon_hit _ _ _ _ _ _ (ix2 p f) (fun a => by
      match a with
      | ⟨0, _⟩ => show p.val = 0 + p.val; omega
      | ⟨1, _⟩ => show 512 * 7 + f.val = 3584 + f.val; omega)).trans ?_
    exact vda7_at B p f

theorem out_A8 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (p : Fin 256) (d : Fin 1024) :
    out1_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p d) = ((dffS (x p) (tg p) (rl p) WD g4 d : ℝ) : EReal) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread]
  refine (canon_hit _ _ _ _ _ _ (ix2 p d) (fun a => by
    match a with
    | ⟨0, _⟩ => show p.val = 0 + p.val; omega
    | ⟨1, _⟩ => show d.val = 0 + d.val; omega)).trans ?_
  exact vdff_at B p d

theorem out_A9 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (p : Fin 256) (d : Fin 1024) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p d) = ((dxS (x p) (tg p) (rl p) WU WD g3 g4 d : ℝ) : EReal) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread]
  refine (canon_hit _ _ _ _ _ _ (ix2 p d) (fun a => by
    match a with
    | ⟨0, _⟩ => show p.val = 0 + p.val; omega
    | ⟨1, _⟩ => show d.val = 0 + d.val; omega)).trans ?_
  exact vdx_at B p d

theorem out_A10 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (d : Fin 1024) :
    out1_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 0 d) = ((∑ p, dg3S (x p) (tg p) (rl p) WU WD g4 d : ℝ) : EReal) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread]
  simp only [View.readCov_eq_canon']
  refine (canon_hit _ _ _ _ _ _ (ix2 0 d) (fun a => by
    match a with
    | ⟨0, _⟩ => rfl
    | ⟨1, _⟩ => show d.val = 0 + d.val; omega)).trans ?_
  refine (vdg3_at B _ d).trans ?_
  refine (congrArg₂ (· + ·) ?_ rfl).trans (zero_add _)
  refine (canon_hit _ _ _ _ _ _ (ix2 0 d) (fun a => by
    match a with
    | ⟨0, _⟩ => rfl
    | ⟨1, _⟩ => show 0 + 1 * d.val = 0 + d.val; omega)).trans ?_
  exact Ideal.ofBits_zero_f32

theorem out_A11 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (d : Fin 1024) :
    out1_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 0 d) = ((∑ p, dg4S (x p) (tg p) (rl p) WD g4 d : ℝ) : EReal) := by
  unfold out1_A_11
  rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread]
  simp only [View.readCov_eq_canon']
  refine (canon_hit _ _ _ _ _ _ (ix2 0 d) (fun a => by
    match a with
    | ⟨0, _⟩ => rfl
    | ⟨1, _⟩ => show d.val = 0 + d.val; omega)).trans ?_
  refine (vdg4_at B _ d).trans ?_
  refine (congrArg₂ (· + ·) ?_ rfl).trans (zero_add _)
  refine (canon_hit _ _ _ _ _ _ (ix2 0 d) (fun a => by
    match a with
    | ⟨0, _⟩ => rfl
    | ⟨1, _⟩ => show 0 + 1 * d.val = 0 + d.val; omega)).trans ?_
  exact Ideal.ofBits_zero_f32

theorem out_B7 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (xo10 xo11 xo12 : Vec Ideal S1x1024 .f32) (p : Fin 256) (j : Fin 8) (f : Fin 512) :
    out1_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12 (ix2 p (col j f)) = ((daS (x p) (tg p) (rl p) WD g4 j f : ℝ) : EReal) := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12)]
  unfold kernelRun1_B
  dsimp only
  sl_unfold_words
  simp only [View.readAt_eq_ld, harg1.read_unread, harg2.read_unread, harg3.read_unread, harg4.read_unread, harg5.read_unread, harg6.read_unread, harg7.read_unread, harg11.read_unread, harg12.read_unread, harg13.read_unread]
  match j with
  | 0 =>
    refine (canon_miss _ _ _ _ _ _ (1 : Fin 2) (Or.inl (by show 512 * 0 + f.val < 3584; omega))).trans ?_
    refine (canon_miss _ _ _ _ _ _ (1 : Fin 2) (Or.inl (by show 512 * 0 + f.val < 3072; omega))).trans ?_
    refine (canon_miss _ _ _ _ _ _ (1 : Fin 2) (Or.inl (by show 512 * 0 + f.val < 2560; omega))).trans ?_
    refine (canon_miss _ _ _ _ _ _ (1 : Fin 2) (Or.inl (by show 512 * 0 + f.val < 2048; omega))).trans ?_
    refine (canon_miss _ _ _ _ _ _ (1 : Fin 2) (Or.inl (by show 512 * 0 + f.val < 1536; omega))).trans ?_
    refine (canon_miss _ _ _ _ _ _ (1 : Fin 2) (Or.inl (by show 512 * 0 + f.val < 1024; omega))).trans ?_
    refine (canon_miss _ _ _ _ _ _ (1 : Fin 2) (Or.inl (by show 512 * 0 + f.val < 512; omega))).trans ?_
    refine (canon_hit _ _ _ _ _ _ (ix2 p f) (fun a => by
      match a with
      | ⟨0, _⟩ => show p.val = 0 + p.val; omega
      | ⟨1, _⟩ => show 512 * 0 + f.val = 0 + f.val; omega)).trans ?_
    exact vda0_at B p f
  | 1 =>
    refine (canon_miss _ _ _ _ _ _ (1 : Fin 2) (Or.inl (by show 512 * 1 + f.val < 3584; omega))).trans ?_
    refine (canon_miss _ _ _ _ _ _ (1 : Fin 2) (Or.inl (by show 512 * 1 + f.val < 3072; omega))).trans ?_
    refine (canon_miss _ _ _ _ _ _ (1 : Fin 2) (Or.inl (by show 512 * 1 + f.val < 2560; omega))).trans ?_
    refine (canon_miss _ _ _ _ _ _ (1 : Fin 2) (Or.inl (by show 512 * 1 + f.val < 2048; omega))).trans ?_
    refine (canon_miss _ _ _ _ _ _ (1 : Fin 2) (Or.inl (by show 512 * 1 + f.val < 1536; omega))).trans ?_
    refine (canon_miss _ _ _ _ _ _ (1 : Fin 2) (Or.inl (by show 512 * 1 + f.val < 1024; omega))).trans ?_
    refine (canon_hit _ _ _ _ _ _ (ix2 p f) (fun a => by
      match a with
      | ⟨0, _⟩ => show p.val = 0 + p.val; omega
      | ⟨1, _⟩ => show 512 * 1 + f.val = 512 + f.val; omega)).trans ?_
    exact vda1_at B p f
  | 2 =>
    refine (canon_miss _ _ _ _ _ _ (1 : Fin 2) (Or.inl (by show 512 * 2 + f.val < 3584; omega))).trans ?_
    refine (canon_miss _ _ _ _ _ _ (1 : Fin 2) (Or.inl (by show 512 * 2 + f.val < 3072; omega))).trans ?_
    refine (canon_miss _ _ _ _ _ _ (1 : Fin 2) (Or.inl (by show 512 * 2 + f.val < 2560; omega))).trans ?_
    refine (canon_miss _ _ _ _ _ _ (1 : Fin 2) (Or.inl (by show 512 * 2 + f.val < 2048; omega))).trans ?_
    refine (canon_miss _ _ _ _ _ _ (1 : Fin 2) (Or.inl (by show 512 * 2 + f.val < 1536; omega))).trans ?_
    refine (canon_hit _ _ _ _ _ _ (ix2 p f) (fun a => by
      match a with
      | ⟨0, _⟩ => show p.val = 0 + p.val; omega
      | ⟨1, _⟩ => show 512 * 2 + f.val = 1024 + f.val; omega)).trans ?_
    exact vda2_at B p f
  | 3 =>
    refine (canon_miss _ _ _ _ _ _ (1 : Fin 2) (Or.inl (by show 512 * 3 + f.val < 3584; omega))).trans ?_
    refine (canon_miss _ _ _ _ _ _ (1 : Fin 2) (Or.inl (by show 512 * 3 + f.val < 3072; omega))).trans ?_
    refine (canon_miss _ _ _ _ _ _ (1 : Fin 2) (Or.inl (by show 512 * 3 + f.val < 2560; omega))).trans ?_
    refine (canon_miss _ _ _ _ _ _ (1 : Fin 2) (Or.inl (by show 512 * 3 + f.val < 2048; omega))).trans ?_
    refine (canon_hit _ _ _ _ _ _ (ix2 p f) (fun a => by
      match a with
      | ⟨0, _⟩ => show p.val = 0 + p.val; omega
      | ⟨1, _⟩ => show 512 * 3 + f.val = 1536 + f.val; omega)).trans ?_
    exact vda3_at B p f
  | 4 =>
    refine (canon_miss _ _ _ _ _ _ (1 : Fin 2) (Or.inl (by show 512 * 4 + f.val < 3584; omega))).trans ?_
    refine (canon_miss _ _ _ _ _ _ (1 : Fin 2) (Or.inl (by show 512 * 4 + f.val < 3072; omega))).trans ?_
    refine (canon_miss _ _ _ _ _ _ (1 : Fin 2) (Or.inl (by show 512 * 4 + f.val < 2560; omega))).trans ?_
    refine (canon_hit _ _ _ _ _ _ (ix2 p f) (fun a => by
      match a with
      | ⟨0, _⟩ => show p.val = 0 + p.val; omega
      | ⟨1, _⟩ => show 512 * 4 + f.val = 2048 + f.val; omega)).trans ?_
    exact vda4_at B p f
  | 5 =>
    refine (canon_miss _ _ _ _ _ _ (1 : Fin 2) (Or.inl (by show 512 * 5 + f.val < 3584; omega))).trans ?_
    refine (canon_miss _ _ _ _ _ _ (1 : Fin 2) (Or.inl (by show 512 * 5 + f.val < 3072; omega))).trans ?_
    refine (canon_hit _ _ _ _ _ _ (ix2 p f) (fun a => by
      match a with
      | ⟨0, _⟩ => show p.val = 0 + p.val; omega
      | ⟨1, _⟩ => show 512 * 5 + f.val = 2560 + f.val; omega)).trans ?_
    exact vda5_at B p f
  | 6 =>
    refine (canon_miss _ _ _ _ _ _ (1 : Fin 2) (Or.inl (by show 512 * 6 + f.val < 3584; omega))).trans ?_
    refine (canon_hit _ _ _ _ _ _ (ix2 p f) (fun a => by
      match a with
      | ⟨0, _⟩ => show p.val = 0 + p.val; omega
      | ⟨1, _⟩ => show 512 * 6 + f.val = 3072 + f.val; omega)).trans ?_
    exact vda6_at B p f
  | 7 =>
    refine (canon_hit _ _ _ _ _ _ (ix2 p f) (fun a => by
      match a with
      | ⟨0, _⟩ => show p.val = 0 + p.val; omega
      | ⟨1, _⟩ => show 512 * 7 + f.val = 3584 + f.val; omega)).trans ?_
    exact vda7_at B p f

theorem out_B8 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (xo10 xo11 xo12 : Vec Ideal S1x1024 .f32) (p : Fin 256) (d : Fin 1024) :
    out1_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12 (ix2 p d) = ((dffS (x p) (tg p) (rl p) WD g4 d : ℝ) : EReal) := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12)]
  unfold kernelRun1_B
  dsimp only
  sl_unfold_words
  simp only [View.readAt_eq_ld, harg1.read_unread, harg2.read_unread, harg3.read_unread, harg4.read_unread, harg5.read_unread, harg6.read_unread, harg7.read_unread, harg11.read_unread, harg12.read_unread, harg13.read_unread]
  refine (canon_hit _ _ _ _ _ _ (ix2 p d) (fun a => by
    match a with
    | ⟨0, _⟩ => show p.val = 0 + p.val; omega
    | ⟨1, _⟩ => show d.val = 0 + d.val; omega)).trans ?_
  exact vdff_at B p d

theorem out_B9 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (xo10 xo11 xo12 : Vec Ideal S1x1024 .f32) (p : Fin 256) (d : Fin 1024) :
    out1_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12 (ix2 p d) = ((dxS (x p) (tg p) (rl p) WU WD g3 g4 d : ℝ) : EReal) := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12)]
  unfold kernelRun1_B
  dsimp only
  sl_unfold_words
  simp only [View.readAt_eq_ld, harg1.read_unread, harg2.read_unread, harg3.read_unread, harg4.read_unread, harg5.read_unread, harg6.read_unread, harg7.read_unread, harg11.read_unread, harg12.read_unread, harg13.read_unread]
  refine (canon_hit _ _ _ _ _ _ (ix2 p d) (fun a => by
    match a with
    | ⟨0, _⟩ => show p.val = 0 + p.val; omega
    | ⟨1, _⟩ => show d.val = 0 + d.val; omega)).trans ?_
  exact vdx_at B p d

theorem out_B10 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (xo10 xo11 xo12 : Vec Ideal S1x1024 .f32) (d : Fin 1024) :
    out1_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12 (ix2 0 d) = xo10 (ix2 0 d) + ((∑ p, dg3S (x p) (tg p) (rl p) WU WD g4 d : ℝ) : EReal) := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12)]
  unfold kernelRun1_B
  dsimp only
  sl_unfold_words
  simp only [View.readAt_eq_ld, harg1.read_unread, harg2.read_unread, harg3.read_unread, harg4.read_unread, harg5.read_unread, harg6.read_unread, harg7.read_unread, harg11.read_unread, harg12.read_unread, harg13.read_unread]
  refine (canon_hit _ _ _ _ _ _ (ix2 0 d) (fun a => by
    match a with
    | ⟨0, _⟩ => rfl
    | ⟨1, _⟩ => show d.val = 0 + d.val; omega)).trans ?_
  refine (vdg3_at B _ d).trans ?_
  exact congrArg₂ (· + ·) (ld_row xo10 _ d) rfl

theorem out_B11 (c : Dev nD) (i : grid1.Coords) (arg1 : Memref sig .tc .vmem S256x1024 .f32) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S8x512x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (xo10 xo11 xo12 : Vec Ideal S1x1024 .f32) (d : Fin 1024) :
    out1_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12 (ix2 0 d) = xo11 (ix2 0 d) + ((∑ p, dg4S (x p) (tg p) (rl p) WD g4 d : ℝ) : EReal) := by
  unfold out1_B_11
  rw [View.read_writes_eq_canon _ _ _ (cover1_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo10 xo11 xo12)]
  unfold kernelRun1_B
  dsimp only
  sl_unfold_words
  simp only [View.readAt_eq_ld, harg1.read_unread, harg2.read_unread, harg3.read_unread, harg4.read_unread, harg5.read_unread, harg6.read_unread, harg7.read_unread, harg11.read_unread, harg12.read_unread, harg13.read_unread]
  refine (canon_hit _ _ _ _ _ _ (ix2 0 d) (fun a => by
    match a with
    | ⟨0, _⟩ => rfl
    | ⟨1, _⟩ => show d.val = 0 + d.val; omega)).trans ?_
  refine (vdg4_at B _ d).trans ?_
  exact congrArg₂ (· + ·) (ld_row xo11 _ d) rfl

end Cert.MlpIdeal.Value
end
-- ==== Proof.MlpOut2.lean ====
/-
  What one grid step of the up projection and of the two weight gradients leaves in its output block.
-/
module
public import proofs.«01_k».proof.Proof.Gen.MlpIdeal.Frame.Region0
public import proofs.«01_k».proof.Proof.Gen.MlpIdeal.Frame.Region2
public import proofs.«01_k».proof.Proof.Gen.MlpIdeal.Frame.Region3
public import proofs.«01_k».proof.Proof.MlpOut
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MlpIdeal.Value
open Cert.MlpIdeal Cert.MlpIdeal.Gen Cert.MlpMath

theorem ld_h (x0 : Vec Ideal S512x1024 .bf16) (inb) (p : Fin 512) (d : Fin 1024) :
    View.ld x0 (Rect.unit (s := S512x1024) ![0, 0] ![512, 1024] inb) (ix2 p d) = x0 (ix2 p d) :=
  View.ld_unit_apply_of x0 _ _ inb _ (ix2 p d) (fun a => by
    match a with
    | ⟨0, _⟩ => show p.val = 0 + p.val; omega
    | ⟨1, _⟩ => show d.val = 0 + d.val; omega)

/-- The up projection's tile: the squares of the positive parts. -/
theorem out0_at (x0 : Vec Ideal S512x1024 .bf16) (x1 : Vec Ideal S8x1024x512 .bf16) (h : Fin 512 → Fin 1024 → ℝ) (WU : Fin 8 → Fin 1024 → Fin 512 → ℝ)
    (h0 : ∀ p d, x0 (ix2 p d) = ((h p d : ℝ) : EReal)) (h1 : ∀ j d f, x1 (ix3 j d f) = ((WU j d f : ℝ) : EReal)) (p : Fin 512) (j : Fin 8) (f : Fin 512) :
    out0_2 (F := Ideal) x0 x1 (ix2 p (col j f)) = ((rlR (h p) WU j f * rlR (h p) WU j f : ℝ) : EReal) := by
  have hp : ∀ p d, k0_pay2 (F := Ideal) (View.ld x0 r0_0) (ix2 p d) = ((h p d : ℝ) : EReal) :=
    fun p d => (up2_at _ p d).trans ((ld_h x0 _ p d).trans (h0 p d))
  have hw : ∀ (n : ℕ) (inb) (j : Fin 8) (hj : j.val = n) (d : Fin 1024) (f : Fin 512),
      View.ld x1 (Rect.unit (s := S8x1024x512) ![n, 0, 0] ![1, 1024, 512] inb) (ix3 0 d f) = ((WU j d f : ℝ) : EReal) :=
    fun n inb j hj d f => (ld_up x1 n inb j hj d f).trans (h1 j d f)
  unfold_out out0_2
  simp only [up3, up4, up5, up7, up8, up9, up10]
  match j with
  | 0 =>
    refine (canon_miss _ _ _ _ _ _ (1 : Fin 2) (Or.inl (by show 512 * 0 + f.val < 3584; omega))).trans ?_
    refine (canon_miss _ _ _ _ _ _ (1 : Fin 2) (Or.inl (by show 512 * 0 + f.val < 3072; omega))).trans ?_
    refine (canon_miss _ _ _ _ _ _ (1 : Fin 2) (Or.inl (by show 512 * 0 + f.val < 2560; omega))).trans ?_
    refine (canon_miss _ _ _ _ _ _ (1 : Fin 2) (Or.inl (by show 512 * 0 + f.val < 2048; omega))).trans ?_
    refine (canon_miss _ _ _ _ _ _ (1 : Fin 2) (Or.inl (by show 512 * 0 + f.val < 1536; omega))).trans ?_
    refine (canon_miss _ _ _ _ _ _ (1 : Fin 2) (Or.inl (by show 512 * 0 + f.val < 1024; omega))).trans ?_
    refine (canon_miss _ _ _ _ _ _ (1 : Fin 2) (Or.inl (by show 512 * 0 + f.val < 512; omega))).trans ?_
    refine (canon_hit _ _ _ _ _ _ (ix2 p f) (fun a => by
      match a with
      | ⟨0, _⟩ => show p.val = 0 + p.val; omega
      | ⟨1, _⟩ => show 512 * 0 + f.val = 0 + f.val; omega)).trans ?_
    exact up_at _ _ h (WU 0) hp (hw _ _ 0 rfl) p f
  | 1 =>
    refine (canon_miss _ _ _ _ _ _ (1 : Fin 2) (Or.inl (by show 512 * 1 + f.val < 3584; omega))).trans ?_
    refine (canon_miss _ _ _ _ _ _ (1 : Fin 2) (Or.inl (by show 512 * 1 + f.val < 3072; omega))).trans ?_
    refine (canon_miss _ _ _ _ _ _ (1 : Fin 2) (Or.inl (by show 512 * 1 + f.val < 2560; omega))).trans ?_
    refine (canon_miss _ _ _ _ _ _ (1 : Fin 2) (Or.inl (by show 512 * 1 + f.val < 2048; omega))).trans ?_
    refine (canon_miss _ _ _ _ _ _ (1 : Fin 2) (Or.inl (by show 512 * 1 + f.val < 1536; omega))).trans ?_
    refine (canon_miss _ _ _ _ _ _ (1 : Fin 2) (Or.inl (by show 512 * 1 + f.val < 1024; omega))).trans ?_
    refine (canon_hit _ _ _ _ _ _ (ix2 p f) (fun a => by
      match a with
      | ⟨0, _⟩ => show p.val = 0 + p.val; omega
      | ⟨1, _⟩ => show 512 * 1 + f.val = 512 + f.val; omega)).trans ?_
    exact up_at _ _ h (WU 1) hp (hw _ _ 1 rfl) p f
  | 2 =>
    refine (canon_miss _ _ _ _ _ _ (1 : Fin 2) (Or.inl (by show 512 * 2 + f.val < 3584; omega))).trans ?_
    refine (canon_miss _ _ _ _ _ _ (1 : Fin 2) (Or.inl (by show 512 * 2 + f.val < 3072; omega))).trans ?_
    refine (canon_miss _ _ _ _ _ _ (1 : Fin 2) (Or.inl (by show 512 * 2 + f.val < 2560; omega))).trans ?_
    refine (canon_miss _ _ _ _ _ _ (1 : Fin 2) (Or.inl (by show 512 * 2 + f.val < 2048; omega))).trans ?_
    refine (canon_miss _ _ _ _ _ _ (1 : Fin 2) (Or.inl (by show 512 * 2 + f.val < 1536; omega))).trans ?_
    refine (canon_hit _ _ _ _ _ _ (ix2 p f) (fun a => by
      match a with
      | ⟨0, _⟩ => show p.val = 0 + p.val; omega
      | ⟨1, _⟩ => show 512 * 2 + f.val = 1024 + f.val; omega)).trans ?_
    exact up_at _ _ h (WU 2) hp (hw _ _ 2 rfl) p f
  | 3 =>
    refine (canon_miss _ _ _ _ _ _ (1 : Fin 2) (Or.inl (by show 512 * 3 + f.val < 3584; omega))).trans ?_
    refine (canon_miss _ _ _ _ _ _ (1 : Fin 2) (Or.inl (by show 512 * 3 + f.val < 3072; omega))).trans ?_
    refine (canon_miss _ _ _ _ _ _ (1 : Fin 2) (Or.inl (by show 512 * 3 + f.val < 2560; omega))).trans ?_
    refine (canon_miss _ _ _ _ _ _ (1 : Fin 2) (Or.inl (by show 512 * 3 + f.val < 2048; omega))).trans ?_
    refine (canon_hit _ _ _ _ _ _ (ix2 p f) (fun a => by
      match a with
      | ⟨0, _⟩ => show p.val = 0 + p.val; omega
      | ⟨1, _⟩ => show 512 * 3 + f.val = 1536 + f.val; omega)).trans ?_
    exact up_at _ _ h (WU 3) hp (hw _ _ 3 rfl) p f
  | 4 =>
    refine (canon_miss _ _ _ _ _ _ (1 : Fin 2) (Or.inl (by show 512 * 4 + f.val < 3584; omega))).trans ?_
    refine (canon_miss _ _ _ _ _ _ (1 : Fin 2) (Or.inl (by show 512 * 4 + f.val < 3072; omega))).trans ?_
    refine (canon_miss _ _ _ _ _ _ (1 : Fin 2) (Or.inl (by show 512 * 4 + f.val < 2560; omega))).trans ?_
    refine (canon_hit _ _ _ _ _ _ (ix2 p f) (fun a => by
      match a with
      | ⟨0, _⟩ => show p.val = 0 + p.val; omega
      | ⟨1, _⟩ => show 512 * 4 + f.val = 2048 + f.val; omega)).trans ?_
    exact up_at _ _ h (WU 4) hp (hw _ _ 4 rfl) p f
  | 5 =>
    refine (canon_miss _ _ _ _ _ _ (1 : Fin 2) (Or.inl (by show 512 * 5 + f.val < 3584; omega))).trans ?_
    refine (canon_miss _ _ _ _ _ _ (1 : Fin 2) (Or.inl (by show 512 * 5 + f.val < 3072; omega))).trans ?_
    refine (canon_hit _ _ _ _ _ _ (ix2 p f) (fun a => by
      match a with
      | ⟨0, _⟩ => show p.val = 0 + p.val; omega
      | ⟨1, _⟩ => show 512 * 5 + f.val = 2560 + f.val; omega)).trans ?_
    exact up_at _ _ h (WU 5) hp (hw _ _ 5 rfl) p f
  | 6 =>
    refine (canon_miss _ _ _ _ _ _ (1 : Fin 2) (Or.inl (by show 512 * 6 + f.val < 3584; omega))).trans ?_
    refine (canon_hit _ _ _ _ _ _ (ix2 p f) (fun a => by
      match a with
      | ⟨0, _⟩ => show p.val = 0 + p.val; omega
      | ⟨1, _⟩ => show 512 * 6 + f.val = 3072 + f.val; omega)).trans ?_
    exact up_at _ _ h (WU 6) hp (hw _ _ 6 rfl) p f
  | 7 =>
    refine (canon_hit _ _ _ _ _ _ (ix2 p f) (fun a => by
      match a with
      | ⟨0, _⟩ => show p.val = 0 + p.val; omega
      | ⟨1, _⟩ => show 512 * 7 + f.val = 3584 + f.val; omega)).trans ?_
    exact up_at _ _ h (WU 7) hp (hw _ _ 7 rfl) p f

/-- Entry `f` of half `u`. -/
def half (u : Fin 2) (f : Fin 512) : Fin 1024 := ⟨512 * u.val + f.val, by have := u.isLt; have := f.isLt; omega⟩

theorem ld_sq (x : Vec Ideal S1024x1024 .bf16) (inb) (p : Fin 1024) (d : Fin 1024) :
    View.ld x (Rect.unit (s := S1024x1024) ![0, 0] ![1024, 1024] inb) (ix2 p d) = x (ix2 p d) :=
  View.ld_unit_apply_of x _ _ inb _ (ix2 p d) (fun a => by
    match a with
    | ⟨0, _⟩ => show p.val = 0 + p.val; omega
    | ⟨1, _⟩ => show d.val = 0 + d.val; omega)

theorem ld_acc2 (x : Vec Ideal S2x1024x512 .f32) (n : ℕ) (inb) (u : Fin 2) (h : u.val = n) (d : Fin 1024) (f : Fin 512) :
    View.ld x (Rect.unit (s := S2x1024x512) ![n, 0, 0] ![1, 1024, 512] inb) (ix3 0 d f) = x (ix3 u d f) :=
  View.ld_unit_apply_of x _ _ inb _ (ix3 u d f) (fun a => by
    match a with
    | ⟨0, _⟩ => show u.val = n + 0; omega
    | ⟨1, _⟩ => show d.val = 0 + d.val; omega
    | ⟨2, _⟩ => show f.val = 0 + f.val; omega)

theorem out2_A_at (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S2x1024x512 .f32) (harg4 : arg4.IsWhole) (hc0 : cond2_0 i)
    (x0 x1 : Vec Ideal S1024x1024 .bf16) (u : Fin 2) (d : Fin 1024) (f : Fin 512) :
    out2_A_2 (F := Ideal) c i arg2 harg2 arg3 harg3 arg4 harg4 hc0 x0 x1 (ix3 u d f) = ∑ t : Fin 1024, x0 (ix2 t d) * x1 (ix2 t (half u f)) := by
  unfold out2_A_2
  rw [View.read_writes_eq_canon _ _ _ (cover2_A_2 c i arg2 harg2 arg3 harg3 arg4 harg4 hc0 x0 x1)]
  unfold kernelRun2_A
  dsimp only
  sl_unfold_words
  simp only [View.readAt_eq_ld, harg2.read_unread, harg3.read_unread]
  simp only [View.readCov_eq_canon']
  match u with
  | 0 =>
    refine (canon_miss _ _ _ _ _ _ (0 : Fin 3) (Or.inl (by show 0 < 1; omega))).trans ?_
    refine (canon_hit _ _ _ _ _ _ (ix3 0 d f) (fun a => by
      match a with
      | ⟨0, _⟩ => rfl
      | ⟨1, _⟩ => show d.val = 0 + d.val; omega
      | ⟨2, _⟩ => show f.val = 0 + f.val; omega)).trans ?_
    refine (wup_at _ _ _ d f).trans ?_
    refine (congrArg₂ (· + ·) ?_ ?_).trans (zero_add _)
    · skip
      refine (canon_hit _ _ _ _ _ _ (ix3 0 d f) (fun a => by
        match a with
        | ⟨0, _⟩ => rfl
        | ⟨1, _⟩ => show 0 + 1 * d.val = 0 + d.val; omega
        | ⟨2, _⟩ => show 0 + 1 * f.val = 0 + f.val; omega)).trans ?_
      exact Ideal.ofBits_zero_f32
    exact Finset.sum_congr rfl fun t _ => congrArg₂ (· * ·) (ld_sq x0 _ _ _) ((ld_sq x1 _ _ _).trans (congrArg (fun z => x1 (ix2 t z)) (Fin.ext (by show _ = 512 * _ + f.val; simp))))
  | 1 =>
    refine (canon_hit _ _ _ _ _ _ (ix3 0 d f) (fun a => by
      match a with
      | ⟨0, _⟩ => rfl
      | ⟨1, _⟩ => show d.val = 0 + d.val; omega
      | ⟨2, _⟩ => show f.val = 0 + f.val; omega)).trans ?_
    refine (wup_at' _ _ _ d f).trans ?_
    refine (congrArg₂ (· + ·) ?_ ?_).trans (zero_add _)
    · skip
      refine (canon_miss _ _ _ _ _ _ (0 : Fin 3) (Or.inr (by show 0 + 1 ≤ 1 + 1 * 0; omega))).trans ?_
      refine (canon_hit _ _ _ _ _ _ (ix3 1 d f) (fun a => by
        match a with
        | ⟨0, _⟩ => rfl
        | ⟨1, _⟩ => show 0 + 1 * d.val = 0 + d.val; omega
        | ⟨2, _⟩ => show 0 + 1 * f.val = 0 + f.val; omega)).trans ?_
      exact Ideal.ofBits_zero_f32
    exact Finset.sum_congr rfl fun t _ => congrArg₂ (· * ·) (ld_sq x0 _ _ _) ((ld_sq x1 _ _ _).trans (congrArg (fun z => x1 (ix2 t z)) (Fin.ext (by show _ = 512 * _ + f.val; simp))))

theorem out2_B_at (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S2x1024x512 .f32) (harg4 : arg4.IsWhole) (hc0 : ¬cond2_0 i)
    (x0 x1 : Vec Ideal S1024x1024 .bf16) (xo2 : Vec Ideal S2x1024x512 .f32) (u : Fin 2) (d : Fin 1024) (f : Fin 512) :
    out2_B_2 (F := Ideal) c i arg2 harg2 arg3 harg3 arg4 harg4 hc0 x0 x1 xo2 (ix3 u d f) = xo2 (ix3 u d f) + ∑ t : Fin 1024, x0 (ix2 t d) * x1 (ix2 t (half u f)) := by
  unfold out2_B_2
  rw [View.read_writes_eq_canon _ _ _ (cover2_B_2 c i arg2 harg2 arg3 harg3 arg4 harg4 hc0 x0 x1 xo2)]
  unfold kernelRun2_B
  dsimp only
  sl_unfold_words
  simp only [View.readAt_eq_ld, harg2.read_unread, harg3.read_unread, harg4.read_unread]
  match u with
  | 0 =>
    refine (canon_miss _ _ _ _ _ _ (0 : Fin 3) (Or.inl (by show 0 < 1; omega))).trans ?_
    refine (canon_hit _ _ _ _ _ _ (ix3 0 d f) (fun a => by
      match a with
      | ⟨0, _⟩ => rfl
      | ⟨1, _⟩ => show d.val = 0 + d.val; omega
      | ⟨2, _⟩ => show f.val = 0 + f.val; omega)).trans ?_
    refine (wup_at _ _ _ d f).trans ?_
    refine congrArg₂ (· + ·) (ld_acc2 xo2 _ _ 0 rfl d f) ?_
    exact Finset.sum_congr rfl fun t _ => congrArg₂ (· * ·) (ld_sq x0 _ _ _) ((ld_sq x1 _ _ _).trans (congrArg (fun z => x1 (ix2 t z)) (Fin.ext (by show _ = 512 * _ + f.val; simp))))
  | 1 =>
    refine (canon_hit _ _ _ _ _ _ (ix3 0 d f) (fun a => by
      match a with
      | ⟨0, _⟩ => rfl
      | ⟨1, _⟩ => show d.val = 0 + d.val; omega
      | ⟨2, _⟩ => show f.val = 0 + f.val; omega)).trans ?_
    refine (wup_at' _ _ _ d f).trans ?_
    refine congrArg₂ (· + ·) (ld_acc2 xo2 _ _ 1 rfl d f) ?_
    exact Finset.sum_congr rfl fun t _ => congrArg₂ (· * ·) (ld_sq x0 _ _ _) ((ld_sq x1 _ _ _).trans (congrArg (fun z => x1 (ix2 t z)) (Fin.ext (by show _ = 512 * _ + f.val; simp))))

theorem ld_acc3 (x : Vec Ideal S2x512x1024 .f32) (n : ℕ) (inb) (u : Fin 2) (h : u.val = n) (f : Fin 512) (d : Fin 1024) :
    View.ld x (Rect.unit (s := S2x512x1024) ![n, 0, 0] ![1, 512, 1024] inb) (ix3 0 f d) = x (ix3 u f d) :=
  View.ld_unit_apply_of x _ _ inb _ (ix3 u f d) (fun a => by
    match a with
    | ⟨0, _⟩ => show u.val = n + 0; omega
    | ⟨1, _⟩ => show f.val = 0 + f.val; omega
    | ⟨2, _⟩ => show d.val = 0 + d.val; omega)

theorem out3_A_at (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S2x512x1024 .f32) (harg4 : arg4.IsWhole) (hc0 : cond3_0 i)
    (x0 x1 : Vec Ideal S1024x1024 .bf16) (u : Fin 2) (f : Fin 512) (d : Fin 1024) :
    out3_A_2 (F := Ideal) c i arg2 harg2 arg3 harg3 arg4 harg4 hc0 x0 x1 (ix3 u f d) = ∑ t : Fin 1024, x0 (ix2 t (half u f)) * x1 (ix2 t d) := by
  unfold out3_A_2
  rw [View.read_writes_eq_canon _ _ _ (cover3_A_2 c i arg2 harg2 arg3 harg3 arg4 harg4 hc0 x0 x1)]
  unfold kernelRun3_A
  dsimp only
  sl_unfold_words
  simp only [View.readAt_eq_ld, harg2.read_unread, harg3.read_unread]
  simp only [View.readCov_eq_canon']
  match u with
  | 0 =>
    refine (canon_miss _ _ _ _ _ _ (0 : Fin 3) (Or.inl (by show 0 < 1; omega))).trans ?_
    refine (canon_hit _ _ _ _ _ _ (ix3 0 f d) (fun a => by
      match a with
      | ⟨0, _⟩ => rfl
      | ⟨1, _⟩ => show f.val = 0 + f.val; omega
      | ⟨2, _⟩ => show d.val = 0 + d.val; omega)).trans ?_
    refine (wdown_at _ _ _ f d).trans ?_
    refine (congrArg₂ (· + ·) ?_ ?_).trans (zero_add _)
    · skip
      refine (canon_hit _ _ _ _ _ _ (ix3 0 f d) (fun a => by
        match a with
        | ⟨0, _⟩ => rfl
        | ⟨1, _⟩ => show 0 + 1 * f.val = 0 + f.val; omega
        | ⟨2, _⟩ => show 0 + 1 * d.val = 0 + d.val; omega)).trans ?_
      exact Ideal.ofBits_zero_f32
    exact Finset.sum_congr rfl fun t _ => congrArg₂ (· * ·) ((ld_sq x0 _ _ _).trans (congrArg (fun z => x0 (ix2 t z)) (Fin.ext (by show _ = 512 * _ + f.val; simp)))) (ld_sq x1 _ _ _)
  | 1 =>
    refine (canon_hit _ _ _ _ _ _ (ix3 0 f d) (fun a => by
      match a with
      | ⟨0, _⟩ => rfl
      | ⟨1, _⟩ => show f.val = 0 + f.val; omega
      | ⟨2, _⟩ => show d.val = 0 + d.val; omega)).trans ?_
    refine (wdown_at' _ _ _ f d).trans ?_
    refine (congrArg₂ (· + ·) ?_ ?_).trans (zero_add _)
    · skip
      refine (canon_miss _ _ _ _ _ _ (0 : Fin 3) (Or.inr (by show 0 + 1 ≤ 1 + 1 * 0; omega))).trans ?_
      refine (canon_hit _ _ _ _ _ _ (ix3 1 f d) (fun a => by
        match a with
        | ⟨0, _⟩ => rfl
        | ⟨1, _⟩ => show 0 + 1 * f.val = 0 + f.val; omega
        | ⟨2, _⟩ => show 0 + 1 * d.val = 0 + d.val; omega)).trans ?_
      exact Ideal.ofBits_zero_f32
    exact Finset.sum_congr rfl fun t _ => congrArg₂ (· * ·) ((ld_sq x0 _ _ _).trans (congrArg (fun z => x0 (ix2 t z)) (Fin.ext (by show _ = 512 * _ + f.val; simp)))) (ld_sq x1 _ _ _)

theorem out3_B_at (c : Dev nD) (i : grid3.Coords) (arg2 : Memref sig .tc .vmem S1024x1024 .bf16) (harg2 : arg2.IsWhole) (arg3 : Memref sig .tc .vmem S1024x1024 .bf16) (harg3 : arg3.IsWhole) (arg4 : Memref sig .tc .vmem S2x512x1024 .f32) (harg4 : arg4.IsWhole) (hc0 : ¬cond3_0 i)
    (x0 x1 : Vec Ideal S1024x1024 .bf16) (xo2 : Vec Ideal S2x512x1024 .f32) (u : Fin 2) (f : Fin 512) (d : Fin 1024) :
    out3_B_2 (F := Ideal) c i arg2 harg2 arg3 harg3 arg4 harg4 hc0 x0 x1 xo2 (ix3 u f d) = xo2 (ix3 u f d) + ∑ t : Fin 1024, x0 (ix2 t (half u f)) * x1 (ix2 t d) := by
  unfold out3_B_2
  rw [View.read_writes_eq_canon _ _ _ (cover3_B_2 c i arg2 harg2 arg3 harg3 arg4 harg4 hc0 x0 x1 xo2)]
  unfold kernelRun3_B
  dsimp only
  sl_unfold_words
  simp only [View.readAt_eq_ld, harg2.read_unread, harg3.read_unread, harg4.read_unread]
  match u with
  | 0 =>
    refine (canon_miss _ _ _ _ _ _ (0 : Fin 3) (Or.inl (by show 0 < 1; omega))).trans ?_
    refine (canon_hit _ _ _ _ _ _ (ix3 0 f d) (fun a => by
      match a with
      | ⟨0, _⟩ => rfl
      | ⟨1, _⟩ => show f.val = 0 + f.val; omega
      | ⟨2, _⟩ => show d.val = 0 + d.val; omega)).trans ?_
    refine (wdown_at _ _ _ f d).trans ?_
    refine congrArg₂ (· + ·) (ld_acc3 xo2 _ _ 0 rfl f d) ?_
    exact Finset.sum_congr rfl fun t _ => congrArg₂ (· * ·) ((ld_sq x0 _ _ _).trans (congrArg (fun z => x0 (ix2 t z)) (Fin.ext (by show _ = 512 * _ + f.val; simp)))) (ld_sq x1 _ _ _)
  | 1 =>
    refine (canon_hit _ _ _ _ _ _ (ix3 0 f d) (fun a => by
      match a with
      | ⟨0, _⟩ => rfl
      | ⟨1, _⟩ => show f.val = 0 + f.val; omega
      | ⟨2, _⟩ => show d.val = 0 + d.val; omega)).trans ?_
    refine (wdown_at' _ _ _ f d).trans ?_
    refine congrArg₂ (· + ·) (ld_acc3 xo2 _ _ 1 rfl f d) ?_
    exact Finset.sum_congr rfl fun t _ => congrArg₂ (· * ·) ((ld_sq x0 _ _ _).trans (congrArg (fun z => x0 (ix2 t z)) (Fin.ext (by show _ = 512 * _ + f.val; simp)))) (ld_sq x1 _ _ _)

end Cert.MlpIdeal.Value
end
-- ==== Proof.MlpRun1.lean ====
/-
  The arrays the up projection and the MLP gradient leave, entry by entry, from the arrays they find.
-/
module
public import proofs.«01_k».proof.Proof.MlpOut2
public import Idealize.ShloMosaic.Lib.Pipeline.Value
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MlpIdeal.Value
open Cert.MlpIdeal Cert.MlpIdeal.Gen Cert.MlpMath

/-- A sum over `n` tiles of `k` rows is the sum over all rows. -/
theorem sum_tiles {n k N : ℕ} (hN : n * k = N) (F : Fin N → ℝ) (e : Fin n → Fin k → Fin N) (he : ∀ b p, (e b p).val = k * b.val + p.val) :
    ∑ b, ∑ p, F (e b p) = ∑ t, F t := by
  subst hN
  rw [← Fintype.sum_prod_type' (fun b p => F (e b p))]
  refine Fintype.sum_equiv finProdFinEquiv _ _ fun x => congrArg F (Fin.ext ?_)
  rw [he]
  show k * x.1.val + x.2.val = x.2.val + k * x.1.val
  omega

variable (V : (c : Dev nD) → (b : Ref sig .tc) → Buf (Elt Ideal) ((c : Thread nD τ).loc b)) (c : Dev nD)

/-! ### The up projection -/

/-- Row `p` of tile `b` of 512. -/
def tok0 (b : Fin 8) (p : Fin 512) : Fin 4096 := ⟨512 * b.val + p.val, by have := b.isLt; have := p.isLt; omega⟩
def pt0 (b : Fin 8) : Fin cfg0.N := ⟨b.val, b.isLt⟩
theorem idx0_0 : ∀ b : Fin 8, win0_0.index (pt0 b) 0 = b.val ∧ win0_0.index (pt0 b) 1 = 0 := by decide +kernel
theorem idx0_1 : ∀ b : Fin 8, win0_1.index (pt0 b) 0 = 0 ∧ win0_1.index (pt0 b) 1 = 0 ∧ win0_1.index (pt0 b) 2 = 0 := by decide +kernel
theorem idx0_2 : ∀ b : Fin 8, win0_2.index (pt0 b) 0 = b.val ∧ win0_2.index (pt0 b) 1 = 0 := by decide +kernel
theorem inj0_2 : ∀ t t' : Fin cfg0.N, win0_2.index t = win0_2.index t' → t = t' :=
  (by decide +kernel : ∀ t t' : Fin grid0.N, win0_2.index t = win0_2.index t' → t = t')
theorem disj0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (inj0_2 t t' h)

theorem run0 (H : Fin 4096 → Fin 1024 → ℝ) (WU : Fin 8 → Fin 1024 → Fin 512 → ℝ)
    (hH : ∀ t d, (V c main_v12 : Vec Ideal S4096x1024 .bf16) (ix2 t d) = ((H t d : ℝ) : EReal))
    (hW : ∀ j d f, (V c main_arg2 : Vec Ideal S8x1024x512 .bf16) (ix3 j d f) = ((WU j d f : ℝ) : EReal))
    (b : Fin 8) (p : Fin 512) (j : Fin 8) (f : Fin 512) :
    ((dat0 V c).arrAt 2 cfg0.N : Vec Ideal S4096x4096 .bf16) (ix2 (tok0 b p) (col j f))
      = ((rlR (H (tok0 b p)) WU j f * rlR (H (tok0 b p)) WU j f : ℝ) : EReal) := by
  have he : ((cfg0.win 2).blk (pt0 b)).view.emb (ix2 p (col j f) : S512x4096.Idx) = (ix2 (tok0 b p) (col j f) : S4096x4096.Idx) := by
    funext a
    apply Fin.ext
    match a with
    | ⟨0, _⟩ => show win0_2.index (pt0 b) 0 * 512 + 1 * p.val = 512 * b.val + p.val; rw [(idx0_2 b).1]; omega
    | ⟨1, _⟩ => show win0_2.index (pt0 b) 1 * 4096 + 1 * (col j f).val = (col j f).val; rw [(idx0_2 b).2]; omega
  have h := (dat0 V c).arrAt_emb_eq_flushed 2 disj0_2 (pt0 b) (flush0_2 (pt0 b)) (ix2 p (col j f) : S512x4096.Idx)
  rw [he] at h
  have hcut : ∀ X, (cfg0.win 2).cut (grid0.coords (pt0 b)) X (ix2 p (col j f) : S512x4096.Idx) = (X : Vec Ideal S512x4096 .bf16) (ix2 p (col j f)) := fun _ => rfl
  refine h.trans ?_
  rw [cast_eq]
  have hfl : (dat0 V c).flushed 2 (pt0 b) = (cfg0.win 2).cut (grid0.coords (pt0 b)) (out0_2 (F := Ideal) (iblk0 V c 0 (pt0 b)) (iblk0 V c 1 (pt0 b))) := by
    show (cfg0.win 2).cut (grid0.coords (pt0 b)) ((dat0 V c).after 2 (pt0 b)) = _
    rw [after0_2]
  rw [hfl, hcut]
  refine out0_at _ _ (fun p => H (tok0 b p)) WU (fun p d => ?_) (fun j d f => ?_) p j f
  · refine Eq.trans ?_ (hH _ _)
    unfold iblk0
    rw [View.read_apply]
    show V c main_v12 _ = _
    refine congrArg _ ?_
    funext a
    apply Fin.ext
    match a with
    | ⟨0, _⟩ => show win0_0.index (pt0 b) 0 * 512 + 1 * p.val = 512 * b.val + p.val; rw [(idx0_0 b).1]; omega
    | ⟨1, _⟩ => show win0_0.index (pt0 b) 1 * 1024 + 1 * d.val = d.val; rw [(idx0_0 b).2]; omega
  · refine Eq.trans ?_ (hW _ _ _)
    unfold iblk0
    rw [View.read_apply]
    show V c main_arg2 _ = _
    refine congrArg _ ?_
    funext a
    apply Fin.ext
    match a with
    | ⟨0, _⟩ => show win0_1.index (pt0 b) 0 * 8 + 1 * j.val = j.val; rw [(idx0_1 b).1]; omega
    | ⟨1, _⟩ => show win0_1.index (pt0 b) 1 * 1024 + 1 * d.val = d.val; rw [(idx0_1 b).2.1]; omega
    | ⟨2, _⟩ => show win0_1.index (pt0 b) 2 * 512 + 1 * f.val = f.val; rw [(idx0_1 b).2.2]; omega

/-! ### The MLP gradient -/

/-- Row `p` of tile `b` of 256. -/
def tok (b : Fin 16) (p : Fin 256) : Fin 4096 := ⟨256 * b.val + p.val, by have := b.isLt; have := p.isLt; omega⟩
def pt (b : Fin 16) : Fin cfg1.N := ⟨b.val, b.isLt⟩

theorem idx1_0 : ∀ b : Fin 16, win1_0.index (pt b) 0 = b.val ∧ win1_0.index (pt b) 1 = 0 := by decide +kernel
theorem idx1_1 : ∀ b : Fin 16, win1_1.index (pt b) 0 = b.val ∧ win1_1.index (pt b) 1 = 0 := by decide +kernel
theorem idx1_2 : ∀ b : Fin 16, win1_2.index (pt b) 0 = b.val ∧ win1_2.index (pt b) 1 = 0 := by decide +kernel
theorem idx1_3 : ∀ b : Fin 16, win1_3.index (pt b) 0 = 0 ∧ win1_3.index (pt b) 1 = 0 ∧ win1_3.index (pt b) 2 = 0 := by decide +kernel
theorem idx1_4 : ∀ b : Fin 16, win1_4.index (pt b) 0 = 0 ∧ win1_4.index (pt b) 1 = 0 ∧ win1_4.index (pt b) 2 = 0 := by decide +kernel
theorem idx1_5 : ∀ b : Fin 16, win1_5.index (pt b) 0 = 0 ∧ win1_5.index (pt b) 1 = 0 := by decide +kernel
theorem idx1_6 : ∀ b : Fin 16, win1_6.index (pt b) 0 = 0 ∧ win1_6.index (pt b) 1 = 0 := by decide +kernel
theorem idx1_7 : ∀ b : Fin 16, win1_7.index (pt b) 0 = b.val ∧ win1_7.index (pt b) 1 = 0 := by decide +kernel
theorem idx1_8 : ∀ b : Fin 16, win1_8.index (pt b) 0 = b.val ∧ win1_8.index (pt b) 1 = 0 := by decide +kernel
theorem idx1_9 : ∀ b : Fin 16, win1_9.index (pt b) 0 = b.val ∧ win1_9.index (pt b) 1 = 0 := by decide +kernel
theorem idx1_10 : ∀ b : Fin 16, win1_10.index (pt b) 0 = 0 ∧ win1_10.index (pt b) 1 = 0 := by decide +kernel
theorem idx1_11 : ∀ b : Fin 16, win1_11.index (pt b) 0 = 0 ∧ win1_11.index (pt b) 1 = 0 := by decide +kernel
theorem inj1_7 : ∀ t t' : Fin cfg1.N, win1_7.index t = win1_7.index t' → t = t' :=
  (by decide +kernel : ∀ t t' : Fin grid1.N, win1_7.index t = win1_7.index t' → t = t')
theorem disj1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (inj1_7 t t' h)

theorem inj1_8 : ∀ t t' : Fin cfg1.N, win1_8.index t = win1_8.index t' → t = t' :=
  (by decide +kernel : ∀ t t' : Fin grid1.N, win1_8.index t = win1_8.index t' → t = t')
theorem disj1_8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (inj1_8 t t' h)

theorem inj1_9 : ∀ t t' : Fin cfg1.N, win1_9.index t = win1_9.index t' → t = t' :=
  (by decide +kernel : ∀ t t' : Fin grid1.N, win1_9.index t = win1_9.index t' → t = t')
theorem disj1_9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne (inj1_9 t t' h)

/-- What the MLP gradient finds in its argument arrays, as reals: `RL` is the root of the activations. -/
structure In1 (X T : Fin 4096 → Fin 1024 → ℝ) (RL : Fin 4096 → Fin 8 → Fin 512 → ℝ) (WU : Fin 8 → Fin 1024 → Fin 512 → ℝ) (WD : Fin 8 → Fin 512 → Fin 1024 → ℝ) (g3 g4 : Fin 1024 → ℝ) : Prop where
  hX : ∀ t d, (V c main_arg0 : Vec Ideal S4096x1024 .f32) (ix2 t d) = ((X t d : ℝ) : EReal)
  hA : ∀ t j f, (V c main_v13 : Vec Ideal S4096x4096 .bf16) (ix2 t (col j f)) = ((RL t j f * RL t j f : ℝ) : EReal)
  pos : ∀ t j f, 0 ≤ RL t j f
  hT : ∀ t d, (V c main_arg1 : Vec Ideal S4096x1024 .f32) (ix2 t d) = ((T t d : ℝ) : EReal)
  hWU : ∀ j d f, (V c main_arg2 : Vec Ideal S8x1024x512 .bf16) (ix3 j d f) = ((WU j d f : ℝ) : EReal)
  hWD : ∀ j f d, (V c main_arg3 : Vec Ideal S8x512x1024 .bf16) (ix3 j f d) = ((WD j f d : ℝ) : EReal)
  hg3 : ∀ d, (V c main_arg4 : Vec Ideal S1x1024 .f32) (ix2 0 d) = ((g3 d : ℝ) : EReal)
  hg4 : ∀ d, (V c main_arg5 : Vec Ideal S1x1024 .f32) (ix2 0 d) = ((g4 d : ℝ) : EReal)

variable {V c} {X T : Fin 4096 → Fin 1024 → ℝ} {RL : Fin 4096 → Fin 8 → Fin 512 → ℝ} {WU : Fin 8 → Fin 1024 → Fin 512 → ℝ} {WD : Fin 8 → Fin 512 → Fin 1024 → ℝ} {g3 g4 : Fin 1024 → ℝ}
  (I : In1 V c X T RL WU WD g3 g4)
include I

theorem blk1 (b : Fin 16) : Blk (iblk1 V c 0 (pt b)) (iblk1 V c 1 (pt b)) (iblk1 V c 2 (pt b)) (iblk1 V c 3 (pt b)) (iblk1 V c 4 (pt b)) (iblk1 V c 5 (pt b)) (iblk1 V c 6 (pt b))
    (fun p => X (tok b p)) (fun p => T (tok b p)) (fun p => RL (tok b p)) WU WD g3 g4 where
  pos := fun p => I.pos (tok b p)
  e0 := fun p d => by
    refine Eq.trans ?_ (I.hX (tok b p) d)
    unfold iblk1
    rw [View.read_apply]
    show V c main_arg0 _ = _
    refine congrArg _ ?_
    funext a
    apply Fin.ext
    match a with
    | ⟨0, _⟩ => show win1_0.index (pt b) 0 * 256 + 1 * (p).val = 256 * b.val + p.val; rw [(idx1_0 b).1]; omega
    | ⟨1, _⟩ => show win1_0.index (pt b) 1 * 1024 + 1 * (d).val = (d).val; rw [(idx1_0 b).2]; omega
  e1 := fun p j f => by
    refine Eq.trans ?_ (I.hA (tok b p) j f)
    unfold iblk1
    rw [View.read_apply]
    show V c main_v13 _ = _
    refine congrArg _ ?_
    funext a
    apply Fin.ext
    match a with
    | ⟨0, _⟩ => show win1_1.index (pt b) 0 * 256 + 1 * (p).val = 256 * b.val + p.val; rw [(idx1_1 b).1]; omega
    | ⟨1, _⟩ => show win1_1.index (pt b) 1 * 4096 + 1 * ((col j f)).val = ((col j f)).val; rw [(idx1_1 b).2]; omega
  e2 := fun p d => by
    refine Eq.trans ?_ (I.hT (tok b p) d)
    unfold iblk1
    rw [View.read_apply]
    show V c main_arg1 _ = _
    refine congrArg _ ?_
    funext a
    apply Fin.ext
    match a with
    | ⟨0, _⟩ => show win1_2.index (pt b) 0 * 256 + 1 * (p).val = 256 * b.val + p.val; rw [(idx1_2 b).1]; omega
    | ⟨1, _⟩ => show win1_2.index (pt b) 1 * 1024 + 1 * (d).val = (d).val; rw [(idx1_2 b).2]; omega
  e3 := fun j d f => by
    refine Eq.trans ?_ (I.hWU j d f)
    unfold iblk1
    rw [View.read_apply]
    show V c main_arg2 _ = _
    refine congrArg _ ?_
    funext a
    apply Fin.ext
    match a with
    | ⟨0, _⟩ => show win1_3.index (pt b) 0 * 8 + 1 * (j).val = (j).val; rw [(idx1_3 b).1]; omega
    | ⟨1, _⟩ => show win1_3.index (pt b) 1 * 1024 + 1 * (d).val = (d).val; rw [(idx1_3 b).2.1]; omega
    | ⟨2, _⟩ => show win1_3.index (pt b) 2 * 512 + 1 * (f).val = (f).val; rw [(idx1_3 b).2.2]; omega
  e4 := fun j f d => by
    refine Eq.trans ?_ (I.hWD j f d)
    unfold iblk1
    rw [View.read_apply]
    show V c main_arg3 _ = _
    refine congrArg _ ?_
    funext a
    apply Fin.ext
    match a with
    | ⟨0, _⟩ => show win1_4.index (pt b) 0 * 8 + 1 * (j).val = (j).val; rw [(idx1_4 b).1]; omega
    | ⟨1, _⟩ => show win1_4.index (pt b) 1 * 512 + 1 * (f).val = (f).val; rw [(idx1_4 b).2.1]; omega
    | ⟨2, _⟩ => show win1_4.index (pt b) 2 * 1024 + 1 * (d).val = (d).val; rw [(idx1_4 b).2.2]; omega
  e5 := fun d => by
    refine Eq.trans ?_ (I.hg3 d)
    unfold iblk1
    rw [View.read_apply]
    show V c main_arg4 _ = _
    refine congrArg _ ?_
    funext a
    apply Fin.ext
    match a with
    | ⟨0, _⟩ => show win1_5.index (pt b) 0 * 1 + 1 * ((0 : Fin 1)).val = ((0 : Fin 1)).val; rw [(idx1_5 b).1]; omega
    | ⟨1, _⟩ => show win1_5.index (pt b) 1 * 1024 + 1 * (d).val = (d).val; rw [(idx1_5 b).2]; omega
  e6 := fun d => by
    refine Eq.trans ?_ (I.hg4 d)
    unfold iblk1
    rw [View.read_apply]
    show V c main_arg5 _ = _
    refine congrArg _ ?_
    funext a
    apply Fin.ext
    match a with
    | ⟨0, _⟩ => show win1_6.index (pt b) 0 * 1 + 1 * ((0 : Fin 1)).val = ((0 : Fin 1)).val; rw [(idx1_6 b).1]; omega
    | ⟨1, _⟩ => show win1_6.index (pt b) 1 * 1024 + 1 * (d).val = (d).val; rw [(idx1_6 b).2]; omega

theorem run1_7 (b : Fin 16) (p : Fin 256) (j : Fin 8) (f : Fin 512) :
    ((dat1 V c).arrAt 7 cfg1.N : Vec Ideal S4096x4096 .bf16) (ix2 (tok b p) (col j f)) = ((daS (X (tok b p)) (T (tok b p)) (RL (tok b p)) WD g4 j f : ℝ) : EReal) := by
  have he : ((cfg1.win 7).blk (pt b)).view.emb (ix2 p (col j f) : S256x4096.Idx) = (ix2 (tok b p) (col j f) : S4096x4096.Idx) := by
    funext a
    apply Fin.ext
    match a with
    | ⟨0, _⟩ => show win1_7.index (pt b) 0 * 256 + 1 * p.val = 256 * b.val + p.val; rw [(idx1_7 b).1]; omega
    | ⟨1, _⟩ => show win1_7.index (pt b) 1 * 4096 + 1 * ((col j f)).val = ((col j f)).val; rw [(idx1_7 b).2]; omega
  have h := (dat1 V c).arrAt_emb_eq_flushed 7 disj1_7 (pt b) (flush1_7 (pt b)) (ix2 p (col j f) : S256x4096.Idx)
  rw [he] at h
  have hcut : ∀ X, (cfg1.win 7).cut (grid1.coords (pt b)) X (ix2 p (col j f) : S256x4096.Idx) = (X : Vec Ideal S256x4096 .bf16) (ix2 p (col j f)) := fun _ => rfl
  refine h.trans ?_
  rw [cast_eq]
  have hfl : (dat1 V c).flushed 7 (pt b) = (cfg1.win 7).cut (grid1.coords (pt b)) ((outsAt1 V c (pt b).val (pt b).isLt).1) := by
    show (cfg1.win 7).cut (grid1.coords (pt b)) ((dat1 V c).after 7 (pt b)) = _
    rw [after1_7]
  rw [hfl, hcut]
  by_cases h0 : (pt b).val % 16 = 0
  · rw [outsAt1_A V c (pt b) h0]
    dsimp only
    rw [out_A7 (blk1 I b)]
  · rw [outsAt1_B V c (pt b) h0]
    dsimp only
    rw [out_B7 (blk1 I b)]

theorem run1_8 (b : Fin 16) (p : Fin 256) (d : Fin 1024) :
    ((dat1 V c).arrAt 8 cfg1.N : Vec Ideal S4096x1024 .bf16) (ix2 (tok b p) d) = ((dffS (X (tok b p)) (T (tok b p)) (RL (tok b p)) WD g4 d : ℝ) : EReal) := by
  have he : ((cfg1.win 8).blk (pt b)).view.emb (ix2 p d : S256x1024.Idx) = (ix2 (tok b p) d : S4096x1024.Idx) := by
    funext a
    apply Fin.ext
    match a with
    | ⟨0, _⟩ => show win1_8.index (pt b) 0 * 256 + 1 * p.val = 256 * b.val + p.val; rw [(idx1_8 b).1]; omega
    | ⟨1, _⟩ => show win1_8.index (pt b) 1 * 1024 + 1 * (d).val = (d).val; rw [(idx1_8 b).2]; omega
  have h := (dat1 V c).arrAt_emb_eq_flushed 8 disj1_8 (pt b) (flush1_8 (pt b)) (ix2 p d : S256x1024.Idx)
  rw [he] at h
  have hcut : ∀ X, (cfg1.win 8).cut (grid1.coords (pt b)) X (ix2 p d : S256x1024.Idx) = (X : Vec Ideal S256x1024 .bf16) (ix2 p d) := fun _ => rfl
  refine h.trans ?_
  rw [cast_eq]
  have hfl : (dat1 V c).flushed 8 (pt b) = (cfg1.win 8).cut (grid1.coords (pt b)) ((outsAt1 V c (pt b).val (pt b).isLt).2.1) := by
    show (cfg1.win 8).cut (grid1.coords (pt b)) ((dat1 V c).after 8 (pt b)) = _
    rw [after1_8]
  rw [hfl, hcut]
  by_cases h0 : (pt b).val % 16 = 0
  · rw [outsAt1_A V c (pt b) h0]
    dsimp only
    rw [out_A8 (blk1 I b)]
  · rw [outsAt1_B V c (pt b) h0]
    dsimp only
    rw [out_B8 (blk1 I b)]

theorem run1_9 (b : Fin 16) (p : Fin 256) (d : Fin 1024) :
    ((dat1 V c).arrAt 9 cfg1.N : Vec Ideal S4096x1024 .f32) (ix2 (tok b p) d) = ((dxS (X (tok b p)) (T (tok b p)) (RL (tok b p)) WU WD g3 g4 d : ℝ) : EReal) := by
  have he : ((cfg1.win 9).blk (pt b)).view.emb (ix2 p d : S256x1024.Idx) = (ix2 (tok b p) d : S4096x1024.Idx) := by
    funext a
    apply Fin.ext
    match a with
    | ⟨0, _⟩ => show win1_9.index (pt b) 0 * 256 + 1 * p.val = 256 * b.val + p.val; rw [(idx1_9 b).1]; omega
    | ⟨1, _⟩ => show win1_9.index (pt b) 1 * 1024 + 1 * (d).val = (d).val; rw [(idx1_9 b).2]; omega
  have h := (dat1 V c).arrAt_emb_eq_flushed 9 disj1_9 (pt b) (flush1_9 (pt b)) (ix2 p d : S256x1024.Idx)
  rw [he] at h
  have hcut : ∀ X, (cfg1.win 9).cut (grid1.coords (pt b)) X (ix2 p d : S256x1024.Idx) = (X : Vec Ideal S256x1024 .f32) (ix2 p d) := fun _ => rfl
  refine h.trans ?_
  rw [cast_eq]
  have hfl : (dat1 V c).flushed 9 (pt b) = (cfg1.win 9).cut (grid1.coords (pt b)) ((outsAt1 V c (pt b).val (pt b).isLt).2.2.1) := by
    show (cfg1.win 9).cut (grid1.coords (pt b)) ((dat1 V c).after 9 (pt b)) = _
    rw [after1_9]
  rw [hfl, hcut]
  by_cases h0 : (pt b).val % 16 = 0
  · rw [outsAt1_A V c (pt b) h0]
    dsimp only
    rw [out_A9 (blk1 I b)]
  · rw [outsAt1_B V c (pt b) h0]
    dsimp only
    rw [out_B9 (blk1 I b)]

omit I in
theorem outs1_eq (n n' : Nat) (h : n < cfg1.N) (h' : n' < cfg1.N) (e : n = n') : outsAt1 V c n h = outsAt1 V c n' h' := by
  subst e
  rfl

theorem acc1_10 (d : Fin 1024) : ∀ (n : ℕ) (hn : n < 16),
    ((outsAt1 V c (pt ⟨n, hn⟩).val (pt ⟨n, hn⟩).isLt).2.2.2.1 : Vec Ideal S1x1024 .f32) (ix2 0 d)
      = ((∑ b : Fin (n + 1), ∑ p : Fin 256, dg3S (X (tok ⟨b.val, by omega⟩ p)) (T (tok ⟨b.val, by omega⟩ p)) (RL (tok ⟨b.val, by omega⟩ p)) WU WD g4 d : ℝ) : EReal)
  | 0, hn => by
    rw [outsAt1_A V c (pt ⟨0, hn⟩) (by rfl)]
    dsimp only
    rw [out_A10 (blk1 I ⟨0, hn⟩)]
    rw [Fin.sum_univ_one]
    rfl
  | n + 1, hn => by
    have ih := acc1_10 d n (by omega)
    rw [outsAt1_B V c (pt ⟨n + 1, hn⟩) (by show ¬ (n + 1) % 16 = 0; omega)]
    dsimp only
    rw [out_B10 (blk1 I ⟨n + 1, hn⟩)]
    rw [outs1_eq ((pt ⟨n + 1, hn⟩).val - 1) (pt ⟨n, by omega⟩).val _ (pt ⟨n, by omega⟩).isLt rfl, ih, ← EReal.coe_add, Fin.sum_univ_castSucc (n := n + 1)]
    rfl

theorem run1_10 (d : Fin 1024) :
    ((dat1 V c).arrAt 10 cfg1.N : Vec Ideal S1x1024 .f32) (ix2 0 d) = ((∑ t : Fin 4096, dg3S (X t) (T t) (RL t) WU WD g4 d : ℝ) : EReal) := by
  have hg : (dat1 V c).arrAt 10 cfg1.N = ((outsAt1 V c (pt 15).val (pt 15).isLt).2.2.2.1 : Vec Ideal S1x1024 .f32) := by
    refine (dat1 V c).arrAt_eq_of_cover 10 _ (fun t hf => ?_) (fun x => ⟨pt 15, (flush1_10 (pt 15)).2 rfl, ?_⟩)
    · obtain rfl : t = pt 15 := Fin.ext (by
        have h1 := (flush1_10 t).1 hf
        have h2 : t.val < 16 := t.isLt
        show t.val = 15
        omega)
      have hfl : (dat1 V c).flushed 10 (pt 15) = (cfg1.win 10).cut (grid1.coords (pt 15)) ((outsAt1 V c (pt 15).val (pt 15).isLt).2.2.2.1) := by
        show (cfg1.win 10).cut (grid1.coords (pt 15)) ((dat1 V c).after 10 (pt 15)) = _
        rw [after1_10]
      rw [hfl]
      have hz' : (fun a => win1_10.index (pt 15) a * main_v14_3.ty.shape.size a) = fun _ => 0 := funext fun a => by
        match a with
        | ⟨0, _⟩ => show win1_10.index (pt 15) 0 * 1 = 0; rw [(idx1_10 15).1]
        | ⟨1, _⟩ => show win1_10.index (pt 15) 1 * 1024 = 0; rw [(idx1_10 15).2]
      exact (Memref.read_access_unit_zero (Elt Ideal) main_v14_3 hz' (fun a => by rw [congrFun hz' a]; simp) _).symm
    · show x ∈ ((View.whole main_v14_3).slice (win1_10.rect (pt 15))).set
      rw [View.set_slice_whole, Rect.mem_set_unit]
      intro a
      have h0 : (x 0 : Nat) < 1 := (x 0).isLt
      have h1 : (x 1 : Nat) < 1024 := (x 1).isLt
      match a with
      | ⟨0, _⟩ => show win1_10.index (pt 15) 0 * 1 ≤ (x 0 : Nat) ∧ (x 0 : Nat) < win1_10.index (pt 15) 0 * 1 + 1; rw [(idx1_10 15).1]; omega
      | ⟨1, _⟩ => show win1_10.index (pt 15) 1 * 1024 ≤ (x 1 : Nat) ∧ (x 1 : Nat) < win1_10.index (pt 15) 1 * 1024 + 1024; rw [(idx1_10 15).2]; omega
  rw [hg]
  refine (acc1_10 I d 15 (by omega)).trans (congrArg _ ?_)
  exact sum_tiles (n := 16) (k := 256) rfl (fun t => dg3S (X t) (T t) (RL t) WU WD g4 d) (fun b p => tok ⟨b.val, by omega⟩ p) (fun b p => rfl)

theorem acc1_11 (d : Fin 1024) : ∀ (n : ℕ) (hn : n < 16),
    ((outsAt1 V c (pt ⟨n, hn⟩).val (pt ⟨n, hn⟩).isLt).2.2.2.2.1 : Vec Ideal S1x1024 .f32) (ix2 0 d)
      = ((∑ b : Fin (n + 1), ∑ p : Fin 256, dg4S (X (tok ⟨b.val, by omega⟩ p)) (T (tok ⟨b.val, by omega⟩ p)) (RL (tok ⟨b.val, by omega⟩ p)) WD g4 d : ℝ) : EReal)
  | 0, hn => by
    rw [outsAt1_A V c (pt ⟨0, hn⟩) (by rfl)]
    dsimp only
    rw [out_A11 (blk1 I ⟨0, hn⟩)]
    rw [Fin.sum_univ_one]
    rfl
  | n + 1, hn => by
    have ih := acc1_11 d n (by omega)
    rw [outsAt1_B V c (pt ⟨n + 1, hn⟩) (by show ¬ (n + 1) % 16 = 0; omega)]
    dsimp only
    rw [out_B11 (blk1 I ⟨n + 1, hn⟩)]
    rw [outs1_eq ((pt ⟨n + 1, hn⟩).val - 1) (pt ⟨n, by omega⟩).val _ (pt ⟨n, by omega⟩).isLt rfl, ih, ← EReal.coe_add, Fin.sum_univ_castSucc (n := n + 1)]
    rfl

theorem run1_11 (d : Fin 1024) :
    ((dat1 V c).arrAt 11 cfg1.N : Vec Ideal S1x1024 .f32) (ix2 0 d) = ((∑ t : Fin 4096, dg4S (X t) (T t) (RL t) WD g4 d : ℝ) : EReal) := by
  have hg : (dat1 V c).arrAt 11 cfg1.N = ((outsAt1 V c (pt 15).val (pt 15).isLt).2.2.2.2.1 : Vec Ideal S1x1024 .f32) := by
    refine (dat1 V c).arrAt_eq_of_cover 11 _ (fun t hf => ?_) (fun x => ⟨pt 15, (flush1_11 (pt 15)).2 rfl, ?_⟩)
    · obtain rfl : t = pt 15 := Fin.ext (by
        have h1 := (flush1_11 t).1 hf
        have h2 : t.val < 16 := t.isLt
        show t.val = 15
        omega)
      have hfl : (dat1 V c).flushed 11 (pt 15) = (cfg1.win 11).cut (grid1.coords (pt 15)) ((outsAt1 V c (pt 15).val (pt 15).isLt).2.2.2.2.1) := by
        show (cfg1.win 11).cut (grid1.coords (pt 15)) ((dat1 V c).after 11 (pt 15)) = _
        rw [after1_11]
      rw [hfl]
      have hz' : (fun a => win1_11.index (pt 15) a * main_v14_4.ty.shape.size a) = fun _ => 0 := funext fun a => by
        match a with
        | ⟨0, _⟩ => show win1_11.index (pt 15) 0 * 1 = 0; rw [(idx1_11 15).1]
        | ⟨1, _⟩ => show win1_11.index (pt 15) 1 * 1024 = 0; rw [(idx1_11 15).2]
      exact (Memref.read_access_unit_zero (Elt Ideal) main_v14_4 hz' (fun a => by rw [congrFun hz' a]; simp) _).symm
    · show x ∈ ((View.whole main_v14_4).slice (win1_11.rect (pt 15))).set
      rw [View.set_slice_whole, Rect.mem_set_unit]
      intro a
      have h0 : (x 0 : Nat) < 1 := (x 0).isLt
      have h1 : (x 1 : Nat) < 1024 := (x 1).isLt
      match a with
      | ⟨0, _⟩ => show win1_11.index (pt 15) 0 * 1 ≤ (x 0 : Nat) ∧ (x 0 : Nat) < win1_11.index (pt 15) 0 * 1 + 1; rw [(idx1_11 15).1]; omega
      | ⟨1, _⟩ => show win1_11.index (pt 15) 1 * 1024 ≤ (x 1 : Nat) ∧ (x 1 : Nat) < win1_11.index (pt 15) 1 * 1024 + 1024; rw [(idx1_11 15).2]; omega
  rw [hg]
  refine (acc1_11 I d 15 (by omega)).trans (congrArg _ ?_)
  exact sum_tiles (n := 16) (k := 256) rfl (fun t => dg4S (X t) (T t) (RL t) WD g4 d) (fun b p => tok ⟨b.val, by omega⟩ p) (fun b p => rfl)

end Cert.MlpIdeal.Value
end
-- ==== Proof.MlpRun2.lean ====
/-
  The arrays the two weight gradients leave, entry by entry, from the arrays they find.
-/
module
public import proofs.«01_k».proof.Proof.MlpRun1
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MlpIdeal.Value
open Cert.MlpIdeal Cert.MlpIdeal.Gen Cert.MlpMath

variable (V : (c : Dev nD) → (b : Ref sig .tc) → Buf (Elt Ideal) ((c : Thread nD τ).loc b)) (c : Dev nD)

/-- Row `p` of tile `b` of 1024. -/
def tok2 (b : Fin 4) (p : Fin 1024) : Fin 4096 := ⟨1024 * b.val + p.val, by have := b.isLt; have := p.isLt; omega⟩
/-- Shard `u` of pair `j`. -/
def shard (j : Fin 4) (u : Fin 2) : Fin 8 := ⟨2 * j.val + u.val, by have := j.isLt; have := u.isLt; omega⟩

def pt2 (j s : Fin 4) : Fin cfg2.N := ⟨4 * j.val + s.val, by have := j.isLt; have := s.isLt; show _ < 16; omega⟩
theorem idx2_0 : ∀ j s : Fin 4, win2_0.index (pt2 j s) 0 = s.val ∧ win2_0.index (pt2 j s) 1 = 0 := by decide +kernel
theorem idx2_1 : ∀ j s : Fin 4, win2_1.index (pt2 j s) 0 = s.val ∧ win2_1.index (pt2 j s) 1 = j.val := by decide +kernel
theorem idx2_2 : ∀ j s : Fin 4, win2_2.index (pt2 j s) 0 = j.val ∧ win2_2.index (pt2 j s) 1 = 0 ∧ win2_2.index (pt2 j s) 2 = 0 := by decide +kernel
theorem inj2_2 : ∀ t t' : Fin cfg2.N, t.val % 4 = 3 → t'.val % 4 = 3 → win2_2.index t = win2_2.index t' → t = t' :=
  (by decide +kernel : ∀ t t' : Fin grid2.N, t.val % 4 = 3 → t'.val % 4 = 3 → win2_2.index t = win2_2.index t' → t = t')
theorem disj2_2 : ∀ t t' : Fin cfg2.N, (cfg2.win 2).flush t = true → (cfg2.win 2).flush t' = true → t ≠ t' →
    Disjoint ((cfg2.win 2).blk t).view.set ((cfg2.win 2).blk t').view.set :=
  fun t t' h1 h2 hne => (cfg2.win 2).disjoint_blk fun h => hne (inj2_2 t t' ((flush2_2 t).1 h1) ((flush2_2 t').1 h2) h)

theorem outs2_eq (n n' : Nat) (h : n < cfg2.N) (h' : n' < cfg2.N) (e : n = n') : outsAt2 V c n h = outsAt2 V c n' h' := by
  subst e
  rfl

section
variable {V c} {N : Fin 4096 → Fin 1024 → ℝ} {W : Fin 4096 → Fin 8 → Fin 512 → ℝ}
  (hN : ∀ t d, (V c main_v12 : Vec Ideal S4096x1024 .bf16) (ix2 t d) = ((N t d : ℝ) : EReal))
  (hW : ∀ t j f, (V c main_v14_0 : Vec Ideal S4096x4096 .bf16) (ix2 t (col j f)) = ((W t j f : ℝ) : EReal))
include hN in
theorem inN2 (j s : Fin 4) (t d : Fin 1024) : (iblk2 V c 0 (pt2 j s) : Vec Ideal S1024x1024 .bf16) (ix2 t d) = ((N (tok2 s t) d : ℝ) : EReal) := by
  refine Eq.trans ?_ (hN _ _)
  unfold iblk2
  rw [View.read_apply]
  show V c main_v12 _ = _
  refine congrArg _ ?_
  funext a
  apply Fin.ext
  match a with
  | ⟨0, _⟩ => show win2_0.index (pt2 j s) 0 * 1024 + 1 * t.val = 1024 * s.val + t.val; rw [(idx2_0 j s).1]; omega
  | ⟨1, _⟩ => show win2_0.index (pt2 j s) 1 * 1024 + 1 * d.val = d.val; rw [(idx2_0 j s).2]; omega

include hW in
theorem inW2 (j s : Fin 4) (t : Fin 1024) (u : Fin 2) (f : Fin 512) :
    (iblk2 V c 1 (pt2 j s) : Vec Ideal S1024x1024 .bf16) (ix2 t (half u f)) = ((W (tok2 s t) (shard j u) f : ℝ) : EReal) := by
  refine Eq.trans ?_ (hW _ _ _)
  unfold iblk2
  rw [View.read_apply]
  show V c main_v14_0 _ = _
  refine congrArg _ ?_
  funext a
  apply Fin.ext
  match a with
  | ⟨0, _⟩ => show win2_1.index (pt2 j s) 0 * 1024 + 1 * t.val = 1024 * s.val + t.val; rw [(idx2_1 j s).1]; omega
  | ⟨1, _⟩ => show win2_1.index (pt2 j s) 1 * 1024 + 1 * (512 * u.val + f.val) = 512 * (2 * j.val + u.val) + f.val; rw [(idx2_1 j s).2]; omega

include hN hW in
theorem acc2 (j : Fin 4) (u : Fin 2) (d : Fin 1024) (f : Fin 512) : ∀ (n : ℕ) (hn : n < 4),
    (outsAt2 V c (pt2 j ⟨n, hn⟩).val (pt2 j ⟨n, hn⟩).isLt : Vec Ideal S2x1024x512 .f32) (ix3 u d f)
      = ((∑ s : Fin (n + 1), ∑ t : Fin 1024, N (tok2 ⟨s.val, by omega⟩ t) d * W (tok2 ⟨s.val, by omega⟩ t) (shard j u) f : ℝ) : EReal)
  | 0, hn => by
    rw [outsAt2_A V c (pt2 j ⟨0, hn⟩) (by show (4 * j.val + 0) % 4 = 0; omega)]
    rw [out2_A_at]
    simp only [inN2 hN, inW2 hW, ← EReal.coe_mul, ← coe_sum]
    rw [Fin.sum_univ_one]
    rfl
  | n + 1, hn => by
    have ih := acc2 j u d f n (by omega)
    rw [outsAt2_B V c (pt2 j ⟨n + 1, hn⟩) (by show ¬ (4 * j.val + (n + 1)) % 4 = 0; omega)]
    rw [out2_B_at]
    simp only [inN2 hN, inW2 hW, ← EReal.coe_mul, ← coe_sum]
    rw [outs2_eq V c ((pt2 j ⟨n + 1, hn⟩).val - 1) (pt2 j ⟨n, by omega⟩).val _ (pt2 j ⟨n, by omega⟩).isLt rfl, ih, ← EReal.coe_add, Fin.sum_univ_castSucc (n := n + 1)]
    rfl

include hN hW in
theorem run2 (j : Fin 4) (u : Fin 2) (d : Fin 1024) (f : Fin 512) :
    ((dat2 V c).arrAt 2 cfg2.N : Vec Ideal S8x1024x512 .f32) (ix3 (shard j u) d f) = ((∑ t : Fin 4096, N t d * W t (shard j u) f : ℝ) : EReal) := by
  have he : ((cfg2.win 2).blk (pt2 j 3)).view.emb (ix3 u d f : S2x1024x512.Idx) = (ix3 (shard j u) d f : S8x1024x512.Idx) := by
    funext a
    apply Fin.ext
    match a with
    | ⟨0, _⟩ => show win2_2.index (pt2 j 3) 0 * 2 + 1 * u.val = 2 * j.val + u.val; rw [(idx2_2 j 3).1]; omega
    | ⟨1, _⟩ => show win2_2.index (pt2 j 3) 1 * 1024 + 1 * d.val = d.val; rw [(idx2_2 j 3).2.1]; omega
    | ⟨2, _⟩ => show win2_2.index (pt2 j 3) 2 * 512 + 1 * f.val = f.val; rw [(idx2_2 j 3).2.2]; omega
  have h := (dat2 V c).arrAt_emb_eq_flushed 2 disj2_2 (pt2 j 3) ((flush2_2 (pt2 j 3)).2 (by show (4 * j.val + 3) % 4 = 3; omega)) (ix3 u d f : S2x1024x512.Idx)
  rw [he] at h
  have hcut : ∀ X, (cfg2.win 2).cut (grid2.coords (pt2 j 3)) X (ix3 u d f : S2x1024x512.Idx) = (X : Vec Ideal S2x1024x512 .f32) (ix3 u d f) := fun _ => rfl
  refine h.trans ?_
  rw [cast_eq]
  have hfl : (dat2 V c).flushed 2 (pt2 j 3) = (cfg2.win 2).cut (grid2.coords (pt2 j 3)) (outsAt2 V c (pt2 j 3).val (pt2 j 3).isLt) := by
    show (cfg2.win 2).cut (grid2.coords (pt2 j 3)) ((dat2 V c).after 2 (pt2 j 3)) = _
    rw [after2_2]
  rw [hfl, hcut]
  refine (acc2 hN hW j u d f 3 (by omega)).trans (congrArg _ ?_)
  exact sum_tiles (n := 4) (k := 1024) rfl (fun t => N t d * W t (shard j u) f) (fun s t => tok2 ⟨s.val, by omega⟩ t) (fun s t => rfl)
end

def pt3 (j s : Fin 4) : Fin cfg3.N := ⟨4 * j.val + s.val, by have := j.isLt; have := s.isLt; show _ < 16; omega⟩
theorem idx3_1 : ∀ j s : Fin 4, win3_1.index (pt3 j s) 0 = s.val ∧ win3_1.index (pt3 j s) 1 = 0 := by decide +kernel
theorem idx3_0 : ∀ j s : Fin 4, win3_0.index (pt3 j s) 0 = s.val ∧ win3_0.index (pt3 j s) 1 = j.val := by decide +kernel
theorem idx3_2 : ∀ j s : Fin 4, win3_2.index (pt3 j s) 0 = j.val ∧ win3_2.index (pt3 j s) 1 = 0 ∧ win3_2.index (pt3 j s) 2 = 0 := by decide +kernel
theorem inj3_2 : ∀ t t' : Fin cfg3.N, t.val % 4 = 3 → t'.val % 4 = 3 → win3_2.index t = win3_2.index t' → t = t' :=
  (by decide +kernel : ∀ t t' : Fin grid3.N, t.val % 4 = 3 → t'.val % 4 = 3 → win3_2.index t = win3_2.index t' → t = t')
theorem disj3_2 : ∀ t t' : Fin cfg3.N, (cfg3.win 2).flush t = true → (cfg3.win 2).flush t' = true → t ≠ t' →
    Disjoint ((cfg3.win 2).blk t).view.set ((cfg3.win 2).blk t').view.set :=
  fun t t' h1 h2 hne => (cfg3.win 2).disjoint_blk fun h => hne (inj3_2 t t' ((flush3_2 t).1 h1) ((flush3_2 t').1 h2) h)

theorem outs3_eq (n n' : Nat) (h : n < cfg3.N) (h' : n' < cfg3.N) (e : n = n') : outsAt3 V c n h = outsAt3 V c n' h' := by
  subst e
  rfl

section
variable {V c} {N : Fin 4096 → Fin 1024 → ℝ} {W : Fin 4096 → Fin 8 → Fin 512 → ℝ}
  (hN : ∀ t d, (V c main_v14_1 : Vec Ideal S4096x1024 .bf16) (ix2 t d) = ((N t d : ℝ) : EReal))
  (hW : ∀ t j f, (V c main_v13 : Vec Ideal S4096x4096 .bf16) (ix2 t (col j f)) = ((W t j f : ℝ) : EReal))
include hN in
theorem inN3 (j s : Fin 4) (t d : Fin 1024) : (iblk3 V c 1 (pt3 j s) : Vec Ideal S1024x1024 .bf16) (ix2 t d) = ((N (tok2 s t) d : ℝ) : EReal) := by
  refine Eq.trans ?_ (hN _ _)
  unfold iblk3
  rw [View.read_apply]
  show V c main_v14_1 _ = _
  refine congrArg _ ?_
  funext a
  apply Fin.ext
  match a with
  | ⟨0, _⟩ => show win3_1.index (pt3 j s) 0 * 1024 + 1 * t.val = 1024 * s.val + t.val; rw [(idx3_1 j s).1]; omega
  | ⟨1, _⟩ => show win3_1.index (pt3 j s) 1 * 1024 + 1 * d.val = d.val; rw [(idx3_1 j s).2]; omega

include hW in
theorem inW3 (j s : Fin 4) (t : Fin 1024) (u : Fin 2) (f : Fin 512) :
    (iblk3 V c 0 (pt3 j s) : Vec Ideal S1024x1024 .bf16) (ix2 t (half u f)) = ((W (tok2 s t) (shard j u) f : ℝ) : EReal) := by
  refine Eq.trans ?_ (hW _ _ _)
  unfold iblk3
  rw [View.read_apply]
  show V c main_v13 _ = _
  refine congrArg _ ?_
  funext a
  apply Fin.ext
  match a with
  | ⟨0, _⟩ => show win3_0.index (pt3 j s) 0 * 1024 + 1 * t.val = 1024 * s.val + t.val; rw [(idx3_0 j s).1]; omega
  | ⟨1, _⟩ => show win3_0.index (pt3 j s) 1 * 1024 + 1 * (512 * u.val + f.val) = 512 * (2 * j.val + u.val) + f.val; rw [(idx3_0 j s).2]; omega

include hN hW in
theorem acc3 (j : Fin 4) (u : Fin 2) (f : Fin 512) (d : Fin 1024) : ∀ (n : ℕ) (hn : n < 4),
    (outsAt3 V c (pt3 j ⟨n, hn⟩).val (pt3 j ⟨n, hn⟩).isLt : Vec Ideal S2x512x1024 .f32) (ix3 u f d)
      = ((∑ s : Fin (n + 1), ∑ t : Fin 1024, W (tok2 ⟨s.val, by omega⟩ t) (shard j u) f * N (tok2 ⟨s.val, by omega⟩ t) d : ℝ) : EReal)
  | 0, hn => by
    rw [outsAt3_A V c (pt3 j ⟨0, hn⟩) (by show (4 * j.val + 0) % 4 = 0; omega)]
    rw [out3_A_at]
    simp only [inN3 hN, inW3 hW, ← EReal.coe_mul, ← coe_sum]
    rw [Fin.sum_univ_one]
    rfl
  | n + 1, hn => by
    have ih := acc3 j u f d n (by omega)
    rw [outsAt3_B V c (pt3 j ⟨n + 1, hn⟩) (by show ¬ (4 * j.val + (n + 1)) % 4 = 0; omega)]
    rw [out3_B_at]
    simp only [inN3 hN, inW3 hW, ← EReal.coe_mul, ← coe_sum]
    rw [outs3_eq V c ((pt3 j ⟨n + 1, hn⟩).val - 1) (pt3 j ⟨n, by omega⟩).val _ (pt3 j ⟨n, by omega⟩).isLt rfl, ih, ← EReal.coe_add, Fin.sum_univ_castSucc (n := n + 1)]
    rfl

include hN hW in
theorem run3 (j : Fin 4) (u : Fin 2) (f : Fin 512) (d : Fin 1024) :
    ((dat3 V c).arrAt 2 cfg3.N : Vec Ideal S8x512x1024 .f32) (ix3 (shard j u) f d) = ((∑ t : Fin 4096, W t (shard j u) f * N t d : ℝ) : EReal) := by
  have he : ((cfg3.win 2).blk (pt3 j 3)).view.emb (ix3 u f d : S2x512x1024.Idx) = (ix3 (shard j u) f d : S8x512x1024.Idx) := by
    funext a
    apply Fin.ext
    match a with
    | ⟨0, _⟩ => show win3_2.index (pt3 j 3) 0 * 2 + 1 * u.val = 2 * j.val + u.val; rw [(idx3_2 j 3).1]; omega
    | ⟨1, _⟩ => show win3_2.index (pt3 j 3) 1 * 512 + 1 * f.val = f.val; rw [(idx3_2 j 3).2.1]; omega
    | ⟨2, _⟩ => show win3_2.index (pt3 j 3) 2 * 1024 + 1 * d.val = d.val; rw [(idx3_2 j 3).2.2]; omega
  have h := (dat3 V c).arrAt_emb_eq_flushed 2 disj3_2 (pt3 j 3) ((flush3_2 (pt3 j 3)).2 (by show (4 * j.val + 3) % 4 = 3; omega)) (ix3 u f d : S2x512x1024.Idx)
  rw [he] at h
  have hcut : ∀ X, (cfg3.win 2).cut (grid3.coords (pt3 j 3)) X (ix3 u f d : S2x512x1024.Idx) = (X : Vec Ideal S2x512x1024 .f32) (ix3 u f d) := fun _ => rfl
  refine h.trans ?_
  rw [cast_eq]
  have hfl : (dat3 V c).flushed 2 (pt3 j 3) = (cfg3.win 2).cut (grid3.coords (pt3 j 3)) (outsAt3 V c (pt3 j 3).val (pt3 j 3).isLt) := by
    show (cfg3.win 2).cut (grid3.coords (pt3 j 3)) ((dat3 V c).after 2 (pt3 j 3)) = _
    rw [after3_2]
  rw [hfl, hcut]
  refine (acc3 hN hW j u f d 3 (by omega)).trans (congrArg _ ?_)
  exact sum_tiles (n := 4) (k := 1024) rfl (fun t => W t (shard j u) f * N t d) (fun s t => tok2 ⟨s.val, by omega⟩ t) (fun s t => rfl)
end

end Cert.MlpIdeal.Value
end
-- ==== Proof.MlpRef.lean ====
/-
  The reference's stages, entry by entry, where the arguments hold reals.
-/
module
public import proofs.«01_k».proof.Proof.Gen.MlpRefIdeal.Read
public import proofs.«01_k».proof.Proof.MlpMath
public import proofs.«01_k».proof.Proof.MlpOut
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
namespace Cert.MlpRefIdeal.Read
open Cert.MlpRefIdeal Cert.MlpRefIdeal.Gen Cert.MlpMath
open Cert.MlpIdeal.Value (ffS dffS daS dhS dxS dg3S dg4S)
open scoped BigOperators

variable {x0 x1 : FVec Ideal S4096x1024 .f32} {x2 : FVec Ideal S8x1024x512 .bf16} {x3 : FVec Ideal S8x512x1024 .bf16} {x4 x5 : FVec Ideal S1x1024 .f32}
  {X T : Fin 4096 → Fin 1024 → ℝ} {WU : Fin 8 → Fin 1024 → Fin 512 → ℝ} {WD : Fin 8 → Fin 512 → Fin 1024 → ℝ} {g3 g4 : Fin 1024 → ℝ}

/-- The six arguments hold these reals. -/
structure Args (x0 x1 : FVec Ideal S4096x1024 .f32) (x2 : FVec Ideal S8x1024x512 .bf16) (x3 : FVec Ideal S8x512x1024 .bf16) (x4 x5 : FVec Ideal S1x1024 .f32)
    (X T : Fin 4096 → Fin 1024 → ℝ) (WU : Fin 8 → Fin 1024 → Fin 512 → ℝ) (WD : Fin 8 → Fin 512 → Fin 1024 → ℝ) (g3 g4 : Fin 1024 → ℝ) : Prop where
  hX : ∀ t d, x0 (ix2 t d) = ((X t d : ℝ) : EReal)
  hT : ∀ t d, x1 (ix2 t d) = ((T t d : ℝ) : EReal)
  hU : ∀ j d f, x2 (ix3 j d f) = ((WU j d f : ℝ) : EReal)
  hD : ∀ j f d, x3 (ix3 j f d) = ((WD j f d : ℝ) : EReal)
  h3 : ∀ d, x4 (ix2 0 d) = ((g3 d : ℝ) : EReal)
  h4 : ∀ d, x5 (ix2 0 d) = ((g4 d : ℝ) : EReal)

/-- The up projection's positive part, row by row. -/
abbrev RLr (X : Fin 4096 → Fin 1024 → ℝ) (WU : Fin 8 → Fin 1024 → Fin 512 → ℝ) (g3 : Fin 1024 → ℝ) (t : Fin 4096) : Fin 8 → Fin 512 → ℝ := rlR (hR (X t) g3) WU

theorem one_bits : Ideal.ofBits .f32 0x3F800000#32 = ((1 : ℝ) : EReal) := by
  simp [Ideal.ofBits, Ideal.ieee]
  rw [← EReal.coe_mul]
  first | (congr 1; norm_num) | norm_num

section
variable (I : Args x0 x1 x2 x3 x4 x5 X T WU WD g3 g4)
include I
/-- The stage `v3`. -/
theorem v3_at (t : Fin 4096) : val_main_v3 (F := Ideal) x0 (ix1 t) = ((∑ d, X t d * X t d : ℝ) : EReal) := by
  unfold val_main_v3 val_main_v2 val_main_cst
  pointwise
  simp only [I.hX, ← EReal.coe_mul, ← coe_sum, ← EReal.coe_add, ← EReal.coe_sub, div_n, two_bits, half_bits, neg_half_bits, eps_bits, one_bits]
  try rfl

/-- The stage `v8`. -/
theorem v8_at (t : Fin 4096) : val_main_v8 (F := Ideal) x0 (ix2 t 0) = ((ms (X t) : ℝ) : EReal) := by
  unfold val_main_v8 val_main_v6 val_main_v4 val_main_v5 val_main_v7 val_main_cst_0 val_main_cst_1
  pointwise
  simp only [v3_at I, ← EReal.coe_mul, ← coe_sum, ← EReal.coe_add, ← EReal.coe_sub, div_n, two_bits, half_bits, neg_half_bits, eps_bits, one_bits]
  try rfl

/-- The stage `v9`. -/
theorem v9_at (t : Fin 4096) : val_main_v9 (F := Ideal) x0 (ix2 t 0) = ((rr (X t) : ℝ) : EReal) := by
  unfold val_main_v9
  pointwise
  rw [v8_at I]
  exact rsqrt_pos (ms (X t)) (ms_pos (X t))

/-- The stage `v10`. -/
theorem v10_at (t : Fin 4096) : val_main_v10 (F := Ideal) x0 (ix2 t 0) = ((rr (X t) / ms (X t) : ℝ) : EReal) := by
  unfold val_main_v10
  pointwise
  rw [v9_at I, v8_at I]
  rw [Ideal.div_coe (ms_pos (X t)).ne', ← EReal.coe_mul, mul_one_div]

/-- The stage `v12`. -/
theorem v12_at (t : Fin 4096) : val_main_v12 (F := Ideal) x0 (ix2 t 0) = ((-(1 / 2) * (rr (X t) / ms (X t)) : ℝ) : EReal) := by
  unfold val_main_v12 val_main_v11 val_main_cst_2
  pointwise
  simp only [v10_at I, ← EReal.coe_mul, ← coe_sum, ← EReal.coe_add, ← EReal.coe_sub, div_n, two_bits, half_bits, neg_half_bits, eps_bits, one_bits]
  try rfl

/-- The stage `v14`. -/
theorem v14_at (t : Fin 4096) (d : Fin 1024) : val_main_v14 (F := Ideal) x0 (ix2 t d) = ((X t d * rr (X t) : ℝ) : EReal) := by
  unfold val_main_v14 val_main_v13
  pointwise
  simp only [I.hX, v9_at I, ← EReal.coe_mul, ← coe_sum, ← EReal.coe_add, ← EReal.coe_sub, div_n, two_bits, half_bits, neg_half_bits, eps_bits, one_bits]
  try rfl

/-- The stage `v16`. -/
theorem v16_at (t : Fin 4096) (d : Fin 1024) : val_main_v16 (F := Ideal) x0 x4 (ix2 t d) = ((hR (X t) g3 d : ℝ) : EReal) := by
  unfold val_main_v16 val_main_v15
  pointwise
  simp only [v14_at I, I.h3, ← EReal.coe_mul, ← coe_sum, ← EReal.coe_add, ← EReal.coe_sub, div_n, two_bits, half_bits, neg_half_bits, eps_bits, one_bits]
  try rfl

/-- The stage `v17`. -/
theorem v17_at (t : Fin 4096) (j : Fin 8) (f : Fin 512) : val_main_v17 (F := Ideal) x0 x2 x4 (ix3 t j f) = ((∑ d, hR (X t) g3 d * WU j d f : ℝ) : EReal) := by
  unfold val_main_v17 val_main_v0
  pointwise [dot_S4096x1024_S8x1024x512_S4096x8x512_1_1_0_02_n_n]
  simp only [v16_at I, I.hU, ← EReal.coe_mul, ← coe_sum, ← EReal.coe_add, ← EReal.coe_sub, div_n, two_bits, half_bits, neg_half_bits, eps_bits, one_bits]
  try rfl

/-- The stage `v18`. -/
theorem v18_at (t : Fin 4096) (j : Fin 8) (f : Fin 512) : val_main_v18 (F := Ideal) x0 x2 x4 (ix3 t j f) = ((RLr X WU g3 t j f : ℝ) : EReal) := by
  unfold val_main_v18 val_main_call0_v0 val_main_call0_cst
  pointwise
  simp only [v17_at I, coe_max_zero, ← EReal.coe_mul, ← coe_sum, ← EReal.coe_add, ← EReal.coe_sub, div_n, two_bits, half_bits, neg_half_bits, eps_bits, one_bits]
  try rfl

/-- The stage `v22`. -/
theorem v22_at (t : Fin 4096) (j : Fin 8) (f : Fin 512) : val_main_v22 (F := Ideal) x0 x2 x4 (ix3 t j f) = (((RLr X WU g3 t) j f * (RLr X WU g3 t) j f : ℝ) : EReal) := by
  unfold val_main_v22
  pointwise
  simp only [v18_at I, ← EReal.coe_mul, ← coe_sum, ← EReal.coe_add, ← EReal.coe_sub, div_n, two_bits, half_bits, neg_half_bits, eps_bits, one_bits]
  try rfl

/-- The stage `v24`. -/
theorem v24_at (t : Fin 4096) (j : Fin 8) (f : Fin 512) : val_main_v24 (F := Ideal) x0 x2 x4 (ix3 t j f) = ((2 * (RLr X WU g3 t) j f : ℝ) : EReal) := by
  unfold val_main_v24 val_main_v23 val_main_cst_5
  pointwise
  simp only [v18_at I, ← EReal.coe_mul, ← coe_sum, ← EReal.coe_add, ← EReal.coe_sub, div_n, two_bits, half_bits, neg_half_bits, eps_bits, one_bits]
  try rfl

/-- The stage `v25`. -/
theorem v25_at (t : Fin 4096) (d : Fin 1024) : val_main_v25 (F := Ideal) x0 x2 x3 x4 (ix2 t d) = (((ffS (RLr X WU g3 t) WD) d : ℝ) : EReal) := by
  unfold val_main_v25 val_main_v1
  pointwise [dot_S4096x8x512_S8x512x1024_S4096x1024_21_10_0_2_n_n]
  simp only [v22_at I, I.hD, ← EReal.coe_mul, ← coe_sum, ← EReal.coe_add, ← EReal.coe_sub, div_n, two_bits, half_bits, neg_half_bits, eps_bits, one_bits]
  exact congrArg _ Finset.sum_comm

/-- The stage `v27`. -/
theorem v27_at (t : Fin 4096) : val_main_v27 (F := Ideal) x0 x2 x3 x4 (ix1 t) = ((∑ d, (ffS (RLr X WU g3 t) WD) d * (ffS (RLr X WU g3 t) WD) d : ℝ) : EReal) := by
  unfold val_main_v27 val_main_v26 val_main_cst_6
  pointwise
  simp only [v25_at I, ← EReal.coe_mul, ← coe_sum, ← EReal.coe_add, ← EReal.coe_sub, div_n, two_bits, half_bits, neg_half_bits, eps_bits, one_bits]
  try rfl

/-- The stage `v32`. -/
theorem v32_at (t : Fin 4096) : val_main_v32 (F := Ideal) x0 x2 x3 x4 (ix2 t 0) = ((ms (ffS (RLr X WU g3 t) WD) : ℝ) : EReal) := by
  unfold val_main_v32 val_main_v30 val_main_v28 val_main_v29 val_main_v31 val_main_cst_7 val_main_cst_8
  pointwise
  simp only [v27_at I, ← EReal.coe_mul, ← coe_sum, ← EReal.coe_add, ← EReal.coe_sub, div_n, two_bits, half_bits, neg_half_bits, eps_bits, one_bits]
  try rfl

/-- The stage `v33`. -/
theorem v33_at (t : Fin 4096) : val_main_v33 (F := Ideal) x0 x2 x3 x4 (ix2 t 0) = ((rr (ffS (RLr X WU g3 t) WD) : ℝ) : EReal) := by
  unfold val_main_v33
  pointwise
  rw [v32_at I]
  exact rsqrt_pos (ms (ffS (RLr X WU g3 t) WD)) (ms_pos (ffS (RLr X WU g3 t) WD))

/-- The stage `v34`. -/
theorem v34_at (t : Fin 4096) : val_main_v34 (F := Ideal) x0 x2 x3 x4 (ix2 t 0) = ((rr (ffS (RLr X WU g3 t) WD) / ms (ffS (RLr X WU g3 t) WD) : ℝ) : EReal) := by
  unfold val_main_v34
  pointwise
  rw [v33_at I, v32_at I]
  rw [Ideal.div_coe (ms_pos (ffS (RLr X WU g3 t) WD)).ne', ← EReal.coe_mul, mul_one_div]

/-- The stage `v36`. -/
theorem v36_at (t : Fin 4096) : val_main_v36 (F := Ideal) x0 x2 x3 x4 (ix2 t 0) = ((-(1 / 2) * (rr (ffS (RLr X WU g3 t) WD) / ms (ffS (RLr X WU g3 t) WD)) : ℝ) : EReal) := by
  unfold val_main_v36 val_main_v35 val_main_cst_9
  pointwise
  simp only [v34_at I, ← EReal.coe_mul, ← coe_sum, ← EReal.coe_add, ← EReal.coe_sub, div_n, two_bits, half_bits, neg_half_bits, eps_bits, one_bits]
  try rfl

/-- The stage `v38`. -/
theorem v38_at (t : Fin 4096) (d : Fin 1024) : val_main_v38 (F := Ideal) x0 x2 x3 x4 (ix2 t d) = (((ffS (RLr X WU g3 t) WD) d * rr (ffS (RLr X WU g3 t) WD) : ℝ) : EReal) := by
  unfold val_main_v38 val_main_v37
  pointwise
  simp only [v25_at I, v33_at I, ← EReal.coe_mul, ← coe_sum, ← EReal.coe_add, ← EReal.coe_sub, div_n, two_bits, half_bits, neg_half_bits, eps_bits, one_bits]
  try rfl

/-- The stage `v42`. -/
theorem v42_at (t : Fin 4096) (d : Fin 1024) : val_main_v42 (F := Ideal) x0 x1 x2 x3 x4 x5 (ix2 t d) = ((X t d + (ffS (RLr X WU g3 t) WD) d * rr (ffS (RLr X WU g3 t) WD) * g4 d - T t d : ℝ) : EReal) := by
  unfold val_main_v42 val_main_v41 val_main_v40 val_main_v39
  pointwise
  simp only [v38_at I, I.hX, I.hT, I.h4, ← EReal.coe_mul, ← coe_sum, ← EReal.coe_add, ← EReal.coe_sub, div_n, two_bits, half_bits, neg_half_bits, eps_bits, one_bits]
  try rfl

/-- The stage `v56`. -/
theorem v56_at (t : Fin 4096) (d : Fin 1024) : val_main_v56 (F := Ideal) x0 x1 x2 x3 x4 x5 (ix2 t d) = (((dyR (X t) (T t) (ffS (RLr X WU g3 t) WD) g4) d : ℝ) : EReal) := by
  unfold val_main_v56 val_main_v55 val_main_v54 val_main_v53 val_main_v52 val_main_v51 val_main_v45 val_main_v44 val_main_cst_10 val_main_cst_15 val_main_cst_16 val_main_cst_17
  pointwise
  simp only [v42_at I, ← EReal.coe_mul, ← coe_sum, ← EReal.coe_add, ← EReal.coe_sub, div_n, two_bits, half_bits, neg_half_bits, eps_bits, one_bits]
  unfold dyR; exact congrArg _ (by ring)

/-- The stage `v58`. -/
theorem v58_at (d : Fin 1024) : val_main_v58 (F := Ideal) x0 x1 x2 x3 x4 x5 (ix1 d) = ((∑ t, dg4S (X t) (T t) (RLr X WU g3 t) WD g4 d : ℝ) : EReal) := by
  unfold val_main_v58 val_main_v57 val_main_cst_18
  pointwise
  simp only [v38_at I, v56_at I, ← EReal.coe_mul, ← coe_sum, ← EReal.coe_add, ← EReal.coe_sub, div_n, two_bits, half_bits, neg_half_bits, eps_bits, one_bits]
  exact congrArg _ (Finset.sum_congr rfl fun t _ => mul_comm _ _)

/-- The stage `v59`. -/
theorem v59_at (d : Fin 1024) : val_main_v59 (F := Ideal) x0 x1 x2 x3 x4 x5 (ix2 0 d) = ((∑ t, dg4S (X t) (T t) (RLr X WU g3 t) WD g4 d : ℝ) : EReal) := by
  unfold val_main_v59
  pointwise
  simp only [v58_at I, ← EReal.coe_mul, ← coe_sum, ← EReal.coe_add, ← EReal.coe_sub, div_n, two_bits, half_bits, neg_half_bits, eps_bits, one_bits]
  try rfl

/-- The stage `v61`. -/
theorem v61_at (t : Fin 4096) (d : Fin 1024) : val_main_v61 (F := Ideal) x0 x1 x2 x3 x4 x5 (ix2 t d) = (((dyR (X t) (T t) (ffS (RLr X WU g3 t) WD) g4) d * g4 d : ℝ) : EReal) := by
  unfold val_main_v61 val_main_v60
  pointwise
  simp only [v56_at I, I.h4, ← EReal.coe_mul, ← coe_sum, ← EReal.coe_add, ← EReal.coe_sub, div_n, two_bits, half_bits, neg_half_bits, eps_bits, one_bits]
  try rfl

/-- The stage `v63`. -/
theorem v63_at (t : Fin 4096) : val_main_v63 (F := Ideal) x0 x1 x2 x3 x4 x5 (ix1 t) = ((∑ d, (ffS (RLr X WU g3 t) WD) d * ((dyR (X t) (T t) (ffS (RLr X WU g3 t) WD) g4) d * g4 d) : ℝ) : EReal) := by
  unfold val_main_v63 val_main_v62 val_main_cst_19
  pointwise
  simp only [v25_at I, v61_at I, ← EReal.coe_mul, ← coe_sum, ← EReal.coe_add, ← EReal.coe_sub, div_n, two_bits, half_bits, neg_half_bits, eps_bits, one_bits]
  try rfl

/-- The stage `v64`. -/
theorem v64_at (t : Fin 4096) : val_main_v64 (F := Ideal) x0 x1 x2 x3 x4 x5 (ix2 t 0) = ((∑ d, (ffS (RLr X WU g3 t) WD) d * ((dyR (X t) (T t) (ffS (RLr X WU g3 t) WD) g4) d * g4 d) : ℝ) : EReal) := by
  unfold val_main_v64
  pointwise
  simp only [v63_at I, ← EReal.coe_mul, ← coe_sum, ← EReal.coe_add, ← EReal.coe_sub, div_n, two_bits, half_bits, neg_half_bits, eps_bits, one_bits]
  try rfl

/-- The stage `v71`. -/
theorem v71_at (t : Fin 4096) (d : Fin 1024) : val_main_v71 (F := Ideal) x0 x1 x2 x3 x4 x5 (ix2 t d) = (((∑ d, (ffS (RLr X WU g3 t) WD) d * ((dyR (X t) (T t) (ffS (RLr X WU g3 t) WD) g4) d * g4 d)) * (-(1 / 2) * (rr (ffS (RLr X WU g3 t) WD) / ms (ffS (RLr X WU g3 t) WD))) / 1024 : ℝ) : EReal) := by
  unfold val_main_v71 val_main_v70 val_main_v69 val_main_v68 val_main_v67 val_main_cst_20 val_main_cst_21
  pointwise
  simp only [Fin.sum_univ_one, v64_at I, v36_at I, ← EReal.coe_mul, ← coe_sum, ← EReal.coe_add, ← EReal.coe_sub, div_n, two_bits, half_bits, neg_half_bits, eps_bits, one_bits]
  try rfl

/-- The stage `v75`. -/
theorem v75_at (t : Fin 4096) (d : Fin 1024) : val_main_v75 (F := Ideal) x0 x1 x2 x3 x4 x5 (ix2 t d) = (((dffS (X t) (T t) (RLr X WU g3 t) WD g4) d : ℝ) : EReal) := by
  unfold val_main_v75 val_main_v74 val_main_v73 val_main_v72 val_main_v66 val_main_v65
  pointwise
  simp only [v25_at I, v61_at I, v71_at I, v33_at I, ← EReal.coe_mul, ← coe_sum, ← EReal.coe_add, ← EReal.coe_sub, div_n, two_bits, half_bits, neg_half_bits, eps_bits, one_bits]
  exact congrArg _ ((by ring : _ = _).trans (rmsB_chain (dyR (X t) (T t) (ffS (RLr X WU g3 t) WD) g4) (ffS (RLr X WU g3 t) WD) g4 d))

/-- The stage `v77`. -/
theorem v77_at (j : Fin 8) (f : Fin 512) (d : Fin 1024) : val_main_v77 (F := Ideal) x0 x1 x2 x3 x4 x5 (ix3 j f d) = ((∑ t, (RLr X WU g3 t) j f * (RLr X WU g3 t) j f * (dffS (X t) (T t) (RLr X WU g3 t) WD g4) d : ℝ) : EReal) := by
  unfold val_main_v77 val_main_v76
  pointwise [dot_S4096x1024_S4096x8x512_S1024x8x512_0_0_1_12_n_n]
  simp only [v75_at I, v22_at I, ← EReal.coe_mul, ← coe_sum, ← EReal.coe_add, ← EReal.coe_sub, div_n, two_bits, half_bits, neg_half_bits, eps_bits, one_bits]
  exact congrArg _ (Finset.sum_congr rfl fun t _ => mul_comm _ _)

/-- The stage `v78`. -/
theorem v78_at (t : Fin 4096) (j : Fin 8) (f : Fin 512) : val_main_v78 (F := Ideal) x0 x1 x2 x3 x4 x5 (ix3 t j f) = ((∑ d, (dffS (X t) (T t) (RLr X WU g3 t) WD g4) d * WD j f d : ℝ) : EReal) := by
  unfold val_main_v78 val_main_v1
  pointwise [dot_S4096x1024_S8x512x1024_S4096x8x512_1_2_0_01_n_n]
  simp only [v75_at I, I.hD, ← EReal.coe_mul, ← coe_sum, ← EReal.coe_add, ← EReal.coe_sub, div_n, two_bits, half_bits, neg_half_bits, eps_bits, one_bits]
  try rfl

/-- The stage `v81`. -/
theorem v81_at (t : Fin 4096) (j : Fin 8) (f : Fin 512) : val_main_v81 (F := Ideal) x0 x1 x2 x3 x4 x5 (ix3 t j f) = (((daS (X t) (T t) (RLr X WU g3 t) WD g4) j f : ℝ) : EReal) := by
  unfold val_main_v81 val_main_v20 val_main_v19 val_main_cst_3 val_main_v79 val_main_v80 val_main_cst_22
  pointwise
  simp only [v17_at I, v78_at I, v24_at I]
  rw [← EReal.coe_mul]
  by_cases hp : 0 < ∑ d, hR (X t) g3 d * WU j d f
  · rw [if_pos (by exact_mod_cast hp)]
    rfl
  · rw [if_neg (by exact_mod_cast hp)]
    have z : RLr X WU g3 t j f = 0 := max_eq_right (not_lt.1 hp)
    unfold daS daR
    rw [z, mul_zero, mul_zero]
    rfl

/-- The stage `v83`. -/
theorem v83_at (j : Fin 8) (d : Fin 1024) (f : Fin 512) : val_main_v83 (F := Ideal) x0 x1 x2 x3 x4 x5 (ix3 j d f) = ((∑ t, hR (X t) g3 d * (daS (X t) (T t) (RLr X WU g3 t) WD g4) j f : ℝ) : EReal) := by
  unfold val_main_v83 val_main_v82
  pointwise [dot_S4096x8x512_S4096x1024_S8x512x1024_0_0_12_1_n_n]
  simp only [v81_at I, v16_at I, ← EReal.coe_mul, ← coe_sum, ← EReal.coe_add, ← EReal.coe_sub, div_n, two_bits, half_bits, neg_half_bits, eps_bits, one_bits]
  exact congrArg _ (Finset.sum_congr rfl fun t _ => mul_comm _ _)

/-- The stage `v84`. -/
theorem v84_at (t : Fin 4096) (d : Fin 1024) : val_main_v84 (F := Ideal) x0 x1 x2 x3 x4 x5 (ix2 t d) = (((dhS (X t) (T t) (RLr X WU g3 t) WU WD g4) d : ℝ) : EReal) := by
  unfold val_main_v84 val_main_v0
  pointwise [dot_S4096x8x512_S8x1024x512_S4096x1024_12_02_0_1_n_n]
  simp only [v81_at I, I.hU, ← EReal.coe_mul, ← coe_sum, ← EReal.coe_add, ← EReal.coe_sub, div_n, two_bits, half_bits, neg_half_bits, eps_bits, one_bits]
  first | rfl | exact congrArg _ Finset.sum_comm

/-- The stage `v86`. -/
theorem v86_at (d : Fin 1024) : val_main_v86 (F := Ideal) x0 x1 x2 x3 x4 x5 (ix1 d) = ((∑ t, dg3S (X t) (T t) (RLr X WU g3 t) WU WD g4 d : ℝ) : EReal) := by
  unfold val_main_v86 val_main_v85 val_main_cst_23
  pointwise
  simp only [v14_at I, v84_at I, ← EReal.coe_mul, ← coe_sum, ← EReal.coe_add, ← EReal.coe_sub, div_n, two_bits, half_bits, neg_half_bits, eps_bits, one_bits]
  exact congrArg _ (Finset.sum_congr rfl fun t _ => mul_comm _ _)

/-- The stage `v87`. -/
theorem v87_at (d : Fin 1024) : val_main_v87 (F := Ideal) x0 x1 x2 x3 x4 x5 (ix2 0 d) = ((∑ t, dg3S (X t) (T t) (RLr X WU g3 t) WU WD g4 d : ℝ) : EReal) := by
  unfold val_main_v87
  pointwise
  simp only [v86_at I, ← EReal.coe_mul, ← coe_sum, ← EReal.coe_add, ← EReal.coe_sub, div_n, two_bits, half_bits, neg_half_bits, eps_bits, one_bits]
  try rfl

/-- The stage `v89`. -/
theorem v89_at (t : Fin 4096) (d : Fin 1024) : val_main_v89 (F := Ideal) x0 x1 x2 x3 x4 x5 (ix2 t d) = (((dhS (X t) (T t) (RLr X WU g3 t) WU WD g4) d * g3 d : ℝ) : EReal) := by
  unfold val_main_v89 val_main_v88
  pointwise
  simp only [v84_at I, I.h3, ← EReal.coe_mul, ← coe_sum, ← EReal.coe_add, ← EReal.coe_sub, div_n, two_bits, half_bits, neg_half_bits, eps_bits, one_bits]
  try rfl

/-- The stage `v91`. -/
theorem v91_at (t : Fin 4096) : val_main_v91 (F := Ideal) x0 x1 x2 x3 x4 x5 (ix1 t) = ((∑ d, X t d * ((dhS (X t) (T t) (RLr X WU g3 t) WU WD g4) d * g3 d) : ℝ) : EReal) := by
  unfold val_main_v91 val_main_v90 val_main_cst_24
  pointwise
  simp only [I.hX, v89_at I, ← EReal.coe_mul, ← coe_sum, ← EReal.coe_add, ← EReal.coe_sub, div_n, two_bits, half_bits, neg_half_bits, eps_bits, one_bits]
  try rfl

/-- The stage `v92`. -/
theorem v92_at (t : Fin 4096) : val_main_v92 (F := Ideal) x0 x1 x2 x3 x4 x5 (ix2 t 0) = ((∑ d, X t d * ((dhS (X t) (T t) (RLr X WU g3 t) WU WD g4) d * g3 d) : ℝ) : EReal) := by
  unfold val_main_v92
  pointwise
  simp only [v91_at I, ← EReal.coe_mul, ← coe_sum, ← EReal.coe_add, ← EReal.coe_sub, div_n, two_bits, half_bits, neg_half_bits, eps_bits, one_bits]
  try rfl

/-- The stage `v100`. -/
theorem v100_at (t : Fin 4096) (d : Fin 1024) : val_main_v100 (F := Ideal) x0 x1 x2 x3 x4 x5 (ix2 t d) = (((∑ d, X t d * ((dhS (X t) (T t) (RLr X WU g3 t) WU WD g4) d * g3 d)) * (-(1 / 2) * (rr (X t) / ms (X t))) / 1024 : ℝ) : EReal) := by
  unfold val_main_v100 val_main_v99 val_main_v98 val_main_v97 val_main_v96 val_main_cst_25 val_main_cst_26
  pointwise
  simp only [Fin.sum_univ_one, v92_at I, v12_at I, ← EReal.coe_mul, ← coe_sum, ← EReal.coe_add, ← EReal.coe_sub, div_n, two_bits, half_bits, neg_half_bits, eps_bits, one_bits]
  try rfl

/-- The stage `v104`. -/
theorem v104_at (t : Fin 4096) (d : Fin 1024) : val_main_v104 (F := Ideal) x0 x1 x2 x3 x4 x5 (ix2 t d) = ((dxS (X t) (T t) (RLr X WU g3 t) WU WD g3 g4 d : ℝ) : EReal) := by
  unfold val_main_v104 val_main_v103 val_main_v102 val_main_v101 val_main_v95 val_main_v94 val_main_v93
  pointwise
  simp only [v100_at I, I.hX, v89_at I, v56_at I, v9_at I, ← EReal.coe_mul, ← coe_sum, ← EReal.coe_add, ← EReal.coe_sub, div_n, two_bits, half_bits, neg_half_bits, eps_bits, one_bits]
  exact congrArg _ ((by ring : _ = _).trans (congrArg ((dyR (X t) (T t) (ffS (RLr X WU g3 t) WD) g4) d + ·) (rmsB_chain (dhS (X t) (T t) (RLr X WU g3 t) WU WD g4) (X t) g3 d)))

end
end Cert.MlpRefIdeal.Read
end
-- ==== Proof.MlpRun.lean ====
/-
  The block's run: what its five results hold, entry by entry, where the arguments hold reals.
-/
module
public import proofs.«01_k».proof.Proof.MlpRun2
public import proofs.«01_k».proof.Proof.MlpRef
public import proofs.«01_k».proof.Proof.Gen.MlpIdeal.Frame
public import Idealize.ShloMosaic.Lib.StableHlo.Run
public import Idealize.ShloMosaic.Lib.Claim
public import Idealize.ShloMosaic.Lib.Tactic
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
namespace Cert.MlpIdeal.Value
open Cert.MlpIdeal Cert.MlpIdeal.Gen Cert.MlpMath
open Cert.MlpRefIdeal.Read (Args RLr)

section run
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run with its five results at what the last boundary holds. -/
theorem run : θ_run defs (onTc (τ := τ) (main (F := F))) ⟨m, fun _ => 0, ρ⟩ (fun r => (∀ c : Dev nD,
      r.2.mem ((c.tc : Thread nD τ).loc main_v14_2) = W5 m ρ c (Proc.devRef .tc main_v14_2) ∧
      r.2.mem ((c.tc : Thread nD τ).loc main_v14_3) = W5 m ρ c (Proc.devRef .tc main_v14_3) ∧
      r.2.mem ((c.tc : Thread nD τ).loc main_v14_4) = W5 m ρ c (Proc.devRef .tc main_v14_4) ∧
      r.2.mem ((c.tc : Thread nD τ).loc main_v15) = W5 m ρ c (Proc.devRef .tc main_v15) ∧
      r.2.mem ((c.tc : Thread nD τ).loc main_v16) = W5 m ρ c (Proc.devRef .tc main_v16) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v14_2 (by decide)),
       h c _ (mem_uc main_v14_3 (by decide)),
       h c _ (mem_uc main_v14_4 (by decide)),
       h c _ (mem_uc main_v15 (by decide)),
       h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩), funext fun g => hz g (.inr (no_unscoped g.2))⟩)

end run

section vals
variable {m : (ℓ : Loc nD τ sig) → Buf (Elt Ideal) ℓ} {ρ : Dev nD → PrngReg} {c : Dev nD}
  {X T : Fin 4096 → Fin 1024 → ℝ} {WU : Fin 8 → Fin 1024 → Fin 512 → ℝ} {WD : Fin 8 → Fin 512 → Fin 1024 → ℝ} {g3 g4 : Fin 1024 → ℝ}

theorem ex_tok0 (t : Fin 4096) : ∃ b p, t = tok0 b p := ⟨⟨t.val / 512, by omega⟩, ⟨t.val % 512, by omega⟩, Fin.ext (by show t.val = 512 * (t.val / 512) + t.val % 512; omega)⟩
theorem ex_tok (t : Fin 4096) : ∃ b p, t = tok b p := ⟨⟨t.val / 256, by omega⟩, ⟨t.val % 256, by omega⟩, Fin.ext (by show t.val = 256 * (t.val / 256) + t.val % 256; omega)⟩
theorem ex_shard (j : Fin 8) : ∃ i u, j = shard i u := ⟨⟨j.val / 2, by omega⟩, ⟨j.val % 2, by omega⟩, Fin.ext (by show j.val = 2 * (j.val / 2) + j.val % 2; omega)⟩

variable (I : Args (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) X T WU WD g3 g4)
include I

/-- The normed input the host leaves. -/
theorem v12_at (t : Fin 4096) (d : Fin 1024) : (V1 m ρ c main_v12 : Vec Ideal S4096x1024 .bf16) (ix2 t d) = ((hR (X t) g3 d : ℝ) : EReal) := by
  refine Eq.trans ?_ (Cert.MlpRefIdeal.Read.v16_at I t d)
  unfold_abbrev_sides
  after_results
  rfl

/-- The activations. -/
theorem v13_at (t : Fin 4096) (j : Fin 8) (f : Fin 512) : (V2 m ρ c main_v13 : Vec Ideal S4096x4096 .bf16) (ix2 t (col j f)) = ((RLr X WU g3 t j f * RLr X WU g3 t j f : ℝ) : EReal) := by
  obtain ⟨b, p, rfl⟩ := ex_tok0 t
  exact (congrFun (W2_arr m ρ c 2) _).trans (run0 (V1 m ρ) c (fun t => hR (X t) g3) WU (v12_at I) (fun j d f => (congrFun (W1_args m ρ c main_arg2 (by decide)) _).trans (I.hU j d f)) b p j f)

theorem in1 : In1 (V2 m ρ) c X T (RLr X WU g3) WU WD g3 g4 where
  hX t d := (congrFun (W2_args m ρ c main_arg0 (by decide)) _).trans (I.hX t d)
  hA := v13_at I
  pos t j f := rlR_nonneg _ _ _ _
  hT t d := (congrFun (W2_args m ρ c main_arg1 (by decide)) _).trans (I.hT t d)
  hWU j d f := (congrFun (W2_args m ρ c main_arg2 (by decide)) _).trans (I.hU j d f)
  hWD j f d := (congrFun (W2_args m ρ c main_arg3 (by decide)) _).trans (I.hD j f d)
  hg3 d := (congrFun (W2_args m ρ c main_arg4 (by decide)) _).trans (I.h3 d)
  hg4 d := (congrFun (W2_args m ρ c main_arg5 (by decide)) _).trans (I.h4 d)

/-- The input's gradient. -/
theorem res0 (t : Fin 4096) (d : Fin 1024) : (W5 m ρ c (Proc.devRef .tc main_v14_2) : Vec Ideal S4096x1024 .f32) (ix2 t d) = ((dxS (X t) (T t) (RLr X WU g3 t) WU WD g3 g4 d : ℝ) : EReal) := by
  obtain ⟨b, p, rfl⟩ := ex_tok t
  exact (congrFun (((W5_of_ne m ρ c main_v14_2 (by decide)).trans (W4_of_ne m ρ c main_v14_2 (by decide))).trans (W3_arr m ρ c 9)) _).trans (run1_9 (in1 I) b p d)

/-- The first gain's gradient. -/
theorem res1 (d : Fin 1024) : (W5 m ρ c (Proc.devRef .tc main_v14_3) : Vec Ideal S1x1024 .f32) (ix2 0 d) = ((∑ t, dg3S (X t) (T t) (RLr X WU g3 t) WU WD g4 d : ℝ) : EReal) :=
  (congrFun (((W5_of_ne m ρ c main_v14_3 (by decide)).trans (W4_of_ne m ρ c main_v14_3 (by decide))).trans (W3_arr m ρ c 10)) _).trans (run1_10 (in1 I) d)

/-- The second gain's gradient. -/
theorem res2 (d : Fin 1024) : (W5 m ρ c (Proc.devRef .tc main_v14_4) : Vec Ideal S1x1024 .f32) (ix2 0 d) = ((∑ t, dg4S (X t) (T t) (RLr X WU g3 t) WD g4 d : ℝ) : EReal) :=
  (congrFun (((W5_of_ne m ρ c main_v14_4 (by decide)).trans (W4_of_ne m ρ c main_v14_4 (by decide))).trans (W3_arr m ρ c 11)) _).trans (run1_11 (in1 I) d)

/-- The up projection's gradient. -/
theorem res3 (j : Fin 8) (d : Fin 1024) (f : Fin 512) : (W5 m ρ c (Proc.devRef .tc main_v15) : Vec Ideal S8x1024x512 .f32) (ix3 j d f)
    = ((∑ t, hR (X t) g3 d * daS (X t) (T t) (RLr X WU g3 t) WD g4 j f : ℝ) : EReal) := by
  obtain ⟨i, u, rfl⟩ := ex_shard j
  refine (congrFun ((W5_of_ne m ρ c main_v15 (by decide)).trans (W4_arr m ρ c 2)) _).trans
    (run2 (V := V3 m ρ) (c := c) (N := fun t => hR (X t) g3) (W := fun t => daS (X t) (T t) (RLr X WU g3 t) WD g4) (fun t d => ?_) (fun t j f => ?_) i u d f)
  · exact (congrFun ((W3_of_ne m ρ c main_v12 (by decide)).trans (W2_of m ρ c main_v12 (by decide))) _).trans (v12_at I t d)
  · obtain ⟨b, p, rfl⟩ := ex_tok t
    exact (congrFun (W3_arr m ρ c 7) _).trans (run1_7 (in1 I) b p j f)

/-- The down projection's gradient. -/
theorem res4 (j : Fin 8) (f : Fin 512) (d : Fin 1024) : (W5 m ρ c (Proc.devRef .tc main_v16) : Vec Ideal S8x512x1024 .f32) (ix3 j f d)
    = ((∑ t, RLr X WU g3 t j f * RLr X WU g3 t j f * dffS (X t) (T t) (RLr X WU g3 t) WD g4 d : ℝ) : EReal) := by
  obtain ⟨i, u, rfl⟩ := ex_shard j
  refine (congrFun (W5_arr m ρ c 2) _).trans
    (run3 (V := V4 m ρ) (c := c) (N := fun t => dffS (X t) (T t) (RLr X WU g3 t) WD g4) (W := fun t j f => RLr X WU g3 t j f * RLr X WU g3 t j f) (fun t d => ?_) (fun t j f => ?_) i u f d)
  · obtain ⟨b, p, rfl⟩ := ex_tok t
    exact (congrFun ((W4_of_ne m ρ c main_v14_1 (by decide)).trans (W3_arr m ρ c 8)) _).trans (run1_8 (in1 I) b p d)
  · exact (congrFun ((W4_of_ne m ρ c main_v13 (by decide)).trans (W3_of m ρ c main_v13 (by decide))) _).trans (v13_at I t j f)

end vals
end Cert.MlpIdeal.Value
end
-- ==== Proof.MlpCert.lean ====
/-
  The block's value claim: where the arguments are finite, both programs run to the same five gradients.
-/
module
public import proofs.«01_k».proof.Defs
public import proofs.«01_k».proof.Proof.MlpRun
public import proofs.«01_k».proof.Proof.PoolFin
public import proofs.«01_k».proof.Proof.Gen.Pre_mlp_finite
public import proofs.«01_k».proof.Proof.Gen.MlpRefIdeal.Run
public import proofs.«01_k».proof.Proof.Gen.MlpRefIdeal.Read
public import Idealize.ShloMosaic.Lib.ReduceAll
@[expose] public section
set_option maxRecDepth 16384
noncomputable section
open Idealize.ShloMosaic Idealize.ShloMosaic.TcCoe Idealize.SL.Sem

namespace Cert.MlpFin
open Cert.Pre_mlp_finite Cert.Pre_mlp_finite.Gen
open Cert.KernelIdeal.Value (Real')
open Cert.Fin (real_of_lt)

/-- What the precondition says: every entry of the six arguments is a real number. -/
theorem real_args (x0 x1 : FVec Ideal S4096x1024 .f32) (x2 : FVec Ideal S8x1024x512 .bf16) (x3 : FVec Ideal S8x512x1024 .bf16) (x4 x5 : FVec Ideal S1x1024 .f32)
    (h : Cert.Pre_mlp_finite.fn (F := Ideal) x0 x1 x2 x3 x4 x5 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) := by
  haveI : Subsingleton S_.Idx := ⟨fun a b => funext fun k => k.elim0⟩
  have h0 := congrFun h (Shape.Idx.first facts.h_S_)
  unfold Cert.Pre_mlp_finite.fn Cert.Pre_mlp_finite.fn_part1 at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i)⟩

/-- So they hold some reals. -/
theorem args_of (x0 x1 : FVec Ideal S4096x1024 .f32) (x2 : FVec Ideal S8x1024x512 .bf16) (x3 : FVec Ideal S8x512x1024 .bf16) (x4 x5 : FVec Ideal S1x1024 .f32)
    (h : Cert.Pre_mlp_finite.fn (F := Ideal) x0 x1 x2 x3 x4 x5 = fun _ => 1#1) :
    ∃ X T WU WD g3 g4, Cert.MlpRefIdeal.Read.Args x0 x1 x2 x3 x4 x5 X T WU WD g3 g4 := by
  obtain ⟨h0, h1, h2, h3, h4, h5⟩ := real_args x0 x1 x2 x3 x4 x5 h
  choose a0 e0 using h0
  choose a1 e1 using h1
  choose a2 e2 using h2
  choose a3 e3 using h3
  choose a4 e4 using h4
  choose a5 e5 using h5
  exact ⟨fun t d => a0 (ix2 t d), fun t d => a1 (ix2 t d), fun j d f => a2 (ix3 j d f), fun j f d => a3 (ix3 j f d), fun d => a4 (ix2 0 d), fun d => a5 (ix2 0 d),
    ⟨fun _ _ => e0 _, fun _ _ => e1 _, fun _ _ _ => e2 _, fun _ _ _ => e3 _, fun _ => e4 _, fun _ => e5 _⟩⟩

end Cert.MlpFin

namespace Cert.Proof.Mlp
open Cert.MlpIdeal Cert.MlpIdeal.Gen

theorem row0 {α : Type} {n : ℕ} {f g : (⟨2, ![1, n]⟩ : Shape).Idx → α} (h : ∀ d : Fin n, f (ix2 0 d) = g (ix2 0 d)) : f = g := by
  funext i
  have e : i = ix2 0 (i 1) := by
    conv_lhs => rw [eq_ix2 i]
    exact congrArg (fun a => ix2 a (i 1)) (Subsingleton.elim (α := Fin 1) _ _)
  rw [e]
  exact h _

/-- Both programs run to the same five gradients. -/
theorem algebraic : Cert.algebraic_MlpIdeal_MlpRefIdeal_pre_mlp_finite := by
  intro m ρ m' ρ' hpre hin
  refine ⟨fun c => W5 m ρ c (Proc.devRef .tc main_v14_2), fun c => W5 m ρ c (Proc.devRef .tc main_v14_3), fun c => W5 m ρ c (Proc.devRef .tc main_v14_4),
    fun c => W5 m ρ c (Proc.devRef .tc main_v15), fun c => W5 m ρ c (Proc.devRef .tc main_v16),
    (θ_run _ _ _).mono (fun r h => h.1) (Value.run m ρ), ?_⟩
  refine (θ_run _ _ _).mono (fun r h c => ?_) (Cert.MlpRefIdeal.Value.run (F := Ideal) m' ρ')
  obtain ⟨r0, r1, r2, r3, r4, k⟩ := h c
  obtain ⟨e0, e1, e2, e3, e4, e5⟩ := hin c
  obtain ⟨X, T, WU, WD, g3, g4, I⟩ := Cert.MlpFin.args_of _ _ _ _ _ _ (hpre c)
  have J : Cert.MlpRefIdeal.Read.Args (m' ((c.tc : Thread Cert.MlpRefIdeal.nD Cert.MlpRefIdeal.τ).loc Cert.MlpRefIdeal.main_arg0))
      (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2))
      (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4))
      (m' ((c.tc : Thread Cert.MlpRefIdeal.nD Cert.MlpRefIdeal.τ).loc Cert.MlpRefIdeal.main_arg5)) X T WU WD g3 g4 :=
    ⟨fun t d => (congrFun e0 _).trans (I.hX t d), fun t d => (congrFun e1 _).trans (I.hT t d), fun j d f => (congrFun e2 _).trans (I.hU j d f),
     fun j f d => (congrFun e3 _).trans (I.hD j f d), fun d => (congrFun e4 _).trans (I.h3 d), fun d => (congrFun e5 _).trans (I.h4 d)⟩
  refine ⟨?_, ?_, ?_, ?_, ?_, k⟩
  · refine (r0.trans (Cert.MlpRefIdeal.Read.val_main_v104_eq _)).trans ?_
    funext i
    rw [eq_ix2 i]
    exact (Cert.MlpRefIdeal.Read.v104_at J (i 0) (i 1)).trans (Value.res0 I (i 0) (i 1)).symm
  · refine (r1.trans (Cert.MlpRefIdeal.Read.val_main_v87_eq _)).trans ?_
    exact row0 fun d => (Cert.MlpRefIdeal.Read.v87_at J d).trans (Value.res1 I d).symm
  · refine (r2.trans (Cert.MlpRefIdeal.Read.val_main_v59_eq _)).trans ?_
    exact row0 fun d => (Cert.MlpRefIdeal.Read.v59_at J d).trans (Value.res2 I d).symm
  · refine (r3.trans (Cert.MlpRefIdeal.Read.val_main_v83_eq _)).trans ?_
    funext i
    rw [eq_ix3 i]
    exact (Cert.MlpRefIdeal.Read.v83_at J (i 0) (i 1) (i 2)).trans (Value.res3 I (i 0) (i 1) (i 2)).symm
  · refine (r4.trans (Cert.MlpRefIdeal.Read.val_main_v77_eq _)).trans ?_
    funext i
    rw [eq_ix3 i]
    exact (Cert.MlpRefIdeal.Read.v77_at J (i 0) (i 1) (i 2)).trans (Value.res4 I (i 0) (i 1) (i 2)).symm

end Cert.Proof.Mlp
end
-- ==== Proof.InprojPay.lean ====
/-
  What the input projection's backward kernel stores, entry by entry, where its operands hold reals.
-/
module
public import proofs.«01_k».proof.Proof.Gen.InprojIdeal.Skeleton
public import proofs.«01_k».proof.Proof.MlpMath
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.InprojIdeal.Value
open Cert.InprojIdeal Cert.InprojIdeal.Gen Cert.MlpMath

/-- Row `k` of the weights of the piece that starts at row `o`. -/
def wrow {n : ℕ} (o : ℕ) (h : o + n ≤ 3328) (k : Fin n) : Fin 3328 := ⟨o + k.val, by have := k.isLt; omega⟩

/-- The gradient in the normed input, for a row: the five pieces times their rows of the weights. -/
def dhP (W : Fin 3328 → Fin 1024 → ℝ) (u q : Fin 512 → ℝ) (k v : Fin 128 → ℝ) (g : Fin 2048 → ℝ) (d : Fin 1024) : ℝ :=
  (∑ i, u i * W (wrow 0 (by norm_num) i) d) + (∑ i, q i * W (wrow 512 (by norm_num) i) d) + (∑ i, k i * W (wrow 1024 (by norm_num) i) d)
    + (∑ i, v i * W (wrow 1152 (by norm_num) i) d) + (∑ i, g i * W (wrow 1280 (by norm_num) i) d)

theorem pay7_at (v4 v15 : FVec Ideal S512x512 .bf16) (v5 v16 : FVec Ideal S512x1024 .bf16) (u q : Fin 512 → Fin 512 → ℝ) (w w' : Fin 512 → Fin 1024 → ℝ)
    (h4 : ∀ p i, v4 (ix2 p i) = ((u p i : ℝ) : EReal)) (h15 : ∀ p i, v15 (ix2 p i) = ((q p i : ℝ) : EReal))
    (h5 : ∀ i d, v5 (ix2 i d) = ((w i d : ℝ) : EReal)) (h16 : ∀ i d, v16 (ix2 i d) = ((w' i d : ℝ) : EReal)) (p : Fin 512) (d : Fin 1024) :
    k0_pay7 (F := Ideal) v4 v5 v15 v16 (ix2 p d) = (((∑ i, u p i * w i d) + (∑ i, q p i * w' i d) : ℝ) : EReal) := by
  unfold k0_pay7
  pointwise [dot_S512x512_S512x1024_S512x1024_1_0_0_1_n_n]
  simp only [h4, h15, h5, h16, ← EReal.coe_mul, ← coe_sum, ← EReal.coe_add, zero_add]

theorem pay11_at (v18 : FVec Ideal S512x1024 .f32) (v26 v37 : FVec Ideal S512x128 .bf16) (v27 v38 : FVec Ideal S128x1024 .bf16) (v48 : FVec Ideal S512x2048 .bf16) (v49 : FVec Ideal S2048x1024 .bf16)
    (a : Fin 512 → Fin 1024 → ℝ) (k v : Fin 512 → Fin 128 → ℝ) (g : Fin 512 → Fin 2048 → ℝ) (w w' : Fin 128 → Fin 1024 → ℝ) (w'' : Fin 2048 → Fin 1024 → ℝ)
    (h18 : ∀ p d, v18 (ix2 p d) = ((a p d : ℝ) : EReal))
    (h26 : ∀ p i, v26 (ix2 p i) = ((k p i : ℝ) : EReal)) (h37 : ∀ p i, v37 (ix2 p i) = ((v p i : ℝ) : EReal)) (h48 : ∀ p i, v48 (ix2 p i) = ((g p i : ℝ) : EReal))
    (h27 : ∀ i d, v27 (ix2 i d) = ((w i d : ℝ) : EReal)) (h38 : ∀ i d, v38 (ix2 i d) = ((w' i d : ℝ) : EReal)) (h49 : ∀ i d, v49 (ix2 i d) = ((w'' i d : ℝ) : EReal))
    (p : Fin 512) (d : Fin 1024) :
    k0_pay11 (F := Ideal) v18 v26 v27 (constant S512x1024 .f32 0x00000000#32) v37 v38 v48 v49 (ix2 p d)
      = ((a p d + (∑ i, k p i * w i d) + (∑ i, v p i * w' i d) + (∑ i, g p i * w'' i d) : ℝ) : EReal) := by
  unfold k0_pay11
  pointwise [dot_S512x128_S128x1024_S512x1024_1_0_0_1_n_n, dot_S512x2048_S2048x1024_S512x1024_1_0_0_1_n_n]
  simp only [h18, h26, h37, h48, h27, h38, h49, ← EReal.coe_mul, ← coe_sum, ← EReal.coe_add, zero_add]

theorem pay12_at (v52 : FVec Ideal S512x1024 .f32) (x : Fin 512 → Fin 1024 → ℝ) (h : ∀ p d, v52 (ix2 p d) = ((x p d : ℝ) : EReal)) (p : Fin 512) :
    k0_pay12 (F := Ideal) v52 (ix2 p 0) = ((rr (x p) : ℝ) : EReal) := by
  unfold k0_pay12
  pointwise
  simp only [h, ← EReal.coe_mul, ← coe_sum]
  rw [div_n, eps_bits, ← EReal.coe_add]
  exact rsqrt_pos (ms (x p)) (ms_pos (x p))

theorem pay2_at (v51 v52 : FVec Ideal S512x1024 .f32) (v60 : FVec Ideal S512x1 .f32) (v77 : FVec Ideal S1x1024 .f32) (dh x : Fin 512 → Fin 1024 → ℝ) (a : Fin 1024 → ℝ)
    (h51 : ∀ p d, v51 (ix2 p d) = ((dh p d : ℝ) : EReal)) (h52 : ∀ p d, v52 (ix2 p d) = ((x p d : ℝ) : EReal)) (h60 : ∀ p, v60 (ix2 p 0) = ((rr (x p) : ℝ) : EReal))
    (h77 : ∀ d, v77 (ix2 0 d) = ((a d : ℝ) : EReal)) (d : Fin 1024) :
    k0_pay2 (F := Ideal) v51 v52 v60 v77 (ix2 0 d) = ((a d + ∑ p, dh p d * (x p d * rr (x p)) : ℝ) : EReal) := by
  unfold k0_pay2 k0_pay1
  pointwise
  simp only [h51, h52, h60, h77, ← EReal.coe_mul, ← coe_sum, ← EReal.coe_add]

theorem pay3_at (v51 v52 v83 : FVec Ideal S512x1024 .f32) (v60 : FVec Ideal S512x1 .f32) (v61 : FVec Ideal S1x1024 .f32) (dh x y : Fin 512 → Fin 1024 → ℝ) (g : Fin 1024 → ℝ)
    (h51 : ∀ p d, v51 (ix2 p d) = ((dh p d : ℝ) : EReal)) (h52 : ∀ p d, v52 (ix2 p d) = ((x p d : ℝ) : EReal)) (h60 : ∀ p, v60 (ix2 p 0) = ((rr (x p) : ℝ) : EReal))
    (h61 : ∀ d, v61 (ix2 0 d) = ((g d : ℝ) : EReal)) (h83 : ∀ p d, v83 (ix2 p d) = ((y p d : ℝ) : EReal)) (p : Fin 512) (d : Fin 1024) :
    k0_pay3 (F := Ideal) v51 v52 v60 v61 v83 (ix2 p d) = ((y p d + rmsB (dh p) (x p) g d : ℝ) : EReal) := by
  unfold k0_pay3 k0_pay1
  pointwise
  simp only [h51, h52, h60, h61, h83, ← EReal.coe_mul, ← coe_sum, ← EReal.coe_add, ← EReal.coe_sub, div_n]
  rfl

theorem pay6_at (v : FVec Ideal S512x512 .bf16) (b : FVec Ideal S1x512 .f32) (i : Fin 512) :
    k0_pay6 (F := Ideal) v b (ix2 0 i) = b (ix2 0 i) + ∑ p : Fin 512, v (ix2 p i) := by
  unfold k0_pay6
  pointwise

theorem pay8_at (v : FVec Ideal S512x512 .bf16) (b : FVec Ideal S1x512 .f32) (i : Fin 512) :
    k0_pay8 (F := Ideal) v b (ix2 0 i) = b (ix2 0 i) + ∑ p : Fin 512, v (ix2 p i) := by
  unfold k0_pay8
  pointwise

theorem pay9_at (v : FVec Ideal S512x128 .bf16) (b : FVec Ideal S1x128 .f32) (i : Fin 128) :
    k0_pay9 (F := Ideal) v b (ix2 0 i) = b (ix2 0 i) + ∑ p : Fin 512, v (ix2 p i) := by
  unfold k0_pay9
  pointwise

theorem pay10_at (v : FVec Ideal S512x128 .bf16) (b : FVec Ideal S1x128 .f32) (i : Fin 128) :
    k0_pay10 (F := Ideal) v b (ix2 0 i) = b (ix2 0 i) + ∑ p : Fin 512, v (ix2 p i) := by
  unfold k0_pay10
  pointwise

end Cert.InprojIdeal.Value
end
-- ==== Proof.InprojOut.lean ====
/-
  The three output blocks of one grid step of the input projection's backward kernel, entry by entry.
-/
module
public import proofs.«01_k».proof.Proof.Gen.InprojIdeal.Value
public import proofs.«01_k».proof.Proof.InprojPay
public import proofs.«01_k».proof.Proof.Gen.InprojIdeal.Frame
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.InprojIdeal.Value
open Cert.InprojIdeal Cert.InprojIdeal.Gen Cert.MlpMath

theorem canon_hit {s : Shape} {e : EltTy} (off size : Fin s.rank → ℕ) (inb) (w : (Rect.unit off size inb).shape.Idx → Elt Ideal e)
    (L : List (View.Piece (Elt Ideal) s e)) (i : s.Idx) (x : (Rect.unit off size inb).shape.Idx) (hi : ∀ a, (i a : ℕ) = off a + x a) :
    View.canon (⟨Rect.unit off size inb, w⟩ :: L) i = w x := by
  have : i = (Rect.unit off size inb).emb x := by
    funext a
    apply Fin.ext
    rw [hi a]
    show _ = off a + 1 * x a
    omega
  rw [this]
  exact View.canon_cons_emb _ w L x

theorem canon_miss {s : Shape} {e : EltTy} (off size : Fin s.rank → ℕ) (inb) (w : (Rect.unit off size inb).shape.Idx → Elt Ideal e)
    (L : List (View.Piece (Elt Ideal) s e)) (i : s.Idx) (a : Fin s.rank) (h : (i a : ℕ) < off a ∨ off a + size a ≤ (i a : ℕ)) :
    View.canon (⟨Rect.unit off size inb, w⟩ :: L) i = View.canon L i := by
  refine View.canon_cons_of_not_mem _ L fun hm => ?_
  have := (Rect.mem_set_unit (inb := inb)).1 hm a
  omega

theorem ld_full {e : EltTy} {a b : ℕ} (x : Vec Ideal ⟨2, ![a, b]⟩ e) (inb) (p : Fin a) (d : Fin b) :
    View.ld x (Rect.unit (s := ⟨2, ![a, b]⟩) ![0, 0] ![a, b] inb) (ix2 p d) = x (ix2 p d) :=
  View.ld_unit_apply_of x _ _ inb _ (ix2 p d) (fun a => by
    match a with
    | ⟨0, _⟩ => show p.val = 0 + p.val; omega
    | ⟨1, _⟩ => show d.val = 0 + d.val; omega)

theorem ld_rows {e : EltTy} {a b n : ℕ} (x : Vec Ideal ⟨2, ![a, b]⟩ e) (o : ℕ) (inb) (i : Fin n) (r : Fin a) (h : r.val = o + i.val) (d : Fin b) :
    View.ld x (Rect.unit (s := ⟨2, ![a, b]⟩) ![o, 0] ![n, b] inb) (ix2 i d) = x (ix2 r d) :=
  View.ld_unit_apply_of x _ _ inb _ (ix2 r d) (fun a => by
    match a with
    | ⟨0, _⟩ => exact h
    | ⟨1, _⟩ => show d.val = 0 + d.val; omega)

theorem ld_cols {e : EltTy} {b n : ℕ} (x : Vec Ideal ⟨2, ![1, b]⟩ e) (o : ℕ) (inb) (i : Fin n) (r : Fin b) (h : r.val = o + i.val) :
    View.ld x (Rect.unit (s := ⟨2, ![1, b]⟩) ![0, o] ![1, n] inb) (ix2 0 i) = x (ix2 0 r) :=
  View.ld_unit_apply_of x _ _ inb _ (ix2 0 r) (fun a => by
    match a with
    | ⟨0, _⟩ => rfl
    | ⟨1, _⟩ => exact h)

/-- The five pieces of a row, one after the other. -/
def cat (u q : Fin 512 → ℝ) (k v : Fin 128 → ℝ) (g : Fin 2048 → ℝ) (j : Fin 3328) : ℝ :=
  if h0 : j.val < 512 then u ⟨j.val, h0⟩ else if h1 : j.val < 1024 then q ⟨j.val - 512, by omega⟩ else if h2 : j.val < 1152 then k ⟨j.val - 1024, by omega⟩
  else if h3 : j.val < 1280 then v ⟨j.val - 1152, by omega⟩ else g ⟨j.val - 1280, by omega⟩

section
variable (u q : Fin 512 → ℝ) (k v : Fin 128 → ℝ) (g : Fin 2048 → ℝ) (j : Fin 3328)
theorem cat_u (i : Fin 512) (h : j.val = 0 + i.val) : cat u q k v g j = u i := by
  have := i.isLt
  unfold cat
  rw [dif_pos (by omega)]
  exact congrArg u (Fin.ext (by show j.val = _; omega))
theorem cat_q (i : Fin 512) (h : j.val = 512 + i.val) : cat u q k v g j = q i := by
  have := i.isLt
  unfold cat
  rw [dif_neg (by omega), dif_pos (by omega)]
  exact congrArg q (Fin.ext (by show j.val - 512 = _; omega))
theorem cat_k (i : Fin 128) (h : j.val = 1024 + i.val) : cat u q k v g j = k i := by
  have := i.isLt
  unfold cat
  rw [dif_neg (by omega), dif_neg (by omega), dif_pos (by omega)]
  exact congrArg k (Fin.ext (by show j.val - 1024 = _; omega))
theorem cat_v (i : Fin 128) (h : j.val = 1152 + i.val) : cat u q k v g j = v i := by
  have := i.isLt
  unfold cat
  rw [dif_neg (by omega), dif_neg (by omega), dif_neg (by omega), dif_pos (by omega)]
  exact congrArg v (Fin.ext (by show j.val - 1152 = _; omega))
theorem cat_g (i : Fin 2048) (h : j.val = 1280 + i.val) : cat u q k v g j = g i := by
  have := i.isLt
  unfold cat
  rw [dif_neg (by omega), dif_neg (by omega), dif_neg (by omega), dif_neg (by omega)]
  exact congrArg g (Fin.ext (by show j.val - 1280 = _; omega))
end

/-- Entry `j` of the bias gradient, among the pieces' columns. -/
def up (j : Fin 1280) : Fin 3328 := ⟨j.val, by have := j.isLt; omega⟩

theorem split4 (j : Fin 1280) : (∃ i : Fin 512, j.val = 0 + i.val) ∨ (∃ i : Fin 512, j.val = 512 + i.val) ∨ (∃ i : Fin 128, j.val = 1024 + i.val) ∨ (∃ i : Fin 128, j.val = 1152 + i.val) := by
  have := j.isLt
  by_cases h0 : j.val < 512
  · exact Or.inl ⟨⟨j.val, h0⟩, by show j.val = 0 + j.val; omega⟩
  by_cases h1 : j.val < 1024
  · exact Or.inr (Or.inl ⟨⟨j.val - 512, by omega⟩, by show j.val = 512 + (j.val - 512); omega⟩)
  by_cases h2 : j.val < 1152
  · exact Or.inr (Or.inr (Or.inl ⟨⟨j.val - 1024, by omega⟩, by show j.val = 1024 + (j.val - 1024); omega⟩))
  · exact Or.inr (Or.inr (Or.inr ⟨⟨j.val - 1152, by omega⟩, by show j.val = 1152 + (j.val - 1152); omega⟩))

/-- The nine operand blocks hold these reals. -/
structure Blk (x0 x1 : Vec Ideal S512x512 .bf16) (x2 x3 : Vec Ideal S512x128 .bf16) (x4 : Vec Ideal S512x2048 .bf16) (x5 x6 : Vec Ideal S512x1024 .f32)
    (x7 : Vec Ideal S3328x1024 .bf16) (x8 : Vec Ideal S1x1024 .f32) (u q : Fin 512 → Fin 512 → ℝ) (k v : Fin 512 → Fin 128 → ℝ) (g : Fin 512 → Fin 2048 → ℝ)
    (y x : Fin 512 → Fin 1024 → ℝ) (W : Fin 3328 → Fin 1024 → ℝ) (g1 : Fin 1024 → ℝ) : Prop where
  h0 : ∀ p i, x0 (ix2 p i) = ((u p i : ℝ) : EReal)
  h1 : ∀ p i, x1 (ix2 p i) = ((q p i : ℝ) : EReal)
  h2 : ∀ p i, x2 (ix2 p i) = ((k p i : ℝ) : EReal)
  h3 : ∀ p i, x3 (ix2 p i) = ((v p i : ℝ) : EReal)
  h4 : ∀ p i, x4 (ix2 p i) = ((g p i : ℝ) : EReal)
  h5 : ∀ p d, x5 (ix2 p d) = ((y p d : ℝ) : EReal)
  h6 : ∀ p d, x6 (ix2 p d) = ((x p d : ℝ) : EReal)
  h7 : ∀ i d, x7 (ix2 i d) = ((W i d : ℝ) : EReal)
  h8 : ∀ d, x8 (ix2 0 d) = ((g1 d : ℝ) : EReal)

section
variable {x0 x1 : Vec Ideal S512x512 .bf16} {x2 x3 : Vec Ideal S512x128 .bf16} {x4 : Vec Ideal S512x2048 .bf16} {x5 x6 : Vec Ideal S512x1024 .f32}
  {x7 : Vec Ideal S3328x1024 .bf16} {x8 : Vec Ideal S1x1024 .f32} {u q : Fin 512 → Fin 512 → ℝ} {k v : Fin 512 → Fin 128 → ℝ} {g : Fin 512 → Fin 2048 → ℝ}
  {y x : Fin 512 → Fin 1024 → ℝ} {W : Fin 3328 → Fin 1024 → ℝ} {g1 : Fin 1024 → ℝ} (B : Blk x0 x1 x2 x3 x4 x5 x6 x7 x8 u q k v g y x W g1)
include B

/-- The gradient in the normed input, as the body adds it up. -/
theorem dh_at (i0 i1 i2 i3 i4 j0 j1 j2 j3 j4) (p : Fin 512) (d : Fin 1024) :
    k0_pay11 (F := Ideal)
      (k0_pay7 (View.ld x0 (Rect.unit (s := S512x512) ![0, 0] ![512, 512] i0)) (View.ld x7 (Rect.unit (s := S3328x1024) ![0, 0] ![512, 1024] j0))
        (View.ld x1 (Rect.unit (s := S512x512) ![0, 0] ![512, 512] i1)) (View.ld x7 (Rect.unit (s := S3328x1024) ![512, 0] ![512, 1024] j1)))
      (View.ld x2 (Rect.unit (s := S512x128) ![0, 0] ![512, 128] i2)) (View.ld x7 (Rect.unit (s := S3328x1024) ![1024, 0] ![128, 1024] j2))
      (constant S512x1024 .f32 0x00000000#32)
      (View.ld x3 (Rect.unit (s := S512x128) ![0, 0] ![512, 128] i3)) (View.ld x7 (Rect.unit (s := S3328x1024) ![1152, 0] ![128, 1024] j3))
      (View.ld x4 (Rect.unit (s := S512x2048) ![0, 0] ![512, 2048] i4)) (View.ld x7 (Rect.unit (s := S3328x1024) ![1280, 0] ![2048, 1024] j4)) (ix2 p d)
    = ((dhP W (u p) (q p) (k p) (v p) (g p) d : ℝ) : EReal) :=
  pay11_at _ _ _ _ _ _ _ (fun p d => (∑ i, u p i * W (wrow 0 (by norm_num) i) d) + (∑ i, q p i * W (wrow 512 (by norm_num) i) d)) k v g
    (fun i d => W (wrow 1024 (by norm_num) i) d) (fun i d => W (wrow 1152 (by norm_num) i) d) (fun i d => W (wrow 1280 (by norm_num) i) d)
    (fun p d => pay7_at _ _ _ _ u q (fun i d => W (wrow 0 (by norm_num) i) d) (fun i d => W (wrow 512 (by norm_num) i) d)
      (fun p i => (ld_full x0 _ p i).trans (B.h0 p i)) (fun p i => (ld_full x1 _ p i).trans (B.h1 p i))
      (fun i d => (ld_rows x7 0 _ i (wrow 0 (by norm_num) i) rfl d).trans (B.h7 _ d)) (fun i d => (ld_rows x7 512 _ i (wrow 512 (by norm_num) i) rfl d).trans (B.h7 _ d)) p d)
    (fun p i => (ld_full x2 _ p i).trans (B.h2 p i)) (fun p i => (ld_full x3 _ p i).trans (B.h3 p i)) (fun p i => (ld_full x4 _ p i).trans (B.h4 p i))
    (fun i d => (ld_rows x7 1024 _ i (wrow 1024 (by norm_num) i) rfl d).trans (B.h7 _ d)) (fun i d => (ld_rows x7 1152 _ i (wrow 1152 (by norm_num) i) rfl d).trans (B.h7 _ d))
    (fun i d => (ld_rows x7 1280 _ i (wrow 1280 (by norm_num) i) rfl d).trans (B.h7 _ d)) p d

/-- Output 1 in case A. -/
theorem out_A9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : cond0_0 i) (p : Fin 512) (d : Fin 1024) :
    out0_A_9 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 (ix2 p d) = ((y p d + rmsB (dhP W (u p) (q p) (k p) (v p) (g p)) (x p) g1 d : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  refine (canon_hit _ _ _ _ _ _ (ix2 p d) (fun a => by
    match a with
    | ⟨0, _⟩ => show p.val = 0 + p.val; omega
    | ⟨1, _⟩ => show d.val = 0 + d.val; omega)).trans ?_
  exact pay3_at _ _ _ _ _ (fun p => dhP W (u p) (q p) (k p) (v p) (g p)) x y g1 (fun p d => dh_at B _ _ _ _ _ _ _ _ _ _ p d) (fun p d => (ld_full x6 _ p d).trans (B.h6 p d))
    (fun p => pay12_at _ x (fun p d => (ld_full x6 _ p d).trans (B.h6 p d)) p) (fun d => (ld_full x8 _ 0 d).trans (B.h8 d)) (fun p d => (ld_full x5 _ p d).trans (B.h5 p d)) p d

/-- Output 2 in case A. -/
theorem out_A10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : cond0_0 i) (d : Fin 1024) :
    out0_A_10 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 (ix2 0 d) = ((∑ p, dhP W (u p) (q p) (k p) (v p) (g p) d * (x p d * rr (x p)) : ℝ) : EReal) := by
  unfold out0_A_10
  rw [View.read_writes_eq_canon _ _ _ (cover0_A_10 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  simp only [View.readCov_eq_canon']
  refine (canon_hit _ _ _ _ _ _ (ix2 0 d) (fun a => by
    match a with
    | ⟨0, _⟩ => rfl
    | ⟨1, _⟩ => show d.val = 0 + d.val; omega)).trans ?_
  refine (pay2_at _ _ _ _ (fun p => dhP W (u p) (q p) (k p) (v p) (g p)) x (fun _ => 0) (fun p d => dh_at B _ _ _ _ _ _ _ _ _ _ p d) (fun p d => (ld_full x6 _ p d).trans (B.h6 p d))
    (fun p => pay12_at _ x (fun p d => (ld_full x6 _ p d).trans (B.h6 p d)) p) (fun d => ?_) d).trans (congrArg _ (zero_add _))
  refine (canon_hit _ _ _ _ _ _ (ix2 0 d) (fun a => by
    match a with
    | ⟨0, _⟩ => rfl
    | ⟨1, _⟩ => show 0 + 1 * d.val = 0 + d.val; omega)).trans ?_
  exact Ideal.ofBits_zero_f32

/-- Output 3 in case A. -/
theorem out_A11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : cond0_0 i) (j : Fin 1280) :
    out0_A_11 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 (ix2 0 j) = ((∑ p, cat (u p) (q p) (k p) (v p) (g p) (up j) : ℝ) : EReal) := by
  unfold out0_A_11
  rw [View.read_writes_eq_canon _ _ _ (cover0_A_11 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  simp only [View.readCov_eq_canon']
  rcases split4 j with ⟨i, e⟩ | ⟨i, e⟩ | ⟨i, e⟩ | ⟨i, e⟩
  · refine (canon_miss _ _ _ _ _ _ (1 : Fin 2) (Or.inl (by show j.val < 1152; have := i.isLt; omega))).trans ?_
    refine (canon_miss _ _ _ _ _ _ (1 : Fin 2) (Or.inl (by show j.val < 1024; have := i.isLt; omega))).trans ?_
    refine (canon_miss _ _ _ _ _ _ (1 : Fin 2) (Or.inl (by show j.val < 512; have := i.isLt; omega))).trans ?_
    refine (canon_hit _ _ _ _ _ _ (ix2 0 i) (fun a => by
        match a with
        | ⟨0, _⟩ => rfl
        | ⟨1, _⟩ => show j.val = 0 + i.val; omega)).trans ?_
    refine (pay6_at _ _ i).trans ?_
    refine (congrArg₂ (· + ·) ?_ (sum_coe _ (fun p => cat (u p) (q p) (k p) (v p) (g p) (up j)) fun p => (ld_full x0 _ p i).trans ((B.h0 p i).trans (congrArg _ (cat_u _ _ _ _ _ (up j) i e).symm)))).trans (zero_add _)
    refine (canon_hit _ _ _ _ _ _ (ix2 0 j) (fun a => by
        match a with
        | ⟨0, _⟩ => rfl
        | ⟨1, _⟩ => show 0 + 1 * i.val = 0 + j.val; omega)).trans ?_
    exact Ideal.ofBits_zero_f32
  · refine (canon_miss _ _ _ _ _ _ (1 : Fin 2) (Or.inl (by show j.val < 1152; have := i.isLt; omega))).trans ?_
    refine (canon_miss _ _ _ _ _ _ (1 : Fin 2) (Or.inl (by show j.val < 1024; have := i.isLt; omega))).trans ?_
    refine (canon_hit _ _ _ _ _ _ (ix2 0 i) (fun a => by
        match a with
        | ⟨0, _⟩ => rfl
        | ⟨1, _⟩ => show j.val = 512 + i.val; omega)).trans ?_
    refine (pay8_at _ _ i).trans ?_
    refine (congrArg₂ (· + ·) ?_ (sum_coe _ (fun p => cat (u p) (q p) (k p) (v p) (g p) (up j)) fun p => (ld_full x1 _ p i).trans ((B.h1 p i).trans (congrArg _ (cat_q _ _ _ _ _ (up j) i e).symm)))).trans (zero_add _)
    refine (canon_miss _ _ _ _ _ _ (1 : Fin 2) (Or.inr (by show 0 + 512 ≤ 512 + 1 * i.val; omega))).trans ?_
    refine (canon_hit _ _ _ _ _ _ (ix2 0 j) (fun a => by
        match a with
        | ⟨0, _⟩ => rfl
        | ⟨1, _⟩ => show 512 + 1 * i.val = 0 + j.val; omega)).trans ?_
    exact Ideal.ofBits_zero_f32
  · refine (canon_miss _ _ _ _ _ _ (1 : Fin 2) (Or.inl (by show j.val < 1152; have := i.isLt; omega))).trans ?_
    refine (canon_hit _ _ _ _ _ _ (ix2 0 i) (fun a => by
        match a with
        | ⟨0, _⟩ => rfl
        | ⟨1, _⟩ => show j.val = 1024 + i.val; omega)).trans ?_
    refine (pay9_at _ _ i).trans ?_
    refine (congrArg₂ (· + ·) ?_ (sum_coe _ (fun p => cat (u p) (q p) (k p) (v p) (g p) (up j)) fun p => (ld_full x2 _ p i).trans ((B.h2 p i).trans (congrArg _ (cat_k _ _ _ _ _ (up j) i e).symm)))).trans (zero_add _)
    refine (canon_miss _ _ _ _ _ _ (1 : Fin 2) (Or.inr (by show 512 + 512 ≤ 1024 + 1 * i.val; omega))).trans ?_
    refine (canon_miss _ _ _ _ _ _ (1 : Fin 2) (Or.inr (by show 0 + 512 ≤ 1024 + 1 * i.val; omega))).trans ?_
    refine (canon_hit _ _ _ _ _ _ (ix2 0 j) (fun a => by
        match a with
        | ⟨0, _⟩ => rfl
        | ⟨1, _⟩ => show 1024 + 1 * i.val = 0 + j.val; omega)).trans ?_
    exact Ideal.ofBits_zero_f32
  · refine (canon_hit _ _ _ _ _ _ (ix2 0 i) (fun a => by
        match a with
        | ⟨0, _⟩ => rfl
        | ⟨1, _⟩ => show j.val = 1152 + i.val; omega)).trans ?_
    refine (pay10_at _ _ i).trans ?_
    refine (congrArg₂ (· + ·) ?_ (sum_coe _ (fun p => cat (u p) (q p) (k p) (v p) (g p) (up j)) fun p => (ld_full x3 _ p i).trans ((B.h3 p i).trans (congrArg _ (cat_v _ _ _ _ _ (up j) i e).symm)))).trans (zero_add _)
    refine (canon_miss _ _ _ _ _ _ (1 : Fin 2) (Or.inr (by show 1024 + 128 ≤ 1152 + 1 * i.val; omega))).trans ?_
    refine (canon_miss _ _ _ _ _ _ (1 : Fin 2) (Or.inr (by show 512 + 512 ≤ 1152 + 1 * i.val; omega))).trans ?_
    refine (canon_miss _ _ _ _ _ _ (1 : Fin 2) (Or.inr (by show 0 + 512 ≤ 1152 + 1 * i.val; omega))).trans ?_
    refine (canon_hit _ _ _ _ _ _ (ix2 0 j) (fun a => by
        match a with
        | ⟨0, _⟩ => rfl
        | ⟨1, _⟩ => show 1152 + 1 * i.val = 0 + j.val; omega)).trans ?_
    exact Ideal.ofBits_zero_f32

/-- Output 1 in case B. -/
theorem out_B9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : ¬cond0_0 i) (xo10 : Vec Ideal S1x1024 .f32) (xo11 : Vec Ideal S1x1280 .f32) (p : Fin 512) (d : Fin 1024) :
    out0_B_9 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11 (ix2 p d) = ((y p d + rmsB (dhP W (u p) (q p) (k p) (v p) (g p)) (x p) g1 d : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  refine (canon_hit _ _ _ _ _ _ (ix2 p d) (fun a => by
    match a with
    | ⟨0, _⟩ => show p.val = 0 + p.val; omega
    | ⟨1, _⟩ => show d.val = 0 + d.val; omega)).trans ?_
  exact pay3_at _ _ _ _ _ (fun p => dhP W (u p) (q p) (k p) (v p) (g p)) x y g1 (fun p d => dh_at B _ _ _ _ _ _ _ _ _ _ p d) (fun p d => (ld_full x6 _ p d).trans (B.h6 p d))
    (fun p => pay12_at _ x (fun p d => (ld_full x6 _ p d).trans (B.h6 p d)) p) (fun d => (ld_full x8 _ 0 d).trans (B.h8 d)) (fun p d => (ld_full x5 _ p d).trans (B.h5 p d)) p d

/-- Output 2 in case B. -/
theorem out_B10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : ¬cond0_0 i) (xo10 : Vec Ideal S1x1024 .f32) (xo11 : Vec Ideal S1x1280 .f32) (a : Fin 1024 → ℝ) (ha : ∀ d, xo10 (ix2 0 d) = ((a d : ℝ) : EReal)) (d : Fin 1024) :
    out0_B_10 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11 (ix2 0 d) = ((a d + ∑ p, dhP W (u p) (q p) (k p) (v p) (g p) d * (x p d * rr (x p)) : ℝ) : EReal) := by
  unfold out0_B_10
  rw [View.read_writes_eq_canon _ _ _ (cover0_B_10 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  refine (canon_hit _ _ _ _ _ _ (ix2 0 d) (fun a => by
    match a with
    | ⟨0, _⟩ => rfl
    | ⟨1, _⟩ => show d.val = 0 + d.val; omega)).trans ?_
  exact pay2_at _ _ _ _ (fun p => dhP W (u p) (q p) (k p) (v p) (g p)) x a (fun p d => dh_at B _ _ _ _ _ _ _ _ _ _ p d) (fun p d => (ld_full x6 _ p d).trans (B.h6 p d))
    (fun p => pay12_at _ x (fun p d => (ld_full x6 _ p d).trans (B.h6 p d)) p) (fun d => (ld_full xo10 _ 0 d).trans (ha d)) d

/-- Output 3 in case B. -/
theorem out_B11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg11 : Memref sig .tc .vmem S512x1024 .f32) (harg11 : arg11.IsWhole) (arg12 : Memref sig .tc .vmem S1x1024 .f32) (harg12 : arg12.IsWhole) (arg13 : Memref sig .tc .vmem S1x1280 .f32) (harg13 : arg13.IsWhole) (hc0 : ¬cond0_0 i) (xo10 : Vec Ideal S1x1024 .f32) (xo11 : Vec Ideal S1x1280 .f32) (j : Fin 1280) :
    out0_B_11 (F := Ideal) c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11 (ix2 0 j) = xo11 (ix2 0 j) + ((∑ p, cat (u p) (q p) (k p) (v p) (g p) (up j) : ℝ) : EReal) := by
  unfold out0_B_11
  rw [View.read_writes_eq_canon _ _ _ (cover0_B_11 c i arg1 harg1 arg2 harg2 arg3 harg3 arg4 harg4 arg5 harg5 arg6 harg6 arg7 harg7 arg8 harg8 arg9 harg9 arg11 harg11 arg12 harg12 arg13 harg13 hc0 x0 x1 x2 x3 x4 x5 x6 x7 x8 xo10 xo11)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread]
  rcases split4 j with ⟨i, e⟩ | ⟨i, e⟩ | ⟨i, e⟩ | ⟨i, e⟩
  · refine (canon_miss _ _ _ _ _ _ (1 : Fin 2) (Or.inl (by show j.val < 1152; have := i.isLt; omega))).trans ?_
    refine (canon_miss _ _ _ _ _ _ (1 : Fin 2) (Or.inl (by show j.val < 1024; have := i.isLt; omega))).trans ?_
    refine (canon_miss _ _ _ _ _ _ (1 : Fin 2) (Or.inl (by show j.val < 512; have := i.isLt; omega))).trans ?_
    refine (canon_hit _ _ _ _ _ _ (ix2 0 i) (fun a => by
        match a with
        | ⟨0, _⟩ => rfl
        | ⟨1, _⟩ => show j.val = 0 + i.val; omega)).trans ?_
    refine (pay6_at _ _ i).trans ?_
    exact congrArg₂ (· + ·) (ld_cols xo11 0 _ i j e) (sum_coe _ (fun p => cat (u p) (q p) (k p) (v p) (g p) (up j)) fun p => (ld_full x0 _ p i).trans ((B.h0 p i).trans (congrArg _ (cat_u _ _ _ _ _ (up j) i e).symm)))
  · refine (canon_miss _ _ _ _ _ _ (1 : Fin 2) (Or.inl (by show j.val < 1152; have := i.isLt; omega))).trans ?_
    refine (canon_miss _ _ _ _ _ _ (1 : Fin 2) (Or.inl (by show j.val < 1024; have := i.isLt; omega))).trans ?_
    refine (canon_hit _ _ _ _ _ _ (ix2 0 i) (fun a => by
        match a with
        | ⟨0, _⟩ => rfl
        | ⟨1, _⟩ => show j.val = 512 + i.val; omega)).trans ?_
    refine (pay8_at _ _ i).trans ?_
    exact congrArg₂ (· + ·) (ld_cols xo11 512 _ i j e) (sum_coe _ (fun p => cat (u p) (q p) (k p) (v p) (g p) (up j)) fun p => (ld_full x1 _ p i).trans ((B.h1 p i).trans (congrArg _ (cat_q _ _ _ _ _ (up j) i e).symm)))
  · refine (canon_miss _ _ _ _ _ _ (1 : Fin 2) (Or.inl (by show j.val < 1152; have := i.isLt; omega))).trans ?_
    refine (canon_hit _ _ _ _ _ _ (ix2 0 i) (fun a => by
        match a with
        | ⟨0, _⟩ => rfl
        | ⟨1, _⟩ => show j.val = 1024 + i.val; omega)).trans ?_
    refine (pay9_at _ _ i).trans ?_
    exact congrArg₂ (· + ·) (ld_cols xo11 1024 _ i j e) (sum_coe _ (fun p => cat (u p) (q p) (k p) (v p) (g p) (up j)) fun p => (ld_full x2 _ p i).trans ((B.h2 p i).trans (congrArg _ (cat_k _ _ _ _ _ (up j) i e).symm)))
  · refine (canon_hit _ _ _ _ _ _ (ix2 0 i) (fun a => by
        match a with
        | ⟨0, _⟩ => rfl
        | ⟨1, _⟩ => show j.val = 1152 + i.val; omega)).trans ?_
    refine (pay10_at _ _ i).trans ?_
    exact congrArg₂ (· + ·) (ld_cols xo11 1152 _ i j e) (sum_coe _ (fun p => cat (u p) (q p) (k p) (v p) (g p) (up j)) fun p => (ld_full x3 _ p i).trans ((B.h3 p i).trans (congrArg _ (cat_v _ _ _ _ _ (up j) i e).symm)))

end
end Cert.InprojIdeal.Value
end
-- ==== Proof.InprojRef.lean ====
/-
  The reference's stages, entry by entry, where the arguments hold reals.
-/
module
public import proofs.«01_k».proof.Proof.Gen.InprojRefIdeal.Read
public import proofs.«01_k».proof.Proof.MlpMath
public import proofs.«01_k».proof.Proof.InprojOut
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
namespace Cert.InprojRefIdeal.Read
open Cert.InprojRefIdeal Cert.InprojRefIdeal.Gen Cert.MlpMath
open Cert.InprojIdeal.Value (cat cat_u cat_q cat_k cat_v cat_g wrow dhP up split4)
open scoped BigOperators

/-- A sum over two runs of indices. -/
theorem sum_cut (n a b : ℕ) (h : n = a + b) (F : Fin n → ℝ) :
    ∑ j, F j = (∑ i : Fin a, F ⟨i.val, by have := i.isLt; omega⟩) + ∑ i : Fin b, F ⟨a + i.val, by have := i.isLt; omega⟩ := by
  subst h
  exact Fin.sum_univ_add F

/-- A sum over the five pieces' columns. -/
theorem sum_pieces (F : Fin 3328 → ℝ) :
    ∑ j, F j = (∑ i : Fin 512, F (wrow 0 (by norm_num) i)) + (∑ i : Fin 512, F (wrow 512 (by norm_num) i)) + (∑ i : Fin 128, F (wrow 1024 (by norm_num) i))
      + (∑ i : Fin 128, F (wrow 1152 (by norm_num) i)) + ∑ i : Fin 2048, F (wrow 1280 (by norm_num) i) := by
  rw [sum_cut 3328 1280 2048 rfl F, sum_cut 1280 1152 128 rfl, sum_cut 1152 1024 128 rfl, sum_cut 1024 512 512 rfl]
  refine congrArg₂ (· + ·) (congrArg₂ (· + ·) (congrArg₂ (· + ·) (congrArg₂ (· + ·) ?_ ?_) ?_) ?_) ?_
  · exact Finset.sum_congr rfl fun i _ => congrArg F (Fin.ext (Nat.zero_add _).symm)
  all_goals rfl

/-- The pieces' rows times the weights. -/
theorem cat_dot (W : Fin 3328 → Fin 1024 → ℝ) (u q : Fin 512 → ℝ) (k v : Fin 128 → ℝ) (g : Fin 2048 → ℝ) (d : Fin 1024) :
    ∑ j, cat u q k v g j * W j d = dhP W u q k v g d := by
  rw [sum_pieces]
  unfold dhP
  refine congrArg₂ (· + ·) (congrArg₂ (· + ·) (congrArg₂ (· + ·) (congrArg₂ (· + ·) ?_ ?_) ?_) ?_) ?_
  · exact Finset.sum_congr rfl fun i _ => congrArg (· * _) (cat_u _ _ _ _ _ _ i rfl)
  · exact Finset.sum_congr rfl fun i _ => congrArg (· * _) (cat_q _ _ _ _ _ _ i rfl)
  · exact Finset.sum_congr rfl fun i _ => congrArg (· * _) (cat_k _ _ _ _ _ _ i rfl)
  · exact Finset.sum_congr rfl fun i _ => congrArg (· * _) (cat_v _ _ _ _ _ _ i rfl)
  · exact Finset.sum_congr rfl fun i _ => congrArg (· * _) (cat_g _ _ _ _ _ _ i rfl)

theorem split5 (j : Fin 3328) : (∃ i : Fin 512, j.val = 0 + i.val) ∨ (∃ i : Fin 512, j.val = 512 + i.val) ∨ (∃ i : Fin 128, j.val = 1024 + i.val)
    ∨ (∃ i : Fin 128, j.val = 1152 + i.val) ∨ (∃ i : Fin 2048, j.val = 1280 + i.val) := by
  have := j.isLt
  by_cases h : j.val < 1280
  · rcases split4 ⟨j.val, h⟩ with e | e | e | e
    · exact Or.inl e
    · exact Or.inr (Or.inl e)
    · exact Or.inr (Or.inr (Or.inl e))
    · exact Or.inr (Or.inr (Or.inr (Or.inl e)))
  · exact Or.inr (Or.inr (Or.inr (Or.inr ⟨⟨j.val - 1280, by omega⟩, by show j.val = 1280 + (j.val - 1280); omega⟩)))

/-- The nine arguments hold these reals. -/
structure Args (x0 x1 : FVec Ideal S4096x512 .bf16) (x2 x3 : FVec Ideal S4096x128 .bf16) (x4 : FVec Ideal S4096x2048 .bf16) (x5 x6 : FVec Ideal S4096x1024 .f32)
    (x7 : FVec Ideal S3328x1024 .bf16) (x8 : FVec Ideal S1x1024 .f32) (U Q : Fin 4096 → Fin 512 → ℝ) (K V : Fin 4096 → Fin 128 → ℝ) (G : Fin 4096 → Fin 2048 → ℝ)
    (Y X : Fin 4096 → Fin 1024 → ℝ) (W : Fin 3328 → Fin 1024 → ℝ) (g1 : Fin 1024 → ℝ) : Prop where
  h0 : ∀ t i, x0 (ix2 t i) = ((U t i : ℝ) : EReal)
  h1 : ∀ t i, x1 (ix2 t i) = ((Q t i : ℝ) : EReal)
  h2 : ∀ t i, x2 (ix2 t i) = ((K t i : ℝ) : EReal)
  h3 : ∀ t i, x3 (ix2 t i) = ((V t i : ℝ) : EReal)
  h4 : ∀ t i, x4 (ix2 t i) = ((G t i : ℝ) : EReal)
  h5 : ∀ t d, x5 (ix2 t d) = ((Y t d : ℝ) : EReal)
  h6 : ∀ t d, x6 (ix2 t d) = ((X t d : ℝ) : EReal)
  h7 : ∀ i d, x7 (ix2 i d) = ((W i d : ℝ) : EReal)
  h8 : ∀ d, x8 (ix2 0 d) = ((g1 d : ℝ) : EReal)

/-- The gradient in the normed input, row by row. -/
abbrev DH (U Q : Fin 4096 → Fin 512 → ℝ) (K V : Fin 4096 → Fin 128 → ℝ) (G : Fin 4096 → Fin 2048 → ℝ) (W : Fin 3328 → Fin 1024 → ℝ) (t : Fin 4096) : Fin 1024 → ℝ :=
  dhP W (U t) (Q t) (K t) (V t) (G t)

section
variable {x0 x1 : FVec Ideal S4096x512 .bf16} {x2 x3 : FVec Ideal S4096x128 .bf16} {x4 : FVec Ideal S4096x2048 .bf16} {x5 x6 : FVec Ideal S4096x1024 .f32}
    {x7 : FVec Ideal S3328x1024 .bf16} {x8 : FVec Ideal S1x1024 .f32} {U Q : Fin 4096 → Fin 512 → ℝ} {K V : Fin 4096 → Fin 128 → ℝ} {G : Fin 4096 → Fin 2048 → ℝ}
    {Y X : Fin 4096 → Fin 1024 → ℝ} {W : Fin 3328 → Fin 1024 → ℝ} {g1 : Fin 1024 → ℝ} (I : Args x0 x1 x2 x3 x4 x5 x6 x7 x8 U Q K V G Y X W g1)
include I
/-- The stage `v7`. -/
theorem v7_at (t : Fin 4096) : val_main_v7 (F := Ideal) x6 (ix1 t) = ((∑ d, X t d * X t d : ℝ) : EReal) := by
  unfold val_main_v7 val_main_v6 val_main_cst_0
  pointwise
  simp only [I.h6, ← EReal.coe_mul, ← coe_sum, ← EReal.coe_add, ← EReal.coe_sub, div_n, two_bits, half_bits, neg_half_bits, eps_bits]
  try rfl

/-- The stage `v12`. -/
theorem v12_at (t : Fin 4096) : val_main_v12 (F := Ideal) x6 (ix2 t 0) = ((ms (X t) : ℝ) : EReal) := by
  unfold val_main_v12 val_main_v10 val_main_v8 val_main_v9 val_main_v11 val_main_cst_1 val_main_cst_2
  pointwise
  simp only [v7_at I, ← EReal.coe_mul, ← coe_sum, ← EReal.coe_add, ← EReal.coe_sub, div_n, two_bits, half_bits, neg_half_bits, eps_bits]
  try rfl

/-- The stage `v13`. -/
theorem v13_at (t : Fin 4096) : val_main_v13 (F := Ideal) x6 (ix2 t 0) = ((rr (X t) : ℝ) : EReal) := by
  unfold val_main_v13
  pointwise
  rw [v12_at I]
  exact rsqrt_pos (ms (X t)) (ms_pos (X t))

/-- The stage `v14`. -/
theorem v14_at (t : Fin 4096) : val_main_v14 (F := Ideal) x6 (ix2 t 0) = ((rr (X t) / ms (X t) : ℝ) : EReal) := by
  unfold val_main_v14
  pointwise
  rw [v13_at I, v12_at I]
  rw [Ideal.div_coe (ms_pos (X t)).ne', ← EReal.coe_mul, mul_one_div]

/-- The stage `v16`. -/
theorem v16_at (t : Fin 4096) : val_main_v16 (F := Ideal) x6 (ix2 t 0) = ((-(1 / 2) * (rr (X t) / ms (X t)) : ℝ) : EReal) := by
  unfold val_main_v16 val_main_v15 val_main_cst_3
  pointwise
  simp only [v14_at I, ← EReal.coe_mul, ← coe_sum, ← EReal.coe_add, ← EReal.coe_sub, div_n, two_bits, half_bits, neg_half_bits, eps_bits]
  try rfl

/-- The stage `v18`. -/
theorem v18_at (t : Fin 4096) (d : Fin 1024) : val_main_v18 (F := Ideal) x6 (ix2 t d) = ((X t d * rr (X t) : ℝ) : EReal) := by
  unfold val_main_v18 val_main_v17
  pointwise
  simp only [I.h6, v13_at I, ← EReal.coe_mul, ← coe_sum, ← EReal.coe_add, ← EReal.coe_sub, div_n, two_bits, half_bits, neg_half_bits, eps_bits]
  try rfl

/-- The stage `v30`. -/
theorem v30_at (t : Fin 4096) (j : Fin 3328) : val_main_v30 (F := Ideal) x0 x1 x2 x3 x4 (ix2 t j) = ((cat (U t) (Q t) (K t) (V t) (G t) j : ℝ) : EReal) := by
  unfold val_main_v30
  rcases split5 j with ⟨i, e⟩ | ⟨i, e⟩ | ⟨i, e⟩ | ⟨i, e⟩ | ⟨i, e⟩
  · refine (concatenate_apply_piece (t := S4096x3328) 1 _ _ (ix2 t j) 0 (by show 0 < 5; omega) S4096x512 (val_main_v0 (F := Ideal) x0) rfl rfl 0 (by rfl) (ix2 t i) (fun b hb => ?_) e.symm).trans ?_
    · match b with
      | ⟨0, _⟩ => rfl
      | ⟨1, _⟩ => exact absurd rfl hb
    · exact (I.h0 t i).trans (congrArg _ (cat_u _ _ _ _ _ j i e).symm)
  · refine (concatenate_apply_piece (t := S4096x3328) 1 _ _ (ix2 t j) 1 (by show 1 < 5; omega) S4096x512 (val_main_v1 (F := Ideal) x1) rfl rfl 512 (by rfl) (ix2 t i) (fun b hb => ?_) e.symm).trans ?_
    · match b with
      | ⟨0, _⟩ => rfl
      | ⟨1, _⟩ => exact absurd rfl hb
    · exact (I.h1 t i).trans (congrArg _ (cat_q _ _ _ _ _ j i e).symm)
  · refine (concatenate_apply_piece (t := S4096x3328) 1 _ _ (ix2 t j) 2 (by show 2 < 5; omega) S4096x128 (val_main_v2 (F := Ideal) x2) rfl rfl 1024 (by rfl) (ix2 t i) (fun b hb => ?_) e.symm).trans ?_
    · match b with
      | ⟨0, _⟩ => rfl
      | ⟨1, _⟩ => exact absurd rfl hb
    · exact (I.h2 t i).trans (congrArg _ (cat_k _ _ _ _ _ j i e).symm)
  · refine (concatenate_apply_piece (t := S4096x3328) 1 _ _ (ix2 t j) 3 (by show 3 < 5; omega) S4096x128 (val_main_v3 (F := Ideal) x3) rfl rfl 1152 (by rfl) (ix2 t i) (fun b hb => ?_) e.symm).trans ?_
    · match b with
      | ⟨0, _⟩ => rfl
      | ⟨1, _⟩ => exact absurd rfl hb
    · exact (I.h3 t i).trans (congrArg _ (cat_v _ _ _ _ _ j i e).symm)
  · refine (concatenate_apply_piece (t := S4096x3328) 1 _ _ (ix2 t j) 4 (by show 4 < 5; omega) S4096x2048 (val_main_v4 (F := Ideal) x4) rfl rfl 1280 (by rfl) (ix2 t i) (fun b hb => ?_) e.symm).trans ?_
    · match b with
      | ⟨0, _⟩ => rfl
      | ⟨1, _⟩ => exact absurd rfl hb
    · exact (I.h4 t i).trans (congrArg _ (cat_g _ _ _ _ _ j i e).symm)

/-- The stage `v31`. -/
theorem v31_at (j : Fin 3328) : val_main_v31 (F := Ideal) x0 x1 x2 x3 x4 (ix1 j) = ((∑ t, cat (U t) (Q t) (K t) (V t) (G t) j : ℝ) : EReal) := by
  unfold val_main_v31 val_main_cst_4
  pointwise
  simp only [v30_at I, ← EReal.coe_mul, ← coe_sum, ← EReal.coe_add, ← EReal.coe_sub, div_n, two_bits, half_bits, neg_half_bits, eps_bits]
  try rfl

/-- The stage `v54`. -/
theorem v54_at (j : Fin 1280) : val_main_v54 (F := Ideal) x0 x1 x2 x3 x4 (ix2 0 j) = ((∑ t, cat (U t) (Q t) (K t) (V t) (G t) (up j) : ℝ) : EReal) := by
  refine Eq.trans ?_ (v31_at I (up j))
  unfold val_main_v54 val_main_v32
  pointwise
  try rfl

/-- The stage `v33`. -/
theorem v33_at (t : Fin 4096) (d : Fin 1024) : val_main_v33 (F := Ideal) x0 x1 x2 x3 x4 x7 (ix2 t d) = (((DH U Q K V G W t) d : ℝ) : EReal) := by
  unfold val_main_v33 val_main_v21
  pointwise [dot_S4096x3328_S3328x1024_S4096x1024_1_0_0_1_n_n]
  simp only [v30_at I, I.h7, ← EReal.coe_mul, ← coe_sum, ← EReal.coe_add, ← EReal.coe_sub, div_n, two_bits, half_bits, neg_half_bits, eps_bits]
  exact congrArg _ (cat_dot W _ _ _ _ _ d)

/-- The stage `v35`. -/
theorem v35_at (d : Fin 1024) : val_main_v35 (F := Ideal) x0 x1 x2 x3 x4 x6 x7 (ix1 d) = ((∑ t, (DH U Q K V G W t) d * (X t d * rr (X t)) : ℝ) : EReal) := by
  unfold val_main_v35 val_main_v34 val_main_cst_5
  pointwise
  simp only [v18_at I, v33_at I, ← EReal.coe_mul, ← coe_sum, ← EReal.coe_add, ← EReal.coe_sub, div_n, two_bits, half_bits, neg_half_bits, eps_bits]
  exact congrArg _ (Finset.sum_congr rfl fun t _ => mul_comm _ _)

/-- The stage `v36`. -/
theorem v36_at (d : Fin 1024) : val_main_v36 (F := Ideal) x0 x1 x2 x3 x4 x6 x7 (ix2 0 d) = ((∑ t, (DH U Q K V G W t) d * (X t d * rr (X t)) : ℝ) : EReal) := by
  unfold val_main_v36
  pointwise
  simp only [v35_at I, ← EReal.coe_mul, ← coe_sum, ← EReal.coe_add, ← EReal.coe_sub, div_n, two_bits, half_bits, neg_half_bits, eps_bits]
  try rfl

/-- The stage `v38`. -/
theorem v38_at (t : Fin 4096) (d : Fin 1024) : val_main_v38 (F := Ideal) x0 x1 x2 x3 x4 x7 x8 (ix2 t d) = (((DH U Q K V G W t) d * g1 d : ℝ) : EReal) := by
  unfold val_main_v38 val_main_v37
  pointwise
  simp only [v33_at I, I.h8, ← EReal.coe_mul, ← coe_sum, ← EReal.coe_add, ← EReal.coe_sub, div_n, two_bits, half_bits, neg_half_bits, eps_bits]
  try rfl

/-- The stage `v40`. -/
theorem v40_at (t : Fin 4096) : val_main_v40 (F := Ideal) x0 x1 x2 x3 x4 x6 x7 x8 (ix1 t) = ((∑ d, X t d * ((DH U Q K V G W t) d * g1 d) : ℝ) : EReal) := by
  unfold val_main_v40 val_main_v39 val_main_cst_6
  pointwise
  simp only [I.h6, v38_at I, ← EReal.coe_mul, ← coe_sum, ← EReal.coe_add, ← EReal.coe_sub, div_n, two_bits, half_bits, neg_half_bits, eps_bits]
  try rfl

/-- The stage `v41`. -/
theorem v41_at (t : Fin 4096) : val_main_v41 (F := Ideal) x0 x1 x2 x3 x4 x6 x7 x8 (ix2 t 0) = ((∑ d, X t d * ((DH U Q K V G W t) d * g1 d) : ℝ) : EReal) := by
  unfold val_main_v41
  pointwise
  simp only [v40_at I, ← EReal.coe_mul, ← coe_sum, ← EReal.coe_add, ← EReal.coe_sub, div_n, two_bits, half_bits, neg_half_bits, eps_bits]
  try rfl

/-- The stage `v49`. -/
theorem v49_at (t : Fin 4096) (d : Fin 1024) : val_main_v49 (F := Ideal) x0 x1 x2 x3 x4 x6 x7 x8 (ix2 t d) = (((∑ d, X t d * ((DH U Q K V G W t) d * g1 d)) * (-(1 / 2) * (rr (X t) / ms (X t))) / 1024 : ℝ) : EReal) := by
  unfold val_main_v49 val_main_v48 val_main_v47 val_main_v46 val_main_v45 val_main_cst_7 val_main_cst_8
  pointwise
  simp only [Fin.sum_univ_one, v41_at I, v16_at I, ← EReal.coe_mul, ← coe_sum, ← EReal.coe_add, ← EReal.coe_sub, div_n, two_bits, half_bits, neg_half_bits, eps_bits]
  try rfl

/-- The stage `v53`. -/
theorem v53_at (t : Fin 4096) (d : Fin 1024) : val_main_v53 (F := Ideal) x0 x1 x2 x3 x4 x5 x6 x7 x8 (ix2 t d) = ((Y t d + rmsB (DH U Q K V G W t) (X t) g1 d : ℝ) : EReal) := by
  unfold val_main_v53 val_main_v52 val_main_v51 val_main_v50 val_main_v44 val_main_v43 val_main_v42
  pointwise
  simp only [v49_at I, I.h6, v38_at I, I.h5, v13_at I, ← EReal.coe_mul, ← coe_sum, ← EReal.coe_add, ← EReal.coe_sub, div_n, two_bits, half_bits, neg_half_bits, eps_bits]
  exact congrArg _ ((by ring : _ = _).trans (congrArg (Y t d + ·) (rmsB_chain (DH U Q K V G W t) (X t) g1 d)))

end
end Cert.InprojRefIdeal.Read
end
-- ==== Proof.InprojRun.lean ====
/-
  The three result arrays of the input projection's backward kernel after the run, entry by entry, from the argument arrays.
-/
module
public import proofs.«01_k».proof.Proof.Gen.InprojIdeal.Value
public import proofs.«01_k».proof.Proof.InprojOut
public import proofs.«01_k».proof.Proof.InprojRef
public import proofs.«01_k».proof.Proof.MlpRun1
public import proofs.«01_k».proof.Proof.Gen.InprojIdeal.Frame
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.InprojIdeal.Value
open Cert.InprojIdeal Cert.InprojIdeal.Gen Cert.MlpMath
open Cert.MlpIdeal.Value (sum_tiles)
open Cert.InprojRefIdeal.Read (Args DH)

variable {m : (ℓ : Loc nD τ sig) → Buf (Elt Ideal) ℓ} {c : Dev nD}

/-- Row `p` of tile `b`. -/
def tok (b : Fin 8) (p : Fin 512) : Fin 4096 := ⟨512 * b.val + p.val, by have := b.isLt; have := p.isLt; omega⟩
/-- The grid point of tile `b`. -/
def pt (b : Fin 8) : Fin cfg0.N := ⟨b.val, b.isLt⟩

/-- The arguments hold these reals. -/
abbrev Arg (m : (ℓ : Loc nD τ sig) → Buf (Elt Ideal) ℓ) (c : Dev nD) := Args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

theorem index_0 : ∀ b : Fin 8, win0_0.index (pt b) 0 = b.val ∧ win0_0.index (pt b) 1 = 0 := by decide +kernel
theorem index_1 : ∀ b : Fin 8, win0_1.index (pt b) 0 = b.val ∧ win0_1.index (pt b) 1 = 0 := by decide +kernel
theorem index_2 : ∀ b : Fin 8, win0_2.index (pt b) 0 = b.val ∧ win0_2.index (pt b) 1 = 0 := by decide +kernel
theorem index_3 : ∀ b : Fin 8, win0_3.index (pt b) 0 = b.val ∧ win0_3.index (pt b) 1 = 0 := by decide +kernel
theorem index_4 : ∀ b : Fin 8, win0_4.index (pt b) 0 = b.val ∧ win0_4.index (pt b) 1 = 0 := by decide +kernel
theorem index_5 : ∀ b : Fin 8, win0_5.index (pt b) 0 = b.val ∧ win0_5.index (pt b) 1 = 0 := by decide +kernel
theorem index_6 : ∀ b : Fin 8, win0_6.index (pt b) 0 = b.val ∧ win0_6.index (pt b) 1 = 0 := by decide +kernel
theorem index_7 : ∀ b : Fin 8, win0_7.index (pt b) 0 = 0 ∧ win0_7.index (pt b) 1 = 0 := by decide +kernel
theorem index_8 : ∀ b : Fin 8, win0_8.index (pt b) 0 = 0 ∧ win0_8.index (pt b) 1 = 0 := by decide +kernel
theorem index_9 : ∀ b : Fin 8, win0_9.index (pt b) 0 = b.val ∧ win0_9.index (pt b) 1 = 0 := by decide +kernel
theorem index_10 : ∀ b : Fin 8, win0_10.index (pt b) 0 = 0 ∧ win0_10.index (pt b) 1 = 0 := by decide +kernel
theorem index_11 : ∀ b : Fin 8, win0_11.index (pt b) 0 = 0 ∧ win0_11.index (pt b) 1 = 0 := by decide +kernel

variable {U Q : Fin 4096 → Fin 512 → ℝ} {K V' : Fin 4096 → Fin 128 → ℝ} {G : Fin 4096 → Fin 2048 → ℝ}
    {Y X : Fin 4096 → Fin 1024 → ℝ} {W : Fin 3328 → Fin 1024 → ℝ} {g1 : Fin 1024 → ℝ} (I : Arg m c U Q K V' G Y X W g1)
include I

/-- Each tile's operand blocks. -/
theorem blk (b : Fin 8) : Blk (iblk m c 0 (pt b)) (iblk m c 1 (pt b)) (iblk m c 2 (pt b)) (iblk m c 3 (pt b)) (iblk m c 4 (pt b)) (iblk m c 5 (pt b)) (iblk m c 6 (pt b))
    (iblk m c 7 (pt b)) (iblk m c 8 (pt b)) (fun p => U (tok b p)) (fun p => Q (tok b p)) (fun p => K (tok b p)) (fun p => V' (tok b p)) (fun p => G (tok b p))
    (fun p => Y (tok b p)) (fun p => X (tok b p)) W g1 where
  h0 := fun p i => by
    refine Eq.trans ?_ (I.h0 (tok b p) i)
    unfold iblk
    rw [View.read_apply]
    show V m c main_arg0 _ = m (c.tc.loc main_arg0) _
    refine (congrFun (V_main_arg0 m c) _).trans (congrArg _ ?_)
    funext a
    apply Fin.ext
    match a with
    | ⟨0, _⟩ => show win0_0.index (pt b) 0 * 512 + 1 * p.val = 512 * b.val + p.val; rw [(index_0 b).1]; omega
    | ⟨1, _⟩ => show win0_0.index (pt b) 1 * 512 + 1 * i.val = i.val; rw [(index_0 b).2]; omega
  h1 := fun p i => by
    refine Eq.trans ?_ (I.h1 (tok b p) i)
    unfold iblk
    rw [View.read_apply]
    show V m c main_arg1 _ = m (c.tc.loc main_arg1) _
    refine (congrFun (V_main_arg1 m c) _).trans (congrArg _ ?_)
    funext a
    apply Fin.ext
    match a with
    | ⟨0, _⟩ => show win0_1.index (pt b) 0 * 512 + 1 * p.val = 512 * b.val + p.val; rw [(index_1 b).1]; omega
    | ⟨1, _⟩ => show win0_1.index (pt b) 1 * 512 + 1 * i.val = i.val; rw [(index_1 b).2]; omega
  h2 := fun p i => by
    refine Eq.trans ?_ (I.h2 (tok b p) i)
    unfold iblk
    rw [View.read_apply]
    show V m c main_arg2 _ = m (c.tc.loc main_arg2) _
    refine (congrFun (V_main_arg2 m c) _).trans (congrArg _ ?_)
    funext a
    apply Fin.ext
    match a with
    | ⟨0, _⟩ => show win0_2.index (pt b) 0 * 512 + 1 * p.val = 512 * b.val + p.val; rw [(index_2 b).1]; omega
    | ⟨1, _⟩ => show win0_2.index (pt b) 1 * 128 + 1 * i.val = i.val; rw [(index_2 b).2]; omega
  h3 := fun p i => by
    refine Eq.trans ?_ (I.h3 (tok b p) i)
    unfold iblk
    rw [View.read_apply]
    show V m c main_arg3 _ = m (c.tc.loc main_arg3) _
    refine (congrFun (V_main_arg3 m c) _).trans (congrArg _ ?_)
    funext a
    apply Fin.ext
    match a with
    | ⟨0, _⟩ => show win0_3.index (pt b) 0 * 512 + 1 * p.val = 512 * b.val + p.val; rw [(index_3 b).1]; omega
    | ⟨1, _⟩ => show win0_3.index (pt b) 1 * 128 + 1 * i.val = i.val; rw [(index_3 b).2]; omega
  h4 := fun p i => by
    refine Eq.trans ?_ (I.h4 (tok b p) i)
    unfold iblk
    rw [View.read_apply]
    show V m c main_arg4 _ = m (c.tc.loc main_arg4) _
    refine (congrFun (V_main_arg4 m c) _).trans (congrArg _ ?_)
    funext a
    apply Fin.ext
    match a with
    | ⟨0, _⟩ => show win0_4.index (pt b) 0 * 512 + 1 * p.val = 512 * b.val + p.val; rw [(index_4 b).1]; omega
    | ⟨1, _⟩ => show win0_4.index (pt b) 1 * 2048 + 1 * i.val = i.val; rw [(index_4 b).2]; omega
  h5 := fun p i => by
    refine Eq.trans ?_ (I.h5 (tok b p) i)
    unfold iblk
    rw [View.read_apply]
    show V m c main_arg5 _ = m (c.tc.loc main_arg5) _
    refine (congrFun (V_main_arg5 m c) _).trans (congrArg _ ?_)
    funext a
    apply Fin.ext
    match a with
    | ⟨0, _⟩ => show win0_5.index (pt b) 0 * 512 + 1 * p.val = 512 * b.val + p.val; rw [(index_5 b).1]; omega
    | ⟨1, _⟩ => show win0_5.index (pt b) 1 * 1024 + 1 * i.val = i.val; rw [(index_5 b).2]; omega
  h6 := fun p i => by
    refine Eq.trans ?_ (I.h6 (tok b p) i)
    unfold iblk
    rw [View.read_apply]
    show V m c main_arg6 _ = m (c.tc.loc main_arg6) _
    refine (congrFun (V_main_arg6 m c) _).trans (congrArg _ ?_)
    funext a
    apply Fin.ext
    match a with
    | ⟨0, _⟩ => show win0_6.index (pt b) 0 * 512 + 1 * p.val = 512 * b.val + p.val; rw [(index_6 b).1]; omega
    | ⟨1, _⟩ => show win0_6.index (pt b) 1 * 1024 + 1 * i.val = i.val; rw [(index_6 b).2]; omega
  h7 := fun p i => by
    refine Eq.trans ?_ (I.h7 p i)
    unfold iblk
    rw [View.read_apply]
    show V m c main_arg7 _ = m (c.tc.loc main_arg7) _
    refine (congrFun (V_main_arg7 m c) _).trans (congrArg _ ?_)
    funext a
    apply Fin.ext
    match a with
    | ⟨0, _⟩ => show win0_7.index (pt b) 0 * 3328 + 1 * p.val = p.val; rw [(index_7 b).1]; omega
    | ⟨1, _⟩ => show win0_7.index (pt b) 1 * 1024 + 1 * i.val = i.val; rw [(index_7 b).2]; omega
  h8 := fun i => by
    refine Eq.trans ?_ (I.h8 i)
    unfold iblk
    rw [View.read_apply]
    show V m c main_arg8 _ = m (c.tc.loc main_arg8) _
    refine (congrFun (V_main_arg8 m c) _).trans (congrArg _ ?_)
    funext a
    apply Fin.ext
    match a with
    | ⟨0, _⟩ => show win0_8.index (pt b) 0 * 1 + 1 * 0 = 0; rw [(index_8 b).1]
    | ⟨1, _⟩ => show win0_8.index (pt b) 1 * 1024 + 1 * i.val = i.val; rw [(index_8 b).2]; omega

omit I in
theorem outs_eq (n n' : Nat) (h : n < cfg0.N) (h' : n' < cfg0.N) (e : n = n') : outsAt0 m c n h = outsAt0 m c n' h' := by
  subst e
  rfl

/-- The input's gradient at row `p` of tile `b`. -/
theorem run9 (b : Fin 8) (p : Fin 512) (d : Fin 1024) :
    ((dats m 0 c).arrAt 9 cfg0.N : Vec Ideal S4096x1024 .f32) (ix2 (tok b p) d)
    = ((Y (tok b p) d + rmsB (DH U Q K V' G W (tok b p)) (X (tok b p)) g1 d : ℝ) : EReal) := by
  have he : ((cfg0.win 9).blk (pt b)).view.emb (ix2 p d : S512x1024.Idx) = (ix2 (tok b p) d : S4096x1024.Idx) := by
    funext a
    apply Fin.ext
    match a with
    | ⟨0, _⟩ => show win0_9.index (pt b) 0 * 512 + 1 * p.val = 512 * b.val + p.val; rw [(index_9 b).1]; omega
    | ⟨1, _⟩ => show win0_9.index (pt b) 1 * 1024 + 1 * d.val = d.val; rw [(index_9 b).2]; omega
  have h := (dats m 0 c).arrAt_emb_eq_flushed 9 disjoint9 (pt b) (flush0_9 (pt b)) (ix2 p d : S512x1024.Idx)
  rw [he] at h
  have hcut : ∀ X, (cfg0.win 9).cut (grid0.coords (pt b)) X (ix2 p d : S512x1024.Idx) = (X : Vec Ideal S512x1024 .f32) (ix2 p d) := fun _ => rfl
  refine h.trans ?_
  rw [cast_eq]
  by_cases h0 : (pt b).val % 8 = 0
  · rw [flushed9_A m c (pt b) h0, hcut, out_A9 (blk I b)]
  · rw [flushed9_B m c (pt b) h0, hcut, out_B9 (blk I b)]

theorem acc10 : ∀ (n : ℕ) (hn : n < 8) (d : Fin 1024),
    ((outsAt0 m c (pt ⟨n, hn⟩).val (pt ⟨n, hn⟩).isLt).2.1 : Vec Ideal S1x1024 .f32) (ix2 0 d)
      = ((∑ b : Fin (n + 1), ∑ p : Fin 512, DH U Q K V' G W (tok ⟨b.val, by omega⟩ p) d * (X (tok ⟨b.val, by omega⟩ p) d * rr (X (tok ⟨b.val, by omega⟩ p))) : ℝ) : EReal)
  | 0, hn, d => by
    rw [outsAt0_A m c (pt ⟨0, hn⟩) (by rfl)]
    dsimp only
    rw [out_A10 (blk I ⟨0, hn⟩)]
    rw [Fin.sum_univ_one]
    rfl
  | n + 1, hn, d => by
    rw [outsAt0_B m c (pt ⟨n + 1, hn⟩) (by show ¬ (n + 1) % 8 = 0; omega)]
    dsimp only
    refine (out_B10 (blk I ⟨n + 1, hn⟩) (a := fun d => ∑ b : Fin (n + 1), ∑ p : Fin 512, DH U Q K V' G W (tok ⟨b.val, by omega⟩ p) d * (X (tok ⟨b.val, by omega⟩ p) d * rr (X (tok ⟨b.val, by omega⟩ p)))) (ha := fun d => ?_) ..).trans ?_
    · rw [outs_eq ((pt ⟨n + 1, hn⟩).val - 1) (pt ⟨n, by omega⟩).val _ (pt ⟨n, by omega⟩).isLt rfl]
      exact acc10 n (by omega) d
    · rw [Fin.sum_univ_castSucc (n := n + 1)]
      rfl

/-- The scale's gradient. -/
theorem run10 (d : Fin 1024) :
    ((dats m 0 c).arrAt 10 cfg0.N : Vec Ideal S1x1024 .f32) (ix2 0 d) = ((∑ t : Fin 4096, DH U Q K V' G W t d * (X t d * rr (X t)) : ℝ) : EReal) := by
  have hg : (dats m 0 c).arrAt 10 cfg0.N = ((outsAt0 m c (pt 7).val (pt 7).isLt).2.1 : Vec Ideal S1x1024 .f32) := by
    refine (dats m 0 c).arrAt_eq_of_cover 10 _ (fun t hf => ?_) (fun x => ⟨pt 7, (flush0_10 (pt 7)).2 rfl, ?_⟩)
    · obtain rfl : t = pt 7 := Fin.ext (by
        have h1 := (flush0_10 t).1 hf
        have h2 : t.val < 8 := t.isLt
        show t.val = 7
        omega)
      rw [flushed10]
      have hz' : (fun a => win0_10.index (pt 7) a * main_v1_1.ty.shape.size a) = fun _ => 0 := funext fun a => by
        match a with
        | ⟨0, _⟩ => show win0_10.index (pt 7) 0 * 1 = 0; rw [(index_10 7).1]
        | ⟨1, _⟩ => show win0_10.index (pt 7) 1 * 1024 = 0; rw [(index_10 7).2]
      exact (Memref.read_access_unit_zero (Elt Ideal) main_v1_1 hz' (fun a => by rw [congrFun hz' a]; simp) _).symm
    · show x ∈ ((View.whole main_v1_1).slice (win0_10.rect (pt 7))).set
      rw [View.set_slice_whole, Rect.mem_set_unit]
      intro a
      have h0 : (x 0 : Nat) < 1 := (x 0).isLt
      have h1 : (x 1 : Nat) < 1024 := (x 1).isLt
      match a with
      | ⟨0, _⟩ => show win0_10.index (pt 7) 0 * 1 ≤ (x 0 : Nat) ∧ (x 0 : Nat) < win0_10.index (pt 7) 0 * 1 + 1; rw [(index_10 7).1]; omega
      | ⟨1, _⟩ => show win0_10.index (pt 7) 1 * 1024 ≤ (x 1 : Nat) ∧ (x 1 : Nat) < win0_10.index (pt 7) 1 * 1024 + 1024; rw [(index_10 7).2]; omega
  rw [hg]
  refine (acc10 I 7 (by omega) d).trans (congrArg _ ?_)
  exact sum_tiles (n := 8) (k := 512) rfl (fun t => DH U Q K V' G W t d * (X t d * rr (X t))) (fun b p => tok ⟨b.val, by omega⟩ p) (fun b p => rfl)

theorem acc11 : ∀ (n : ℕ) (hn : n < 8) (j : Fin 1280),
    ((outsAt0 m c (pt ⟨n, hn⟩).val (pt ⟨n, hn⟩).isLt).2.2 : Vec Ideal S1x1280 .f32) (ix2 0 j)
      = ((∑ b : Fin (n + 1), ∑ p : Fin 512, cat (U (tok ⟨b.val, by omega⟩ p)) (Q (tok ⟨b.val, by omega⟩ p)) (K (tok ⟨b.val, by omega⟩ p)) (V' (tok ⟨b.val, by omega⟩ p)) (G (tok ⟨b.val, by omega⟩ p)) (up j) : ℝ) : EReal)
  | 0, hn, j => by
    rw [outsAt0_A m c (pt ⟨0, hn⟩) (by rfl)]
    dsimp only
    rw [out_A11 (blk I ⟨0, hn⟩)]
    rw [Fin.sum_univ_one]
    rfl
  | n + 1, hn, j => by
    rw [outsAt0_B m c (pt ⟨n + 1, hn⟩) (by show ¬ (n + 1) % 8 = 0; omega)]
    dsimp only
    rw [out_B11 (blk I ⟨n + 1, hn⟩)]
    rw [outs_eq ((pt ⟨n + 1, hn⟩).val - 1) (pt ⟨n, by omega⟩).val _ (pt ⟨n, by omega⟩).isLt rfl, acc11 n (by omega) j, ← EReal.coe_add, Fin.sum_univ_castSucc (n := n + 1)]
    rfl

/-- The bias's gradient. -/
theorem run11 (j : Fin 1280) :
    ((dats m 0 c).arrAt 11 cfg0.N : Vec Ideal S1x1280 .f32) (ix2 0 j) = ((∑ t : Fin 4096, cat (U t) (Q t) (K t) (V' t) (G t) (up j) : ℝ) : EReal) := by
  have hg : (dats m 0 c).arrAt 11 cfg0.N = ((outsAt0 m c (pt 7).val (pt 7).isLt).2.2 : Vec Ideal S1x1280 .f32) := by
    refine (dats m 0 c).arrAt_eq_of_cover 11 _ (fun t hf => ?_) (fun x => ⟨pt 7, (flush0_11 (pt 7)).2 rfl, ?_⟩)
    · obtain rfl : t = pt 7 := Fin.ext (by
        have h1 := (flush0_11 t).1 hf
        have h2 : t.val < 8 := t.isLt
        show t.val = 7
        omega)
      rw [flushed11]
      have hz' : (fun a => win0_11.index (pt 7) a * main_v1_2.ty.shape.size a) = fun _ => 0 := funext fun a => by
        match a with
        | ⟨0, _⟩ => show win0_11.index (pt 7) 0 * 1 = 0; rw [(index_11 7).1]
        | ⟨1, _⟩ => show win0_11.index (pt 7) 1 * 1280 = 0; rw [(index_11 7).2]
      exact (Memref.read_access_unit_zero (Elt Ideal) main_v1_2 hz' (fun a => by rw [congrFun hz' a]; simp) _).symm
    · show x ∈ ((View.whole main_v1_2).slice (win0_11.rect (pt 7))).set
      rw [View.set_slice_whole, Rect.mem_set_unit]
      intro a
      have h0 : (x 0 : Nat) < 1 := (x 0).isLt
      have h1 : (x 1 : Nat) < 1280 := (x 1).isLt
      match a with
      | ⟨0, _⟩ => show win0_11.index (pt 7) 0 * 1 ≤ (x 0 : Nat) ∧ (x 0 : Nat) < win0_11.index (pt 7) 0 * 1 + 1; rw [(index_11 7).1]; omega
      | ⟨1, _⟩ => show win0_11.index (pt 7) 1 * 1280 ≤ (x 1 : Nat) ∧ (x 1 : Nat) < win0_11.index (pt 7) 1 * 1280 + 1280; rw [(index_11 7).2]; omega
  rw [hg]
  refine (acc11 I 7 (by omega) j).trans (congrArg _ ?_)
  exact sum_tiles (n := 8) (k := 512) rfl (fun t => cat (U t) (Q t) (K t) (V' t) (G t) (up j)) (fun b p => tok ⟨b.val, by omega⟩ p) (fun b p => rfl)

/-- The input's gradient. -/
theorem run9' (t : Fin 4096) (d : Fin 1024) :
    ((dats m 0 c).arrAt 9 cfg0.N : Vec Ideal S4096x1024 .f32) (ix2 t d) = ((Y t d + rmsB (DH U Q K V' G W t) (X t) g1 d : ℝ) : EReal) := by
  have ht := t.isLt
  have e : t = tok ⟨t.val / 512, by omega⟩ ⟨t.val % 512, by omega⟩ := Fin.ext (by show t.val = 512 * (t.val / 512) + t.val % 512; omega)
  rw [e]
  exact run9 I _ _ d

end Cert.InprojIdeal.Value
end
-- ==== Proof.InprojCert.lean ====
/-
  The value claim of the input projection's backward pass: where the arguments are finite, both programs run to the same three gradients.
-/
module
public import proofs.«01_k».proof.Defs
public import proofs.«01_k».proof.Proof.InprojRun
public import proofs.«01_k».proof.Proof.MlpCert
public import proofs.«01_k».proof.Proof.PoolFin
public import proofs.«01_k».proof.Proof.Gen.Pre_inproj_finite
public import proofs.«01_k».proof.Proof.Gen.InprojRefIdeal.Run
public import proofs.«01_k».proof.Proof.Gen.InprojRefIdeal.Read
public import Idealize.ShloMosaic.Lib.ReduceAll
@[expose] public section
set_option maxRecDepth 16384
noncomputable section
open Idealize.ShloMosaic Idealize.ShloMosaic.TcCoe Idealize.SL.Sem

namespace Cert.InprojFin
open Cert.Pre_inproj_finite Cert.Pre_inproj_finite.Gen
open Cert.KernelIdeal.Value (Real')
open Cert.Fin (real_of_lt)

/-- What the precondition says: every entry of the nine arguments is a real number. -/
theorem real_args (x0 x1 : FVec Ideal S4096x512 .bf16) (x2 x3 : FVec Ideal S4096x128 .bf16) (x4 : FVec Ideal S4096x2048 .bf16) (x5 x6 : FVec Ideal S4096x1024 .f32)
    (x7 : FVec Ideal S3328x1024 .bf16) (x8 : FVec Ideal S1x1024 .f32)
    (h : Cert.Pre_inproj_finite.fn (F := Ideal) x0 x1 x2 x3 x4 x5 x6 x7 x8 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) ∧ (∀ i, Real' (x6 i)) ∧ (∀ i, Real' (x7 i)) ∧ (∀ i, Real' (x8 i)) := by
  haveI : Subsingleton S_.Idx := ⟨fun a b => funext fun k => k.elim0⟩
  have h0 := congrFun h (Shape.Idx.first facts.h_S_)
  unfold Cert.Pre_inproj_finite.fn Cert.Pre_inproj_finite.fn_part1 Cert.Pre_inproj_finite.fn_part2 at h0
  obtain ⟨r8, k8⟩ := IntOp.andi_eq_one.1 h0
  obtain ⟨r7, k7⟩ := IntOp.andi_eq_one.1 r8
  obtain ⟨r6, k6⟩ := IntOp.andi_eq_one.1 r7
  obtain ⟨r5, k5⟩ := IntOp.andi_eq_one.1 r6
  obtain ⟨r4, k4⟩ := IntOp.andi_eq_one.1 r5
  obtain ⟨r3, k3⟩ := IntOp.andi_eq_one.1 r4
  obtain ⟨r2, k2⟩ := IntOp.andi_eq_one.1 r3
  obtain ⟨k0, k1⟩ := IntOp.andi_eq_one.1 r2
  exact ⟨fun i => real_of_lt _ (Host.reduce_andi_all _ _ _ _ _ k0 i),
    fun i => real_of_lt _ (Host.reduce_andi_all _ _ _ _ _ k1 i),
    fun i => real_of_lt _ (Host.reduce_andi_all _ _ _ _ _ k2 i),
    fun i => real_of_lt _ (Host.reduce_andi_all _ _ _ _ _ k3 i),
    fun i => real_of_lt _ (Host.reduce_andi_all _ _ _ _ _ k4 i),
    fun i => real_of_lt _ (Host.reduce_andi_all _ _ _ _ _ k5 i),
    fun i => real_of_lt _ (Host.reduce_andi_all _ _ _ _ _ k6 i),
    fun i => real_of_lt _ (Host.reduce_andi_all _ _ _ _ _ k7 i),
    fun i => real_of_lt _ (Host.reduce_andi_all _ _ _ _ _ k8 i)⟩

/-- So they hold some reals. -/
theorem args_of (x0 x1 : FVec Ideal S4096x512 .bf16) (x2 x3 : FVec Ideal S4096x128 .bf16) (x4 : FVec Ideal S4096x2048 .bf16) (x5 x6 : FVec Ideal S4096x1024 .f32)
    (x7 : FVec Ideal S3328x1024 .bf16) (x8 : FVec Ideal S1x1024 .f32)
    (h : Cert.Pre_inproj_finite.fn (F := Ideal) x0 x1 x2 x3 x4 x5 x6 x7 x8 = fun _ => 1#1) :
    ∃ U Q K V G Y X W g1, Cert.InprojRefIdeal.Read.Args x0 x1 x2 x3 x4 x5 x6 x7 x8 U Q K V G Y X W g1 := by
  obtain ⟨h0, h1, h2, h3, h4, h5, h6, h7, h8⟩ := real_args x0 x1 x2 x3 x4 x5 x6 x7 x8 h
  choose a0 e0 using h0
  choose a1 e1 using h1
  choose a2 e2 using h2
  choose a3 e3 using h3
  choose a4 e4 using h4
  choose a5 e5 using h5
  choose a6 e6 using h6
  choose a7 e7 using h7
  choose a8 e8 using h8
  exact ⟨fun t d => a0 (ix2 t d), fun t d => a1 (ix2 t d), fun t d => a2 (ix2 t d), fun t d => a3 (ix2 t d), fun t d => a4 (ix2 t d), fun t d => a5 (ix2 t d), fun t d => a6 (ix2 t d), fun t d => a7 (ix2 t d), fun d => a8 (ix2 0 d),
    ⟨fun _ _ => e0 _, fun _ _ => e1 _, fun _ _ => e2 _, fun _ _ => e3 _, fun _ _ => e4 _, fun _ _ => e5 _, fun _ _ => e6 _, fun _ _ => e7 _, fun _ => e8 _⟩⟩

end Cert.InprojFin

namespace Cert.Proof.Inproj
open Cert.InprojIdeal Cert.InprojIdeal.Gen
open Cert.Proof.Mlp (row0)

/-- Both programs run to the same three gradients. -/
theorem algebraic : Cert.algebraic_InprojIdeal_InprojRefIdeal_pre_inproj_finite := by
  intro m ρ m' ρ' hpre hin
  refine ⟨fun c => (Gen.dats m 0 c).arrAt 9 cfg0.N, fun c => (Gen.dats m 0 c).arrAt 10 cfg0.N,
    fun c => (Gen.dats m 0 c).arrAt 11 cfg0.N, Value.run_blocks m ρ, ?_⟩
  refine (θ_run _ _ _).mono (fun r h c => ?_) (Cert.InprojRefIdeal.Value.run (F := Ideal) m' ρ')
  obtain ⟨r0, r1, r2, k⟩ := h c
  obtain ⟨e0, e1, e2, e3, e4, e5, e6, e7, e8⟩ := hin c
  obtain ⟨U, Q, K, V, G, Y, X, W, g1, I⟩ := Cert.InprojFin.args_of _ _ _ _ _ _ _ _ _ (hpre c)
  have J : Cert.InprojRefIdeal.Read.Args
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3))
      (m' ((c.tc : Thread Cert.InprojRefIdeal.nD Cert.InprojRefIdeal.τ).loc Cert.InprojRefIdeal.main_arg4))
      (m' ((c.tc : Thread Cert.InprojRefIdeal.nD Cert.InprojRefIdeal.τ).loc Cert.InprojRefIdeal.main_arg5))
      (m' ((c.tc : Thread Cert.InprojRefIdeal.nD Cert.InprojRefIdeal.τ).loc Cert.InprojRefIdeal.main_arg6))
      (m' ((c.tc : Thread Cert.InprojRefIdeal.nD Cert.InprojRefIdeal.τ).loc Cert.InprojRefIdeal.main_arg7))
      (m' ((c.tc : Thread Cert.InprojRefIdeal.nD Cert.InprojRefIdeal.τ).loc Cert.InprojRefIdeal.main_arg8)) U Q K V G Y X W g1 :=
    ⟨fun t d => (congrFun e0 _).trans (I.h0 t d), fun t d => (congrFun e1 _).trans (I.h1 t d), fun t d => (congrFun e2 _).trans (I.h2 t d), fun t d => (congrFun e3 _).trans (I.h3 t d), fun t d => (congrFun e4 _).trans (I.h4 t d), fun t d => (congrFun e5 _).trans (I.h5 t d), fun t d => (congrFun e6 _).trans (I.h6 t d), fun t d => (congrFun e7 _).trans (I.h7 t d),
     fun d => (congrFun e8 _).trans (I.h8 d)⟩
  refine ⟨?_, ?_, ?_, k⟩
  · refine (r0.trans (Cert.InprojRefIdeal.Read.val_main_v53_eq _ _)).trans ?_
    funext i
    rw [eq_ix2 i]
    exact (Cert.InprojRefIdeal.Read.v53_at J (i 0) (i 1)).trans (Value.run9' I (i 0) (i 1)).symm
  · refine (r1.trans (Cert.InprojRefIdeal.Read.val_main_v36_eq
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3))
      (m' ((c.tc : Thread Cert.InprojRefIdeal.nD Cert.InprojRefIdeal.τ).loc Cert.InprojRefIdeal.main_arg4))
      (m' ((c.tc : Thread Cert.InprojRefIdeal.nD Cert.InprojRefIdeal.τ).loc Cert.InprojRefIdeal.main_arg6))
      (m' ((c.tc : Thread Cert.InprojRefIdeal.nD Cert.InprojRefIdeal.τ).loc Cert.InprojRefIdeal.main_arg7)))).trans ?_
    exact row0 fun d => (Cert.InprojRefIdeal.Read.v36_at J d).trans (Value.run10 I d).symm
  · refine (r2.trans (Cert.InprojRefIdeal.Read.val_main_v54_eq
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3))
      (m' ((c.tc : Thread Cert.InprojRefIdeal.nD Cert.InprojRefIdeal.τ).loc Cert.InprojRefIdeal.main_arg4)))).trans ?_
    exact row0 fun j => (Cert.InprojRefIdeal.Read.v54_at J j).trans (Value.run11 I j).symm

end Cert.Proof.Inproj
end
-- ==== Proof.WgradBody.lean ====
/-
  One grid step of the projection weight's gradient kernel, run: what it leaves in the accumulator, and at the last step what its eight copies leave in the result.
-/
module
public import proofs.«01_k».proof.Proof.Gen.WgradIdeal.Launch
public import proofs.«01_k».proof.Proof.Gen.WgradIdeal.Skeleton
public import proofs.«01_k».proof.Proof.Gen.WgradIdeal.Points
public import proofs.«01_k».proof.Proof.Gen.WgradIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
@[expose] public section
set_option maxRecDepth 16384
noncomputable section
namespace Cert.WgradIdeal.Hand
open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The accumulator in the scratch memory. -/
abbrev accM : Memref sig .tc .vmem S3328x1024 .f32 := Memref.whole cc0_scratch0
/-- The result left in HBM, which the last step's copies write. -/
abbrev outM : Memref sig .tc .hbm S8x416x1024 .f32 := Memref.whole main_v13

/-- The first step, as the printed comparison says it. -/
abbrev first (i : grid0.Coords) : Prop := Scalar.cmpi .ne (Scalar.extui (Scalar.cmpi .eq (BitVec.ofNat 32 (i 0).val) 0#32) : BitVec 32) 0#32 = 1#1
/-- The last step, as the printed comparison says it. -/
abbrev final (i : grid0.Coords) : Prop := Scalar.cmpi .ne (Scalar.extui (Scalar.cmpi .eq (BitVec.ofNat 32 (i 0).val) 3#32) : BitVec 32) 0#32 = 1#1
theorem first_iff : ∀ t : Fin cfg0.N, first (grid0.coords t) ↔ t.val = 0 := by decide +kernel
theorem final_iff : ∀ t : Fin cfg0.N, final (grid0.coords t) ↔ t.val = 3 := by decide +kernel

theorem accW : accM.IsWhole := Memref.isWhole_whole _
theorem outW : outM.IsWhole := Memref.isWhole_whole _

set_option maxHeartbeats 1000000 in
/-- The first step: the accumulator, at anything, ends with the listed pieces written. -/
def runA (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x2048 .bf16) (harg5 : arg5.IsWhole) (arg6 : Memref sig .tc .vmem S1024x1024 .bf16) (harg6 : arg6.IsWhole) (hc0 : first i) (hc1 : ¬final i)
    (x0 : Vec F S1024x512 .bf16) (x1 : Vec F S1024x512 .bf16) (x2 : Vec F S1024x128 .bf16) (x3 : Vec F S1024x128 .bf16) (x4 : Vec F S1024x2048 .bf16) (x5 : Vec F S1024x1024 .bf16) :
    { L : List (View.Piece (Elt F) S3328x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) accM fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, accM.view.loc (c : Thread nD τ) ↦[accM.view.set]{fullShare} accM.view.writes (Elt F) f L)) -∗ K ⟨⟩))
          ⊢ wp frame (wpE (defs₀ (F := F)) Variants.none c none) E (cc0_wgrad_in i arg1 harg1 arg2 harg2 arg3 harg3 arg4 harg4 arg5 harg5 arg6 harg6 outM (Memref.isWhole_whole _) accM (Memref.isWhole_whole _) cc0_scratch1) K } := by
  refine ⟨?_, fun E K => ?run⟩
  case run =>
    simp only [cc0_wgrad_in_eq_skeleton]; unfold cc0_wgrad_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

set_option maxHeartbeats 1000000 in
/-- A middle step: the accumulator, at `a`, ends with the listed pieces written. -/
def runB (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x2048 .bf16) (harg5 : arg5.IsWhole) (arg6 : Memref sig .tc .vmem S1024x1024 .bf16) (harg6 : arg6.IsWhole) (hc0 : ¬first i) (hc1 : ¬final i)
    (x0 : Vec F S1024x512 .bf16) (x1 : Vec F S1024x512 .bf16) (x2 : Vec F S1024x128 .bf16) (x3 : Vec F S1024x128 .bf16) (x4 : Vec F S1024x2048 .bf16) (x5 : Vec F S1024x1024 .bf16) (a : Vec F S3328x1024 .f32) :
    { L : List (View.Piece (Elt F) S3328x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) accM fullShare a
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, accM.view.loc (c : Thread nD τ) ↦[accM.view.set]{fullShare} accM.view.writes (Elt F) f L)) -∗ K ⟨⟩))
          ⊢ wp frame (wpE (defs₀ (F := F)) Variants.none c none) E (cc0_wgrad_in i arg1 harg1 arg2 harg2 arg3 harg3 arg4 harg4 arg5 harg5 arg6 harg6 outM (Memref.isWhole_whole _) accM (Memref.isWhole_whole _) cc0_scratch1) K } := by
  refine ⟨?_, fun E K => ?run⟩
  case run =>
    simp only [cc0_wgrad_in_eq_skeleton]; unfold cc0_wgrad_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := accW.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.WgradIdeal.Hand
end
-- ==== Proof.WgradLast.lean ====
/-
  One grid step of the projection weight's gradient kernel, run: what it leaves in the accumulator, and at the last step what its eight copies leave in the result.
-/
module
public import proofs.«01_k».proof.Proof.Gen.WgradIdeal.Launch
public import proofs.«01_k».proof.Proof.Gen.WgradIdeal.Skeleton
public import proofs.«01_k».proof.Proof.Gen.WgradIdeal.Points
public import proofs.«01_k».proof.Proof.Gen.WgradIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.WgradBody
@[expose] public section
set_option maxRecDepth 16384
noncomputable section
namespace Cert.WgradIdeal.Hand
open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
set_option sl_exec.dmaWindow true in
set_option sl_exec.dmaWindowSet true in
set_option sl_exec.dmaWindowLent true in
/-- The last step: over the accumulator at `a` and the result at `o`, the eight copies leave the result at the contents the run finds. -/
def runC (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x2048 .bf16) (harg5 : arg5.IsWhole) (arg6 : Memref sig .tc .vmem S1024x1024 .bf16) (harg6 : arg6.IsWhole) (hc0 : ¬first i) (hc1 : final i)
    (x0 : Vec F S1024x512 .bf16) (x1 : Vec F S1024x512 .bf16) (x2 : Vec F S1024x128 .bf16) (x3 : Vec F S1024x128 .bf16) (x4 : Vec F S1024x2048 .bf16) (x5 : Vec F S1024x1024 .bf16) (a : Vec F S3328x1024 .f32) (o : Vec F S8x416x1024 .f32) :
    { G : Buf (Elt F) (outM.view.loc (c : Thread nD τ)) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) accM fullShare a
            ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
            ∗ owns (c : Thread nD τ) outM fullShare o
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, accM.view.loc (c : Thread nD τ) ↦[accM.view.set]{fullShare} f)
                ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
                ∗ (outM.view.loc (c : Thread nD τ) ↦[outM.view.set]{fullShare} G)
                ∗ (∃ W', owes (c : Thread nD τ) 0 W')) -∗ K ⟨⟩))
          ⊢ wp frame (wpE (defs₀ (F := F)) Variants.none c none) Set.univ (cc0_wgrad_in i arg1 harg1 arg2 harg2 arg3 harg3 arg4 harg4 arg5 harg5 arg6 harg6 outM (Memref.isWhole_whole _) accM (Memref.isWhole_whole _) cc0_scratch1) K } := by
  refine ⟨?_, fun W K => ?run⟩
  case run =>
    simp only [cc0_wgrad_in_eq_skeleton]; unfold cc0_wgrad_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hq0, Hq1, Hq2, Hq3, Hq4, Hq5, Hq6, Hq7, ⟨%f7, %hf7, HG⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := accW.eq_unread hf6; obtain rfl := outW.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [HG]; · iexact HG
    iexists _; iexact HW

end Cert.WgradIdeal.Hand
end
-- ==== Proof.WgradRun.lean ====
/-
  The projection weight's gradient kernel, run: four steps over the accumulator, the last of them copying it out, and the frame.
-/
module
public import proofs.«01_k».proof.Proof.Gen.WgradIdeal.Launch
public import proofs.«01_k».proof.Proof.Gen.WgradIdeal.Skeleton
public import proofs.«01_k».proof.Proof.Gen.WgradIdeal.Points
public import proofs.«01_k».proof.Proof.Gen.WgradIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.WgradLast
@[expose] public section
set_option maxRecDepth 16384
noncomputable section
namespace Cert.WgradIdeal.Hand
open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem not_first (t : Fin cfg0.N) (h : t.val ≠ 0) : ¬first (grid0.coords t) := fun k => h ((first_iff t).1 k)
theorem not_final (t : Fin cfg0.N) (h : t.val ≠ 3) : ¬final (grid0.coords t) := fun k => h ((final_iff t).1 k)

/-- The pieces the first step writes in the accumulator. -/
def piecesA (c : Dev nD) (t : Fin cfg0.N) (h0 : t.val = 0) : List (View.Piece (Elt F) S3328x1024 .f32) :=
  (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) ((first_iff t).2 h0) (not_final t (by omega))
    (iblk m c 0 t) (iblk m c 1 t) (iblk m c 2 t) (iblk m c 3 t) (iblk m c 4 t) (iblk m c 5 t)).1
/-- The pieces a middle step writes over the accumulator `a`. -/
def piecesB (c : Dev nD) (t : Fin cfg0.N) (h0 : t.val ≠ 0) (h1 : t.val ≠ 3) (a : Vec F S3328x1024 .f32) : List (View.Piece (Elt F) S3328x1024 .f32) :=
  (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (not_first t h0) (not_final t h1)
    (iblk m c 0 t) (iblk m c 1 t) (iblk m c 2 t) (iblk m c 3 t) (iblk m c 4 t) (iblk m c 5 t) a).1
/-- What the last step, over the accumulator `a`, leaves in the result, before it at `o`. -/
def resultC (c : Dev nD) (t : Fin cfg0.N) (h1 : t.val = 3) (a : Vec F S3328x1024 .f32) (o : Vec F S8x416x1024 .f32) : Vec F S8x416x1024 .f32 :=
  (runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (not_first t (by omega)) ((final_iff t).2 h1)
    (iblk m c 0 t) (iblk m c 1 t) (iblk m c 2 t) (iblk m c 3 t) (iblk m c 4 t) (iblk m c 5 t) a o).1

theorem coverA (c : Dev nD) (t : Fin cfg0.N) (h0 : t.val = 0) (y : S3328x1024.Idx) : ∃ p ∈ piecesA m c t h0, y ∈ p.1.set :=
  View.cover_of_tiledBy (piecesA m c t h0) ![128, 1024] (by sl_kernel_rfl) y
theorem coverB (c : Dev nD) (t : Fin cfg0.N) (h0 : t.val ≠ 0) (h1 : t.val ≠ 3) (a : Vec F S3328x1024 .f32) (y : S3328x1024.Idx) : ∃ p ∈ piecesB m c t h0 h1 a, y ∈ p.1.set :=
  View.cover_of_tiledBy (piecesB m c t h0 h1 a) ![128, 1024] (by sl_kernel_rfl) y

/-- The accumulator after the first step. -/
def stepA (c : Dev nD) (t : Fin cfg0.N) (h0 : t.val = 0) : Vec F S3328x1024 .f32 :=
  accM.view.read (Elt F) (accM.view.writes (Elt F) accM.view.junk (piecesA m c t h0))
/-- The accumulator after a middle step over `a`. -/
def stepB (c : Dev nD) (t : Fin cfg0.N) (h0 : t.val ≠ 0) (h1 : t.val ≠ 3) (a : Vec F S3328x1024 .f32) : Vec F S3328x1024 .f32 :=
  accM.view.read (Elt F) (accM.view.writes (Elt F) accM.view.junk (piecesB m c t h0 h1 a))

/-- The accumulator after the first, the second and the third step. -/
def acc0 (c : Dev nD) : Vec F S3328x1024 .f32 := stepA m c t0_0 rfl
def acc1 (c : Dev nD) : Vec F S3328x1024 .f32 := stepB m c t0_1 (by decide) (by decide) (acc0 m c)
def acc2 (c : Dev nD) : Vec F S3328x1024 .f32 := stepB m c t0_2 (by decide) (by decide) (acc1 m c)
/-- The result after the last step. -/
def result (c : Dev nD) : Vec F S8x416x1024 .f32 := resultC m c t0_3 rfl (acc2 m c) (V m c main_v13)

/-- The kernel's own eight cells. -/
abbrev osem0 : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7] (by decide) (by decide)]; rfl

def H0 : Finset (Ref sig .tc) := ∅
theorem H0_sub : H0 ⊆ Pipeline.restRefs sig spec0 := by decide
def R0 : Finset (Ref sig .tc) := {main_v13}
theorem R0_sub : R0 ⊆ Pipeline.restRefs sig spec0 \ H0 := by decide

/-- The buffers as the region leaves them: the result written, the others as it found them. -/
def G (c : Dev nD) : (b : Ref sig .tc) → Buf (Elt F) ((c : Thread nD τ).loc b) := Function.update (V m c) main_v13 (result m c)

theorem routed0 (c : Dev nD) (W : (b : Ref sig .tc) → Buf (Elt F) ((c : Thread nD τ).loc b)) :
    (Pipeline.routed R0 c W : sProp 𝕄) = owns (c : Thread nD τ) outM fullShare (W main_v13) := by
  unfold Pipeline.routed
  rw [BI.bigSep_eq_bigSepL_of_eq [main_v13] (by decide) (by decide)]
  simp only [BI.bigSepL_singleton]
  exact (owns_whole _ _ _ _).symm

/-- The accumulator before point `p`: at anything before the first and after the last. -/
def accAt (c : Dev nD) (p : ℕ) : sProp 𝕄 := match p with
  | 1 => owns (c : Thread nD τ) accM fullShare (acc0 m c)
  | 2 => owns (c : Thread nD τ) accM fullShare (acc1 m c)
  | 3 => owns (c : Thread nD τ) accM fullShare (acc2 m c)
  | _ => iprop(∃ d, owns (c : Thread nD τ) accM fullShare d)
/-- The result before point `p`: written after the last. -/
def outAt (c : Dev nD) (p : ℕ) : sProp 𝕄 := match p with
  | 4 => owns (c : Thread nD τ) outM fullShare (result m c)
  | _ => owns (c : Thread nD τ) outM fullShare (V m c main_v13)
/-- What the body carries from point to point. -/
def Inv (c : Dev nD) (p : ℕ) : sProp 𝕄 :=
  iprop(accAt m c p ∗ (∃ r, prngReg c r)
    ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
    ∗ (bigSep H0 fun b => ((c : Thread nD τ).loc b) ↦{fullShare} V m c b) ∗ outAt m c p)

theorem scoped_in (c : Dev nD) : (Pipeline.scopedRest (Ix := Unit) (Name := ℕ) (U := Pipeline.UD sig nD τ) (Lvl := ℕ) (Val := Elt F) spec0 c : sProp 𝕄)
    = iprop(∃ d, owns (c : Thread nD τ) accM fullShare d) := by
  rw [scopedRest0_eq]
  exact congrArg _ (funext fun f => (owns_whole _ _ _ _).symm)

theorem Inv_in (c : Dev nD) : Pipeline.ΦDRG osem0 spec0 H0 R0 (V m) (V m) c ⊢ Inv m c 0 := by
  rw [Pipeline.ΦDRG_eq, scoped_in, ownSems00_eq, routed0]
  exact .rfl
theorem Inv_out (c : Dev nD) : Inv m c 4 ⊢ Pipeline.ΦDRG osem0 spec0 H0 R0 (V m) (G m) c := by
  rw [Pipeline.ΦDRG_eq, scoped_in, ownSems00_eq, routed0]
  rw [show G m c main_v13 = result m c from Function.update_self _ _ _]
  exact .rfl

/-- The proof data: the windows' blocks as the region finds them, the accumulator and the result carried. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ p := Inv m c p.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

theorem writtenA (c : Dev nD) (t : Fin cfg0.N) (h0 : t.val = 0) :
    (∃ f, accM.view.loc (c : Thread nD τ) ↦[accM.view.set]{fullShare} accM.view.writes (Elt F) f (piecesA m c t h0) : sProp 𝕄)
      ⊢ owns (c : Thread nD τ) accM fullShare (stepA m c t h0) := by
  iintro ⟨%f, H⟩
  unfold owns; iexists _; isplitr
  swap; · iexact H
  ipureintro; exact View.read_writes_of_cover _ _ _ _ _ (coverA m c t h0)
theorem writtenB (c : Dev nD) (t : Fin cfg0.N) (h0 : t.val ≠ 0) (h1 : t.val ≠ 3) (a : Vec F S3328x1024 .f32) :
    (∃ f, accM.view.loc (c : Thread nD τ) ↦[accM.view.set]{fullShare} accM.view.writes (Elt F) f (piecesB m c t h0 h1 a) : sProp 𝕄)
      ⊢ owns (c : Thread nD τ) accM fullShare (stepB m c t h0 h1 a) := by
  iintro ⟨%f, H⟩
  unfold owns; iexists _; isplitr
  swap; · iexact H
  ipureintro; exact View.read_writes_of_cover _ _ _ _ _ (coverB m c t h0 h1 a)

/-- The first step. -/
theorem bodyA (c : Dev nD) (t : Fin cfg0.N) (h0 : t.val = 0) (R : sProp 𝕄)
    (hin : Inv m c t.val = iprop((∃ d, owns (c : Thread nD τ) accM fullShare d) ∗ R))
    (hout : Inv m c (t.val + 1) = iprop(owns (c : Thread nD τ) accM fullShare (stepA m c t h0) ∗ R)) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl, hin, hout]
  unfold Dat.owesAt Pipeline.owesWithin
  rw [show (dats m 0 c).owed t.castSucc = 0 from rfl, show (dats m 0 c).owed t.succ = 0 from rfl]
  simp only [before0_0, before0_1, before0_2, before0_3, before0_4, before0_5, after0_0, after0_1, after0_2, after0_3, after0_4, after0_5]
  iintro ⟨⟨HA, HR⟩, ⟨%W, -, HW⟩, ⟨%d0, H0⟩, ⟨%d1, H1⟩, ⟨%d2, H2⟩, ⟨%d3, H3⟩, ⟨%d4, H4⟩, ⟨%d5, H5⟩⟩
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) ((first_iff t).2 h0) (not_final t (by omega)) (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [HA]; · iexact HA
  iintro ⟨H0, H1, H2, H3, H4, H5, HA⟩
  isplitl [HA HR]
  · isplitl [HA]
    · iapply writtenA m c t h0
      iexact HA
    iexact HR
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- A middle step. -/
theorem bodyB (c : Dev nD) (t : Fin cfg0.N) (h0 : t.val ≠ 0) (h1 : t.val ≠ 3) (a : Vec F S3328x1024 .f32) (R : sProp 𝕄)
    (hin : Inv m c t.val = iprop(owns (c : Thread nD τ) accM fullShare a ∗ R))
    (hout : Inv m c (t.val + 1) = iprop(owns (c : Thread nD τ) accM fullShare (stepB m c t h0 h1 a) ∗ R)) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl, hin, hout]
  unfold Dat.owesAt Pipeline.owesWithin
  rw [show (dats m 0 c).owed t.castSucc = 0 from rfl, show (dats m 0 c).owed t.succ = 0 from rfl]
  simp only [before0_0, before0_1, before0_2, before0_3, before0_4, before0_5, after0_0, after0_1, after0_2, after0_3, after0_4, after0_5]
  iintro ⟨⟨HA, HR⟩, ⟨%W, -, HW⟩, ⟨%d0, H0⟩, ⟨%d1, H1⟩, ⟨%d2, H2⟩, ⟨%d3, H3⟩, ⟨%d4, H4⟩, ⟨%d5, H5⟩⟩
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (not_first t h0) (not_final t h1) (iblk m c 0 t) (iblk m c 1 t) (iblk m c 2 t) (iblk m c 3 t) (iblk m c 4 t) (iblk m c 5 t) a).2 Set.univ _)
  isplitl [H0]; · iexact H0
  isplitl [H1]; · iexact H1
  isplitl [H2]; · iexact H2
  isplitl [H3]; · iexact H3
  isplitl [H4]; · iexact H4
  isplitl [H5]; · iexact H5
  isplitl [HA]; · iexact HA
  iintro ⟨H0, H1, H2, H3, H4, H5, HA⟩
  isplitl [HA HR]
  · isplitl [HA]
    · iapply writtenB m c t h0 h1 a
      iexact HA
    iexact HR
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- The last step. -/
theorem bodyC (c : Dev nD) (t : Fin cfg0.N) (h1 : t.val = 3) (a : Vec F S3328x1024 .f32) (o : Vec F S8x416x1024 .f32)
    (hin : Inv m c t.val = iprop(owns (c : Thread nD τ) accM fullShare a ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ (bigSep H0 fun b => ((c : Thread nD τ).loc b) ↦{fullShare} V m c b) ∗ owns (c : Thread nD τ) outM fullShare o))
    (hout : Inv m c (t.val + 1) = iprop((∃ d, owns (c : Thread nD τ) accM fullShare d) ∗ (∃ r, prngReg c r) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ (bigSep H0 fun b => ((c : Thread nD τ).loc b) ↦{fullShare} V m c b) ∗ owns (c : Thread nD τ) outM fullShare (resultC m c t h1 a o))) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl, hin, hout]
  unfold Dat.owesAt Pipeline.owesWithin
  rw [show (dats m 0 c).owed t.castSucc = 0 from rfl, show (dats m 0 c).owed t.succ = 0 from rfl]
  simp only [before0_0, before0_1, before0_2, before0_3, before0_4, before0_5, after0_0, after0_1, after0_2, after0_3, after0_4, after0_5]
  iintro ⟨⟨HA, Hg, ⟨Hq0, Hq1, Hq2, Hq3, Hq4, Hq5, Hq6, Hq7⟩, HH, HG⟩, ⟨%W, -, HW⟩, ⟨%d0, H0⟩, ⟨%d1, H1⟩, ⟨%d2, H2⟩, ⟨%d3, H3⟩, ⟨%d4, H4⟩, ⟨%d5, H5⟩⟩
  iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (not_first t (by omega)) ((final_iff t).2 h1) (iblk m c 0 t) (iblk m c 1 t) (iblk m c 2 t) (iblk m c 3 t) (iblk m c 4 t) (iblk m c 5 t) a o).2 W _)
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HG]; · iexact HG
  isplitl [HW]; · iexact HW
  iintro ⟨H0, H1, H2, H3, H4, H5, ⟨%f, HA⟩, Hq0, Hq1, Hq2, Hq3, Hq4, Hq5, Hq6, Hq7, HG, ⟨%W', HW⟩⟩
  isplitl [HA Hg Hq0 Hq1 Hq2 Hq3 Hq4 Hq5 Hq6 Hq7 HH HG]
  · isplitl [HA]
    · iexists _; unfold owns; iexists f; isplitr; · ipureintro; rfl
      iexact HA
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [HH]; · iexact HH
    unfold owns; iexists _; isplitr
    swap; · iexact HG
    ipureintro; rfl
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  obtain rfl | rfl | rfl | rfl := fin_N0 t
  · exact bodyA m c t0_0 rfl _ rfl rfl
  · exact bodyB m c t0_1 (by decide) (by decide) (acc0 m c) _ rfl rfl
  · exact bodyB m c t0_2 (by decide) (by decide) (acc1 m c) _ rfl rfl
  · exact bodyC m c t0_3 rfl (acc2 m c) (V m c main_v13) rfl rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the result at what the copies leave, every other buffer of the launch as the region found it, every cell at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := Inv_in m) (hout := Inv_out m)

/-- The result, and the arguments as they were, every counter at zero. -/
theorem run_result : θ_run defs (onTc (τ := τ) (main (F := F))) ⟨m, fun _ => 0, ρ⟩ (fun r => (∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.2 c main_v13 (by decide)).trans (Function.update_self _ _ _),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).1 4).trans (((dats m 0 c).arrAt_in 4 rfl _).trans ((A_eq m c 4).trans (V_main_arg4 m c))),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩) (run_main m ρ)

end Cert.WgradIdeal.Hand
end
-- ==== Proof.WgradOut.lean ====
/-
  The projection weight's gradient kernel over the extended reals: the accumulator after a step, and the result, entry by entry.
-/
module
public import proofs.«01_k».proof.Proof.WgradRun
public import proofs.«01_k».proof.Proof.InprojRef
public import Idealize.ShloMosaic.Lib.Pointwise
public import Idealize.ShloMosaic.Lib.Pointwise.Tactic
public import Idealize.ShloMosaic.Lib.Pipeline.Value
@[expose] public section
set_option maxRecDepth 16384
noncomputable section
open Idealize.ShloMosaic Idealize.ShloMosaic.TcCoe Idealize.ShloMosaic.Tactic Idealize.SL.Sem
open scoped BigOperators
namespace Cert.WgradIdeal.Hand
open Cert.WgradIdeal Cert.WgradIdeal.Gen
open Cert.InprojIdeal.Value (canon_hit canon_miss ld_full ld_rows)
open Cert.InprojRefIdeal.Read (split5)

/-- The five pieces of a row, one after the other. -/
def cat (u q : Fin 512 → EReal) (k v : Fin 128 → EReal) (g : Fin 2048 → EReal) (j : Fin 3328) : EReal :=
  if h0 : j.val < 512 then u ⟨j.val, h0⟩ else if h1 : j.val < 1024 then q ⟨j.val - 512, by omega⟩ else if h2 : j.val < 1152 then k ⟨j.val - 1024, by omega⟩
  else if h3 : j.val < 1280 then v ⟨j.val - 1152, by omega⟩ else g ⟨j.val - 1280, by omega⟩

section
variable (u q : Fin 512 → EReal) (k v : Fin 128 → EReal) (g : Fin 2048 → EReal) (j : Fin 3328)
theorem cat_u (i : Fin 512) (h : j.val = 0 + i.val) : cat u q k v g j = u i := by
  have := i.isLt
  unfold cat
  rw [dif_pos (by omega)]
  exact congrArg u (Fin.ext (by show j.val = _; omega))
theorem cat_q (i : Fin 512) (h : j.val = 512 + i.val) : cat u q k v g j = q i := by
  have := i.isLt
  unfold cat
  rw [dif_neg (by omega), dif_pos (by omega)]
  exact congrArg q (Fin.ext (by show j.val - 512 = _; omega))
theorem cat_k (i : Fin 128) (h : j.val = 1024 + i.val) : cat u q k v g j = k i := by
  have := i.isLt
  unfold cat
  rw [dif_neg (by omega), dif_neg (by omega), dif_pos (by omega)]
  exact congrArg k (Fin.ext (by show j.val - 1024 = _; omega))
theorem cat_v (i : Fin 128) (h : j.val = 1152 + i.val) : cat u q k v g j = v i := by
  have := i.isLt
  unfold cat
  rw [dif_neg (by omega), dif_neg (by omega), dif_neg (by omega), dif_pos (by omega)]
  exact congrArg v (Fin.ext (by show j.val - 1152 = _; omega))
theorem cat_g (i : Fin 2048) (h : j.val = 1280 + i.val) : cat u q k v g j = g i := by
  have := i.isLt
  unfold cat
  rw [dif_neg (by omega), dif_neg (by omega), dif_neg (by omega), dif_neg (by omega)]
  exact congrArg g (Fin.ext (by show j.val - 1280 = _; omega))
end

theorem pay4_at (h : Vec Ideal S1024x1024 .bf16) : k0_pay4 (F := Ideal) h = h := by
  funext i
  unfold k0_pay4
  pointwise
theorem pay5_at (h : Vec Ideal S1024x1024 .bf16) (b : Vec Ideal S512x1024 .f32) (x : Vec Ideal S1024x512 .bf16) (i : Fin 512) (d : Fin 1024) :
    k0_pay5 (F := Ideal) h b x (ix2 i d) = b (ix2 i d) + ∑ p, x (ix2 p i) * h (ix2 p d) := by
  unfold k0_pay5
  rw [pay4_at]
  pointwise [dot_S1024x512_S1024x1024_S512x1024_0_0_1_1_n_n]
theorem pay6_at (h : Vec Ideal S1024x1024 .bf16) (b : Vec Ideal S512x1024 .f32) (x : Vec Ideal S1024x512 .bf16) (i : Fin 512) (d : Fin 1024) :
    k0_pay6 (F := Ideal) h b x (ix2 i d) = b (ix2 i d) + ∑ p, x (ix2 p i) * h (ix2 p d) := pay5_at h b x i d
theorem pay7_at (h : Vec Ideal S1024x1024 .bf16) (b : Vec Ideal S128x1024 .f32) (x : Vec Ideal S1024x128 .bf16) (i : Fin 128) (d : Fin 1024) :
    k0_pay7 (F := Ideal) h b x (ix2 i d) = b (ix2 i d) + ∑ p, x (ix2 p i) * h (ix2 p d) := by
  unfold k0_pay7
  rw [pay4_at]
  pointwise [dot_S1024x128_S1024x1024_S128x1024_0_0_1_1_n_n]
theorem pay1_at (h : Vec Ideal S1024x1024 .bf16) (b : Vec Ideal S128x1024 .f32) (x : Vec Ideal S1024x128 .bf16) (i : Fin 128) (d : Fin 1024) :
    k0_pay1 (F := Ideal) (k0_pay4 h) b x (ix2 i d) = b (ix2 i d) + ∑ p, x (ix2 p i) * h (ix2 p d) := pay7_at h b x i d
theorem pay2_at (h : Vec Ideal S1024x1024 .bf16) (b : Vec Ideal S2048x1024 .f32) (x : Vec Ideal S1024x2048 .bf16) (i : Fin 2048) (d : Fin 1024) :
    k0_pay2 (F := Ideal) (k0_pay4 h) b x (ix2 i d) = b (ix2 i d) + ∑ p, x (ix2 p i) * h (ix2 p d) := by
  unfold k0_pay2
  rw [pay4_at]
  pointwise [dot_S1024x2048_S1024x1024_S2048x1024_0_0_1_1_n_n]
theorem pay3_at (i : S3328x1024.Idx) : k0_pay3 (F := Ideal) i = 0 := by
  unfold k0_pay3
  pointwise

/-- The five bands a step writes, over a loaded accumulator at `a`: `a` plus this tile's share of the sum. -/
theorem bands_at (x0 x1 : Vec Ideal S1024x512 .bf16) (x2 x3 : Vec Ideal S1024x128 .bf16) (x4 : Vec Ideal S1024x2048 .bf16) (x5 : Vec Ideal S1024x1024 .bf16)
    (b0 b1 : Vec Ideal S512x1024 .f32) (b2 b3 : Vec Ideal S128x1024 .f32) (b4 : Vec Ideal S2048x1024 .f32) (a : Fin 3328 → Fin 1024 → EReal)
    (h0 : ∀ i r d, r.val = 0 + i.val → b0 (ix2 i d) = a r d) (h1 : ∀ i r d, r.val = 512 + i.val → b1 (ix2 i d) = a r d)
    (h2 : ∀ i r d, r.val = 1024 + i.val → b2 (ix2 i d) = a r d) (h3 : ∀ i r d, r.val = 1152 + i.val → b3 (ix2 i d) = a r d)
    (h4 : ∀ i r d, r.val = 1280 + i.val → b4 (ix2 i d) = a r d) (L : List (View.Piece (Elt Ideal) S3328x1024 .f32))
    (i0 i1 i2 i3 i4 k0 k1 k2 k3 k4 e0 e1 e2 e3 e4) (j : Fin 3328) (d : Fin 1024) :
    View.canon (⟨Rect.unit (s := S3328x1024) ![1280, 0] ![2048, 1024] i4, k0_pay2 (F := Ideal) (k0_pay4 (View.ld x5 (Rect.unit (s := S1024x1024) ![0, 0] ![1024, 1024] e4))) b4 (View.ld x4 (Rect.unit (s := S1024x2048) ![0, 0] ![1024, 2048] k4))⟩
      :: ⟨Rect.unit (s := S3328x1024) ![1152, 0] ![128, 1024] i3, k0_pay1 (F := Ideal) (k0_pay4 (View.ld x5 (Rect.unit (s := S1024x1024) ![0, 0] ![1024, 1024] e3))) b3 (View.ld x3 (Rect.unit (s := S1024x128) ![0, 0] ![1024, 128] k3))⟩
      :: ⟨Rect.unit (s := S3328x1024) ![1024, 0] ![128, 1024] i2, k0_pay7 (F := Ideal) (View.ld x5 (Rect.unit (s := S1024x1024) ![0, 0] ![1024, 1024] e2)) b2 (View.ld x2 (Rect.unit (s := S1024x128) ![0, 0] ![1024, 128] k2))⟩
      :: ⟨Rect.unit (s := S3328x1024) ![512, 0] ![512, 1024] i1, k0_pay6 (F := Ideal) (View.ld x5 (Rect.unit (s := S1024x1024) ![0, 0] ![1024, 1024] e1)) b1 (View.ld x1 (Rect.unit (s := S1024x512) ![0, 0] ![1024, 512] k1))⟩
      :: ⟨Rect.unit (s := S3328x1024) ![0, 0] ![512, 1024] i0, k0_pay5 (F := Ideal) (View.ld x5 (Rect.unit (s := S1024x1024) ![0, 0] ![1024, 1024] e0)) b0 (View.ld x0 (Rect.unit (s := S1024x512) ![0, 0] ![1024, 512] k0))⟩
      :: L) (ix2 j d)
    = a j d + ∑ p : Fin 1024, cat (fun i => x0 (ix2 p i)) (fun i => x1 (ix2 p i)) (fun i => x2 (ix2 p i)) (fun i => x3 (ix2 p i)) (fun i => x4 (ix2 p i)) j * x5 (ix2 p d) := by
  have low : ∀ {o n : ℕ} (r : Fin 3328), r.val < o → ((ix2 r d : S3328x1024.Idx) (0 : Fin 2) : ℕ) < (![o, 0] : Fin 2 → ℕ) 0 ∨ (![o, 0] : Fin 2 → ℕ) 0 + (![n, 1024] : Fin 2 → ℕ) 0 ≤ ((ix2 r d : S3328x1024.Idx) (0 : Fin 2) : ℕ) :=
    fun r h => Or.inl h
  rcases split5 j with ⟨i, h⟩ | ⟨i, h⟩ | ⟨i, h⟩ | ⟨i, h⟩ | ⟨i, h⟩
  · have := i.isLt
    refine (canon_miss _ _ _ _ _ _ (0 : Fin 2) (low j (by omega))).trans ?_
    refine (canon_miss _ _ _ _ _ _ (0 : Fin 2) (low j (by omega))).trans ?_
    refine (canon_miss _ _ _ _ _ _ (0 : Fin 2) (low j (by omega))).trans ?_
    refine (canon_miss _ _ _ _ _ _ (0 : Fin 2) (low j (by omega))).trans ?_
    refine (canon_hit _ _ _ _ _ _ (ix2 i d) (fun a => by
      match a with
      | ⟨0, _⟩ => exact h
      | ⟨1, _⟩ => show d.val = 0 + d.val; omega)).trans ?_
    refine (pay5_at _ _ _ i d).trans (congrArg₂ (· + ·) (h0 i j d h) (Finset.sum_congr rfl fun p _ => ?_))
    rw [cat_u _ _ _ _ _ j i h]
    exact congrArg₂ (· * ·) (ld_full x0 _ p i) (ld_full x5 _ p d)
  · have := i.isLt
    refine (canon_miss _ _ _ _ _ _ (0 : Fin 2) (low j (by omega))).trans ?_
    refine (canon_miss _ _ _ _ _ _ (0 : Fin 2) (low j (by omega))).trans ?_
    refine (canon_miss _ _ _ _ _ _ (0 : Fin 2) (low j (by omega))).trans ?_
    refine (canon_hit _ _ _ _ _ _ (ix2 i d) (fun a => by
      match a with
      | ⟨0, _⟩ => exact h
      | ⟨1, _⟩ => show d.val = 0 + d.val; omega)).trans ?_
    refine (pay6_at _ _ _ i d).trans (congrArg₂ (· + ·) (h1 i j d h) (Finset.sum_congr rfl fun p _ => ?_))
    rw [cat_q _ _ _ _ _ j i h]
    exact congrArg₂ (· * ·) (ld_full x1 _ p i) (ld_full x5 _ p d)
  · have := i.isLt
    refine (canon_miss _ _ _ _ _ _ (0 : Fin 2) (low j (by omega))).trans ?_
    refine (canon_miss _ _ _ _ _ _ (0 : Fin 2) (low j (by omega))).trans ?_
    refine (canon_hit _ _ _ _ _ _ (ix2 i d) (fun a => by
      match a with
      | ⟨0, _⟩ => exact h
      | ⟨1, _⟩ => show d.val = 0 + d.val; omega)).trans ?_
    refine (pay7_at _ _ _ i d).trans (congrArg₂ (· + ·) (h2 i j d h) (Finset.sum_congr rfl fun p _ => ?_))
    rw [cat_k _ _ _ _ _ j i h]
    exact congrArg₂ (· * ·) (ld_full x2 _ p i) (ld_full x5 _ p d)
  · have := i.isLt
    refine (canon_miss _ _ _ _ _ _ (0 : Fin 2) (low j (by omega))).trans ?_
    refine (canon_hit _ _ _ _ _ _ (ix2 i d) (fun a => by
      match a with
      | ⟨0, _⟩ => exact h
      | ⟨1, _⟩ => show d.val = 0 + d.val; omega)).trans ?_
    refine (pay1_at _ _ _ i d).trans (congrArg₂ (· + ·) (h3 i j d h) (Finset.sum_congr rfl fun p _ => ?_))
    rw [cat_v _ _ _ _ _ j i h]
    exact congrArg₂ (· * ·) (ld_full x3 _ p i) (ld_full x5 _ p d)
  · have := i.isLt
    refine (canon_hit _ _ _ _ _ _ (ix2 i d) (fun a => by
      match a with
      | ⟨0, _⟩ => exact h
      | ⟨1, _⟩ => show d.val = 0 + d.val; omega)).trans ?_
    refine (pay2_at _ _ _ i d).trans (congrArg₂ (· + ·) (h4 i j d h) (Finset.sum_congr rfl fun p _ => ?_))
    rw [cat_g _ _ _ _ _ j i h]
    exact congrArg₂ (· * ·) (ld_full x4 _ p i) (ld_full x5 _ p d)

/-- The accumulator read back whole. -/
theorem acc_read (a : Vec Ideal S3328x1024 .f32) : View.read (Elt Ideal) (View.whole cc0_scratch0) (accW.unread a) = a := accW.read_unread a

variable (m : (ℓ : Loc nD τ sig) → Buf (Elt Ideal) ℓ)

/-- Tile `t`'s share of an entry of the gradient. -/
def share (c : Dev nD) (t : Fin cfg0.N) (j : Fin 3328) (d : Fin 1024) : EReal :=
  ∑ p : Fin 1024, cat (fun i => (iblk m c 0 t : Vec Ideal S1024x512 .bf16) (ix2 p i)) (fun i => (iblk m c 1 t : Vec Ideal S1024x512 .bf16) (ix2 p i))
    (fun i => (iblk m c 2 t : Vec Ideal S1024x128 .bf16) (ix2 p i)) (fun i => (iblk m c 3 t : Vec Ideal S1024x128 .bf16) (ix2 p i))
    (fun i => (iblk m c 4 t : Vec Ideal S1024x2048 .bf16) (ix2 p i)) j * (iblk m c 5 t : Vec Ideal S1024x1024 .bf16) (ix2 p d)

theorem stepB_at (c : Dev nD) (t : Fin cfg0.N) (h0 : t.val ≠ 0) (h1 : t.val ≠ 3) (a : Vec Ideal S3328x1024 .f32) (j : Fin 3328) (d : Fin 1024) :
    stepB m c t h0 h1 a (ix2 j d) = a (ix2 j d) + share m c t j d := by
  unfold stepB
  rw [View.read_writes_eq_canon _ _ _ (coverB m c t h0 h1 a)]
  unfold piecesB runB
  dsimp only
  sl_unfold_words
  simp only [View.readAt_eq_ld, Memref.IsWhole.read_unread, acc_read]
  exact bands_at _ _ _ _ _ _ _ _ _ _ _ (fun j d => a (ix2 j d)) (fun i r d h => ld_rows a 0 _ i r h d) (fun i r d h => ld_rows a 512 _ i r h d)
    (fun i r d h => ld_rows a 1024 _ i r h d) (fun i r d h => ld_rows a 1152 _ i r h d) (fun i r d h => ld_rows a 1280 _ i r h d) [] _ _ _ _ _ _ _ _ _ _ _ _ _ _ _ j d

/-- A row of the zero fill, read through the bands written above it. -/
theorem zero_at (inb) (r : Fin 3328) (d : Fin 1024) :
    View.canon [(⟨Rect.unit (s := S3328x1024) ![0, 0] S3328x1024.size inb, (k0_pay3 (F := Ideal) : Vec Ideal S3328x1024 .f32)⟩ : View.Piece (Elt Ideal) S3328x1024 .f32)] (ix2 r d) = 0 :=
  (canon_hit _ _ _ _ _ _ (ix2 r d) (fun a => by
    match a with
    | ⟨0, _⟩ => show r.val = 0 + r.val; omega
    | ⟨1, _⟩ => show d.val = 0 + d.val; omega)).trans (pay3_at _)
theorem above {o n : ℕ} (inb) (w) (L : List (View.Piece (Elt Ideal) S3328x1024 .f32)) (r : Fin 3328) (d : Fin 1024) (h : o + n ≤ r.val) (hL : View.canon L (ix2 r d) = 0) :
    View.canon (⟨Rect.unit (s := S3328x1024) ![o, 0] ![n, 1024] inb, w⟩ :: L) (ix2 r d) = 0 :=
  (canon_miss _ _ _ _ _ _ (0 : Fin 2) (Or.inr h)).trans hL
/-- A load of a band reads the rows under it. -/
theorem load_at {o n : ℕ} (L : List (View.Piece (Elt Ideal) S3328x1024 .f32)) (inb) (i : Fin n) (r : Fin 3328) (d : Fin 1024) (h : r.val = o + i.val) (hL : View.canon L (ix2 r d) = 0) :
    (accM.view.readCov L (Rect.unit (s := S3328x1024) ![o, 0] ![n, 1024] inb).toLoadRect : Vec Ideal ⟨2, ![n, 1024]⟩ .f32) (ix2 i d) = 0 := by
  rw [View.readCov_eq_canon']
  refine (congrArg (View.canon L) ?_).trans hL
  funext a
  apply Fin.ext
  match a with
  | ⟨0, _⟩ => show o + 1 * i.val = r.val; omega
  | ⟨1, _⟩ => show 0 + 1 * d.val = d.val; omega

set_option maxHeartbeats 1000000 in
theorem stepA_at (c : Dev nD) (t : Fin cfg0.N) (h0 : t.val = 0) (j : Fin 3328) (d : Fin 1024) :
    stepA m c t h0 (ix2 j d) = 0 + share m c t j d := by
  unfold stepA
  rw [View.read_writes_eq_canon _ _ _ (coverA m c t h0)]
  unfold piecesA runA
  dsimp only
  sl_unfold_words
  simp only [View.readAt_eq_ld, Memref.IsWhole.read_unread]
  exact bands_at _ _ _ _ _ _ _ _ _ _ _ (fun j d => 0)
    (fun i r d h => load_at (o := 0) _ _ i r d h (zero_at _ r d))
    (fun i r d h => load_at (o := 512) _ _ i r d h (above _ _ _ r d (by omega) (zero_at _ r d)))
    (fun i r d h => load_at (o := 1024) _ _ i r d h (above _ _ _ r d (by omega) (above _ _ _ r d (by omega) (zero_at _ r d))))
    (fun i r d h => load_at (o := 1152) _ _ i r d h (above _ _ _ r d (by omega) (above _ _ _ r d (by omega) (above _ _ _ r d (by omega) (zero_at _ r d)))))
    (fun i r d h => load_at (o := 1280) _ _ i r d h (above _ _ _ r d (by omega) (above _ _ _ r d (by omega) (above _ _ _ r d (by omega) (above _ _ _ r d (by omega) (zero_at _ r d)))))) _ _ _ _ _ _ _ _ _ _ _ _ _ _ _ _ j d

end Cert.WgradIdeal.Hand
end
-- ==== Proof.WgradOut2.lean ====
/-
  What the eight copies of the projection weight's gradient kernel leave in the result, entry by entry over the extended reals.
-/
module
public import proofs.«01_k».proof.Proof.WgradRun
public import proofs.«01_k».proof.Proof.WgradOut
public import Idealize.ShloMosaic.Lib.ValueLayout
public import Idealize.ShloMosaic.Lib.Pointwise
public import Idealize.ShloMosaic.Lib.Pointwise.Tactic
public import Idealize.ShloMosaic.Lib.Pipeline.Value
@[expose] public section
set_option maxRecDepth 16384
noncomputable section
open Idealize.ShloMosaic Idealize.ShloMosaic.TcCoe Idealize.ShloMosaic.Tactic Idealize.SL.Sem
open scoped BigOperators
namespace Cert.WgradIdeal.Hand
open Cert.WgradIdeal Cert.WgradIdeal.Gen
open Cert.InprojIdeal.Value (canon_hit canon_miss ld_full ld_rows)
open Cert.InprojRefIdeal.Read (split5)

/-- Row `i` of slab `r` of the result, in the accumulator. -/
def row (r : Fin 8) (i : Fin 416) : Fin 3328 := ⟨416 * r.val + i.val, by have := r.isLt; have := i.isLt; omega⟩

/-- A slab read out of the accumulator. -/
theorem slab_read (f : accM.view.ty.Contents (Elt Ideal)) (o : ℕ) (inb h) (i : Fin 416) (d : Fin 1024) (r : Fin 3328) (hr : r.val = o + i.val) :
    View.read (Elt Ideal) (accM.slice (Rect.unit (s := S3328x1024) ![o, 0] S416x1024.size inb) h).view f (ix2 i d) = View.read (Elt Ideal) accM.view f (ix2 r d) := by
  show View.read (Elt Ideal) accM.view f ((Rect.unit (s := S3328x1024) ![o, 0] S416x1024.size inb).emb (ix2 i d)) = _
  refine congrArg _ ?_
  funext a
  apply Fin.ext
  match a with
  | ⟨0, _⟩ => show o + 1 * i.val = r.val; omega
  | ⟨1, _⟩ => show 0 + 1 * d.val = d.val; omega

/-- A slab written in the result is read back there, and every other slab is as before. -/
theorem slab_hit (j : ℕ) (inb h) (g : (View.whole main_v13).ty.Contents (Elt Ideal)) (w : S416x1024.Idx → Elt Ideal .f32) (r : Fin 8) (i : Fin 416) (d : Fin 1024) (hr : r.val = j) :
    View.write (Elt Ideal) (((View.whole main_v13).slice (Rect.unit (s := S8x416x1024) ![j, 0, 0] ![1, 416, 1024] inb)).reshape S416x1024 h) g w Finset.univ (ix3 r i d) = w (ix2 i d) := by
  have e : (((View.whole main_v13).slice (Rect.unit (s := S8x416x1024) ![j, 0, 0] ![1, 416, 1024] inb)).reshape S416x1024 h).emb (ix2 i d) = ix3 r i d := by
    show (Rect.unit (s := S8x416x1024) ![j, 0, 0] ![1, 416, 1024] inb).emb (Shape.reshapeEquiv h (ix2 i d)) = _
    have e' : (Shape.reshapeEquiv h (ix2 i d)) = (ix3 (⟨0, Nat.one_pos⟩ : Fin 1) i d : (⟨3, ![1, 416, 1024]⟩ : Shape).Idx) :=
      Shape.reshapeEquiv_eq_of_rowMajor _ (by
        refine (Shape.rowMajor_val_three (d := ![1, 416, 1024]) _).trans (Eq.trans ?_ (Shape.rowMajor_val_two (d := ![416, 1024]) _).symm)
        show ((0 * 416 + i.val) * 1024 + d.val) = i.val * 1024 + d.val
        omega)
    refine (congrArg _ e').trans ?_
    funext a
    apply Fin.ext
    match a with
    | ⟨0, _⟩ => show j + 1 * 0 = r.val; omega
    | ⟨1, _⟩ => show 0 + 1 * i.val = i.val; omega
    | ⟨2, _⟩ => show 0 + 1 * d.val = d.val; omega
  exact (congrArg _ e.symm).trans (View.write_emb_of_mem _ _ (Finset.mem_univ _))
theorem slab_miss (j : ℕ) (inb h) (g : (View.whole main_v13).ty.Contents (Elt Ideal)) (w : S416x1024.Idx → Elt Ideal .f32) (r : Fin 8) (i : Fin 416) (d : Fin 1024) (hr : r.val ≠ j) :
    View.write (Elt Ideal) (((View.whole main_v13).slice (Rect.unit (s := S8x416x1024) ![j, 0, 0] ![1, 416, 1024] inb)).reshape S416x1024 h) g w Finset.univ (ix3 r i d) = g (ix3 r i d) := by
  refine View.write_of_not_mem _ _ _ fun hm => hr ?_
  obtain ⟨x, -, hx⟩ := Finset.mem_map.1 hm
  have h0 : j + 1 * ((Shape.reshapeEquiv h x : (⟨3, ![1, 416, 1024]⟩ : Shape).Idx) (0 : Fin 3)).val = r.val := congrArg (fun k : S8x416x1024.Idx => (k (0 : Fin 3)).val) hx
  have h1 : ((Shape.reshapeEquiv h x : (⟨3, ![1, 416, 1024]⟩ : Shape).Idx) (0 : Fin 3)).val < 1 := ((Shape.reshapeEquiv h x : (⟨3, ![1, 416, 1024]⟩ : Shape).Idx) (0 : Fin 3)).isLt
  omega

variable (m : (ℓ : Loc nD τ sig) → Buf (Elt Ideal) ℓ)

set_option maxHeartbeats 1000000 in
theorem resultC_at (c : Dev nD) (t : Fin cfg0.N) (h1 : t.val = 3) (a : Vec Ideal S3328x1024 .f32) (o : Vec Ideal S8x416x1024 .f32) (r : Fin 8) (i : Fin 416) (d : Fin 1024) :
    resultC m c t h1 a o (ix3 r i d) = a (ix2 (row r i) d) + share m c t (row r i) d := by
  unfold resultC runC
  dsimp only
  sl_unfold_words
  generalize hf : accM.view.writes (Elt Ideal) (accW.unread a) _ = f
  have key : ∀ j : Fin 3328, View.read (Elt Ideal) accM.view f (ix2 j d) = a (ix2 j d) + share m c t j d := fun j => by
    subst hf
    rw [View.read_writes_eq_canon _ _ _ (View.cover_of_tiledBy _ ![128, 1024] (by sl_kernel_rfl))]
    simp only [View.readAt_eq_ld, Memref.IsWhole.read_unread, acc_read]
    exact bands_at _ _ _ _ _ _ _ _ _ _ _ (fun j d => a (ix2 j d)) (fun i r d h => ld_rows a 0 _ i r h d) (fun i r d h => ld_rows a 512 _ i r h d)
      (fun i r d h => ld_rows a 1024 _ i r h d) (fun i r d h => ld_rows a 1152 _ i r h d) (fun i r d h => ld_rows a 1280 _ i r h d) [] _ _ _ _ _ _ _ _ _ _ _ _ _ _ _ j d
  clear hf
  refine Eq.trans ?_ (key (row r i))
  have at_r : ∀ (n o : ℕ) (inb h), r.val = n → o = 416 * n → View.read (Elt Ideal) (accM.slice (Rect.unit (s := S3328x1024) ![o, 0] S416x1024.size inb) h).view f (ix2 i d) = View.read (Elt Ideal) accM.view f (ix2 (row r i) d) :=
    fun n o inb h hn ho => slab_read f o inb h i d (row r i) (by show 416 * r.val + i.val = _; omega)
  have := r.isLt
  by_cases h7 : r.val = 7
  · exact (slab_hit 7 _ _ _ _ r i d h7).trans (at_r 7 2912 _ _ h7 rfl)
  refine (slab_miss 7 _ _ _ _ r i d h7).trans ?_
  by_cases h6 : r.val = 6
  · exact (slab_hit 6 _ _ _ _ r i d h6).trans (at_r 6 2496 _ _ h6 rfl)
  refine (slab_miss 6 _ _ _ _ r i d h6).trans ?_
  by_cases h5 : r.val = 5
  · exact (slab_hit 5 _ _ _ _ r i d h5).trans (at_r 5 2080 _ _ h5 rfl)
  refine (slab_miss 5 _ _ _ _ r i d h5).trans ?_
  by_cases h4 : r.val = 4
  · exact (slab_hit 4 _ _ _ _ r i d h4).trans (at_r 4 1664 _ _ h4 rfl)
  refine (slab_miss 4 _ _ _ _ r i d h4).trans ?_
  by_cases h3 : r.val = 3
  · exact (slab_hit 3 _ _ _ _ r i d h3).trans (at_r 3 1248 _ _ h3 rfl)
  refine (slab_miss 3 _ _ _ _ r i d h3).trans ?_
  by_cases h2 : r.val = 2
  · exact (slab_hit 2 _ _ _ _ r i d h2).trans (at_r 2 832 _ _ h2 rfl)
  refine (slab_miss 2 _ _ _ _ r i d h2).trans ?_
  by_cases h1 : r.val = 1
  · exact (slab_hit 1 _ _ _ _ r i d h1).trans (at_r 1 416 _ _ h1 rfl)
  refine (slab_miss 1 _ _ _ _ r i d h1).trans ?_
  by_cases h0 : r.val = 0
  · exact (slab_hit 0 _ _ _ _ r i d h0).trans (at_r 0 0 _ _ h0 rfl)
  refine (slab_miss 0 _ _ _ _ r i d h0).trans ?_
  omega

/-- An entry of the result: the four tiles' shares added up. -/
theorem result_at (c : Dev nD) (r : Fin 8) (i : Fin 416) (d : Fin 1024) :
    result m c (ix3 r i d) = share m c t0_0 (row r i) d + share m c t0_1 (row r i) d + share m c t0_2 (row r i) d + share m c t0_3 (row r i) d := by
  have e0 : acc0 m c (ix2 (row r i) d) = 0 + share m c t0_0 (row r i) d := stepA_at m c t0_0 rfl (row r i) d
  have e1 : acc1 m c (ix2 (row r i) d) = acc0 m c (ix2 (row r i) d) + share m c t0_1 (row r i) d := stepB_at m c t0_1 (by decide) (by decide) (acc0 m c) (row r i) d
  have e2 : acc2 m c (ix2 (row r i) d) = acc1 m c (ix2 (row r i) d) + share m c t0_2 (row r i) d := stepB_at m c t0_2 (by decide) (by decide) (acc1 m c) (row r i) d
  have e3 : result m c (ix3 r i d) = acc2 m c (ix2 (row r i) d) + share m c t0_3 (row r i) d := resultC_at m c t0_3 rfl (acc2 m c) (V m c main_v13) r i d
  rw [e3, e2, e1, e0, zero_add]

end Cert.WgradIdeal.Hand
end
-- ==== Proof.WgradFin.lean ====
/-
  The result of the projection weight's gradient kernel from its argument arrays, and the reference's result, both entry by entry over the extended reals.
-/
module
public import proofs.«01_k».proof.Proof.WgradOut2
public import proofs.«01_k».proof.Proof.Gen.WgradRefIdeal.Read
public import Idealize.ShloMosaic.Lib.StableHlo.Run
@[expose] public section
set_option maxRecDepth 16384
noncomputable section
open Idealize.ShloMosaic Idealize.ShloMosaic.TcCoe Idealize.ShloMosaic.Tactic Idealize.SL.Sem
open scoped BigOperators
namespace Cert.WgradIdeal.Hand
open Cert.WgradIdeal Cert.WgradIdeal.Gen
open Cert.InprojRefIdeal.Read (split5)

/-- Row `p` of tile `b`. -/
def tok (b : Fin 4) (p : Fin 1024) : Fin 4096 := ⟨1024 * b.val + p.val, by have := b.isLt; have := p.isLt; omega⟩
/-- The grid point of tile `b`. -/
def pt (b : Fin 4) : Fin cfg0.N := ⟨b.val, b.isLt⟩

/-- The sum over the four tiles' rows is the sum over all rows. -/
theorem sum_rows (f : Fin 4096 → EReal) : ∑ b, ∑ p, f (tok b p) = ∑ t, f t := by
  rw [← Fintype.sum_prod_type' (fun b p => f (tok b p))]
  refine Fintype.sum_equiv (finProdFinEquiv (m := 4) (n := 1024)) _ _ fun x => congrArg f (Fin.ext ?_)
  show 1024 * x.1.val + x.2.val = x.2.val + 1024 * x.1.val
  omega

theorem index_0 : ∀ b : Fin 4, win0_0.index (pt b) 0 = b.val ∧ win0_0.index (pt b) 1 = 0 := by decide +kernel
theorem index_1 : ∀ b : Fin 4, win0_1.index (pt b) 0 = b.val ∧ win0_1.index (pt b) 1 = 0 := by decide +kernel
theorem index_2 : ∀ b : Fin 4, win0_2.index (pt b) 0 = b.val ∧ win0_2.index (pt b) 1 = 0 := by decide +kernel
theorem index_3 : ∀ b : Fin 4, win0_3.index (pt b) 0 = b.val ∧ win0_3.index (pt b) 1 = 0 := by decide +kernel
theorem index_4 : ∀ b : Fin 4, win0_4.index (pt b) 0 = b.val ∧ win0_4.index (pt b) 1 = 0 := by decide +kernel
theorem index_5 : ∀ b : Fin 4, win0_5.index (pt b) 0 = b.val ∧ win0_5.index (pt b) 1 = 0 := by decide +kernel

variable (m : (ℓ : Loc nD τ sig) → Buf (Elt Ideal) ℓ) (c : Dev nD)

theorem blk_0 (b : Fin 4) (p : Fin 1024) (i : Fin 512) : (iblk m c 0 (pt b) : Vec Ideal S1024x512 .bf16) (ix2 p i) = (m ((c : Thread nD τ).loc main_arg0) : Vec Ideal S4096x512 .bf16) (ix2 (tok b p) i) := by
  unfold iblk
  rw [View.read_apply]
  show V m c main_arg0 _ = m (c.tc.loc main_arg0) _
  refine (congrFun (V_main_arg0 m c) _).trans (congrArg _ ?_)
  funext a
  apply Fin.ext
  match a with
  | ⟨0, _⟩ => show win0_0.index (pt b) 0 * 1024 + 1 * p.val = 1024 * b.val + p.val; rw [(index_0 b).1]; omega
  | ⟨1, _⟩ => show win0_0.index (pt b) 1 * 512 + 1 * i.val = i.val; rw [(index_0 b).2]; omega
theorem blk_1 (b : Fin 4) (p : Fin 1024) (i : Fin 512) : (iblk m c 1 (pt b) : Vec Ideal S1024x512 .bf16) (ix2 p i) = (m ((c : Thread nD τ).loc main_arg1) : Vec Ideal S4096x512 .bf16) (ix2 (tok b p) i) := by
  unfold iblk
  rw [View.read_apply]
  show V m c main_arg1 _ = m (c.tc.loc main_arg1) _
  refine (congrFun (V_main_arg1 m c) _).trans (congrArg _ ?_)
  funext a
  apply Fin.ext
  match a with
  | ⟨0, _⟩ => show win0_1.index (pt b) 0 * 1024 + 1 * p.val = 1024 * b.val + p.val; rw [(index_1 b).1]; omega
  | ⟨1, _⟩ => show win0_1.index (pt b) 1 * 512 + 1 * i.val = i.val; rw [(index_1 b).2]; omega
theorem blk_2 (b : Fin 4) (p : Fin 1024) (i : Fin 128) : (iblk m c 2 (pt b) : Vec Ideal S1024x128 .bf16) (ix2 p i) = (m ((c : Thread nD τ).loc main_arg2) : Vec Ideal S4096x128 .bf16) (ix2 (tok b p) i) := by
  unfold iblk
  rw [View.read_apply]
  show V m c main_arg2 _ = m (c.tc.loc main_arg2) _
  refine (congrFun (V_main_arg2 m c) _).trans (congrArg _ ?_)
  funext a
  apply Fin.ext
  match a with
  | ⟨0, _⟩ => show win0_2.index (pt b) 0 * 1024 + 1 * p.val = 1024 * b.val + p.val; rw [(index_2 b).1]; omega
  | ⟨1, _⟩ => show win0_2.index (pt b) 1 * 128 + 1 * i.val = i.val; rw [(index_2 b).2]; omega
theorem blk_3 (b : Fin 4) (p : Fin 1024) (i : Fin 128) : (iblk m c 3 (pt b) : Vec Ideal S1024x128 .bf16) (ix2 p i) = (m ((c : Thread nD τ).loc main_arg3) : Vec Ideal S4096x128 .bf16) (ix2 (tok b p) i) := by
  unfold iblk
  rw [View.read_apply]
  show V m c main_arg3 _ = m (c.tc.loc main_arg3) _
  refine (congrFun (V_main_arg3 m c) _).trans (congrArg _ ?_)
  funext a
  apply Fin.ext
  match a with
  | ⟨0, _⟩ => show win0_3.index (pt b) 0 * 1024 + 1 * p.val = 1024 * b.val + p.val; rw [(index_3 b).1]; omega
  | ⟨1, _⟩ => show win0_3.index (pt b) 1 * 128 + 1 * i.val = i.val; rw [(index_3 b).2]; omega
theorem blk_4 (b : Fin 4) (p : Fin 1024) (i : Fin 2048) : (iblk m c 4 (pt b) : Vec Ideal S1024x2048 .bf16) (ix2 p i) = (m ((c : Thread nD τ).loc main_arg4) : Vec Ideal S4096x2048 .bf16) (ix2 (tok b p) i) := by
  unfold iblk
  rw [View.read_apply]
  show V m c main_arg4 _ = m (c.tc.loc main_arg4) _
  refine (congrFun (V_main_arg4 m c) _).trans (congrArg _ ?_)
  funext a
  apply Fin.ext
  match a with
  | ⟨0, _⟩ => show win0_4.index (pt b) 0 * 1024 + 1 * p.val = 1024 * b.val + p.val; rw [(index_4 b).1]; omega
  | ⟨1, _⟩ => show win0_4.index (pt b) 1 * 2048 + 1 * i.val = i.val; rw [(index_4 b).2]; omega

/-- The host's lines before the call leave the normalized input, as the reference computes it. -/
theorem V_main_v12 : V m c main_v12 = Cert.WgradRefIdeal.Read.val_main_v17 (F := Ideal) (m ((c : Thread nD τ).loc main_arg5)) (m ((c : Thread nD τ).loc main_arg6)) := by
  unfold V hostOps0
  after_results_simp
  rfl

theorem blk_5 (b : Fin 4) (p : Fin 1024) (i : Fin 1024) : (iblk m c 5 (pt b) : Vec Ideal S1024x1024 .bf16) (ix2 p i)
    = Cert.WgradRefIdeal.Read.val_main_v17 (F := Ideal) (m ((c : Thread nD τ).loc main_arg5)) (m ((c : Thread nD τ).loc main_arg6)) (ix2 (tok b p) i) := by
  unfold iblk
  rw [View.read_apply]
  show V m c main_v12 _ = _
  refine (congrFun (V_main_v12 m c) _).trans (congrArg _ ?_)
  funext a
  apply Fin.ext
  match a with
  | ⟨0, _⟩ => show win0_5.index (pt b) 0 * 1024 + 1 * p.val = 1024 * b.val + p.val; rw [(index_5 b).1]; omega
  | ⟨1, _⟩ => show win0_5.index (pt b) 1 * 1024 + 1 * i.val = i.val; rw [(index_5 b).2]; omega

/-- Row `t` of the projection's gradient, from its five pieces. -/
abbrev dproj (x0 x1 : Vec Ideal S4096x512 .bf16) (x2 x3 : Vec Ideal S4096x128 .bf16) (x4 : Vec Ideal S4096x2048 .bf16) (t : Fin 4096) (j : Fin 3328) : EReal :=
  cat (fun i => x0 (ix2 t i)) (fun i => x1 (ix2 t i)) (fun i => x2 (ix2 t i)) (fun i => x3 (ix2 t i)) (fun i => x4 (ix2 t i)) j

/-- An entry of the result: the sum over all rows. -/
abbrev total (x0 x1 : Vec Ideal S4096x512 .bf16) (x2 x3 : Vec Ideal S4096x128 .bf16) (x4 : Vec Ideal S4096x2048 .bf16) (h : Vec Ideal S4096x1024 .f32) (j : Fin 3328) (d : Fin 1024) : EReal :=
  ∑ t, dproj x0 x1 x2 x3 x4 t j * h (ix2 t d)

theorem share_pt (b : Fin 4) (j : Fin 3328) (d : Fin 1024) : share m c (pt b) j d = ∑ p, (fun t => dproj (m ((c : Thread nD τ).loc main_arg0)) (m ((c : Thread nD τ).loc main_arg1)) (m ((c : Thread nD τ).loc main_arg2))
    (m ((c : Thread nD τ).loc main_arg3)) (m ((c : Thread nD τ).loc main_arg4)) t j
    * Cert.WgradRefIdeal.Read.val_main_v17 (F := Ideal) (m ((c : Thread nD τ).loc main_arg5)) (m ((c : Thread nD τ).loc main_arg6)) (ix2 t d)) (tok b p) := by
  unfold share
  refine Finset.sum_congr rfl fun p _ => ?_
  simp only [blk_0, blk_1, blk_2, blk_3, blk_4, blk_5]

/-- The kernel's result at row `i` of slab `r`. -/
theorem result_total (r : Fin 8) (i : Fin 416) (d : Fin 1024) : result m c (ix3 r i d) = total (m ((c : Thread nD τ).loc main_arg0)) (m ((c : Thread nD τ).loc main_arg1)) (m ((c : Thread nD τ).loc main_arg2))
    (m ((c : Thread nD τ).loc main_arg3)) (m ((c : Thread nD τ).loc main_arg4))
    (Cert.WgradRefIdeal.Read.val_main_v17 (F := Ideal) (m ((c : Thread nD τ).loc main_arg5)) (m ((c : Thread nD τ).loc main_arg6))) (row r i) d := by
  refine (result_at m c r i d).trans (Eq.trans ?_ (sum_rows _))
  rw [Fin.sum_univ_four, ← share_pt, ← share_pt, ← share_pt, ← share_pt]
  rfl

end Cert.WgradIdeal.Hand

namespace Cert.WgradRefIdeal.Read
open Cert.WgradRefIdeal Cert.WgradRefIdeal.Gen
open Cert.WgradIdeal.Hand (cat cat_u cat_q cat_k cat_v cat_g dproj total row)
open Cert.InprojRefIdeal.Read (split5)

variable (x0 x1 : FVec Ideal S4096x512 .bf16) (x2 x3 : FVec Ideal S4096x128 .bf16) (x4 : FVec Ideal S4096x2048 .bf16) (x5 : FVec Ideal S4096x1024 .f32) (x6 : FVec Ideal S1x1024 .f32)

/-- The concatenated gradient. -/
theorem v24_at (t : Fin 4096) (j : Fin 3328) : val_main_v24 (F := Ideal) x0 x1 x2 x3 x4 (ix2 t j) = dproj x0 x1 x2 x3 x4 t j := by
  unfold val_main_v24
  rcases split5 j with ⟨i, e⟩ | ⟨i, e⟩ | ⟨i, e⟩ | ⟨i, e⟩ | ⟨i, e⟩
  · refine (concatenate_apply_piece (t := S4096x3328) 1 _ _ (ix2 t j) 0 (by show 0 < 5; omega) S4096x512 (val_main_v0 (F := Ideal) x0) rfl rfl 0 (by rfl) (ix2 t i) (fun b hb => ?_) e.symm).trans ?_
    · match b with
      | ⟨0, _⟩ => rfl
      | ⟨1, _⟩ => exact absurd rfl hb
    · exact (cat_u (fun i => x0 (ix2 t i)) (fun i => x1 (ix2 t i)) (fun i => x2 (ix2 t i)) (fun i => x3 (ix2 t i)) (fun i => x4 (ix2 t i)) j i e).symm
  · refine (concatenate_apply_piece (t := S4096x3328) 1 _ _ (ix2 t j) 1 (by show 1 < 5; omega) S4096x512 (val_main_v1 (F := Ideal) x1) rfl rfl 512 (by rfl) (ix2 t i) (fun b hb => ?_) e.symm).trans ?_
    · match b with
      | ⟨0, _⟩ => rfl
      | ⟨1, _⟩ => exact absurd rfl hb
    · exact (cat_q (fun i => x0 (ix2 t i)) (fun i => x1 (ix2 t i)) (fun i => x2 (ix2 t i)) (fun i => x3 (ix2 t i)) (fun i => x4 (ix2 t i)) j i e).symm
  · refine (concatenate_apply_piece (t := S4096x3328) 1 _ _ (ix2 t j) 2 (by show 2 < 5; omega) S4096x128 (val_main_v2 (F := Ideal) x2) rfl rfl 1024 (by rfl) (ix2 t i) (fun b hb => ?_) e.symm).trans ?_
    · match b with
      | ⟨0, _⟩ => rfl
      | ⟨1, _⟩ => exact absurd rfl hb
    · exact (cat_k (fun i => x0 (ix2 t i)) (fun i => x1 (ix2 t i)) (fun i => x2 (ix2 t i)) (fun i => x3 (ix2 t i)) (fun i => x4 (ix2 t i)) j i e).symm
  · refine (concatenate_apply_piece (t := S4096x3328) 1 _ _ (ix2 t j) 3 (by show 3 < 5; omega) S4096x128 (val_main_v3 (F := Ideal) x3) rfl rfl 1152 (by rfl) (ix2 t i) (fun b hb => ?_) e.symm).trans ?_
    · match b with
      | ⟨0, _⟩ => rfl
      | ⟨1, _⟩ => exact absurd rfl hb
    · exact (cat_v (fun i => x0 (ix2 t i)) (fun i => x1 (ix2 t i)) (fun i => x2 (ix2 t i)) (fun i => x3 (ix2 t i)) (fun i => x4 (ix2 t i)) j i e).symm
  · refine (concatenate_apply_piece (t := S4096x3328) 1 _ _ (ix2 t j) 4 (by show 4 < 5; omega) S4096x2048 (val_main_v4 (F := Ideal) x4) rfl rfl 1280 (by rfl) (ix2 t i) (fun b hb => ?_) e.symm).trans ?_
    · match b with
      | ⟨0, _⟩ => rfl
      | ⟨1, _⟩ => exact absurd rfl hb
    · exact (cat_g (fun i => x0 (ix2 t i)) (fun i => x1 (ix2 t i)) (fun i => x2 (ix2 t i)) (fun i => x3 (ix2 t i)) (fun i => x4 (ix2 t i)) j i e).symm

/-- The reference's result at row `i` of slab `r`. -/
theorem v26_at (r : Fin 8) (i : Fin 416) (d : Fin 1024) : val_main_v26 (F := Ideal) x0 x1 x2 x3 x4 x5 x6 (ix3 r i d) = total x0 x1 x2 x3 x4 (val_main_v17 (F := Ideal) x5 x6) (row r i) d := by
  have e : idx_main_v26 (ix3 r i d) = ix2 (row r i) d := by
    have hr := r.isLt
    have hi := i.isLt
    have hd := d.isLt
    funext a
    apply Fin.ext
    match a with
    | ⟨0, _⟩ => show ((r.val * 416 + i.val) * 1024 + d.val) / 1024 = 416 * r.val + i.val; omega
    | ⟨1, _⟩ => show ((r.val * 416 + i.val) * 1024 + d.val) % 1024 = d.val; omega
  rw [val_main_v26_apply, e, val_main_v25_apply]
  refine Finset.sum_congr rfl fun t _ => ?_
  have el : lidx_main_v25 (ix2 (row r i) d) t = ix2 t (row r i) := by
    funext a
    apply Fin.ext
    match a with
    | ⟨0, _⟩ => rfl
    | ⟨1, _⟩ => rfl
  have er : ridx_main_v25 (ix2 (row r i) d) t = ix2 t d := by
    funext a
    apply Fin.ext
    match a with
    | ⟨0, _⟩ => rfl
    | ⟨1, _⟩ => rfl
  rw [el, er, v24_at]

end Cert.WgradRefIdeal.Read
end
-- ==== Proof.WgradCert.lean ====
/-
  The certificate of the projection weight's gradient: both programs run, and to the same gradient.
-/
module
public import proofs.«01_k».proof.Defs
public import proofs.«01_k».proof.Proof.WgradFin
public import proofs.«01_k».proof.Proof.Gen.Wgrad
public import proofs.«01_k».proof.Proof.Gen.WgradIdeal
public import proofs.«01_k».proof.Proof.Gen.WgradRefIdeal.Run
@[expose] public section
set_option maxRecDepth 16384
noncomputable section
open Idealize.ShloMosaic Idealize.ShloMosaic.TcCoe Idealize.ShloMosaic.Tactic Idealize.SL.Sem

namespace Cert.Proof.Wgrad
open Cert.WgradIdeal Cert.WgradIdeal.Gen Cert.WgradIdeal.Hand

/-- For any float values: the program terminates with its arguments as they were and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0) :=
  (θ_run defs _ _).mono (fun _ h => ⟨fun c => (h.1 c).2, h.2⟩) (run_result m ρ)

/-- So the kernel runs, -/
theorem frame_kernel : Cert.quiescent_Wgrad := fun m ρ _ => by
  refine Eq.mp ?_ (frame_any (F := Bits) m ρ)
  sl_kernel_rfl

/-- and its idealization, -/
theorem frame_ideal : Cert.quiescent_WgradIdeal := fun m ρ _ => frame_any (F := Ideal) m ρ

/-- and the reference. -/
theorem frame_ref : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

/-- Equal arguments give equal results of the reference. -/
theorem ref_congr {x0 x0' x1 x1' : FVec Ideal S4096x512 .bf16} {x2 x2' x3 x3' : FVec Ideal S4096x128 .bf16} {x4 x4' : FVec Ideal S4096x2048 .bf16} {x5 x5' : FVec Ideal S4096x1024 .f32} {x6 x6' : FVec Ideal S1x1024 .f32}
    (e0 : x0 = x0') (e1 : x1 = x1') (e2 : x2 = x2') (e3 : x3 = x3') (e4 : x4 = x4') (e5 : x5 = x5') (e6 : x6 = x6') :
    Cert.WgradRefIdeal.Read.val_main_v26 (F := Ideal) x0 x1 x2 x3 x4 x5 x6 = Cert.WgradRefIdeal.Read.val_main_v26 (F := Ideal) x0' x1' x2' x3' x4' x5' x6' := by
  subst e0 e1 e2 e3 e4 e5 e6
  rfl

/-- The kernel's result is the reference's. -/
theorem result_eq (m : (ℓ : Loc nD τ sig) → Buf (Elt Ideal) ℓ) (c : Dev nD) :
    Cert.WgradRefIdeal.Read.val_main_v26 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = result m c := by
  funext i
  rw [eq_ix3 i]
  exact (Cert.WgradRefIdeal.Read.v26_at _ _ _ _ _ _ _ (i 0) (i 1) (i 2)).trans (result_total m c (i 0) (i 1) (i 2)).symm

/-- Both programs run to the same gradient. -/
theorem algebraic : Cert.algebraic_WgradIdeal_WgradRefIdeal := by
  intro m ρ m' ρ' _ hin
  refine ⟨fun c => result m c, (θ_run Cert.WgradIdeal.defs _ _).mono (fun _ h c => h.1 c) (run_result (F := Ideal) m ρ), ?_⟩
  refine (θ_run _ _ _).mono (fun r h c => ?_) (Cert.WgradRefIdeal.Value.run (F := Ideal) m' ρ')
  obtain ⟨r0, k⟩ := h c
  obtain ⟨e0, e1, e2, e3, e4, e5, e6⟩ := hin c
  refine ⟨?_, k⟩
  refine (r0.trans (Cert.WgradRefIdeal.Read.val_main_v26_eq _ _ _ _ _ _ _)).trans ?_
  exact (ref_congr e0 e1 e2 e3 e4 e5 e6).trans (result_eq m c)

end Cert.Proof.Wgrad
end
-- ==== Proof.MixPay.lean ====
/-
  What the mixing's forward kernel stores, entry by entry.
-/
module
public import proofs.«01_k».proof.Proof.Gen.MixIdeal.Skeleton
public import proofs.«01_k».proof.Proof.InprojOut
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MixIdeal.Value
open Cert.MixIdeal Cert.MixIdeal.Gen
open Cert.InprojIdeal.Value (canon_hit canon_miss ld_full)

/-- The pool branch's gate for merged column `j`. -/
def lo (j : Fin 1024) : Fin 2048 := ⟨j.val, by have := j.isLt; omega⟩
/-- The attention branch's gate for merged column `j`. -/
def hi (j : Fin 1024) : Fin 2048 := ⟨1024 + j.val, by have := j.isLt; omega⟩

/-- The shards side by side: column `j` is column `j % 128` of shard `j / 128`. -/
def band (w : Fin 8 → Fin 512 → Fin 128 → EReal) (k : Fin 512) (j : Fin 1024) : EReal :=
  w ⟨j.val / 128, by have := j.isLt; omega⟩ k ⟨j.val % 128, by omega⟩

/-- A row of the mixed output. -/
def mixE (yp ya : Fin 512 → EReal) (g : Fin 2048 → EReal) (wp wa : Fin 512 → Fin 1024 → EReal) (wo : Fin 1024 → Fin 1024 → EReal) (d : Fin 1024) : EReal :=
  ∑ j : Fin 1024, (g (lo j) * (∑ k, yp k * wp k j) + g (hi j) * (∑ k, ya k * wa k j)) * wo j d

/-- A row divided by its root mean square. -/
def nrm (v : Fin 1024 → EReal) (d : Fin 1024) : EReal :=
  v d * Ideal.rsqrt (Ideal.div (∑ e, v e * v e) (Ideal.ofBits .f32 0x44800000#32) + Ideal.ofBits .f32 0x358637BD#32)

/-- A row of the residual stream after the mixing. -/
def x1E (x mix g2 : Fin 1024 → EReal) (d : Fin 1024) : EReal := x d + nrm mix d * g2 d

theorem pay20_at (v3 v6 : Vec Ideal S512x512 .bf16) (v4 v7 v9 v12 : Vec Ideal S512x1024 .bf16) (v17 : Vec Ideal S1024x1024 .bf16)
    (yp ya : Fin 512 → Fin 512 → EReal) (g : Fin 512 → Fin 2048 → EReal) (wp wa : Fin 512 → Fin 1024 → EReal) (wo : Fin 1024 → Fin 1024 → EReal)
    (h3 : ∀ p k, v3 (ix2 p k) = yp p k) (h6 : ∀ p k, v6 (ix2 p k) = ya p k) (h4 : ∀ k j, v4 (ix2 k j) = wp k j) (h7 : ∀ k j, v7 (ix2 k j) = wa k j)
    (h9 : ∀ p j, v9 (ix2 p j) = g p (lo j)) (h12 : ∀ p j, v12 (ix2 p j) = g p (hi j)) (h17 : ∀ j d, v17 (ix2 j d) = wo j d) (p : Fin 512) (d : Fin 1024) :
    k0_pay20 (F := Ideal) v3 v4 v6 v7 v9 v12 v17 (ix2 p d) = mixE (yp p) (ya p) (g p) wp wa wo d := by
  unfold k0_pay20
  pointwise [dot_S512x512_S512x1024_S512x1024_1_0_0_1_n_n, dot_S512x1024_S1024x1024_S512x1024_1_0_0_1_n_n]
  simp only [h3, h6, h4, h7, h9, h12, h17, zero_add]
  rfl

theorem pay21_at (v3 v6 : Vec Ideal S512x512 .bf16) (v4 v7 v9 v12 : Vec Ideal S512x1024 .bf16) (v17 : Vec Ideal S1024x1024 .bf16) (mix : Fin 512 → Fin 1024 → EReal)
    (h : ∀ p d, k0_pay20 (F := Ideal) v3 v4 v6 v7 v9 v12 v17 (ix2 p d) = mix p d) (p : Fin 512) (d : Fin 1024) :
    k0_pay21 (F := Ideal) v3 v4 v6 v7 v9 v12 v17 (ix2 p d) = nrm (mix p) d := by
  unfold k0_pay21
  generalize k0_pay20 (F := Ideal) v3 v4 v6 v7 v9 v12 v17 = M at h
  pointwise
  simp only [h, zero_add]
  rfl

theorem pay1_at (v20 v30 : FVec Ideal S512x1024 .f32) (v31 : Vec Ideal S1x1024 .f32) (p : Fin 512) (d : Fin 1024) :
    k0_pay1 (F := Ideal) v20 v30 v31 (ix2 p d) = v20 (ix2 p d) + v30 (ix2 p d) * v31 (ix2 0 d) := by
  unfold k0_pay1
  pointwise

theorem pay2_at (v20 v30 : FVec Ideal S512x1024 .f32) (v31 v46 : Vec Ideal S1x1024 .f32) (x1 : Fin 512 → Fin 1024 → EReal)
    (h : ∀ p d, k0_pay1 (F := Ideal) v20 v30 v31 (ix2 p d) = x1 p d) (p : Fin 512) (d : Fin 1024) :
    k0_pay2 (F := Ideal) v20 v30 v31 v46 (ix2 p d) = nrm (x1 p) d * v46 (ix2 0 d) := by
  unfold k0_pay2
  generalize k0_pay1 (F := Ideal) v20 v30 v31 = M at h
  pointwise
  simp only [h, zero_add]
  rfl

/-- One shard's band as it is stored. -/
theorem sq_at (v : Vec Ideal S1x512x128 .bf16) (k : Fin 512) (e : Fin 128) :
    (shapeCast S512x128 (shapeCast S512x128 v shapeCasts_S1x512x128_S512x128) shapeCasts_S512x128_S512x128 : FVec Ideal S512x128 .bf16) (ix2 k e) = v (ix3 0 k e) := by
  pointwise

/-- A block of columns of a whole array. -/
theorem ld_band {e : EltTy} {a b n : ℕ} (x : Vec Ideal ⟨2, ![a, b]⟩ e) (o : ℕ) (inb) (p : Fin a) (i : Fin n) (r : Fin b) (h : r.val = o + i.val) :
    View.ld x (Rect.unit (s := ⟨2, ![a, b]⟩) ![0, o] ![a, n] inb) (ix2 p i) = x (ix2 p r) :=
  View.ld_unit_apply_of x _ _ inb _ (ix2 p r) (fun a => by
    match a with
    | ⟨0, _⟩ => show p.val = 0 + p.val; omega
    | ⟨1, _⟩ => exact h)

/-- One shard. -/
theorem ld_shard {e : EltTy} {a b n : ℕ} (x : Vec Ideal ⟨3, ![n, a, b]⟩ e) (s : Fin n) (o : ℕ) (ho : s.val = o) (inb) (k : Fin a) (i : Fin b) :
    View.ld x (Rect.unit (s := ⟨3, ![n, a, b]⟩) ![o, 0, 0] ![1, a, b] inb) (ix3 0 k i) = x (ix3 s k i) :=
  View.ld_unit_apply_of x _ _ inb _ (ix3 s k i) (fun a => by
    match a with
    | ⟨0, _⟩ => exact ho
    | ⟨1, _⟩ => show k.val = 0 + k.val; omega
    | ⟨2, _⟩ => show i.val = 0 + i.val; omega)

/-- The eight bands stored side by side hold the shards side by side. -/
theorem band_canon (q0 q1 q2 q3 q4 q5 q6 q7 : FVec Ideal S512x128 .bf16) (i0 i1 i2 i3 i4 i5 i6 i7) (w : Fin 8 → Fin 512 → Fin 128 → EReal)
    (h0 : ∀ k e, q0 (ix2 k e) = w 0 k e) (h1 : ∀ k e, q1 (ix2 k e) = w 1 k e) (h2 : ∀ k e, q2 (ix2 k e) = w 2 k e) (h3 : ∀ k e, q3 (ix2 k e) = w 3 k e)
    (h4 : ∀ k e, q4 (ix2 k e) = w 4 k e) (h5 : ∀ k e, q5 (ix2 k e) = w 5 k e) (h6 : ∀ k e, q6 (ix2 k e) = w 6 k e) (h7 : ∀ k e, q7 (ix2 k e) = w 7 k e)
    (i : S512x1024.Idx) (k : Fin 512) (j : Fin 1024) (ek : (i 0 : ℕ) = k.val) (ej : (i 1 : ℕ) = j.val) :
    View.canon (Val := Elt Ideal) (e := .bf16)
      [⟨Rect.unit (s := S512x1024) ![0, 896] ![512, 128] i7, q7⟩, ⟨Rect.unit (s := S512x1024) ![0, 768] ![512, 128] i6, q6⟩,
       ⟨Rect.unit (s := S512x1024) ![0, 640] ![512, 128] i5, q5⟩, ⟨Rect.unit (s := S512x1024) ![0, 512] ![512, 128] i4, q4⟩,
       ⟨Rect.unit (s := S512x1024) ![0, 384] ![512, 128] i3, q3⟩, ⟨Rect.unit (s := S512x1024) ![0, 256] ![512, 128] i2, q2⟩,
       ⟨Rect.unit (s := S512x1024) ![0, 128] ![512, 128] i1, q1⟩, ⟨Rect.unit (s := S512x1024) ![0, 0] ![512, 128] i0, q0⟩] i = band w k j := by
  have hj := j.isLt
  have key : ∀ (s : Fin 8) (o : ℕ) (ho : o = 128 * s.val) (q : FVec Ideal S512x128 .bf16) (hq : ∀ k e, q (ix2 k e) = w s k e) (inb) (L : List (View.Piece (Elt Ideal) S512x1024 .bf16))
      (hs : j.val / 128 = s.val), View.canon (⟨Rect.unit (s := S512x1024) ![0, o] ![512, 128] inb, q⟩ :: L) i = band w k j := by
    intro s o ho q hq inb L hs
    refine (canon_hit _ _ _ _ _ _ (ix2 k ⟨j.val % 128, by omega⟩) (fun a => by
      match a with
      | ⟨0, _⟩ => show (i 0 : ℕ) = 0 + k.val; omega
      | ⟨1, _⟩ => show (i 1 : ℕ) = o + j.val % 128; omega)).trans ?_
    refine (hq _ _).trans ?_
    unfold band
    exact congrArg (fun s => w s k _) (Fin.ext hs.symm)
  have miss : ∀ (s : Fin 8) (o : ℕ) (ho : o = 128 * s.val) (q : FVec Ideal S512x128 .bf16) (inb) (L : List (View.Piece (Elt Ideal) S512x1024 .bf16))
      (hs : j.val / 128 ≠ s.val), View.canon (⟨Rect.unit (s := S512x1024) ![0, o] ![512, 128] inb, q⟩ :: L) i = View.canon L i := by
    intro s o ho q inb L hs
    exact canon_miss _ _ _ _ _ _ (1 : Fin 2) (by show (i 1 : ℕ) < o ∨ o + 128 ≤ (i 1 : ℕ); omega)
  by_cases e7 : j.val / 128 = 7
  · exact key 7 896 rfl _ h7 _ _ e7
  refine (miss 7 896 rfl _ _ _ e7).trans ?_
  by_cases e6 : j.val / 128 = 6
  · exact key 6 768 rfl _ h6 _ _ e6
  refine (miss 6 768 rfl _ _ _ e6).trans ?_
  by_cases e5 : j.val / 128 = 5
  · exact key 5 640 rfl _ h5 _ _ e5
  refine (miss 5 640 rfl _ _ _ e5).trans ?_
  by_cases e4 : j.val / 128 = 4
  · exact key 4 512 rfl _ h4 _ _ e4
  refine (miss 4 512 rfl _ _ _ e4).trans ?_
  by_cases e3 : j.val / 128 = 3
  · exact key 3 384 rfl _ h3 _ _ e3
  refine (miss 3 384 rfl _ _ _ e3).trans ?_
  by_cases e2 : j.val / 128 = 2
  · exact key 2 256 rfl _ h2 _ _ e2
  refine (miss 2 256 rfl _ _ _ e2).trans ?_
  by_cases e1 : j.val / 128 = 1
  · exact key 1 128 rfl _ h1 _ _ e1
  refine (miss 1 128 rfl _ _ _ e1).trans ?_
  exact key 0 0 rfl _ h0 _ _ (by show j.val / 128 = 0; omega)

end Cert.MixIdeal.Value
end
-- ==== Proof.ProjPay.lean ====
/-
  What the input projection's forward kernel stores, entry by entry.
-/
module
public import proofs.«01_k».proof.Proof.Gen.ProjIdeal.Skeleton
public import proofs.«01_k».proof.Proof.MixPay
public import Idealize.ShloMosaic.Lib.Pipeline.Value
public import Idealize.ShloMosaic.Lib.KernelVsHost
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.ProjIdeal.Value
open Cert.ProjIdeal Cert.ProjIdeal.Gen
open Cert.MixIdeal.Value (nrm)

/-- Lane `l` of the block at column `o`, rotated by the three tables. -/
def rotK (y c sa sb : ℕ → EReal) (o l : ℕ) : EReal := y (o + l) * c l + y (o + (l + 8) % 128) * sa l + y (o + (l + 120) % 128) * sb l

/-- The normed input. -/
def hE (x g : Fin 1024 → EReal) (d : Fin 1024) : EReal := nrm x d * g d

/-- Column `n` of the projection of a normed row. -/
def prE (h : Fin 1024 → EReal) (w : Fin 3328 → Fin 1024 → EReal) (b : Fin 3328 → EReal) (n : ℕ) : EReal :=
  if hn : n < 3328 then (∑ d, h d * w ⟨n, hn⟩ d) + b ⟨n, hn⟩ else 0

theorem prE_of (h : Fin 1024 → EReal) (w : Fin 3328 → Fin 1024 → EReal) (b : Fin 3328 → EReal) (n : Fin 3328) :
    prE h w b n.val = (∑ d, h d * w n d) + b n := dif_pos n.isLt

theorem pay1_at (v0 : Vec Ideal S512x1024 .f32) (v11 : Vec Ideal S1x1024 .f32) (x : Fin 512 → Fin 1024 → EReal) (g : Fin 1024 → EReal)
    (h0 : ∀ p d, v0 (ix2 p d) = x p d) (h11 : ∀ d, v11 (ix2 0 d) = g d) (p : Fin 512) (d : Fin 1024) :
    k0_pay1 (F := Ideal) v0 v11 (ix2 p d) = hE (x p) g d := by
  unfold k0_pay1
  pointwise
  simp only [h0, h11, zero_add]
  rfl

theorem pay5_at (v0 : Vec Ideal S512x1024 .f32) (v11 : Vec Ideal S1x1024 .f32) (v22 : Vec Ideal S512x1024 .bf16) (v24 : Vec Ideal S1x512 .f32)
    (hh : Fin 512 → Fin 1024 → EReal) (h : ∀ p d, k0_pay1 (F := Ideal) v0 v11 (ix2 p d) = hh p d) (p : Fin 512) (j : Fin 512) :
    k0_pay5 (F := Ideal) v0 v11 v22 v24 (ix2 p j) = (∑ d, hh p d * v22 (ix2 j d)) + v24 (ix2 0 j) := by
  unfold k0_pay5
  generalize k0_pay1 (F := Ideal) v0 v11 = M at h
  pointwise [dot_S512x1024_S512x1024_S512x512_1_1_0_0_n_n]
  simp only [h, zero_add]

theorem pay6_at (v0 : Vec Ideal S512x1024 .f32) (v11 : Vec Ideal S1x1024 .f32) (v28 : Vec Ideal S512x1024 .bf16)
    (hh : Fin 512 → Fin 1024 → EReal) (h : ∀ p d, k0_pay1 (F := Ideal) v0 v11 (ix2 p d) = hh p d) (p : Fin 512) (j : Fin 512) :
    k0_pay6 (F := Ideal) v0 v11 v28 (ix2 p j) = ∑ d, hh p d * v28 (ix2 j d) := by
  unfold k0_pay6
  generalize k0_pay1 (F := Ideal) v0 v11 = M at h
  pointwise [dot_S512x1024_S512x1024_S512x512_1_1_0_0_n_n]
  simp only [h, zero_add]

theorem pay8_at (v14 : FVec Ideal S512x1024 .bf16) (v70 : Vec Ideal S256x1024 .bf16)
    (hh : Fin 512 → Fin 1024 → EReal) (h : ∀ p d, v14 (ix2 p d) = hh p d) (p : Fin 512) (j : Fin 256) :
    k0_pay8 (F := Ideal) v14 v70 (ix2 p j) = ∑ d, hh p d * v70 (ix2 j d) := by
  unfold k0_pay8
  pointwise [dot_S512x1024_S256x1024_S512x256_1_1_0_0_n_n]
  simp only [h, zero_add]

theorem pay9_at (v71 : FVec Ideal S512x256 .f32) (v72 : Vec Ideal S1x256 .f32) (p : Fin 512) (j : Fin 256) :
    k0_pay9 (F := Ideal) v71 v72 (ix2 p j) = v71 (ix2 p j) + v72 (ix2 0 j) := by
  unfold k0_pay9
  pointwise

theorem pay12_at (v14 : FVec Ideal S512x1024 .bf16) (v106 : Vec Ideal S2048x1024 .bf16) (v108 : Vec Ideal S1x2048 .f32)
    (hh : Fin 512 → Fin 1024 → EReal) (h : ∀ p d, v14 (ix2 p d) = hh p d) (p : Fin 512) (j : Fin 2048) :
    k0_pay12 (F := Ideal) v14 v106 v108 (ix2 p j) = Ideal.logistic ((∑ d, hh p d * v106 (ix2 j d)) + v108 (ix2 0 j)) := by
  unfold k0_pay12
  pointwise [dot_S512x1024_S2048x1024_S512x2048_1_1_0_0_n_n]
  simp only [h, zero_add]
  try rfl

theorem pay2_at (v : Vec Ideal S512x128 .f32) (p : Fin 512) (l : Fin 128) : k0_pay2 (F := Ideal) v (ix2 p l) = v (ix2 p l) := by
  unfold k0_pay2
  pointwise
theorem pay3_at (v : Vec Ideal S512x128 .f32) (p : Fin 512) (l : Fin 128) : k0_pay3 (F := Ideal) v (ix2 p l) = v (ix2 p l) := by
  unfold k0_pay3
  pointwise
theorem pay4_at (v : Vec Ideal S512x128 .f32) (p : Fin 512) (l : Fin 128) : k0_pay4 (F := Ideal) v (ix2 p l) = v (ix2 p l) := by
  unfold k0_pay4
  pointwise

/-- A roll of the lanes by `s`. -/
theorem roll_at (sb : BitVec 32) (s : ℕ) (hs : sb.toNat % 128 + s = 128) (x : FVec Ideal S512x128 .f32) (hr) (p : Fin 512) (l : Fin 128) :
    dynamicRotate 1 sb none x hr (ix2 p l) = x (ix2 p ⟨(l.val + s) % 128, Nat.mod_lt _ (by norm_num)⟩) := by
  have hl := l.isLt
  refine dynamicRotate_apply _ _ _ _ _ _ fun b => ?_
  match b with
  | ⟨0, _⟩ => rfl
  | ⟨1, _⟩ => show (l.val + s) % 128 = (l.val + 128 - sb.toNat % 128) % 128; congr 1; omega

/-- A block of lanes rotated by the three tables. -/
theorem rot_at (x v17 v19 v21 : FVec Ideal S512x128 .f32) (y c sa sb : Fin 512 → ℕ → EReal) (o : ℕ) (hx : ∀ p l, x (ix2 p l) = y p (o + l.val))
    (hc : ∀ p l, v17 (ix2 p l) = c p l.val) (ha : ∀ p l, v19 (ix2 p l) = sa p l.val) (hb : ∀ p l, v21 (ix2 p l) = sb p l.val) (hr hr') (p : Fin 512) (l : Fin 128) :
    addf (addf (mulf x v17) (mulf (dynamicRotate 1 120#32 none x hr) v19)) (mulf (dynamicRotate 1 8#32 none x hr') v21) (ix2 p l)
      = rotK (y p) (c p) (sa p) (sb p) o l.val := by
  have e1 := roll_at 120#32 8 rfl x hr p l
  have e2 := roll_at 8#32 120 rfl x hr' p l
  generalize dynamicRotate 1 120#32 none x hr = r1 at e1
  generalize dynamicRotate 1 8#32 none x hr' = r2 at e2
  pointwise
  rw [e1, e2, hx, hx, hx, hc, ha, hb]
  rfl

/-- Two indices that differ in the last coordinate alone. -/
theorem off1 {n0 n1 n2 : ℕ} (p : Fin n0) (d : Fin n1) (e : Fin n2) (a : Fin 2) (ha : a ≠ 1) : (ix2 p d a).val = (ix2 p e a).val := by
  match a with
  | ⟨0, _⟩ => rfl
  | ⟨1, _⟩ => exact absurd rfl ha

/-- Four blocks of lanes side by side. -/
theorem cat_at (f0 f1 f2 f3 : FVec Ideal S512x128 .f32) (h) (G : Fin 512 → ℕ → EReal) (h0 : ∀ p l, f0 (ix2 p l) = G p l.val) (h1 : ∀ p l, f1 (ix2 p l) = G p (128 + l.val))
    (h2 : ∀ p l, f2 (ix2 p l) = G p (256 + l.val)) (h3 : ∀ p l, f3 (ix2 p l) = G p (384 + l.val)) (p : Fin 512) (j : Fin 512) :
    concatenate S512x512 1 [⟨S512x128, f0⟩, ⟨S512x128, f1⟩, ⟨S512x128, f2⟩, ⟨S512x128, f3⟩] h (ix2 p j) = G p j.val := by
  have hj := j.isLt
  have lt : j.val % 128 < 128 := Nat.mod_lt _ (by norm_num)
  by_cases e0 : j.val < 128
  · refine (concatenate_apply_piece 1 _ h _ 0 (by simp) S512x128 f0 rfl rfl 0 rfl (ix2 p ⟨j.val % 128, lt⟩) (off1 p _ j) (by show 0 + j.val % 128 = j.val; omega)).trans ((h0 p _).trans (congrArg (G p) (by show j.val % 128 = j.val; omega)))
  by_cases e1 : j.val < 256
  · refine (concatenate_apply_piece 1 _ h _ 1 (by simp) S512x128 f1 rfl rfl 128 rfl (ix2 p ⟨j.val % 128, lt⟩) (off1 p _ j) (by show 128 + j.val % 128 = j.val; omega)).trans ((h1 p _).trans (congrArg (G p) (by show 128 + j.val % 128 = j.val; omega)))
  by_cases e2 : j.val < 384
  · refine (concatenate_apply_piece 1 _ h _ 2 (by simp) S512x128 f2 rfl rfl 256 rfl (ix2 p ⟨j.val % 128, lt⟩) (off1 p _ j) (by show 256 + j.val % 128 = j.val; omega)).trans ((h2 p _).trans (congrArg (G p) (by show 256 + j.val % 128 = j.val; omega)))
  · refine (concatenate_apply_piece 1 _ h _ 3 (by simp) S512x128 f3 rfl rfl 384 rfl (ix2 p ⟨j.val % 128, lt⟩) (off1 p _ j) (by show 384 + j.val % 128 = j.val; omega)).trans ((h3 p _).trans (congrArg (G p) (by show 384 + j.val % 128 = j.val; omega)))

/-- A block of columns. -/
theorem slice_at {a b n : ℕ} (x : FVec Ideal ⟨2, ![a, b]⟩ .f32) (o : ℕ) (h) (p : Fin a) (l : Fin n) (r : Fin b) (e : r.val = o + l.val) :
    extractStridedSlice ⟨2, ![a, n]⟩ ![0, o] x h (ix2 p l) = x (ix2 p r) :=
  extractStridedSlice_apply ![0, o] x h (ix2 p l) (ix2 p r) (fun k => by
    match k with
    | ⟨0, _⟩ => show p.val = 0 + p.val; omega
    | ⟨1, _⟩ => exact e)

theorem pay7_at (v17 v19 v21 : FVec Ideal S512x128 .f32) (v29 : FVec Ideal S512x512 .f32) (v30 : Vec Ideal S1x512 .f32) (y c sa sb : Fin 512 → ℕ → EReal)
    (hc : ∀ p l, v17 (ix2 p l) = c p l.val) (ha : ∀ p l, v19 (ix2 p l) = sa p l.val) (hb : ∀ p l, v21 (ix2 p l) = sb p l.val)
    (hy : ∀ p (j : Fin 512), v29 (ix2 p j) + v30 (ix2 0 j) = y p (512 + j.val)) (p : Fin 512) (j : Fin 512) :
    k0_pay7 (F := Ideal) v17 v19 v21 v29 v30 (ix2 p j)
      = rotK (y p) (c p) (sa p) (sb p) (512 + 128 * (j.val / 128)) (j.val % 128) * Ideal.ofBits .f32 0x3E000000#32 := by
  unfold k0_pay7
  dsimp only
  have hX : ∀ p j, addf v29 (broadcastTo S512x512 v30 broadcasts_S1x512_S512x512) (ix2 p j) = y p (512 + j.val) := fun p j => by
    refine Eq.trans ?_ (hy p j)
    pointwise
  generalize addf v29 (broadcastTo S512x512 v30 broadcasts_S1x512_S512x512) = X at hX
  have blk : ∀ (o : ℕ) (ho : o + 128 ≤ 512) (ho' : o % 128 = 0) (hs) (p : Fin 512) (l : Fin 128), _ := fun o ho ho' hs =>
    rot_at (extractStridedSlice S512x128 ![0, o] X hs) v17 v19 v21 y c sa sb (512 + o)
      (fun p l => (slice_at X o hs p l ⟨o + l.val, by have := l.isLt; omega⟩ rfl).trans ((hX _ _).trans (congrArg (y p) (by show 512 + (o + l.val) = 512 + o + l.val; omega)))) hc ha hb
      rotates_S512x128_d1 rotates_S512x128_d1
  refine congrArg (· * Ideal.ofBits .f32 0x3E000000#32) (cat_at _ _ _ _ concatenates_S512x128_S512x128_S512x128_S512x128_S512x512_d1 (fun p n => rotK (y p) (c p) (sa p) (sb p) (512 + 128 * (n / 128)) (n % 128))
    (fun p l => (blk 0 (by norm_num) rfl slices_S512x512_o0_0_S512x128 p l).trans ?_) (fun p l => (blk 128 (by norm_num) rfl slices_S512x512_o0_128_S512x128 p l).trans ?_)
    (fun p l => (blk 256 (by norm_num) rfl slices_S512x512_o0_256_S512x128 p l).trans ?_) (fun p l => (blk 384 (by norm_num) rfl slices_S512x512_o0_384_S512x128 p l).trans ?_) p j)
  all_goals have := l.isLt; congr 1 <;> omega

theorem slt_lane : ∀ l : Fin 128, BitVec.slt (BitVec.ofNat 32 l.val) 64#32 = decide (l.val < 64) := by decide +kernel

/-- The lower head in both halves. -/
theorem low_at (x : FVec Ideal S512x128 .f32) (hi hr) (y : Fin 512 → ℕ → EReal) (hx : ∀ p l, x (ix2 p l) = y p l.val) (p : Fin 512) (l : Fin 128) :
    select (cmpi .slt (iota .tc S512x128 32 [1] hi) (broadcast S512x128 64#32)) x (dynamicRotate 1 64#32 none x hr) (ix2 p l) = y p (l.val % 64) := by
  have hl := l.isLt
  have e := roll_at 64#32 64 rfl x hr p l
  generalize dynamicRotate 1 64#32 none x hr = r at e
  pointwise
  simp only [IntOp.cmpi, slt_lane, Scalar.select]
  by_cases h : l.val < 64
  · simp only [h, decide_true, BitVec.ofBool_true, ↓reduceIte]
    exact (hx p l).trans (congrArg (y p) (by omega))
  · simp only [h, decide_false, BitVec.ofBool_false]
    exact (e.trans (hx p _)).trans (congrArg (y p) (by show (l.val + 64) % 128 = l.val % 64; omega))

/-- The upper head in both halves. -/
theorem up_at (x : FVec Ideal S512x128 .f32) (hi hr) (y : Fin 512 → ℕ → EReal) (hx : ∀ p l, x (ix2 p l) = y p l.val) (p : Fin 512) (l : Fin 128) :
    select (cmpi .slt (iota .tc S512x128 32 [1] hi) (broadcast S512x128 64#32)) (dynamicRotate 1 64#32 none x hr) x (ix2 p l) = y p (64 + l.val % 64) := by
  have hl := l.isLt
  have e := roll_at 64#32 64 rfl x hr p l
  generalize dynamicRotate 1 64#32 none x hr = r at e
  pointwise
  simp only [IntOp.cmpi, slt_lane, Scalar.select]
  by_cases h : l.val < 64
  · simp only [h, decide_true, BitVec.ofBool_true, ↓reduceIte]
    exact (e.trans (hx p _)).trans (congrArg (y p) (by show (l.val + 64) % 128 = 64 + l.val % 64; omega))
  · simp only [h, decide_false, BitVec.ofBool_false]
    exact (hx p l).trans (congrArg (y p) (by omega))

/-- Two blocks of lanes, each twice. -/
theorem rep_at (f g : FVec Ideal S512x128 .f32) (h) (y : Fin 512 → ℕ → EReal) (hf : ∀ p l, f (ix2 p l) = y p (l.val % 64)) (hg : ∀ p l, g (ix2 p l) = y p (64 + l.val % 64))
    (p : Fin 512) (j : Fin 512) :
    concatenate S512x512 1 [⟨S512x128, f⟩, ⟨S512x128, f⟩, ⟨S512x128, g⟩, ⟨S512x128, g⟩] h (ix2 p j) = y p (64 * (j.val / 256) + j.val % 64) := by
  refine cat_at f f g g h (fun p n => y p (64 * (n / 256) + n % 64)) (fun p l => (hf p l).trans ?_) (fun p l => (hf p l).trans ?_) (fun p l => (hg p l).trans ?_)
    (fun p l => (hg p l).trans ?_) p j
  all_goals exact congrArg (y p) (by have := l.isLt; omega)

theorem pay10_at (v17 v19 v21 : FVec Ideal S512x128 .f32) (v71 : FVec Ideal S512x256 .f32) (v72 : Vec Ideal S1x256 .f32) (y c sa sb : Fin 512 → ℕ → EReal)
    (hc : ∀ p l, v17 (ix2 p l) = c p l.val) (ha : ∀ p l, v19 (ix2 p l) = sa p l.val) (hb : ∀ p l, v21 (ix2 p l) = sb p l.val)
    (hy : ∀ p (j : Fin 256), k0_pay9 (F := Ideal) v71 v72 (ix2 p j) = y p (1024 + j.val)) (p : Fin 512) (j : Fin 512) :
    k0_pay10 (F := Ideal) v17 v19 v21 v71 v72 (ix2 p j) = rotK (y p) (c p) (sa p) (sb p) 1024 (64 * (j.val / 256) + j.val % 64) := by
  unfold k0_pay10
  dsimp only
  generalize k0_pay9 (F := Ideal) v71 v72 = X at hy
  have blk := rot_at (extractStridedSlice S512x128 ![0, 0] X slices_S512x256_o0_0_S512x128) v17 v19 v21 y c sa sb 1024
      (fun p l => (slice_at X 0 _ p l ⟨l.val, by have := l.isLt; omega⟩ (by show l.val = 0 + l.val; omega)).trans (hy _ _)) hc ha hb
      rotates_S512x128_d1 rotates_S512x128_d1
  generalize addf (addf (mulf (extractStridedSlice S512x128 ![0, 0] X slices_S512x256_o0_0_S512x128) v17) (mulf (dynamicRotate 1 120#32 none (extractStridedSlice S512x128 ![0, 0] X slices_S512x256_o0_0_S512x128) rotates_S512x128_d1) v19))
    (mulf (dynamicRotate 1 8#32 none (extractStridedSlice S512x128 ![0, 0] X slices_S512x256_o0_0_S512x128) rotates_S512x128_d1) v21) = R at blk
  exact rep_at _ _ concatenates_S512x128_S512x128_S512x128_S512x128_S512x512_d1 (fun p n => rotK (y p) (c p) (sa p) (sb p) 1024 n)
    (low_at R iota_S512x128_d1_w32 rotates_S512x128_d1 _ blk) (up_at R iota_S512x128_d1_w32 rotates_S512x128_d1 _ blk) p j

theorem pay11_at (v71 : FVec Ideal S512x256 .f32) (v72 : Vec Ideal S1x256 .f32) (y : Fin 512 → ℕ → EReal)
    (hy : ∀ p (j : Fin 256), k0_pay9 (F := Ideal) v71 v72 (ix2 p j) = y p (1024 + j.val)) (p : Fin 512) (j : Fin 512) :
    k0_pay11 (F := Ideal) v71 v72 (ix2 p j) = y p (1152 + (64 * (j.val / 256) + j.val % 64)) := by
  unfold k0_pay11
  dsimp only
  generalize k0_pay9 (F := Ideal) v71 v72 = X at hy
  have blk : ∀ p (l : Fin 128), extractStridedSlice S512x128 ![0, 128] X slices_S512x256_o0_128_S512x128 (ix2 p l) = y p (1152 + l.val) :=
      (fun p l => (slice_at X 128 _ p l ⟨128 + l.val, by have := l.isLt; omega⟩ rfl).trans ((hy _ _).trans (congrArg (y p) (by show 1024 + (128 + l.val) = 1152 + l.val; omega))))
  generalize extractStridedSlice S512x128 ![0, 128] X slices_S512x256_o0_128_S512x128 = R at blk
  exact rep_at _ _ concatenates_S512x128_S512x128_S512x128_S512x128_S512x512_d1 (fun p n => y p (1152 + n))
    (low_at R iota_S512x128_d1_w32 rotates_S512x128_d1 (fun p n => y p (1152 + n)) blk) (up_at R iota_S512x128_d1_w32 rotates_S512x128_d1 (fun p n => y p (1152 + n)) blk) p j

end Cert.ProjIdeal.Value
end
-- ==== Proof.ProjOut.lean ====
/-
  The six output blocks of one grid step of the input projection, entry by entry.
-/
module
public import proofs.«01_k».proof.Proof.Gen.ProjIdeal.Value
public import proofs.«01_k».proof.Proof.Gen.ProjIdeal.Frame
public import proofs.«01_k».proof.Proof.ProjPay
public import proofs.«01_k».proof.Proof.InprojOut
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.ProjIdeal.Value
open Cert.ProjIdeal Cert.ProjIdeal.Gen
open Cert.MixIdeal.Value (nrm ld_band)
open Cert.InprojIdeal.Value (canon_hit canon_miss ld_full)

theorem ld_rows {e : EltTy} {a b n : ℕ} (x : Vec Ideal ⟨2, ![a, b]⟩ e) (o : ℕ) (inb) (i : Fin n) (d : Fin b) (r : Fin a) (h : r.val = o + i.val) :
    View.ld x (Rect.unit (s := ⟨2, ![a, b]⟩) ![o, 0] ![n, b] inb) (ix2 i d) = x (ix2 r d) :=
  View.ld_unit_apply_of x _ _ inb _ (ix2 r d) (fun a => by
    match a with
    | ⟨0, _⟩ => exact h
    | ⟨1, _⟩ => show d.val = 0 + d.val; omega)

/-- A row of a table, by lane number. -/
def row {a : ℕ} (x : FVec Ideal ⟨2, ![a, 128]⟩ .f32) (p : Fin a) (l : ℕ) : EReal := if h : l < 128 then x (ix2 p ⟨l, h⟩) else 0

theorem row_of {a : ℕ} (x : FVec Ideal ⟨2, ![a, 128]⟩ .f32) (p : Fin a) (l : Fin 128) : row x p l.val = x (ix2 p l) := dif_pos l.isLt

variable (x0 : Vec Ideal S512x1024 .f32) (x1 : Vec Ideal S1x1024 .f32) (x2 : Vec Ideal S3328x1024 .bf16) (x3 : Vec Ideal S1x3328 .f32) (x4 x5 x6 : Vec Ideal S512x128 .f32)

/-- A row of the normed block. -/
def hB (p : Fin 512) : Fin 1024 → EReal := hE (fun d => x0 (ix2 p d)) (fun d => x1 (ix2 0 d))

/-- A row of the projection of the block. -/
def prB (p : Fin 512) : ℕ → EReal := prE (hB x0 x1 p) (fun n d => x2 (ix2 n d)) (fun n => x3 (ix2 0 n))

theorem norm_blk (p : Fin 512) (d : Fin 1024) : k0_pay1 (F := Ideal) (View.ld x0 r0_0) (View.ld x1 r0_1) (ix2 p d) = hB x0 x1 p d :=
  pay1_at _ _ _ _ (fun p d => ld_full x0 _ p d) (fun d => ld_full x1 _ 0 d) p d

theorem norm_blk' (p : Fin 512) (d : Fin 1024) : k0_pay13 (F := Ideal) x0 x1 x2 x3 x4 x5 x6 (ix2 p d) = hB x0 x1 p d := norm_blk x0 x1 p d

theorem tabc (p : Fin 512) (l : Fin 128) : k0_pay14 (F := Ideal) x0 x1 x2 x3 x4 x5 x6 (ix2 p l) = row x4 p l.val :=
  (pay2_at _ p l).trans ((ld_full x4 _ p l).trans (row_of x4 p l).symm)
theorem taba (p : Fin 512) (l : Fin 128) : k0_pay15 (F := Ideal) x0 x1 x2 x3 x4 x5 x6 (ix2 p l) = row x5 p l.val :=
  (pay3_at _ p l).trans ((ld_full x5 _ p l).trans (row_of x5 p l).symm)
theorem tabb (p : Fin 512) (l : Fin 128) : k0_pay16 (F := Ideal) x0 x1 x2 x3 x4 x5 x6 (ix2 p l) = row x6 p l.val :=
  (pay4_at _ p l).trans ((ld_full x6 _ p l).trans (row_of x6 p l).symm)

theorem col_blk {n : ℕ} (o : ℕ) (h : o + n ≤ 3328) (inb inb') (p : Fin 512) (j : Fin n) :
    (∑ d, hB x0 x1 p d * View.ld x2 (Rect.unit (s := ⟨2, ![3328, 1024]⟩) ![o, 0] ![n, 1024] inb) (ix2 j d))
      + View.ld x3 (Rect.unit (s := ⟨2, ![1, 3328]⟩) ![0, o] ![1, n] inb') (ix2 0 j) = prB x0 x1 x2 x3 p (o + j.val) := by
  have hj := j.isLt
  refine Eq.trans ?_ (prE_of _ _ _ ⟨o + j.val, by omega⟩).symm
  exact congrArg₂ (· + ·) (Finset.sum_congr rfl fun d _ => congrArg _ (ld_rows x2 o inb j d ⟨o + j.val, by omega⟩ rfl)) (ld_band x3 o inb' 0 j ⟨o + j.val, by omega⟩ rfl)

theorem kv_blk (p : Fin 512) (j : Fin 256) :
    k0_pay9 (F := Ideal) (k0_pay17 x0 x1 x2 x3 x4 x5 x6) (View.ld x3 r0_9) (ix2 p j) = prB x0 x1 x2 x3 p (1024 + j.val) :=
  (pay9_at _ _ p j).trans ((congrArg (· + _) (pay8_at _ _ _ (norm_blk' x0 x1 x2 x3 x4 x5 x6) p j)).trans (col_blk x0 x1 x2 x3 1024 (by norm_num) _ _ p j))

theorem out_7 (p : Fin 512) (j : Fin 1024) : out0_7 (F := Ideal) x0 x1 x2 x3 x4 x5 x6 (ix2 p j) = hB x0 x1 p j := by
  unfold out0_7
  refine (canon_hit _ _ _ _ _ _ (ix2 p j) (fun a => by
    match a with
    | ⟨0, _⟩ => show p.val = 0 + p.val; omega
    | ⟨1, _⟩ => show j.val = 0 + j.val; omega)).trans ?_
  exact norm_blk x0 x1 p j

theorem out_8 (p : Fin 512) (j : Fin 512) : out0_8 (F := Ideal) x0 x1 x2 x3 x4 x5 x6 (ix2 p j) = prB x0 x1 x2 x3 p j.val := by
  unfold out0_8
  refine (canon_hit _ _ _ _ _ _ (ix2 p j) (fun a => by
    match a with
    | ⟨0, _⟩ => show p.val = 0 + p.val; omega
    | ⟨1, _⟩ => show j.val = 0 + j.val; omega)).trans ?_
  exact (pay5_at _ _ _ _ _ (norm_blk x0 x1) p j).trans ((col_blk x0 x1 x2 x3 0 (by norm_num) _ _ p j).trans (congrArg _ (Nat.zero_add _)))

theorem out_9 (p : Fin 512) (j : Fin 512) : out0_9 (F := Ideal) x0 x1 x2 x3 x4 x5 x6 (ix2 p j) = rotK (prB x0 x1 x2 x3 p) (row x4 p) (row x5 p) (row x6 p) (512 + 128 * (j.val / 128)) (j.val % 128) * Ideal.ofBits .f32 0x3E000000#32 := by
  unfold out0_9
  refine (canon_hit _ _ _ _ _ _ (ix2 p j) (fun a => by
    match a with
    | ⟨0, _⟩ => show p.val = 0 + p.val; omega
    | ⟨1, _⟩ => show j.val = 0 + j.val; omega)).trans ?_
  exact pay7_at _ _ _ _ _ (prB x0 x1 x2 x3) (row x4) (row x5) (row x6) (tabc x0 x1 x2 x3 x4 x5 x6) (taba x0 x1 x2 x3 x4 x5 x6) (tabb x0 x1 x2 x3 x4 x5 x6)
    (fun p j => (congrArg (· + _) (pay6_at _ _ _ _ (norm_blk x0 x1) p j)).trans (col_blk x0 x1 x2 x3 512 (by norm_num) _ _ p j)) p j

theorem out_10 (p : Fin 512) (j : Fin 512) : out0_10 (F := Ideal) x0 x1 x2 x3 x4 x5 x6 (ix2 p j) = rotK (prB x0 x1 x2 x3 p) (row x4 p) (row x5 p) (row x6 p) 1024 (64 * (j.val / 256) + j.val % 64) := by
  unfold out0_10
  refine (canon_hit _ _ _ _ _ _ (ix2 p j) (fun a => by
    match a with
    | ⟨0, _⟩ => show p.val = 0 + p.val; omega
    | ⟨1, _⟩ => show j.val = 0 + j.val; omega)).trans ?_
  exact pay10_at _ _ _ _ _ (prB x0 x1 x2 x3) (row x4) (row x5) (row x6) (tabc x0 x1 x2 x3 x4 x5 x6) (taba x0 x1 x2 x3 x4 x5 x6) (tabb x0 x1 x2 x3 x4 x5 x6) (kv_blk x0 x1 x2 x3 x4 x5 x6) p j

theorem out_11 (p : Fin 512) (j : Fin 512) : out0_11 (F := Ideal) x0 x1 x2 x3 x4 x5 x6 (ix2 p j) = prB x0 x1 x2 x3 p (1152 + (64 * (j.val / 256) + j.val % 64)) := by
  unfold out0_11
  refine (canon_hit _ _ _ _ _ _ (ix2 p j) (fun a => by
    match a with
    | ⟨0, _⟩ => show p.val = 0 + p.val; omega
    | ⟨1, _⟩ => show j.val = 0 + j.val; omega)).trans ?_
  exact pay11_at _ _ (prB x0 x1 x2 x3) (kv_blk x0 x1 x2 x3 x4 x5 x6) p j

theorem out_12 (p : Fin 512) (j : Fin 2048) : out0_12 (F := Ideal) x0 x1 x2 x3 x4 x5 x6 (ix2 p j) = Ideal.logistic (prB x0 x1 x2 x3 p (1280 + j.val)) := by
  unfold out0_12
  refine (canon_hit _ _ _ _ _ _ (ix2 p j) (fun a => by
    match a with
    | ⟨0, _⟩ => show p.val = 0 + p.val; omega
    | ⟨1, _⟩ => show j.val = 0 + j.val; omega)).trans ?_
  exact (pay12_at _ _ _ _ (norm_blk' x0 x1 x2 x3 x4 x5 x6) p j).trans (congrArg Ideal.logistic (col_blk x0 x1 x2 x3 1280 (by norm_num) _ _ p j))

end Cert.ProjIdeal.Value
end
-- ==== Proof.ProjRun.lean ====
/-
  The whole results of the input projection: its steps' blocks put together.
-/
module
public import proofs.«01_k».proof.Proof.Gen.ProjIdeal.Value
public import proofs.«01_k».proof.Proof.Gen.ProjIdeal.Frame
public import proofs.«01_k».proof.Proof.ProjOut
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.ProjIdeal.Value
open Cert.ProjIdeal Cert.ProjIdeal.Gen
open Cert.MixIdeal.Value (nrm ld_band)
open Cert.InprojIdeal.Value (canon_hit canon_miss ld_full)

variable (m : (ℓ : Loc nD τ sig) → Buf (Elt Ideal) ℓ) (c : Dev nD)

/-- Row `p` of tile `b`. -/
def tok (b : Fin 8) (p : Fin 512) : Fin 4096 := ⟨512 * b.val + p.val, by have := b.isLt; have := p.isLt; omega⟩
/-- The place of a row in its sequence. -/
def pos (t : Fin 4096) : Fin 2048 := ⟨t.val % 2048, Nat.mod_lt _ (by norm_num)⟩
/-- The grid point of tile `b`. -/
def pt (b : Fin 8) : Fin cfg0.N := ⟨b.val, b.isLt⟩

theorem index_0 : ∀ b : Fin 8, win0_0.index (pt b) 0 = b.val ∧ win0_0.index (pt b) 1 = 0 := by decide +kernel
theorem index_1 : ∀ b : Fin 8, win0_1.index (pt b) 0 = 0 ∧ win0_1.index (pt b) 1 = 0 := by decide +kernel
theorem index_2 : ∀ b : Fin 8, win0_2.index (pt b) 0 = 0 ∧ win0_2.index (pt b) 1 = 0 := by decide +kernel
theorem index_3 : ∀ b : Fin 8, win0_3.index (pt b) 0 = 0 ∧ win0_3.index (pt b) 1 = 0 := by decide +kernel
theorem index_4 : ∀ b : Fin 8, win0_4.index (pt b) 0 = b.val % 4 ∧ win0_4.index (pt b) 1 = 0 := by decide +kernel
theorem index_5 : ∀ b : Fin 8, win0_5.index (pt b) 0 = b.val % 4 ∧ win0_5.index (pt b) 1 = 0 := by decide +kernel
theorem index_6 : ∀ b : Fin 8, win0_6.index (pt b) 0 = b.val % 4 ∧ win0_6.index (pt b) 1 = 0 := by decide +kernel
theorem index_7 : ∀ b : Fin 8, win0_7.index (pt b) 0 = b.val ∧ win0_7.index (pt b) 1 = 0 := by decide +kernel
theorem index_8 : ∀ b : Fin 8, win0_8.index (pt b) 0 = b.val ∧ win0_8.index (pt b) 1 = 0 := by decide +kernel
theorem index_9 : ∀ b : Fin 8, win0_9.index (pt b) 0 = b.val ∧ win0_9.index (pt b) 1 = 0 := by decide +kernel
theorem index_10 : ∀ b : Fin 8, win0_10.index (pt b) 0 = b.val ∧ win0_10.index (pt b) 1 = 0 := by decide +kernel
theorem index_11 : ∀ b : Fin 8, win0_11.index (pt b) 0 = b.val ∧ win0_11.index (pt b) 1 = 0 := by decide +kernel
theorem index_12 : ∀ b : Fin 8, win0_12.index (pt b) 0 = b.val ∧ win0_12.index (pt b) 1 = 0 := by decide +kernel

/-- Argument 0 in memory. -/
abbrev a0 : Vec Ideal S4096x1024 .f32 := m ((c : Thread nD τ).loc main_arg0)
/-- Argument 1 in memory. -/
abbrev a1 : Vec Ideal S1x1024 .f32 := m ((c : Thread nD τ).loc main_arg1)
/-- Argument 2 in memory. -/
abbrev a2 : Vec Ideal S3328x1024 .bf16 := m ((c : Thread nD τ).loc main_arg2)
/-- Argument 3 in memory. -/
abbrev a3 : Vec Ideal S1x3328 .f32 := m ((c : Thread nD τ).loc main_arg3)
/-- A rotary table in memory. -/
abbrev t27 : Vec Ideal S2048x128 .f32 := V m c main_v27
/-- A rotary table in memory. -/
abbrev t30 : Vec Ideal S2048x128 .f32 := V m c main_v30
/-- A rotary table in memory. -/
abbrev t33 : Vec Ideal S2048x128 .f32 := V m c main_v33

theorem blk0 (b : Fin 8) (p : Fin 512) (d : Fin 1024) : (iblk m c 0 (pt b) : Vec Ideal S512x1024 .f32) (ix2 p d) = a0 m c (ix2 (tok b p) d) := by
  have hb := b.isLt
  have hp := p.isLt
  unfold iblk
  rw [View.read_apply]
  show V m c main_arg0 _ = m (c.tc.loc main_arg0) _
  refine (congrFun (V_main_arg0 m c) _).trans (congrArg _ ?_)
  funext a
  apply Fin.ext
  match a with
  | ⟨0, _⟩ => show win0_0.index (pt b) 0 * 512 + 1 * p.val = 512 * b.val + p.val; rw [(index_0 b).1]; omega
  | ⟨1, _⟩ => show win0_0.index (pt b) 1 * 1024 + 1 * d.val = d.val; rw [(index_0 b).2]; omega

theorem blk1 (b : Fin 8) (p : Fin 1) (d : Fin 1024) : (iblk m c 1 (pt b) : Vec Ideal S1x1024 .f32) (ix2 p d) = a1 m c (ix2 p d) := by
  have hb := b.isLt
  have hp := p.isLt
  unfold iblk
  rw [View.read_apply]
  show V m c main_arg1 _ = m (c.tc.loc main_arg1) _
  refine (congrFun (V_main_arg1 m c) _).trans (congrArg _ ?_)
  funext a
  apply Fin.ext
  match a with
  | ⟨0, _⟩ => show win0_1.index (pt b) 0 * 1 + 1 * p.val = p.val; rw [(index_1 b).1]; omega
  | ⟨1, _⟩ => show win0_1.index (pt b) 1 * 1024 + 1 * d.val = d.val; rw [(index_1 b).2]; omega

theorem blk2 (b : Fin 8) (p : Fin 3328) (d : Fin 1024) : (iblk m c 2 (pt b) : Vec Ideal S3328x1024 .bf16) (ix2 p d) = a2 m c (ix2 p d) := by
  have hb := b.isLt
  have hp := p.isLt
  unfold iblk
  rw [View.read_apply]
  show V m c main_arg2 _ = m (c.tc.loc main_arg2) _
  refine (congrFun (V_main_arg2 m c) _).trans (congrArg _ ?_)
  funext a
  apply Fin.ext
  match a with
  | ⟨0, _⟩ => show win0_2.index (pt b) 0 * 3328 + 1 * p.val = p.val; rw [(index_2 b).1]; omega
  | ⟨1, _⟩ => show win0_2.index (pt b) 1 * 1024 + 1 * d.val = d.val; rw [(index_2 b).2]; omega

theorem blk3 (b : Fin 8) (p : Fin 1) (d : Fin 3328) : (iblk m c 3 (pt b) : Vec Ideal S1x3328 .f32) (ix2 p d) = a3 m c (ix2 p d) := by
  have hb := b.isLt
  have hp := p.isLt
  unfold iblk
  rw [View.read_apply]
  show V m c main_arg3 _ = m (c.tc.loc main_arg3) _
  refine (congrFun (V_main_arg3 m c) _).trans (congrArg _ ?_)
  funext a
  apply Fin.ext
  match a with
  | ⟨0, _⟩ => show win0_3.index (pt b) 0 * 1 + 1 * p.val = p.val; rw [(index_3 b).1]; omega
  | ⟨1, _⟩ => show win0_3.index (pt b) 1 * 3328 + 1 * d.val = d.val; rw [(index_3 b).2]; omega

theorem blk4 (b : Fin 8) (p : Fin 512) (d : Fin 128) : (iblk m c 4 (pt b) : Vec Ideal S512x128 .f32) (ix2 p d) = t27 m c (ix2 (pos (tok b p)) d) := by
  have hb := b.isLt
  have hp := p.isLt
  unfold iblk
  rw [View.read_apply]
  show V m c main_v27 _ = V m c main_v27 _
  refine congrArg _ ?_
  funext a
  apply Fin.ext
  match a with
  | ⟨0, _⟩ => show win0_4.index (pt b) 0 * 512 + 1 * p.val = (512 * b.val + p.val) % 2048; rw [(index_4 b).1]; omega
  | ⟨1, _⟩ => show win0_4.index (pt b) 1 * 128 + 1 * d.val = d.val; rw [(index_4 b).2]; omega

theorem blk5 (b : Fin 8) (p : Fin 512) (d : Fin 128) : (iblk m c 5 (pt b) : Vec Ideal S512x128 .f32) (ix2 p d) = t30 m c (ix2 (pos (tok b p)) d) := by
  have hb := b.isLt
  have hp := p.isLt
  unfold iblk
  rw [View.read_apply]
  show V m c main_v30 _ = V m c main_v30 _
  refine congrArg _ ?_
  funext a
  apply Fin.ext
  match a with
  | ⟨0, _⟩ => show win0_5.index (pt b) 0 * 512 + 1 * p.val = (512 * b.val + p.val) % 2048; rw [(index_5 b).1]; omega
  | ⟨1, _⟩ => show win0_5.index (pt b) 1 * 128 + 1 * d.val = d.val; rw [(index_5 b).2]; omega

theorem blk6 (b : Fin 8) (p : Fin 512) (d : Fin 128) : (iblk m c 6 (pt b) : Vec Ideal S512x128 .f32) (ix2 p d) = t33 m c (ix2 (pos (tok b p)) d) := by
  have hb := b.isLt
  have hp := p.isLt
  unfold iblk
  rw [View.read_apply]
  show V m c main_v33 _ = V m c main_v33 _
  refine congrArg _ ?_
  funext a
  apply Fin.ext
  match a with
  | ⟨0, _⟩ => show win0_6.index (pt b) 0 * 512 + 1 * p.val = (512 * b.val + p.val) % 2048; rw [(index_6 b).1]; omega
  | ⟨1, _⟩ => show win0_6.index (pt b) 1 * 128 + 1 * d.val = d.val; rw [(index_6 b).2]; omega

/-- A normed row, from the arguments. -/
def hA (t : Fin 4096) : Fin 1024 → EReal := hE (fun d => a0 m c (ix2 t d)) (fun d => a1 m c (ix2 0 d))

/-- A row of the projection, from the arguments. -/
def prA (t : Fin 4096) : ℕ → EReal := prE (hA m c t) (fun n d => a2 m c (ix2 n d)) (fun n => a3 m c (ix2 0 n))

/-- A lane of a block of the projection, rotated. -/
def rtA (t : Fin 4096) (o l : ℕ) : EReal := rotK (prA m c t) (row (t27 m c) (pos t)) (row (t30 m c) (pos t)) (row (t33 m c) (pos t)) o l

theorem hB_blk (b : Fin 8) (p : Fin 512) : hB (iblk m c 0 (pt b)) (iblk m c 1 (pt b)) p = hA m c (tok b p) := by
  have e0 : (fun d => (iblk m c 0 (pt b) : Vec Ideal S512x1024 .f32) (ix2 p d)) = fun d => a0 m c (ix2 (tok b p) d) := funext fun d => blk0 m c b p d
  have e1 : (fun d => (iblk m c 1 (pt b) : Vec Ideal S1x1024 .f32) (ix2 0 d)) = fun d => a1 m c (ix2 0 d) := funext fun d => blk1 m c b 0 d
  unfold hB hA
  rw [e0, e1]

theorem prB_blk (b : Fin 8) (p : Fin 512) : prB (iblk m c 0 (pt b)) (iblk m c 1 (pt b)) (iblk m c 2 (pt b)) (iblk m c 3 (pt b)) p = prA m c (tok b p) := by
  have e2 : (fun n d => (iblk m c 2 (pt b) : Vec Ideal S3328x1024 .bf16) (ix2 n d)) = fun n d => a2 m c (ix2 n d) := funext fun n => funext fun d => blk2 m c b n d
  have e3 : (fun n => (iblk m c 3 (pt b) : Vec Ideal S1x3328 .f32) (ix2 0 n)) = fun n => a3 m c (ix2 0 n) := funext fun n => blk3 m c b 0 n
  unfold prB prA
  rw [hB_blk, e2, e3]

theorem row_blk4 (b : Fin 8) (p : Fin 512) : row (iblk m c 4 (pt b) : Vec Ideal S512x128 .f32) p = row (t27 m c) (pos (tok b p)) := by
  funext l
  unfold row
  by_cases h : l < 128
  · rw [dif_pos h, dif_pos h]
    exact blk4 m c b p ⟨l, h⟩
  · rw [dif_neg h, dif_neg h]

theorem row_blk5 (b : Fin 8) (p : Fin 512) : row (iblk m c 5 (pt b) : Vec Ideal S512x128 .f32) p = row (t30 m c) (pos (tok b p)) := by
  funext l
  unfold row
  by_cases h : l < 128
  · rw [dif_pos h, dif_pos h]
    exact blk5 m c b p ⟨l, h⟩
  · rw [dif_neg h, dif_neg h]

theorem row_blk6 (b : Fin 8) (p : Fin 512) : row (iblk m c 6 (pt b) : Vec Ideal S512x128 .f32) p = row (t33 m c) (pos (tok b p)) := by
  funext l
  unfold row
  by_cases h : l < 128
  · rw [dif_pos h, dif_pos h]
    exact blk6 m c b p ⟨l, h⟩
  · rw [dif_neg h, dif_neg h]

theorem run7 (b : Fin 8) (p : Fin 512) (d : Fin 1024) :
    ((dats m 0 c).arrAt 7 cfg0.N : Vec Ideal S4096x1024 .bf16) (ix2 (tok b p) d) = hA m c (tok b p) d := by
  have he : ((cfg0.win 7).blk (pt b)).view.emb (ix2 p d : S512x1024.Idx) = (ix2 (tok b p) d : S4096x1024.Idx) := by
    funext a
    apply Fin.ext
    match a with
    | ⟨0, _⟩ => show win0_7.index (pt b) 0 * 512 + 1 * p.val = 512 * b.val + p.val; rw [(index_7 b).1]; omega
    | ⟨1, _⟩ => show win0_7.index (pt b) 1 * 1024 + 1 * d.val = d.val; rw [(index_7 b).2]; omega
  have h := (dats m 0 c).arrAt_emb_eq_flushed 7 disjoint7 (pt b) (flush0_7 (pt b)) (ix2 p d : S512x1024.Idx)
  rw [he] at h
  have hcut : ∀ X, (cfg0.win 7).cut (grid0.coords (pt b)) X (ix2 p d : S512x1024.Idx) = (X : Vec Ideal S512x1024 .bf16) (ix2 p d) := fun _ => rfl
  refine h.trans ?_
  rw [cast_eq]
  rw [flushed7 m c (pt b), hcut, out_7]
  exact congrFun (hB_blk m c b p) d

theorem run7' (t : Fin 4096) (d : Fin 1024) :
    ((dats m 0 c).arrAt 7 cfg0.N : Vec Ideal S4096x1024 .bf16) (ix2 t d) = hA m c t d := by
  have ht := t.isLt
  have e : t = tok ⟨t.val / 512, by omega⟩ ⟨t.val % 512, by omega⟩ := Fin.ext (by show t.val = 512 * (t.val / 512) + t.val % 512; omega)
  rw [e]
  exact run7 m c _ _ d

theorem run8 (b : Fin 8) (p : Fin 512) (d : Fin 512) :
    ((dats m 0 c).arrAt 8 cfg0.N : Vec Ideal S4096x512 .f32) (ix2 (tok b p) d) = prA m c (tok b p) d.val := by
  have he : ((cfg0.win 8).blk (pt b)).view.emb (ix2 p d : S512x512.Idx) = (ix2 (tok b p) d : S4096x512.Idx) := by
    funext a
    apply Fin.ext
    match a with
    | ⟨0, _⟩ => show win0_8.index (pt b) 0 * 512 + 1 * p.val = 512 * b.val + p.val; rw [(index_8 b).1]; omega
    | ⟨1, _⟩ => show win0_8.index (pt b) 1 * 512 + 1 * d.val = d.val; rw [(index_8 b).2]; omega
  have h := (dats m 0 c).arrAt_emb_eq_flushed 8 disjoint8 (pt b) (flush0_8 (pt b)) (ix2 p d : S512x512.Idx)
  rw [he] at h
  have hcut : ∀ X, (cfg0.win 8).cut (grid0.coords (pt b)) X (ix2 p d : S512x512.Idx) = (X : Vec Ideal S512x512 .f32) (ix2 p d) := fun _ => rfl
  refine h.trans ?_
  rw [cast_eq]
  rw [flushed8 m c (pt b), hcut, out_8]
  exact congrFun (prB_blk m c b p) _

theorem run8' (t : Fin 4096) (d : Fin 512) :
    ((dats m 0 c).arrAt 8 cfg0.N : Vec Ideal S4096x512 .f32) (ix2 t d) = prA m c t d.val := by
  have ht := t.isLt
  have e : t = tok ⟨t.val / 512, by omega⟩ ⟨t.val % 512, by omega⟩ := Fin.ext (by show t.val = 512 * (t.val / 512) + t.val % 512; omega)
  rw [e]
  exact run8 m c _ _ d

theorem run9 (b : Fin 8) (p : Fin 512) (d : Fin 512) :
    ((dats m 0 c).arrAt 9 cfg0.N : Vec Ideal S4096x512 .bf16) (ix2 (tok b p) d) = rtA m c (tok b p) (512 + 128 * (d.val / 128)) (d.val % 128) * Ideal.ofBits .f32 0x3E000000#32 := by
  have he : ((cfg0.win 9).blk (pt b)).view.emb (ix2 p d : S512x512.Idx) = (ix2 (tok b p) d : S4096x512.Idx) := by
    funext a
    apply Fin.ext
    match a with
    | ⟨0, _⟩ => show win0_9.index (pt b) 0 * 512 + 1 * p.val = 512 * b.val + p.val; rw [(index_9 b).1]; omega
    | ⟨1, _⟩ => show win0_9.index (pt b) 1 * 512 + 1 * d.val = d.val; rw [(index_9 b).2]; omega
  have h := (dats m 0 c).arrAt_emb_eq_flushed 9 disjoint9 (pt b) (flush0_9 (pt b)) (ix2 p d : S512x512.Idx)
  rw [he] at h
  have hcut : ∀ X, (cfg0.win 9).cut (grid0.coords (pt b)) X (ix2 p d : S512x512.Idx) = (X : Vec Ideal S512x512 .bf16) (ix2 p d) := fun _ => rfl
  refine h.trans ?_
  rw [cast_eq]
  rw [flushed9 m c (pt b), hcut, out_9]
  rw [prB_blk, row_blk4, row_blk5, row_blk6]
  rfl

theorem run9' (t : Fin 4096) (d : Fin 512) :
    ((dats m 0 c).arrAt 9 cfg0.N : Vec Ideal S4096x512 .bf16) (ix2 t d) = rtA m c t (512 + 128 * (d.val / 128)) (d.val % 128) * Ideal.ofBits .f32 0x3E000000#32 := by
  have ht := t.isLt
  have e : t = tok ⟨t.val / 512, by omega⟩ ⟨t.val % 512, by omega⟩ := Fin.ext (by show t.val = 512 * (t.val / 512) + t.val % 512; omega)
  rw [e]
  exact run9 m c _ _ d

theorem run10 (b : Fin 8) (p : Fin 512) (d : Fin 512) :
    ((dats m 0 c).arrAt 10 cfg0.N : Vec Ideal S4096x512 .bf16) (ix2 (tok b p) d) = rtA m c (tok b p) 1024 (64 * (d.val / 256) + d.val % 64) := by
  have he : ((cfg0.win 10).blk (pt b)).view.emb (ix2 p d : S512x512.Idx) = (ix2 (tok b p) d : S4096x512.Idx) := by
    funext a
    apply Fin.ext
    match a with
    | ⟨0, _⟩ => show win0_10.index (pt b) 0 * 512 + 1 * p.val = 512 * b.val + p.val; rw [(index_10 b).1]; omega
    | ⟨1, _⟩ => show win0_10.index (pt b) 1 * 512 + 1 * d.val = d.val; rw [(index_10 b).2]; omega
  have h := (dats m 0 c).arrAt_emb_eq_flushed 10 disjoint10 (pt b) (flush0_10 (pt b)) (ix2 p d : S512x512.Idx)
  rw [he] at h
  have hcut : ∀ X, (cfg0.win 10).cut (grid0.coords (pt b)) X (ix2 p d : S512x512.Idx) = (X : Vec Ideal S512x512 .bf16) (ix2 p d) := fun _ => rfl
  refine h.trans ?_
  rw [cast_eq]
  rw [flushed10 m c (pt b), hcut, out_10]
  rw [prB_blk, row_blk4, row_blk5, row_blk6]
  rfl

theorem run10' (t : Fin 4096) (d : Fin 512) :
    ((dats m 0 c).arrAt 10 cfg0.N : Vec Ideal S4096x512 .bf16) (ix2 t d) = rtA m c t 1024 (64 * (d.val / 256) + d.val % 64) := by
  have ht := t.isLt
  have e : t = tok ⟨t.val / 512, by omega⟩ ⟨t.val % 512, by omega⟩ := Fin.ext (by show t.val = 512 * (t.val / 512) + t.val % 512; omega)
  rw [e]
  exact run10 m c _ _ d

theorem run11 (b : Fin 8) (p : Fin 512) (d : Fin 512) :
    ((dats m 0 c).arrAt 11 cfg0.N : Vec Ideal S4096x512 .bf16) (ix2 (tok b p) d) = prA m c (tok b p) (1152 + (64 * (d.val / 256) + d.val % 64)) := by
  have he : ((cfg0.win 11).blk (pt b)).view.emb (ix2 p d : S512x512.Idx) = (ix2 (tok b p) d : S4096x512.Idx) := by
    funext a
    apply Fin.ext
    match a with
    | ⟨0, _⟩ => show win0_11.index (pt b) 0 * 512 + 1 * p.val = 512 * b.val + p.val; rw [(index_11 b).1]; omega
    | ⟨1, _⟩ => show win0_11.index (pt b) 1 * 512 + 1 * d.val = d.val; rw [(index_11 b).2]; omega
  have h := (dats m 0 c).arrAt_emb_eq_flushed 11 disjoint11 (pt b) (flush0_11 (pt b)) (ix2 p d : S512x512.Idx)
  rw [he] at h
  have hcut : ∀ X, (cfg0.win 11).cut (grid0.coords (pt b)) X (ix2 p d : S512x512.Idx) = (X : Vec Ideal S512x512 .bf16) (ix2 p d) := fun _ => rfl
  refine h.trans ?_
  rw [cast_eq]
  rw [flushed11 m c (pt b), hcut, out_11]
  exact congrFun (prB_blk m c b p) _

theorem run11' (t : Fin 4096) (d : Fin 512) :
    ((dats m 0 c).arrAt 11 cfg0.N : Vec Ideal S4096x512 .bf16) (ix2 t d) = prA m c t (1152 + (64 * (d.val / 256) + d.val % 64)) := by
  have ht := t.isLt
  have e : t = tok ⟨t.val / 512, by omega⟩ ⟨t.val % 512, by omega⟩ := Fin.ext (by show t.val = 512 * (t.val / 512) + t.val % 512; omega)
  rw [e]
  exact run11 m c _ _ d

theorem run12 (b : Fin 8) (p : Fin 512) (d : Fin 2048) :
    ((dats m 0 c).arrAt 12 cfg0.N : Vec Ideal S4096x2048 .bf16) (ix2 (tok b p) d) = Ideal.logistic (prA m c (tok b p) (1280 + d.val)) := by
  have he : ((cfg0.win 12).blk (pt b)).view.emb (ix2 p d : S512x2048.Idx) = (ix2 (tok b p) d : S4096x2048.Idx) := by
    funext a
    apply Fin.ext
    match a with
    | ⟨0, _⟩ => show win0_12.index (pt b) 0 * 512 + 1 * p.val = 512 * b.val + p.val; rw [(index_12 b).1]; omega
    | ⟨1, _⟩ => show win0_12.index (pt b) 1 * 2048 + 1 * d.val = d.val; rw [(index_12 b).2]; omega
  have h := (dats m 0 c).arrAt_emb_eq_flushed 12 disjoint12 (pt b) (flush0_12 (pt b)) (ix2 p d : S512x2048.Idx)
  rw [he] at h
  have hcut : ∀ X, (cfg0.win 12).cut (grid0.coords (pt b)) X (ix2 p d : S512x2048.Idx) = (X : Vec Ideal S512x2048 .bf16) (ix2 p d) := fun _ => rfl
  refine h.trans ?_
  rw [cast_eq]
  rw [flushed12 m c (pt b), hcut, out_12]
  exact congrArg Ideal.logistic (congrFun (prB_blk m c b p) _)

theorem run12' (t : Fin 4096) (d : Fin 2048) :
    ((dats m 0 c).arrAt 12 cfg0.N : Vec Ideal S4096x2048 .bf16) (ix2 t d) = Ideal.logistic (prA m c t (1280 + d.val)) := by
  have ht := t.isLt
  have e : t = tok ⟨t.val / 512, by omega⟩ ⟨t.val % 512, by omega⟩ := Fin.ext (by show t.val = 512 * (t.val / 512) + t.val % 512; omega)
  rw [e]
  exact run12 m c _ _ d

end Cert.ProjIdeal.Value
end
-- ==== Proof.ProjRef.lean ====
/-
  The reference of the input projection, entry by entry.
-/
module
public import proofs.«01_k».proof.Proof.Gen.ProjRefIdeal.Read
public import proofs.«01_k».proof.Proof.ProjPay
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open scoped BigOperators
namespace Cert.ProjRefIdeal.Read
open Cert.ProjRefIdeal Cert.ProjRefIdeal.Gen
open Cert.MixIdeal.Value (nrm)
open Cert.ProjIdeal.Value (hE prE prE_of)

/-- Column `e` of a head that starts at column `o`, rotated: its first sixteen columns in pairs, the rest as they are. -/
def rotR (y : ℕ → EReal) (C S : Fin 8 → EReal) (o : ℕ) (e : Fin 64) : EReal :=
  if h : e.val < 8 then y (o + e.val) * C ⟨e.val, h⟩ - y (o + (8 + e.val)) * S ⟨e.val, h⟩
  else if h' : e.val < 16 then y (o + e.val) * C ⟨e.val - 8, by omega⟩ + y (o + (e.val - 8)) * S ⟨e.val - 8, by omega⟩
  else y (o + e.val)

/-- Two indices of rank four with the same coordinates. -/
theorem eq4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext k
  apply Fin.ext
  match k with
  | ⟨0, _⟩ => exact h0
  | ⟨1, _⟩ => exact h1
  | ⟨2, _⟩ => exact h2
  | ⟨3, _⟩ => exact h3

/-- Two indices of rank two with the same coordinates. -/
theorem eq2 {n0 n1 : ℕ} (i : (⟨2, ![n0, n1]⟩ : Shape).Idx) (a : Fin n0) (b : Fin n1)
    (h0 : (i 0).val = a.val) (h1 : (i 1).val = b.val) : i = ix2 a b := by
  funext k
  apply Fin.ext
  match k with
  | ⟨0, _⟩ => exact h0
  | ⟨1, _⟩ => exact h1

/-- Two indices that differ in the last coordinate alone. -/
theorem off3 {n0 n1 n2 n3 n4 : ℕ} (b : Fin n0) (s : Fin n1) (k : Fin n2) (d : Fin n3) (e : Fin n4) (a : Fin 4) (ha : a ≠ 3) :
    (ix4 b s k d a).val = (ix4 b s k e a).val := by
  match a with
  | ⟨0, _⟩ => rfl
  | ⟨1, _⟩ => rfl
  | ⟨2, _⟩ => rfl
  | ⟨3, _⟩ => exact absurd rfl ha

/-- Three pieces of 8, 8 and 48 columns side by side in every head. -/
theorem cat3 {H : ℕ} (f0 f1 : (⟨4, ![2, 2048, H, 8]⟩ : Shape).Idx → EReal) (f2 : (⟨4, ![2, 2048, H, 48]⟩ : Shape).Idx → EReal) (h)
    (b : Fin 2) (s : Fin 2048) (k : Fin H) (e : Fin 64) :
    concatenate (⟨4, ![2, 2048, H, 64]⟩ : Shape) 3 [⟨⟨4, ![2, 2048, H, 8]⟩, f0⟩, ⟨⟨4, ![2, 2048, H, 8]⟩, f1⟩, ⟨⟨4, ![2, 2048, H, 48]⟩, f2⟩] h (ix4 b s k e)
      = if h0 : e.val < 8 then f0 (ix4 b s k ⟨e.val, h0⟩) else if h1 : e.val < 16 then f1 (ix4 b s k ⟨e.val - 8, by omega⟩) else f2 (ix4 b s k ⟨e.val - 16, by omega⟩) := by
  have he := e.isLt
  by_cases h0 : e.val < 8
  · rw [dif_pos h0]
    refine concatenate_apply_piece 3 _ h _ 0 (by simp) ⟨4, ![2, 2048, H, 8]⟩ f0 rfl rfl 0 rfl _ (off3 b s k _ e) (by show 0 + e.val = e.val; omega)
  rw [dif_neg h0]
  by_cases h1 : e.val < 16
  · rw [dif_pos h1]
    refine concatenate_apply_piece 3 _ h _ 1 (by simp) ⟨4, ![2, 2048, H, 8]⟩ f1 rfl rfl 8 rfl _ (off3 b s k _ e) (by show 8 + (e.val - 8) = e.val; omega)
  rw [dif_neg h1]
  refine concatenate_apply_piece 3 _ h _ 2 (by simp) ⟨4, ![2, 2048, H, 48]⟩ f2 rfl rfl 16 rfl _ (off3 b s k _ e) (by show 16 + (e.val - 16) = e.val; omega)

/-- Row `s` of sequence `b`. -/
def tk (b : Fin 2) (s : Fin 2048) : Fin 4096 := ⟨2048 * b.val + s.val, by have := b.isLt; have := s.isLt; omega⟩

theorem tk_eq (t : Fin 4096) (s : Fin 2048) (hs : s.val = t.val % 2048) : t = tk ⟨t.val / 2048, by omega⟩ s := Fin.ext (by show t.val = 2048 * (t.val / 2048) + s.val; omega)

/-- The cosines of a place. -/
def cosR (s : Fin 2048) (e : Fin 8) : EReal := val_main_v37 (F := Ideal) (ix2 s e)
/-- The sines of a place. -/
def sinR (s : Fin 2048) (e : Fin 8) : EReal := val_main_v38 (F := Ideal) (ix2 s e)

variable (x0 : FVec Ideal S4096x1024 .f32) (x1 : FVec Ideal S1x1024 .f32) (x2 : FVec Ideal S3328x1024 .bf16) (x3 : FVec Ideal S1x3328 .f32)

/-- A normed row. -/
def hR (t : Fin 4096) : Fin 1024 → EReal := hE (fun d => x0 (ix2 t d)) (fun d => x1 (ix2 0 d))
/-- A row of the projection. -/
def prR (t : Fin 4096) : ℕ → EReal := prE (hR x0 x1 t) (fun n d => x2 (ix2 n d)) (fun n => x3 (ix2 0 n))

/-- The stage `v11`. -/
theorem v11_at (t : Fin 4096) (d : Fin 1024) : val_main_v11 (F := Ideal) x0 x1 (ix2 t d) = hR x0 x1 t d := by
  unfold hR hE nrm val_main_v11 val_main_v10 val_main_v9 val_main_v8 val_main_v7 val_main_v6 val_main_v5 val_main_v4 val_main_v3 val_main_v2 val_main_v1 val_main_v0 val_main_cst val_main_cst_0 val_main_cst_1
  pointwise

/-- The stage `v15`. -/
theorem v15_at (t : Fin 4096) (n : Fin 3328) : val_main_v15 (F := Ideal) x0 x1 x2 x3 (ix2 t n) = prR x0 x1 x2 x3 t n.val := by
  have h := v11_at x0 x1
  refine Eq.trans ?_ (prE_of _ _ _ n).symm
  unfold val_main_v15 val_main_v14 val_main_v13 val_main_v12
  generalize val_main_v11 (F := Ideal) x0 x1 = y at h
  pointwise [dot_S4096x1024_S3328x1024_S4096x3328_1_1_0_0_n_n]
  simp only [h]

/-- The stage `v75`. -/
theorem v75_at (t : Fin 4096) (d : Fin 1024) : val_main_v75 (F := Ideal) x0 x1 (ix2 t d) = hR x0 x1 t d := by
  rw [val_main_v75_apply]
  exact v11_at x0 x1 t d

/-- The stage `v16`. -/
theorem v16_at (t : Fin 4096) (j : Fin 512) : val_main_v16 (F := Ideal) x0 x1 x2 x3 (ix2 t j) = prR x0 x1 x2 x3 t j.val := by
  have hj := j.isLt
  rw [val_main_v16_apply]
  refine (congrArg (val_main_v15 (F := Ideal) x0 x1 x2 x3) (eq2 _ t ⟨j.val, by omega⟩ rfl rfl)).trans (v15_at x0 x1 x2 x3 t _)

/-- The stage `v39`. -/
theorem v39_at (b : Fin 2) (s : Fin 2048) (h : Fin 8) (e : Fin 64) (i) (hi : i = ix4 b s h e) (n : ℕ) (hn : n = 512 + 64 * h.val + e.val) :
    val_main_v39 (F := Ideal) x0 x1 x2 x3 i = prR x0 x1 x2 x3 (tk b s) n := by
  subst hi hn
  have hb := b.isLt
  have hs := s.isLt
  have hh := h.isLt
  have he := e.isLt
  rw [val_main_v39_apply, val_main_v17_apply]
  refine (congrArg (val_main_v15 (F := Ideal) x0 x1 x2 x3) (eq2 _ (tk b s) ⟨512 + 64 * h.val + e.val, by omega⟩ ?_ ?_)).trans (v15_at x0 x1 x2 x3 _ _)
  · show (((b.val * 2048 + s.val) * 8 + h.val) * 64 + e.val) / 512 = 2048 * b.val + s.val; omega
  · show 512 + (((b.val * 2048 + s.val) * 8 + h.val) * 64 + e.val) % 512 = 512 + 64 * h.val + e.val; omega

/-- The stage `v58`. -/
theorem v58_at (b : Fin 2) (s : Fin 2048) (h : Fin 2) (e : Fin 64) (i) (hi : i = ix4 b s h e) (n : ℕ) (hn : n = 1024 + 64 * h.val + e.val) :
    val_main_v58 (F := Ideal) x0 x1 x2 x3 i = prR x0 x1 x2 x3 (tk b s) n := by
  subst hi hn
  have hb := b.isLt
  have hs := s.isLt
  have hh := h.isLt
  have he := e.isLt
  rw [val_main_v58_apply, val_main_v18_apply]
  refine (congrArg (val_main_v15 (F := Ideal) x0 x1 x2 x3) (eq2 _ (tk b s) ⟨1024 + 64 * h.val + e.val, by omega⟩ ?_ ?_)).trans (v15_at x0 x1 x2 x3 _ _)
  · show (((b.val * 2048 + s.val) * 2 + h.val) * 64 + e.val) / 128 = 2048 * b.val + s.val; omega
  · show 1024 + (((b.val * 2048 + s.val) * 2 + h.val) * 64 + e.val) % 128 = 1024 + 64 * h.val + e.val; omega

/-- The stage `v55`. -/
theorem v55_at (b : Fin 2) (s : Fin 2048) (h : Fin 8) (e : Fin 64) :
    val_main_v55 (F := Ideal) x0 x1 x2 x3 (ix4 b s h e) = rotR (prR x0 x1 x2 x3 (tk b s)) (cosR s) (sinR s) (512 + 64 * h.val) e := by
  have he := e.isLt
  unfold val_main_v55 rotR
  refine (cat3 (H := 8) _ _ _ _ b s h e).trans ?_
  by_cases h0 : e.val < 8
  · rw [dif_pos h0, dif_pos h0]
    rw [val_main_v48_apply, val_main_v45_apply, val_main_v47_apply, val_main_v40_apply, val_main_v41_apply, val_main_v44_apply, val_main_v42_apply, val_main_v46_apply, val_main_v43_apply]
    exact congrArg₂ (· - ·)
      (congrArg₂ (· * ·) (v39_at x0 x1 x2 x3 b s h ⟨e.val, by omega⟩ _ (eq4 _ _ _ _ _ rfl rfl rfl rfl) _ rfl) (congrArg (val_main_v37 (F := Ideal)) (eq2 _ s ⟨e.val, h0⟩ rfl rfl)))
      (congrArg₂ (· * ·) (v39_at x0 x1 x2 x3 b s h ⟨8 + e.val, by omega⟩ _ (eq4 _ _ _ _ _ rfl rfl rfl rfl) _ rfl) (congrArg (val_main_v38 (F := Ideal)) (eq2 _ s ⟨e.val, h0⟩ rfl rfl)))
  rw [dif_neg h0, dif_neg h0]
  by_cases h1 : e.val < 16
  · rw [dif_pos h1, dif_pos h1]
    rw [val_main_v53_apply, val_main_v50_apply, val_main_v52_apply, val_main_v40_apply, val_main_v41_apply, val_main_v49_apply, val_main_v42_apply, val_main_v51_apply, val_main_v43_apply]
    exact congrArg₂ (· + ·)
      (congrArg₂ (· * ·) (v39_at x0 x1 x2 x3 b s h ⟨8 + (e.val - 8), by omega⟩ _ (eq4 _ _ _ _ _ rfl rfl rfl rfl) _ (by show 512 + 64 * h.val + e.val = 512 + 64 * h.val + (8 + (e.val - 8)); omega))
        (congrArg (val_main_v37 (F := Ideal)) (eq2 _ s ⟨e.val - 8, by omega⟩ rfl rfl)))
      (congrArg₂ (· * ·) (v39_at x0 x1 x2 x3 b s h ⟨e.val - 8, by omega⟩ _ (eq4 _ _ _ _ _ rfl rfl rfl rfl) _ rfl) (congrArg (val_main_v38 (F := Ideal)) (eq2 _ s ⟨e.val - 8, by omega⟩ rfl rfl)))
  rw [dif_neg h1, dif_neg h1, val_main_v54_apply]
  exact v39_at x0 x1 x2 x3 b s h ⟨16 + (e.val - 16), by omega⟩ _ (eq4 _ _ _ _ _ rfl rfl rfl rfl) _ (by show 512 + 64 * h.val + e.val = 512 + 64 * h.val + (16 + (e.val - 16)); omega)

/-- The stage `v74`. -/
theorem v74_at (b : Fin 2) (s : Fin 2048) (h : Fin 2) (e : Fin 64) :
    val_main_v74 (F := Ideal) x0 x1 x2 x3 (ix4 b s h e) = rotR (prR x0 x1 x2 x3 (tk b s)) (cosR s) (sinR s) (1024 + 64 * h.val) e := by
  have he := e.isLt
  unfold val_main_v74 rotR
  refine (cat3 (H := 2) _ _ _ _ b s h e).trans ?_
  by_cases h0 : e.val < 8
  · rw [dif_pos h0, dif_pos h0]
    rw [val_main_v67_apply, val_main_v64_apply, val_main_v66_apply, val_main_v59_apply, val_main_v60_apply, val_main_v63_apply, val_main_v61_apply, val_main_v65_apply, val_main_v62_apply]
    exact congrArg₂ (· - ·)
      (congrArg₂ (· * ·) (v58_at x0 x1 x2 x3 b s h ⟨e.val, by omega⟩ _ (eq4 _ _ _ _ _ rfl rfl rfl rfl) _ rfl) (congrArg (val_main_v37 (F := Ideal)) (eq2 _ s ⟨e.val, h0⟩ rfl rfl)))
      (congrArg₂ (· * ·) (v58_at x0 x1 x2 x3 b s h ⟨8 + e.val, by omega⟩ _ (eq4 _ _ _ _ _ rfl rfl rfl rfl) _ rfl) (congrArg (val_main_v38 (F := Ideal)) (eq2 _ s ⟨e.val, h0⟩ rfl rfl)))
  rw [dif_neg h0, dif_neg h0]
  by_cases h1 : e.val < 16
  · rw [dif_pos h1, dif_pos h1]
    rw [val_main_v72_apply, val_main_v69_apply, val_main_v71_apply, val_main_v59_apply, val_main_v60_apply, val_main_v68_apply, val_main_v61_apply, val_main_v70_apply, val_main_v62_apply]
    exact congrArg₂ (· + ·)
      (congrArg₂ (· * ·) (v58_at x0 x1 x2 x3 b s h ⟨8 + (e.val - 8), by omega⟩ _ (eq4 _ _ _ _ _ rfl rfl rfl rfl) _ (by show 1024 + 64 * h.val + e.val = 1024 + 64 * h.val + (8 + (e.val - 8)); omega))
        (congrArg (val_main_v37 (F := Ideal)) (eq2 _ s ⟨e.val - 8, by omega⟩ rfl rfl)))
      (congrArg₂ (· * ·) (v58_at x0 x1 x2 x3 b s h ⟨e.val - 8, by omega⟩ _ (eq4 _ _ _ _ _ rfl rfl rfl rfl) _ rfl) (congrArg (val_main_v38 (F := Ideal)) (eq2 _ s ⟨e.val - 8, by omega⟩ rfl rfl)))
  rw [dif_neg h1, dif_neg h1, val_main_v73_apply]
  exact v58_at x0 x1 x2 x3 b s h ⟨16 + (e.val - 16), by omega⟩ _ (eq4 _ _ _ _ _ rfl rfl rfl rfl) _ (by show 1024 + 64 * h.val + e.val = 1024 + 64 * h.val + (16 + (e.val - 16)); omega)

/-- The stage `v77`. -/
theorem v77_at (t : Fin 4096) (s : Fin 2048) (hs : s.val = t.val % 2048) (j : Fin 512) :
    val_main_v77 (F := Ideal) x0 x1 x2 x3 (ix2 t j)
      = rotR (prR x0 x1 x2 x3 t) (cosR s) (sinR s) (512 + 64 * (j.val / 64)) ⟨j.val % 64, Nat.mod_lt _ (by norm_num)⟩ * Ideal.ofBits .f32 0x3E000000#32 := by
  have ht := t.isLt
  have hj := j.isLt
  rw [val_main_v77_apply, val_main_v76_apply, val_main_v57_apply, val_main_v56_apply, val_main_cst_6_apply]
  have e := tk_eq t s hs
  refine congrArg (· * _) (((congrArg (val_main_v55 (F := Ideal) x0 x1 x2 x3) (eq4 _ ⟨t.val / 2048, by omega⟩ s ⟨j.val / 64, by omega⟩ ⟨j.val % 64, by omega⟩ ?_ ?_ ?_ ?_)).trans
    (v55_at x0 x1 x2 x3 _ _ _ _)).trans (by rw [← e]))
  · show (t.val * 512 + j.val) / 1048576 = t.val / 2048; omega
  · show (t.val * 512 + j.val) / 512 % 2048 = s.val; omega
  · show (t.val * 512 + j.val) / 64 % 8 = j.val / 64; omega
  · show (t.val * 512 + j.val) % 64 = j.val % 64; omega

/-- The place of entry `j` of row `t` in the array of keys or values before they are repeated. -/
def flat (t j : ℕ) : ℕ := ((((((t * 512 + j) / 512 * 8 + (t * 512 + j) / 64 % 8) * 64 + (t * 512 + j) % 64) / 512) * 2 + ((((t * 512 + j) / 512 * 8 + (t * 512 + j) / 64 % 8) * 64 + (t * 512 + j) % 64) / 256 % 2)) * 64
      + ((((t * 512 + j) / 512 * 8 + (t * 512 + j) / 64 % 8) * 64 + (t * 512 + j) % 64) % 64))

theorem flat_eq (t j : ℕ) (hj : j < 512) : flat t j = t * 128 + (64 * (j / 256) + j % 64) := by
  have r0 : (t * 512 + j) / 512 = t := by omega
  have r1 : (t * 512 + j) / 64 % 8 = j / 64 := by omega
  have r2 : (t * 512 + j) % 64 = j % 64 := by omega
  have q0 : ((t * 8 + j / 64) * 64 + j % 64) / 512 = t := by omega
  have q1 : ((t * 8 + j / 64) * 64 + j % 64) / 256 % 2 = j / 256 := by omega
  have q2 : ((t * 8 + j / 64) * 64 + j % 64) % 64 = j % 64 := by omega
  unfold flat
  rw [r0, r1, r2, q0, q1, q2]; omega

/-- The stage `v82`. -/
theorem v82_at (t : Fin 4096) (s : Fin 2048) (hs : s.val = t.val % 2048) (j : Fin 512) :
    val_main_v82 (F := Ideal) x0 x1 x2 x3 (ix2 t j)
      = rotR (prR x0 x1 x2 x3 t) (cosR s) (sinR s) (1024 + 64 * (j.val / 256)) ⟨j.val % 64, Nat.mod_lt _ (by norm_num)⟩ := by
  have ht := t.isLt
  have hj := j.isLt
  rw [val_main_v82_apply, val_main_v81_apply, val_main_v80_apply, val_main_v79_apply, val_main_v78_apply]
  have e := tk_eq t s hs
  refine ((congrArg (val_main_v74 (F := Ideal) x0 x1 x2 x3) (eq4 _ ⟨t.val / 2048, by omega⟩ s ⟨j.val / 256, by omega⟩ ⟨j.val % 64, by omega⟩ ?_ ?_ ?_ ?_)).trans
    (v74_at x0 x1 x2 x3 _ _ _ _)).trans (by rw [← e])
  · show flat t.val j.val / 262144 = t.val / 2048
    rw [flat_eq _ _ hj]; omega
  · show flat t.val j.val / 128 % 2048 = s.val
    have q : (t.val * 128 + (64 * (j.val / 256) + j.val % 64)) / 128 = t.val := by omega
    rw [flat_eq _ _ hj, q, hs]
  · show flat t.val j.val / 64 % 2 = j.val / 256
    rw [flat_eq _ _ hj]; omega
  · show flat t.val j.val % 64 = j.val % 64
    rw [flat_eq _ _ hj]; omega

/-- The stage `v87`. -/
theorem v87_at (t : Fin 4096) (j : Fin 512) :
    val_main_v87 (F := Ideal) x0 x1 x2 x3 (ix2 t j) = prR x0 x1 x2 x3 t (1152 + (64 * (j.val / 256) + j.val % 64)) := by
  have ht := t.isLt
  have hj := j.isLt
  rw [val_main_v87_apply, val_main_v86_apply, val_main_v85_apply, val_main_v84_apply, val_main_v83_apply, val_main_v19_apply]
  refine ((congrArg (val_main_v15 (F := Ideal) x0 x1 x2 x3) (eq2 _ t ⟨1152 + (64 * (j.val / 256) + j.val % 64), by omega⟩ ?_ ?_)).trans (v15_at x0 x1 x2 x3 _ _))
  · show flat t.val j.val / 128 = t.val
    rw [flat_eq _ _ hj]; omega
  · show 1152 + flat t.val j.val % 128 = 1152 + (64 * (j.val / 256) + j.val % 64)
    rw [flat_eq _ _ hj]; omega

/-- The stage `v94`. -/
theorem v94_at (t : Fin 4096) (j : Fin 2048) :
    val_main_v94 (F := Ideal) x0 x1 x2 x3 (ix2 t j) = Ideal.logistic (prR x0 x1 x2 x3 t (1280 + j.val)) := by
  have hj := j.isLt
  have h : val_main_v20 (F := Ideal) x0 x1 x2 x3 (ix2 t j) = prR x0 x1 x2 x3 t (1280 + j.val) := by
    rw [val_main_v20_apply]
    exact (congrArg (val_main_v15 (F := Ideal) x0 x1 x2 x3) (eq2 _ t ⟨1280 + j.val, by omega⟩ rfl rfl)).trans (v15_at x0 x1 x2 x3 _ _)
  unfold val_main_v94 val_main_v93 val_main_v92 val_main_v91 val_main_v90 val_main_v89 val_main_v88 val_main_cst_7 val_main_cst_8
  generalize val_main_v20 (F := Ideal) x0 x1 x2 x3 = y at h
  pointwise
  rw [h]
  try simp only [Ideal.ofBits_one_f32]
  rfl

end Cert.ProjRefIdeal.Read
end
-- ==== Proof.ProjFin.lean ====
/-
  The rotary tables of the input projection's kernel, and its rotation against the reference's.
-/
module
public import proofs.«01_k».proof.Proof.ProjRun
public import proofs.«01_k».proof.Proof.ProjRef
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.ProjIdeal.Value
open Cert.ProjIdeal Cert.ProjIdeal.Gen
open Cert.ProjRefIdeal.Read (rotR cosR sinR eq2 eq4)

/-- Three pieces of 8, 8 and 48 columns side by side, twice. -/
def tile (f0 f1 : FVec Ideal S2048x8 .f32) (f2 : FVec Ideal S2048x48 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x8, f0⟩, ⟨S2048x8, f1⟩, ⟨S2048x48, f2⟩] concatenates_S2048x8_S2048x8_S2048x48_S2048x64_d1)
      shapeCasts_S2048x64_S1x2048x1x64)) shapeCasts_S1x2048x2x64_S2048x128

theorem cat_tab (f0 f1 : FVec Ideal S2048x8 .f32) (f2 : FVec Ideal S2048x48 .f32) (h) (s : Fin 2048) (e : Fin 64) :
    concatenate S2048x64 1 [⟨S2048x8, f0⟩, ⟨S2048x8, f1⟩, ⟨S2048x48, f2⟩] h (ix2 s e)
      = if h0 : e.val < 8 then f0 (ix2 s ⟨e.val, h0⟩) else if h1 : e.val < 16 then f1 (ix2 s ⟨e.val - 8, by omega⟩) else f2 (ix2 s ⟨e.val - 16, by omega⟩) := by
  have he := e.isLt
  by_cases h0 : e.val < 8
  · rw [dif_pos h0]
    refine concatenate_apply_piece 1 _ h _ 0 (by simp) S2048x8 f0 rfl rfl 0 rfl _ (off1 s _ e) (by show 0 + e.val = e.val; omega)
  rw [dif_neg h0]
  by_cases h1 : e.val < 16
  · rw [dif_pos h1]
    refine concatenate_apply_piece 1 _ h _ 1 (by simp) S2048x8 f1 rfl rfl 8 rfl _ (off1 s _ e) (by show 8 + (e.val - 8) = e.val; omega)
  rw [dif_neg h1]
  refine concatenate_apply_piece 1 _ h _ 2 (by simp) S2048x48 f2 rfl rfl 16 rfl _ (off1 s _ e) (by show 16 + (e.val - 16) = e.val; omega)

theorem tile_at (f0 f1 : FVec Ideal S2048x8 .f32) (f2 : FVec Ideal S2048x48 .f32) (s : Fin 2048) (q : Fin 2) (e : Fin 64) :
    row (tile f0 f1 f2) s (64 * q.val + e.val)
      = if h0 : e.val < 8 then f0 (ix2 s ⟨e.val, h0⟩) else if h1 : e.val < 16 then f1 (ix2 s ⟨e.val - 8, by omega⟩) else f2 (ix2 s ⟨e.val - 16, by omega⟩) := by
  have he := e.isLt
  have hq := q.isLt
  refine (row_of _ s ⟨64 * q.val + e.val, by omega⟩).trans ?_
  refine Eq.trans ?_ (cat_tab f0 f1 f2 concatenates_S2048x8_S2048x8_S2048x48_S2048x64_d1 s e)
  unfold tile
  generalize concatenate S2048x64 1 [⟨S2048x8, f0⟩, ⟨S2048x8, f1⟩, ⟨S2048x48, f2⟩] concatenates_S2048x8_S2048x8_S2048x48_S2048x64_d1 = z
  refine (shapeCast_apply _ shapeCasts_S1x2048x2x64_S2048x128 _ (ix4 0 s q e) ?_).trans ?_
  · rewrite [Shape.rowMajor_val_four, Shape.rowMajor_val_two]
    show ((0 * 2048 + s.val) * 2 + q.val) * 64 + e.val = s.val * 128 + (64 * q.val + e.val)
    omega
  refine (broadcastInDim_apply _ bcast_S1x2048x1x64_S1x2048x2x64_0_1_2_3 _ _ (ix4 0 s 0 e) (fun a => ?_)).trans ?_
  · match a with
    | ⟨0, _⟩ => show 0 = if (1 : Nat) = 1 then 0 else 0; rw [if_pos rfl]
    | ⟨1, _⟩ => show s.val = if (2048 : Nat) = 1 then 0 else s.val; rw [if_neg (by decide)]
    | ⟨2, _⟩ => show 0 = if (1 : Nat) = 1 then 0 else q.val; rw [if_pos rfl]
    | ⟨3, _⟩ => show e.val = if (64 : Nat) = 1 then 0 else e.val; rw [if_neg (by decide)]
  refine shapeCast_apply z shapeCasts_S2048x64_S1x2048x1x64 _ (ix2 s e) ?_
  rewrite [Shape.rowMajor_val_four, Shape.rowMajor_val_two]
  show s.val * 64 + e.val = ((0 * 2048 + s.val) * 1 + 0) * 64 + e.val
  omega

variable (m : (ℓ : Loc nD τ sig) → Buf (Elt Ideal) ℓ) (c : Dev nD)

/-- The cosines, as the reference has them. -/
abbrev cosT : FVec Ideal S2048x8 .f32 := Cert.ProjRefIdeal.Read.val_main_v37 (F := Ideal)
/-- The sines, as the reference has them. -/
abbrev sinT : FVec Ideal S2048x8 .f32 := Cert.ProjRefIdeal.Read.val_main_v38 (F := Ideal)
/-- Eight columns of zeros. -/
abbrev zero8 : FVec Ideal S2048x8 .f32 := broadcastInDim S2048x8 ![] bcast_S_S2048x8 (constant (F := Ideal) S_ .f32 0x00000000#32)
/-- Forty-eight columns of zeros. -/
abbrev zero48 : FVec Ideal S2048x48 .f32 := broadcastInDim S2048x48 ![] bcast_S_S2048x48 (constant (F := Ideal) S_ .f32 0x00000000#32)
/-- Forty-eight columns of ones. -/
abbrev one48 : FVec Ideal S2048x48 .f32 := broadcastInDim S2048x48 ![] bcast_S_S2048x48 (constant (F := Ideal) S_ .f32 0x3F800000#32)

/-- The table of cosines. -/
theorem V_main_v27 : V m c main_v27 = tile cosT cosT one48 := by
  unfold V hostOps0
  after_results_simp
  rfl
/-- The table of negated sines. -/
theorem V_main_v30 : V m c main_v30 = tile (Host.negf sinT) zero8 zero48 := by
  unfold V hostOps0
  after_results_simp
  rfl
/-- The table of sines. -/
theorem V_main_v33 : V m c main_v33 = tile zero8 sinT zero48 := by
  unfold V hostOps0
  after_results_simp
  rfl

theorem zero8_at (i) : zero8 i = 0 := by
  rw [eq_ix2 i]
  pointwise
theorem zero48_at (i) : zero48 i = 0 := by
  rw [eq_ix2 i]
  pointwise
theorem one48_at (i) : one48 i = 1 := by
  rw [eq_ix2 i]
  pointwise
theorem neg_at (i) : (Host.negf sinT : FVec Ideal S2048x8 .f32) i = -sinT i := rfl

/-- The kernel's rotation of a head is the reference's. -/
theorem rot_eq (y : ℕ → EReal) (s : Fin 2048) (o : ℕ) (q : Fin 2) (e : Fin 64) :
    rotK y (row (t27 m c) s) (row (t30 m c) s) (row (t33 m c) s) o (64 * q.val + e.val) = rotR y (cosR s) (sinR s) (o + 64 * q.val) e := by
  have he := e.isLt
  have hq := q.isLt
  have i0 : y (o + (64 * q.val + e.val)) = y (o + 64 * q.val + e.val) := congrArg y (by omega)
  unfold rotK rotR
  show _ * row (V m c main_v27) s _ + _ * row (V m c main_v30) s _ + _ * row (V m c main_v33) s _ = _
  rw [V_main_v27, V_main_v30, V_main_v33, tile_at, tile_at, tile_at, i0]
  by_cases h0 : e.val < 8
  · rw [dif_pos h0, dif_pos h0, dif_pos h0, dif_pos h0, zero8_at, neg_at, mul_zero, add_zero, mul_neg, ← sub_eq_add_neg]
    have i1 : y (o + (64 * q.val + e.val + 8) % 128) = y (o + 64 * q.val + (8 + e.val)) := congrArg y (by omega)
    rw [i1]
    rfl
  rw [dif_neg h0, dif_neg h0, dif_neg h0, dif_neg h0]
  by_cases h1 : e.val < 16
  · rw [dif_pos h1, dif_pos h1, dif_pos h1, dif_pos h1, zero8_at, mul_zero, add_zero]
    have i1 : y (o + (64 * q.val + e.val + 120) % 128) = y (o + 64 * q.val + (e.val - 8)) := congrArg y (by omega)
    rw [i1]
    rfl
  rw [dif_neg h1, dif_neg h1, dif_neg h1, dif_neg h1, zero48_at, one48_at, mul_zero, mul_one, add_zero, mul_zero, add_zero]

/-- The rotated queries. -/
theorem q_eq (t : Fin 4096) (j : Fin 512) :
    rtA m c t (512 + 128 * (j.val / 128)) (j.val % 128) = rotR (prA m c t) (cosR (pos t)) (sinR (pos t)) (512 + 64 * (j.val / 64)) ⟨j.val % 64, Nat.mod_lt _ (by norm_num)⟩ := by
  have hj := j.isLt
  have h := rot_eq m c (prA m c t) (pos t) (512 + 128 * (j.val / 128)) ⟨j.val % 128 / 64, by omega⟩ ⟨j.val % 64, Nat.mod_lt _ (by norm_num)⟩
  have e1 : 64 * (j.val % 128 / 64) + j.val % 64 = j.val % 128 := by omega
  have e2 : 512 + 128 * (j.val / 128) + 64 * (j.val % 128 / 64) = 512 + 64 * (j.val / 64) := by omega
  dsimp only at h
  rw [e1, e2] at h
  exact h

/-- The rotated keys. -/
theorem k_eq (t : Fin 4096) (j : Fin 512) :
    rtA m c t 1024 (64 * (j.val / 256) + j.val % 64) = rotR (prA m c t) (cosR (pos t)) (sinR (pos t)) (1024 + 64 * (j.val / 256)) ⟨j.val % 64, Nat.mod_lt _ (by norm_num)⟩ := by
  have hj := j.isLt
  exact rot_eq m c (prA m c t) (pos t) 1024 ⟨j.val / 256, by omega⟩ ⟨j.val % 64, Nat.mod_lt _ (by norm_num)⟩

end Cert.ProjIdeal.Value
end
-- ==== Proof.ProjCert.lean ====
/-
  The certificate of the input projection's forward pass: both programs run, and to the same six results.
-/
module
public import proofs.«01_k».proof.Defs
public import proofs.«01_k».proof.Proof.ProjFin
public import proofs.«01_k».proof.Proof.Gen.Proj
public import proofs.«01_k».proof.Proof.Gen.ProjIdeal
public import proofs.«01_k».proof.Proof.Gen.ProjRefIdeal.Run
@[expose] public section
set_option maxRecDepth 16384
noncomputable section
open Idealize.ShloMosaic Idealize.ShloMosaic.TcCoe Idealize.ShloMosaic.Tactic Idealize.SL.Sem

namespace Cert.Proof.Proj
open Cert.ProjIdeal Cert.ProjIdeal.Gen

/-- The reference terminates with its arguments as they were and every counter at zero. -/
theorem frame_ref : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

section
variable {x0 x0' : FVec Ideal S4096x1024 .f32} {x1 x1' : FVec Ideal S1x1024 .f32} {x2 x2' : FVec Ideal S3328x1024 .bf16} {x3 x3' : FVec Ideal S1x3328 .f32}
  (e0 : x0 = x0') (e1 : x1 = x1') (e2 : x2 = x2') (e3 : x3 = x3')

include e0 e1 in
/-- Equal arguments give the same normed input. -/
theorem congr_75 : Cert.ProjRefIdeal.Read.val_main_v75 (F := Ideal) x0 x1 = Cert.ProjRefIdeal.Read.val_main_v75 (F := Ideal) x0' x1' := by
  subst e0 e1
  rfl

include e0 e1 e2 e3 in
/-- Equal arguments give the same first piece of the projection. -/
theorem congr_16 : Cert.ProjRefIdeal.Read.val_main_v16 (F := Ideal) x0 x1 x2 x3 = Cert.ProjRefIdeal.Read.val_main_v16 (F := Ideal) x0' x1' x2' x3' := by
  subst e0 e1 e2 e3
  rfl

include e0 e1 e2 e3 in
/-- Equal arguments give the same rotated queries. -/
theorem congr_77 : Cert.ProjRefIdeal.Read.val_main_v77 (F := Ideal) x0 x1 x2 x3 = Cert.ProjRefIdeal.Read.val_main_v77 (F := Ideal) x0' x1' x2' x3' := by
  subst e0 e1 e2 e3
  rfl

include e0 e1 e2 e3 in
/-- Equal arguments give the same rotated keys. -/
theorem congr_82 : Cert.ProjRefIdeal.Read.val_main_v82 (F := Ideal) x0 x1 x2 x3 = Cert.ProjRefIdeal.Read.val_main_v82 (F := Ideal) x0' x1' x2' x3' := by
  subst e0 e1 e2 e3
  rfl

include e0 e1 e2 e3 in
/-- Equal arguments give the same values. -/
theorem congr_87 : Cert.ProjRefIdeal.Read.val_main_v87 (F := Ideal) x0 x1 x2 x3 = Cert.ProjRefIdeal.Read.val_main_v87 (F := Ideal) x0' x1' x2' x3' := by
  subst e0 e1 e2 e3
  rfl

include e0 e1 e2 e3 in
/-- Equal arguments give the same gates. -/
theorem congr_94 : Cert.ProjRefIdeal.Read.val_main_v94 (F := Ideal) x0 x1 x2 x3 = Cert.ProjRefIdeal.Read.val_main_v94 (F := Ideal) x0' x1' x2' x3' := by
  subst e0 e1 e2 e3
  rfl

end

/-- The kernel's normed input: the reference's. -/
theorem eq_75 (m : (ℓ : Loc nD τ sig) → Buf (Elt Ideal) ℓ) (c : Dev nD) :
    Cert.ProjRefIdeal.Read.val_main_v75 (F := Ideal) (m ((c : Thread nD τ).loc main_arg0)) (m ((c : Thread nD τ).loc main_arg1)) = (Gen.dats m 0 c).arrAt 7 cfg0.N := by
  funext i
  rw [eq_ix2 i]
  exact (Cert.ProjRefIdeal.Read.v75_at _ _ (i 0) (i 1)).trans (Value.run7' m c (i 0) (i 1)).symm

/-- The kernel's first piece of the projection: the reference's. -/
theorem eq_16 (m : (ℓ : Loc nD τ sig) → Buf (Elt Ideal) ℓ) (c : Dev nD) :
    Cert.ProjRefIdeal.Read.val_main_v16 (F := Ideal) (m ((c : Thread nD τ).loc main_arg0)) (m ((c : Thread nD τ).loc main_arg1)) (m ((c : Thread nD τ).loc main_arg2)) (m ((c : Thread nD τ).loc main_arg3)) = (Gen.dats m 0 c).arrAt 8 cfg0.N := by
  funext i
  rw [eq_ix2 i]
  exact (Cert.ProjRefIdeal.Read.v16_at _ _ _ _ (i 0) (i 1)).trans (Value.run8' m c (i 0) (i 1)).symm

/-- The kernel's rotated queries: the reference's. -/
theorem eq_77 (m : (ℓ : Loc nD τ sig) → Buf (Elt Ideal) ℓ) (c : Dev nD) :
    Cert.ProjRefIdeal.Read.val_main_v77 (F := Ideal) (m ((c : Thread nD τ).loc main_arg0)) (m ((c : Thread nD τ).loc main_arg1)) (m ((c : Thread nD τ).loc main_arg2)) (m ((c : Thread nD τ).loc main_arg3)) = (Gen.dats m 0 c).arrAt 9 cfg0.N := by
  funext i
  rw [eq_ix2 i]
  exact (Cert.ProjRefIdeal.Read.v77_at _ _ _ _ (i 0) (Value.pos (i 0)) rfl (i 1)).trans ((congrArg (· * _) (Value.q_eq m c (i 0) (i 1))).symm.trans (Value.run9' m c (i 0) (i 1)).symm)

/-- The kernel's rotated keys: the reference's. -/
theorem eq_82 (m : (ℓ : Loc nD τ sig) → Buf (Elt Ideal) ℓ) (c : Dev nD) :
    Cert.ProjRefIdeal.Read.val_main_v82 (F := Ideal) (m ((c : Thread nD τ).loc main_arg0)) (m ((c : Thread nD τ).loc main_arg1)) (m ((c : Thread nD τ).loc main_arg2)) (m ((c : Thread nD τ).loc main_arg3)) = (Gen.dats m 0 c).arrAt 10 cfg0.N := by
  funext i
  rw [eq_ix2 i]
  exact (Cert.ProjRefIdeal.Read.v82_at _ _ _ _ (i 0) (Value.pos (i 0)) rfl (i 1)).trans ((Value.k_eq m c (i 0) (i 1)).symm.trans (Value.run10' m c (i 0) (i 1)).symm)

/-- The kernel's values: the reference's. -/
theorem eq_87 (m : (ℓ : Loc nD τ sig) → Buf (Elt Ideal) ℓ) (c : Dev nD) :
    Cert.ProjRefIdeal.Read.val_main_v87 (F := Ideal) (m ((c : Thread nD τ).loc main_arg0)) (m ((c : Thread nD τ).loc main_arg1)) (m ((c : Thread nD τ).loc main_arg2)) (m ((c : Thread nD τ).loc main_arg3)) = (Gen.dats m 0 c).arrAt 11 cfg0.N := by
  funext i
  rw [eq_ix2 i]
  exact (Cert.ProjRefIdeal.Read.v87_at _ _ _ _ (i 0) (i 1)).trans (Value.run11' m c (i 0) (i 1)).symm

/-- The kernel's gates: the reference's. -/
theorem eq_94 (m : (ℓ : Loc nD τ sig) → Buf (Elt Ideal) ℓ) (c : Dev nD) :
    Cert.ProjRefIdeal.Read.val_main_v94 (F := Ideal) (m ((c : Thread nD τ).loc main_arg0)) (m ((c : Thread nD τ).loc main_arg1)) (m ((c : Thread nD τ).loc main_arg2)) (m ((c : Thread nD τ).loc main_arg3)) = (Gen.dats m 0 c).arrAt 12 cfg0.N := by
  funext i
  rw [eq_ix2 i]
  exact (Cert.ProjRefIdeal.Read.v94_at _ _ _ _ (i 0) (i 1)).trans (Value.run12' m c (i 0) (i 1)).symm

/-- Both programs run to the same six results. -/
theorem algebraic : Cert.algebraic_ProjIdeal_ProjRefIdeal := by
  intro m ρ m' ρ' _ hin
  refine ⟨fun c => (Gen.dats m 0 c).arrAt 7 cfg0.N, fun c => (Gen.dats m 0 c).arrAt 8 cfg0.N, fun c => (Gen.dats m 0 c).arrAt 9 cfg0.N, fun c => (Gen.dats m 0 c).arrAt 10 cfg0.N, fun c => (Gen.dats m 0 c).arrAt 11 cfg0.N, fun c => (Gen.dats m 0 c).arrAt 12 cfg0.N,
    Value.run_blocks m ρ, ?_⟩
  refine (θ_run _ _ _).mono (fun r h c => ?_) (Cert.ProjRefIdeal.Value.run (F := Ideal) m' ρ')
  obtain ⟨r0, r1, r2, r3, r4, r5, k⟩ := h c
  obtain ⟨e0, e1, e2, e3⟩ := hin c
  refine ⟨?_, ?_, ?_, ?_, ?_, ?_, k⟩
  · refine (r0.trans (Cert.ProjRefIdeal.Read.val_main_v75_eq (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1)))).trans ?_
    exact (congr_75 e0 e1).trans (eq_75 m c)
  · refine (r1.trans (Cert.ProjRefIdeal.Read.val_main_v16_eq (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      (m' ((c.tc : Thread Cert.ProjRefIdeal.nD Cert.ProjRefIdeal.τ).loc Cert.ProjRefIdeal.main_arg3)))).trans ?_
    exact (congr_16 e0 e1 e2 e3).trans (eq_16 m c)
  · refine (r2.trans (Cert.ProjRefIdeal.Read.val_main_v77_eq m' c)).trans ?_
    exact (congr_77 e0 e1 e2 e3).trans (eq_77 m c)
  · refine (r3.trans (Cert.ProjRefIdeal.Read.val_main_v82_eq m' c)).trans ?_
    exact (congr_82 e0 e1 e2 e3).trans (eq_82 m c)
  · refine (r4.trans (Cert.ProjRefIdeal.Read.val_main_v87_eq (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      (m' ((c.tc : Thread Cert.ProjRefIdeal.nD Cert.ProjRefIdeal.τ).loc Cert.ProjRefIdeal.main_arg3)))).trans ?_
    exact (congr_87 e0 e1 e2 e3).trans (eq_87 m c)
  · refine (r5.trans (Cert.ProjRefIdeal.Read.val_main_v94_eq (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      (m' ((c.tc : Thread Cert.ProjRefIdeal.nD Cert.ProjRefIdeal.τ).loc Cert.ProjRefIdeal.main_arg3)))).trans ?_
    exact (congr_94 e0 e1 e2 e3).trans (eq_94 m c)

end Cert.Proof.Proj
end
-- ==== Proof.MixOut.lean ====
/-
  The three output blocks of one grid step of the mixing's forward kernel, and the weights it keeps, entry by entry.
-/
module
public import proofs.«01_k».proof.Proof.Gen.MixIdeal.Value
public import proofs.«01_k».proof.Proof.MixPay
public import proofs.«01_k».proof.Proof.Gen.MixIdeal.Frame
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MixIdeal.Value
open Cert.MixIdeal Cert.MixIdeal.Gen
open Cert.InprojIdeal.Value (canon_hit canon_miss ld_full)

/-- The shards of a block. -/
abbrev sh (x : Vec Ideal S8x512x128 .bf16) (s : Fin 8) (k : Fin 512) (e : Fin 128) : EReal := x (ix3 s k e)

/-- A row of the mixed output from the operand blocks and the two kept weights. -/
abbrev mixB (x0 x1 : Vec Ideal S512x512 .bf16) (x2 : Vec Ideal S512x2048 .bf16) (wp wa : Fin 512 → Fin 1024 → EReal) (x6 : Vec Ideal S1024x1024 .bf16) (p : Fin 512) : Fin 1024 → EReal :=
  mixE (fun k => x0 (ix2 p k)) (fun k => x1 (ix2 p k)) (fun j => x2 (ix2 p j)) wp wa (fun j d => x6 (ix2 j d))

/-- A row of the residual stream after the mixing, from the blocks. -/
abbrev x1B (x0 x1 : Vec Ideal S512x512 .bf16) (x2 : Vec Ideal S512x2048 .bf16) (wp wa : Fin 512 → Fin 1024 → EReal) (x6 : Vec Ideal S1024x1024 .bf16)
    (x3 : Vec Ideal S512x1024 .f32) (x7 : Vec Ideal S1x1024 .f32) (p : Fin 512) : Fin 1024 → EReal :=
  x1E (fun d => x3 (ix2 p d)) (mixB x0 x1 x2 wp wa x6 p) (fun d => x7 (ix2 0 d))

theorem keep_A0 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (k : Fin 512) (j : Fin 1024) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 k j) = band (sh x4) k j := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  try simp only [k0_pay3, k0_pay4, k0_pay5, k0_pay6, k0_pay7, k0_pay8, k0_pay9, k0_pay10, k0_pay11, k0_pay12, k0_pay13, k0_pay14, k0_pay15, k0_pay16, k0_pay17, k0_pay18, k0_pay19]
  refine band_canon _ _ _ _ _ _ _ _ _ _ _ _ _ _ _ _ (sh x4) ?_ ?_ ?_ ?_ ?_ ?_ ?_ ?_ _ k j rfl rfl
  · exact fun k e => (sq_at _ k e).trans (ld_shard x4 0 0 rfl _ k e)
  · exact fun k e => (sq_at _ k e).trans (ld_shard x4 1 1 rfl _ k e)
  · exact fun k e => (sq_at _ k e).trans (ld_shard x4 2 2 rfl _ k e)
  · exact fun k e => (sq_at _ k e).trans (ld_shard x4 3 3 rfl _ k e)
  · exact fun k e => (sq_at _ k e).trans (ld_shard x4 4 4 rfl _ k e)
  · exact fun k e => (sq_at _ k e).trans (ld_shard x4 5 5 rfl _ k e)
  · exact fun k e => (sq_at _ k e).trans (ld_shard x4 6 6 rfl _ k e)
  · exact fun k e => (sq_at _ k e).trans (ld_shard x4 7 7 rfl _ k e)

theorem keep_A1 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (k : Fin 512) (j : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 k j) = band (sh x5) k j := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  try simp only [k0_pay3, k0_pay4, k0_pay5, k0_pay6, k0_pay7, k0_pay8, k0_pay9, k0_pay10, k0_pay11, k0_pay12, k0_pay13, k0_pay14, k0_pay15, k0_pay16, k0_pay17, k0_pay18, k0_pay19]
  refine band_canon _ _ _ _ _ _ _ _ _ _ _ _ _ _ _ _ (sh x5) ?_ ?_ ?_ ?_ ?_ ?_ ?_ ?_ _ k j rfl rfl
  · exact fun k e => (sq_at _ k e).trans (ld_shard x5 0 0 rfl _ k e)
  · exact fun k e => (sq_at _ k e).trans (ld_shard x5 1 1 rfl _ k e)
  · exact fun k e => (sq_at _ k e).trans (ld_shard x5 2 2 rfl _ k e)
  · exact fun k e => (sq_at _ k e).trans (ld_shard x5 3 3 rfl _ k e)
  · exact fun k e => (sq_at _ k e).trans (ld_shard x5 4 4 rfl _ k e)
  · exact fun k e => (sq_at _ k e).trans (ld_shard x5 5 5 rfl _ k e)
  · exact fun k e => (sq_at _ k e).trans (ld_shard x5 6 6 rfl _ k e)
  · exact fun k e => (sq_at _ k e).trans (ld_shard x5 7 7 rfl _ k e)

theorem out_A9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (p : Fin 512) (d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 p d) = mixB x0 x1 x2 (band (sh x4)) (band (sh x5)) x6 p d := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  simp only [View.readCov_eq_canon']
  try simp only [k0_pay3, k0_pay4, k0_pay5, k0_pay6, k0_pay7, k0_pay8, k0_pay9, k0_pay10, k0_pay11, k0_pay12, k0_pay13, k0_pay14, k0_pay15, k0_pay16, k0_pay17, k0_pay18, k0_pay19]
  refine (canon_hit _ _ _ _ _ _ (ix2 p d) (fun a => by
    match a with
    | ⟨0, _⟩ => show p.val = 0 + p.val; omega
    | ⟨1, _⟩ => show d.val = 0 + d.val; omega)).trans ?_
  refine pay20_at _ _ _ _ _ _ _ (fun p k => x0 (ix2 p k)) (fun p k => x1 (ix2 p k)) (fun p j => x2 (ix2 p j)) (band (sh x4)) (band (sh x5)) (fun j d => x6 (ix2 j d))
    (fun p k => ld_full x0 _ p k) (fun p k => ld_full x1 _ p k) ?_
    ?_
    (fun p j => ld_band x2 0 _ p j (lo j) (by show j.val = 0 + j.val; omega)) (fun p j => ld_band x2 1024 _ p j (hi j) rfl) (fun j d => ld_full x6 _ j d) p d
  · intro k j
    refine band_canon _ _ _ _ _ _ _ _ _ _ _ _ _ _ _ _ (sh x4) ?_ ?_ ?_ ?_ ?_ ?_ ?_ ?_ _ k j (by show 0 + 1 * k.val = k.val; omega) (by show 0 + 1 * j.val = j.val; omega)
    · exact fun k e => (sq_at _ k e).trans (ld_shard x4 0 0 rfl _ k e)
    · exact fun k e => (sq_at _ k e).trans (ld_shard x4 1 1 rfl _ k e)
    · exact fun k e => (sq_at _ k e).trans (ld_shard x4 2 2 rfl _ k e)
    · exact fun k e => (sq_at _ k e).trans (ld_shard x4 3 3 rfl _ k e)
    · exact fun k e => (sq_at _ k e).trans (ld_shard x4 4 4 rfl _ k e)
    · exact fun k e => (sq_at _ k e).trans (ld_shard x4 5 5 rfl _ k e)
    · exact fun k e => (sq_at _ k e).trans (ld_shard x4 6 6 rfl _ k e)
    · exact fun k e => (sq_at _ k e).trans (ld_shard x4 7 7 rfl _ k e)
  · intro k j
    refine band_canon _ _ _ _ _ _ _ _ _ _ _ _ _ _ _ _ (sh x5) ?_ ?_ ?_ ?_ ?_ ?_ ?_ ?_ _ k j (by show 0 + 1 * k.val = k.val; omega) (by show 0 + 1 * j.val = j.val; omega)
    · exact fun k e => (sq_at _ k e).trans (ld_shard x5 0 0 rfl _ k e)
    · exact fun k e => (sq_at _ k e).trans (ld_shard x5 1 1 rfl _ k e)
    · exact fun k e => (sq_at _ k e).trans (ld_shard x5 2 2 rfl _ k e)
    · exact fun k e => (sq_at _ k e).trans (ld_shard x5 3 3 rfl _ k e)
    · exact fun k e => (sq_at _ k e).trans (ld_shard x5 4 4 rfl _ k e)
    · exact fun k e => (sq_at _ k e).trans (ld_shard x5 5 5 rfl _ k e)
    · exact fun k e => (sq_at _ k e).trans (ld_shard x5 6 6 rfl _ k e)
    · exact fun k e => (sq_at _ k e).trans (ld_shard x5 7 7 rfl _ k e)

theorem out_A10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (p : Fin 512) (d : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 p d) = x1B x0 x1 x2 (band (sh x4)) (band (sh x5)) x6 x3 x7 p d := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  simp only [View.readCov_eq_canon']
  try simp only [k0_pay3, k0_pay4, k0_pay5, k0_pay6, k0_pay7, k0_pay8, k0_pay9, k0_pay10, k0_pay11, k0_pay12, k0_pay13, k0_pay14, k0_pay15, k0_pay16, k0_pay17, k0_pay18, k0_pay19]
  refine (canon_hit _ _ _ _ _ _ (ix2 p d) (fun a => by
    match a with
    | ⟨0, _⟩ => show p.val = 0 + p.val; omega
    | ⟨1, _⟩ => show d.val = 0 + d.val; omega)).trans ?_
  refine (pay1_at _ _ _ p d).trans (congrArg₂ (· + ·) (ld_full x3 _ p d) (congrArg₂ (· * ·) (pay21_at _ _ _ _ _ _ _ (mixB x0 x1 x2 (band (sh x4)) (band (sh x5)) x6) (fun p d => pay20_at _ _ _ _ _ _ _ (fun p k => x0 (ix2 p k)) (fun p k => x1 (ix2 p k)) (fun p j => x2 (ix2 p j)) (band (sh x4)) (band (sh x5)) (fun j d => x6 (ix2 j d))
    (fun p k => ld_full x0 _ p k) (fun p k => ld_full x1 _ p k) ?_
    ?_
    (fun p j => ld_band x2 0 _ p j (lo j) (by show j.val = 0 + j.val; omega)) (fun p j => ld_band x2 1024 _ p j (hi j) rfl) (fun j d => ld_full x6 _ j d) p d) p d) (ld_full x7 _ 0 d)))
  · intro k j
    refine band_canon _ _ _ _ _ _ _ _ _ _ _ _ _ _ _ _ (sh x4) ?_ ?_ ?_ ?_ ?_ ?_ ?_ ?_ _ k j (by show 0 + 1 * k.val = k.val; omega) (by show 0 + 1 * j.val = j.val; omega)
    · exact fun k e => (sq_at _ k e).trans (ld_shard x4 0 0 rfl _ k e)
    · exact fun k e => (sq_at _ k e).trans (ld_shard x4 1 1 rfl _ k e)
    · exact fun k e => (sq_at _ k e).trans (ld_shard x4 2 2 rfl _ k e)
    · exact fun k e => (sq_at _ k e).trans (ld_shard x4 3 3 rfl _ k e)
    · exact fun k e => (sq_at _ k e).trans (ld_shard x4 4 4 rfl _ k e)
    · exact fun k e => (sq_at _ k e).trans (ld_shard x4 5 5 rfl _ k e)
    · exact fun k e => (sq_at _ k e).trans (ld_shard x4 6 6 rfl _ k e)
    · exact fun k e => (sq_at _ k e).trans (ld_shard x4 7 7 rfl _ k e)
  · intro k j
    refine band_canon _ _ _ _ _ _ _ _ _ _ _ _ _ _ _ _ (sh x5) ?_ ?_ ?_ ?_ ?_ ?_ ?_ ?_ _ k j (by show 0 + 1 * k.val = k.val; omega) (by show 0 + 1 * j.val = j.val; omega)
    · exact fun k e => (sq_at _ k e).trans (ld_shard x5 0 0 rfl _ k e)
    · exact fun k e => (sq_at _ k e).trans (ld_shard x5 1 1 rfl _ k e)
    · exact fun k e => (sq_at _ k e).trans (ld_shard x5 2 2 rfl _ k e)
    · exact fun k e => (sq_at _ k e).trans (ld_shard x5 3 3 rfl _ k e)
    · exact fun k e => (sq_at _ k e).trans (ld_shard x5 4 4 rfl _ k e)
    · exact fun k e => (sq_at _ k e).trans (ld_shard x5 5 5 rfl _ k e)
    · exact fun k e => (sq_at _ k e).trans (ld_shard x5 6 6 rfl _ k e)
    · exact fun k e => (sq_at _ k e).trans (ld_shard x5 7 7 rfl _ k e)

theorem out_A11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (p : Fin 512) (d : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 p d) = nrm (x1B x0 x1 x2 (band (sh x4)) (band (sh x5)) x6 x3 x7 p) d * x8 (ix2 0 d) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  simp only [View.readCov_eq_canon']
  try simp only [k0_pay3, k0_pay4, k0_pay5, k0_pay6, k0_pay7, k0_pay8, k0_pay9, k0_pay10, k0_pay11, k0_pay12, k0_pay13, k0_pay14, k0_pay15, k0_pay16, k0_pay17, k0_pay18, k0_pay19]
  refine (canon_hit _ _ _ _ _ _ (ix2 p d) (fun a => by
    match a with
    | ⟨0, _⟩ => show p.val = 0 + p.val; omega
    | ⟨1, _⟩ => show d.val = 0 + d.val; omega)).trans ?_
  refine (pay2_at _ _ _ _ (x1B x0 x1 x2 (band (sh x4)) (band (sh x5)) x6 x3 x7) (fun p d => (pay1_at _ _ _ p d).trans (congrArg₂ (· + ·) (ld_full x3 _ p d) (congrArg₂ (· * ·) (pay21_at _ _ _ _ _ _ _ (mixB x0 x1 x2 (band (sh x4)) (band (sh x5)) x6) (fun p d => pay20_at _ _ _ _ _ _ _ (fun p k => x0 (ix2 p k)) (fun p k => x1 (ix2 p k)) (fun p j => x2 (ix2 p j)) (band (sh x4)) (band (sh x5)) (fun j d => x6 (ix2 j d))
    (fun p k => ld_full x0 _ p k) (fun p k => ld_full x1 _ p k) ?_
    ?_
    (fun p j => ld_band x2 0 _ p j (lo j) (by show j.val = 0 + j.val; omega)) (fun p j => ld_band x2 1024 _ p j (hi j) rfl) (fun j d => ld_full x6 _ j d) p d) p d) (ld_full x7 _ 0 d)))) p d).trans (congrArg _ (ld_full x8 _ 0 d))
  · intro k j
    refine band_canon _ _ _ _ _ _ _ _ _ _ _ _ _ _ _ _ (sh x4) ?_ ?_ ?_ ?_ ?_ ?_ ?_ ?_ _ k j (by show 0 + 1 * k.val = k.val; omega) (by show 0 + 1 * j.val = j.val; omega)
    · exact fun k e => (sq_at _ k e).trans (ld_shard x4 0 0 rfl _ k e)
    · exact fun k e => (sq_at _ k e).trans (ld_shard x4 1 1 rfl _ k e)
    · exact fun k e => (sq_at _ k e).trans (ld_shard x4 2 2 rfl _ k e)
    · exact fun k e => (sq_at _ k e).trans (ld_shard x4 3 3 rfl _ k e)
    · exact fun k e => (sq_at _ k e).trans (ld_shard x4 4 4 rfl _ k e)
    · exact fun k e => (sq_at _ k e).trans (ld_shard x4 5 5 rfl _ k e)
    · exact fun k e => (sq_at _ k e).trans (ld_shard x4 6 6 rfl _ k e)
    · exact fun k e => (sq_at _ k e).trans (ld_shard x4 7 7 rfl _ k e)
  · intro k j
    refine band_canon _ _ _ _ _ _ _ _ _ _ _ _ _ _ _ _ (sh x5) ?_ ?_ ?_ ?_ ?_ ?_ ?_ ?_ _ k j (by show 0 + 1 * k.val = k.val; omega) (by show 0 + 1 * j.val = j.val; omega)
    · exact fun k e => (sq_at _ k e).trans (ld_shard x5 0 0 rfl _ k e)
    · exact fun k e => (sq_at _ k e).trans (ld_shard x5 1 1 rfl _ k e)
    · exact fun k e => (sq_at _ k e).trans (ld_shard x5 2 2 rfl _ k e)
    · exact fun k e => (sq_at _ k e).trans (ld_shard x5 3 3 rfl _ k e)
    · exact fun k e => (sq_at _ k e).trans (ld_shard x5 4 4 rfl _ k e)
    · exact fun k e => (sq_at _ k e).trans (ld_shard x5 5 5 rfl _ k e)
    · exact fun k e => (sq_at _ k e).trans (ld_shard x5 6 6 rfl _ k e)
    · exact fun k e => (sq_at _ k e).trans (ld_shard x5 7 7 rfl _ k e)

theorem out_B9 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (xs0 : Vec Ideal S512x1024 .bf16) (xs1 : Vec Ideal S512x1024 .bf16) (p : Fin 512) (d : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 (ix2 p d) = mixB x0 x1 x2 (fun k j => xs0 (ix2 k j)) (fun k j => xs1 (ix2 k j)) x6 p d := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread]
  refine (canon_hit _ _ _ _ _ _ (ix2 p d) (fun a => by
    match a with
    | ⟨0, _⟩ => show p.val = 0 + p.val; omega
    | ⟨1, _⟩ => show d.val = 0 + d.val; omega)).trans ?_
  exact pay20_at _ _ _ _ _ _ _ (fun p k => x0 (ix2 p k)) (fun p k => x1 (ix2 p k)) (fun p j => x2 (ix2 p j)) (fun k j => xs0 (ix2 k j)) (fun k j => xs1 (ix2 k j)) (fun j d => x6 (ix2 j d))
    (fun p k => ld_full x0 _ p k) (fun p k => ld_full x1 _ p k) (fun k j => ld_full xs0 _ k j)
    (fun k j => ld_full xs1 _ k j)
    (fun p j => ld_band x2 0 _ p j (lo j) (by show j.val = 0 + j.val; omega)) (fun p j => ld_band x2 1024 _ p j (hi j) rfl) (fun j d => ld_full x6 _ j d) p d

theorem out_B10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (xs0 : Vec Ideal S512x1024 .bf16) (xs1 : Vec Ideal S512x1024 .bf16) (p : Fin 512) (d : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 (ix2 p d) = x1B x0 x1 x2 (fun k j => xs0 (ix2 k j)) (fun k j => xs1 (ix2 k j)) x6 x3 x7 p d := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread]
  refine (canon_hit _ _ _ _ _ _ (ix2 p d) (fun a => by
    match a with
    | ⟨0, _⟩ => show p.val = 0 + p.val; omega
    | ⟨1, _⟩ => show d.val = 0 + d.val; omega)).trans ?_
  exact (pay1_at _ _ _ p d).trans (congrArg₂ (· + ·) (ld_full x3 _ p d) (congrArg₂ (· * ·) (pay21_at _ _ _ _ _ _ _ (mixB x0 x1 x2 (fun k j => xs0 (ix2 k j)) (fun k j => xs1 (ix2 k j)) x6) (fun p d => pay20_at _ _ _ _ _ _ _ (fun p k => x0 (ix2 p k)) (fun p k => x1 (ix2 p k)) (fun p j => x2 (ix2 p j)) (fun k j => xs0 (ix2 k j)) (fun k j => xs1 (ix2 k j)) (fun j d => x6 (ix2 j d))
    (fun p k => ld_full x0 _ p k) (fun p k => ld_full x1 _ p k) (fun k j => ld_full xs0 _ k j)
    (fun k j => ld_full xs1 _ k j)
    (fun p j => ld_band x2 0 _ p j (lo j) (by show j.val = 0 + j.val; omega)) (fun p j => ld_band x2 1024 _ p j (hi j) rfl) (fun j d => ld_full x6 _ j d) p d) p d) (ld_full x7 _ 0 d)))

theorem out_B11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (hc0 : ¬cond0_0 i) (x0 : Vec Ideal S512x512 .bf16) (x1 : Vec Ideal S512x512 .bf16) (x2 : Vec Ideal S512x2048 .bf16) (x3 : Vec Ideal S512x1024 .f32) (x4 : Vec Ideal S8x512x128 .bf16) (x5 : Vec Ideal S8x512x128 .bf16) (x6 : Vec Ideal S1024x1024 .bf16) (x7 : Vec Ideal S1x1024 .f32) (x8 : Vec Ideal S1x1024 .f32) (xs0 : Vec Ideal S512x1024 .bf16) (xs1 : Vec Ideal S512x1024 .bf16) (p : Fin 512) (d : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 (ix2 p d) = nrm (x1B x0 x1 x2 (fun k j => xs0 (ix2 k j)) (fun k j => xs1 (ix2 k j)) x6 x3 x7 p) d * x8 (ix2 0 d) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread]
  refine (canon_hit _ _ _ _ _ _ (ix2 p d) (fun a => by
    match a with
    | ⟨0, _⟩ => show p.val = 0 + p.val; omega
    | ⟨1, _⟩ => show d.val = 0 + d.val; omega)).trans ?_
  exact (pay2_at _ _ _ _ (x1B x0 x1 x2 (fun k j => xs0 (ix2 k j)) (fun k j => xs1 (ix2 k j)) x6 x3 x7) (fun p d => (pay1_at _ _ _ p d).trans (congrArg₂ (· + ·) (ld_full x3 _ p d) (congrArg₂ (· * ·) (pay21_at _ _ _ _ _ _ _ (mixB x0 x1 x2 (fun k j => xs0 (ix2 k j)) (fun k j => xs1 (ix2 k j)) x6) (fun p d => pay20_at _ _ _ _ _ _ _ (fun p k => x0 (ix2 p k)) (fun p k => x1 (ix2 p k)) (fun p j => x2 (ix2 p j)) (fun k j => xs0 (ix2 k j)) (fun k j => xs1 (ix2 k j)) (fun j d => x6 (ix2 j d))
    (fun p k => ld_full x0 _ p k) (fun p k => ld_full x1 _ p k) (fun k j => ld_full xs0 _ k j)
    (fun k j => ld_full xs1 _ k j)
    (fun p j => ld_band x2 0 _ p j (lo j) (by show j.val = 0 + j.val; omega)) (fun p j => ld_band x2 1024 _ p j (hi j) rfl) (fun j d => ld_full x6 _ j d) p d) p d) (ld_full x7 _ 0 d)))) p d).trans (congrArg _ (ld_full x8 _ 0 d))

end Cert.MixIdeal.Value
end
-- ==== Proof.MixRun.lean ====
/-
  The whole results of the mixing's forward kernel: its steps' blocks put together.
-/
module
public import proofs.«01_k».proof.Proof.Gen.MixIdeal.Value
public import proofs.«01_k».proof.Proof.MixOut
public import proofs.«01_k».proof.Proof.Gen.MixIdeal.Frame
public import Idealize.ShloMosaic.Lib.Pipeline.ValueKit.Tiles
public import Idealize.ShloMosaic.Lib.Pointwise
public import Idealize.ShloMosaic.Lib.Pointwise.Tactic
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
open Idealize.ShloMosaic.Pipeline (Dat)
open scoped BigOperators
namespace Cert.MixIdeal.Value
open Cert.MixIdeal Cert.MixIdeal.Gen
open Cert.InprojIdeal.Value (canon_hit canon_miss ld_full)

variable (m : (ℓ : Loc nD τ sig) → Buf (Elt Ideal) ℓ) (c : Dev nD)

/-- Row `p` of tile `b`. -/
def tok (b : Fin 8) (p : Fin 512) : Fin 4096 := ⟨512 * b.val + p.val, by have := b.isLt; have := p.isLt; omega⟩
/-- The grid point of tile `b`. -/
def pt (b : Fin 8) : Fin cfg0.N := ⟨b.val, b.isLt⟩

theorem index_0 : ∀ b : Fin 8, win0_0.index (pt b) 0 = b.val ∧ win0_0.index (pt b) 1 = 0 := by decide +kernel
theorem index_1 : ∀ b : Fin 8, win0_1.index (pt b) 0 = b.val ∧ win0_1.index (pt b) 1 = 0 := by decide +kernel
theorem index_2 : ∀ b : Fin 8, win0_2.index (pt b) 0 = b.val ∧ win0_2.index (pt b) 1 = 0 := by decide +kernel
theorem index_3 : ∀ b : Fin 8, win0_3.index (pt b) 0 = b.val ∧ win0_3.index (pt b) 1 = 0 := by decide +kernel
theorem index_4 : ∀ b : Fin 8, win0_4.index (pt b) 0 = 0 ∧ win0_4.index (pt b) 1 = 0 ∧ win0_4.index (pt b) 2 = 0 := by decide +kernel
theorem index_5 : ∀ b : Fin 8, win0_5.index (pt b) 0 = 0 ∧ win0_5.index (pt b) 1 = 0 ∧ win0_5.index (pt b) 2 = 0 := by decide +kernel
theorem index_6 : ∀ b : Fin 8, win0_6.index (pt b) 0 = 0 ∧ win0_6.index (pt b) 1 = 0 := by decide +kernel
theorem index_7 : ∀ b : Fin 8, win0_7.index (pt b) 0 = 0 ∧ win0_7.index (pt b) 1 = 0 := by decide +kernel
theorem index_8 : ∀ b : Fin 8, win0_8.index (pt b) 0 = 0 ∧ win0_8.index (pt b) 1 = 0 := by decide +kernel
theorem index_9 : ∀ b : Fin 8, win0_9.index (pt b) 0 = b.val ∧ win0_9.index (pt b) 1 = 0 := by decide +kernel
theorem index_10 : ∀ b : Fin 8, win0_10.index (pt b) 0 = b.val ∧ win0_10.index (pt b) 1 = 0 := by decide +kernel
theorem index_11 : ∀ b : Fin 8, win0_11.index (pt b) 0 = b.val ∧ win0_11.index (pt b) 1 = 0 := by decide +kernel

/-- Argument 0 in memory. -/
abbrev a0 : Vec Ideal S4096x512 .bf16 := m ((c : Thread nD τ).loc main_arg0)
/-- Argument 1 in memory. -/
abbrev a1 : Vec Ideal S4096x512 .bf16 := m ((c : Thread nD τ).loc main_arg1)
/-- Argument 2 in memory. -/
abbrev a2 : Vec Ideal S4096x2048 .bf16 := m ((c : Thread nD τ).loc main_arg2)
/-- Argument 3 in memory. -/
abbrev a3 : Vec Ideal S4096x1024 .f32 := m ((c : Thread nD τ).loc main_arg3)
/-- Argument 4 in memory. -/
abbrev a4 : Vec Ideal S8x512x128 .bf16 := m ((c : Thread nD τ).loc main_arg4)
/-- Argument 5 in memory. -/
abbrev a5 : Vec Ideal S8x512x128 .bf16 := m ((c : Thread nD τ).loc main_arg5)
/-- Argument 6 in memory. -/
abbrev a6 : Vec Ideal S1024x1024 .bf16 := m ((c : Thread nD τ).loc main_arg6)
/-- Argument 7 in memory. -/
abbrev a7 : Vec Ideal S1x1024 .f32 := m ((c : Thread nD τ).loc main_arg7)
/-- Argument 8 in memory. -/
abbrev a8 : Vec Ideal S1x1024 .f32 := m ((c : Thread nD τ).loc main_arg8)

theorem blk0 (b : Fin 8) (p : Fin 512) (d : Fin 512) : (iblk m c 0 (pt b) : Vec Ideal S512x512 .bf16) (ix2 p d) = a0 m c (ix2 (tok b p) d) := by
  unfold iblk
  rw [View.read_apply]
  show V m c main_arg0 _ = m (c.tc.loc main_arg0) _
  refine (congrFun (V_main_arg0 m c) _).trans (congrArg _ ?_)
  funext a
  apply Fin.ext
  match a with
  | ⟨0, _⟩ => show win0_0.index (pt b) 0 * 512 + 1 * p.val = 512 * b.val + p.val; rw [(index_0 b).1]; omega
  | ⟨1, _⟩ => show win0_0.index (pt b) 1 * 512 + 1 * d.val = d.val; rw [(index_0 b).2]; omega

theorem blk1 (b : Fin 8) (p : Fin 512) (d : Fin 512) : (iblk m c 1 (pt b) : Vec Ideal S512x512 .bf16) (ix2 p d) = a1 m c (ix2 (tok b p) d) := by
  unfold iblk
  rw [View.read_apply]
  show V m c main_arg1 _ = m (c.tc.loc main_arg1) _
  refine (congrFun (V_main_arg1 m c) _).trans (congrArg _ ?_)
  funext a
  apply Fin.ext
  match a with
  | ⟨0, _⟩ => show win0_1.index (pt b) 0 * 512 + 1 * p.val = 512 * b.val + p.val; rw [(index_1 b).1]; omega
  | ⟨1, _⟩ => show win0_1.index (pt b) 1 * 512 + 1 * d.val = d.val; rw [(index_1 b).2]; omega

theorem blk2 (b : Fin 8) (p : Fin 512) (d : Fin 2048) : (iblk m c 2 (pt b) : Vec Ideal S512x2048 .bf16) (ix2 p d) = a2 m c (ix2 (tok b p) d) := by
  unfold iblk
  rw [View.read_apply]
  show V m c main_arg2 _ = m (c.tc.loc main_arg2) _
  refine (congrFun (V_main_arg2 m c) _).trans (congrArg _ ?_)
  funext a
  apply Fin.ext
  match a with
  | ⟨0, _⟩ => show win0_2.index (pt b) 0 * 512 + 1 * p.val = 512 * b.val + p.val; rw [(index_2 b).1]; omega
  | ⟨1, _⟩ => show win0_2.index (pt b) 1 * 2048 + 1 * d.val = d.val; rw [(index_2 b).2]; omega

theorem blk3 (b : Fin 8) (p : Fin 512) (d : Fin 1024) : (iblk m c 3 (pt b) : Vec Ideal S512x1024 .f32) (ix2 p d) = a3 m c (ix2 (tok b p) d) := by
  unfold iblk
  rw [View.read_apply]
  show V m c main_arg3 _ = m (c.tc.loc main_arg3) _
  refine (congrFun (V_main_arg3 m c) _).trans (congrArg _ ?_)
  funext a
  apply Fin.ext
  match a with
  | ⟨0, _⟩ => show win0_3.index (pt b) 0 * 512 + 1 * p.val = 512 * b.val + p.val; rw [(index_3 b).1]; omega
  | ⟨1, _⟩ => show win0_3.index (pt b) 1 * 1024 + 1 * d.val = d.val; rw [(index_3 b).2]; omega

theorem blk6 (b : Fin 8) (p : Fin 1024) (d : Fin 1024) : (iblk m c 6 (pt b) : Vec Ideal S1024x1024 .bf16) (ix2 p d) = a6 m c (ix2 p d) := by
  unfold iblk
  rw [View.read_apply]
  show V m c main_arg6 _ = m (c.tc.loc main_arg6) _
  refine (congrFun (V_main_arg6 m c) _).trans (congrArg _ ?_)
  funext a
  apply Fin.ext
  match a with
  | ⟨0, _⟩ => show win0_6.index (pt b) 0 * 1024 + 1 * p.val = p.val; rw [(index_6 b).1]; omega
  | ⟨1, _⟩ => show win0_6.index (pt b) 1 * 1024 + 1 * d.val = d.val; rw [(index_6 b).2]; omega

theorem blk7 (b : Fin 8) (p : Fin 1) (d : Fin 1024) : (iblk m c 7 (pt b) : Vec Ideal S1x1024 .f32) (ix2 p d) = a7 m c (ix2 p d) := by
  unfold iblk
  rw [View.read_apply]
  show V m c main_arg7 _ = m (c.tc.loc main_arg7) _
  refine (congrFun (V_main_arg7 m c) _).trans (congrArg _ ?_)
  funext a
  apply Fin.ext
  match a with
  | ⟨0, _⟩ => show win0_7.index (pt b) 0 * 1 + 1 * p.val = p.val; rw [(index_7 b).1]; omega
  | ⟨1, _⟩ => show win0_7.index (pt b) 1 * 1024 + 1 * d.val = d.val; rw [(index_7 b).2]; omega

theorem blk8 (b : Fin 8) (p : Fin 1) (d : Fin 1024) : (iblk m c 8 (pt b) : Vec Ideal S1x1024 .f32) (ix2 p d) = a8 m c (ix2 p d) := by
  unfold iblk
  rw [View.read_apply]
  show V m c main_arg8 _ = m (c.tc.loc main_arg8) _
  refine (congrFun (V_main_arg8 m c) _).trans (congrArg _ ?_)
  funext a
  apply Fin.ext
  match a with
  | ⟨0, _⟩ => show win0_8.index (pt b) 0 * 1 + 1 * p.val = p.val; rw [(index_8 b).1]; omega
  | ⟨1, _⟩ => show win0_8.index (pt b) 1 * 1024 + 1 * d.val = d.val; rw [(index_8 b).2]; omega

theorem blk4 (b : Fin 8) (s : Fin 8) (p : Fin 512) (d : Fin 128) : (iblk m c 4 (pt b) : Vec Ideal S8x512x128 .bf16) (ix3 s p d) = a4 m c (ix3 s p d) := by
  unfold iblk
  rw [View.read_apply]
  show V m c main_arg4 _ = m (c.tc.loc main_arg4) _
  refine (congrFun (V_main_arg4 m c) _).trans (congrArg _ ?_)
  funext a
  apply Fin.ext
  match a with
  | ⟨0, _⟩ => show win0_4.index (pt b) 0 * 8 + 1 * s.val = s.val; rw [(index_4 b).1]; omega
  | ⟨1, _⟩ => show win0_4.index (pt b) 1 * 512 + 1 * p.val = p.val; rw [(index_4 b).2.1]; omega
  | ⟨2, _⟩ => show win0_4.index (pt b) 2 * 128 + 1 * d.val = d.val; rw [(index_4 b).2.2]; omega

theorem blk5 (b : Fin 8) (s : Fin 8) (p : Fin 512) (d : Fin 128) : (iblk m c 5 (pt b) : Vec Ideal S8x512x128 .bf16) (ix3 s p d) = a5 m c (ix3 s p d) := by
  unfold iblk
  rw [View.read_apply]
  show V m c main_arg5 _ = m (c.tc.loc main_arg5) _
  refine (congrFun (V_main_arg5 m c) _).trans (congrArg _ ?_)
  funext a
  apply Fin.ext
  match a with
  | ⟨0, _⟩ => show win0_5.index (pt b) 0 * 8 + 1 * s.val = s.val; rw [(index_5 b).1]; omega
  | ⟨1, _⟩ => show win0_5.index (pt b) 1 * 512 + 1 * p.val = p.val; rw [(index_5 b).2.1]; omega
  | ⟨2, _⟩ => show win0_5.index (pt b) 2 * 128 + 1 * d.val = d.val; rw [(index_5 b).2.2]; omega

theorem outs_eq (n n' : Nat) (h : n < cfg0.N) (h' : n' < cfg0.N) (e : n = n') : outsAt0 m c n h = outsAt0 m c n' h' := by
  subst e
  rfl

/-- The kept weight 0 holds the shards side by side after every step. -/
theorem kept0 : ∀ (n : ℕ) (hn : n < 8) (k : Fin 512) (j : Fin 1024),
    ((outsAt0 m c (pt ⟨n, hn⟩).val (pt ⟨n, hn⟩).isLt).2.2.2.1 : Vec Ideal S512x1024 .bf16) (ix2 k j) = band (sh (a4 m c)) k j
  | 0, hn, k, j => by
    rw [outsAt0_A m c (pt ⟨0, hn⟩) (by rfl)]
    dsimp only
    rw [keep_A0]
    exact blk4 m c ⟨0, hn⟩ _ _ _
  | n + 1, hn, k, j => by
    rw [outsAt0_B m c (pt ⟨n + 1, hn⟩) (by show ¬ (n + 1) % 8 = 0; omega)]
    dsimp only
    unfold sout0_B_0
    rw [outs_eq m c ((pt ⟨n + 1, hn⟩).val - 1) (pt ⟨n, by omega⟩).val _ (pt ⟨n, by omega⟩).isLt rfl]
    exact kept0 n (by omega) k j

/-- The kept weight 1 holds the shards side by side after every step. -/
theorem kept1 : ∀ (n : ℕ) (hn : n < 8) (k : Fin 512) (j : Fin 1024),
    ((outsAt0 m c (pt ⟨n, hn⟩).val (pt ⟨n, hn⟩).isLt).2.2.2.2 : Vec Ideal S512x1024 .bf16) (ix2 k j) = band (sh (a5 m c)) k j
  | 0, hn, k, j => by
    rw [outsAt0_A m c (pt ⟨0, hn⟩) (by rfl)]
    dsimp only
    rw [keep_A1]
    exact blk5 m c ⟨0, hn⟩ _ _ _
  | n + 1, hn, k, j => by
    rw [outsAt0_B m c (pt ⟨n + 1, hn⟩) (by show ¬ (n + 1) % 8 = 0; omega)]
    dsimp only
    unfold sout0_B_1
    rw [outs_eq m c ((pt ⟨n + 1, hn⟩).val - 1) (pt ⟨n, by omega⟩).val _ (pt ⟨n, by omega⟩).isLt rfl]
    exact kept1 n (by omega) k j

/-- The mixed output from the arguments. -/
def mixA (t : Fin 4096) : Fin 1024 → EReal :=
  mixE (fun k => a0 m c (ix2 t k)) (fun k => a1 m c (ix2 t k)) (fun j => a2 m c (ix2 t j)) (band (sh (a4 m c))) (band (sh (a5 m c))) (fun j d => a6 m c (ix2 j d))

/-- The residual stream after the mixing, from the arguments. -/
def x1A (t : Fin 4096) : Fin 1024 → EReal := x1E (fun d => a3 m c (ix2 t d)) (mixA m c t) (fun d => a7 m c (ix2 0 d))

/-- Its norm, from the arguments. -/
def h2A (t : Fin 4096) (d : Fin 1024) : EReal := nrm (x1A m c t) d * a8 m c (ix2 0 d)

theorem mix_blk (b : Fin 8) (wp wa : Fin 512 → Fin 1024 → EReal) (hp : wp = band (sh (a4 m c))) (ha : wa = band (sh (a5 m c))) (p : Fin 512) :
    mixB (iblk m c 0 (pt b)) (iblk m c 1 (pt b)) (iblk m c 2 (pt b)) wp wa (iblk m c 6 (pt b)) p = mixA m c (tok b p) := by
  subst hp ha
  have e0 : (fun k => (iblk m c 0 (pt b) : Vec Ideal S512x512 .bf16) (ix2 p k)) = fun k => a0 m c (ix2 (tok b p) k) := funext fun k => blk0 m c b p k
  have e1 : (fun k => (iblk m c 1 (pt b) : Vec Ideal S512x512 .bf16) (ix2 p k)) = fun k => a1 m c (ix2 (tok b p) k) := funext fun k => blk1 m c b p k
  have e2 : (fun k => (iblk m c 2 (pt b) : Vec Ideal S512x2048 .bf16) (ix2 p k)) = fun k => a2 m c (ix2 (tok b p) k) := funext fun k => blk2 m c b p k
  have e6 : (fun j d => (iblk m c 6 (pt b) : Vec Ideal S1024x1024 .bf16) (ix2 j d)) = fun j d => a6 m c (ix2 j d) := funext fun j => funext fun d => blk6 m c b j d
  unfold mixB mixA
  rw [e0, e1, e2, e6]

theorem x1_blk (b : Fin 8) (wp wa : Fin 512 → Fin 1024 → EReal) (hp : wp = band (sh (a4 m c))) (ha : wa = band (sh (a5 m c))) (p : Fin 512) :
    x1B (iblk m c 0 (pt b)) (iblk m c 1 (pt b)) (iblk m c 2 (pt b)) wp wa (iblk m c 6 (pt b)) (iblk m c 3 (pt b)) (iblk m c 7 (pt b)) p = x1A m c (tok b p) := by
  have e3 : (fun d => (iblk m c 3 (pt b) : Vec Ideal S512x1024 .f32) (ix2 p d)) = fun d => a3 m c (ix2 (tok b p) d) := funext fun d => blk3 m c b p d
  have e7 : (fun d => (iblk m c 7 (pt b) : Vec Ideal S1x1024 .f32) (ix2 0 d)) = fun d => a7 m c (ix2 0 d) := funext fun d => blk7 m c b 0 d
  unfold x1B x1A
  rw [mix_blk m c b wp wa hp ha p, e3, e7]

theorem shA4 (b : Fin 8) : band (sh (iblk m c 4 (pt b))) = band (sh (a4 m c)) := congrArg band (funext fun s => funext fun k => funext fun e => blk4 m c b s k e)
theorem shA5 (b : Fin 8) : band (sh (iblk m c 5 (pt b))) = band (sh (a5 m c)) := congrArg band (funext fun s => funext fun k => funext fun e => blk5 m c b s k e)

theorem before0 (b : Fin 8) (h0 : ¬ (pt b).val % 8 = 0) (h) :
    (fun k j => ((outsAt0 m c ((pt b).val - 1) h).2.2.2.1 : Vec Ideal S512x1024 .bf16) (ix2 k j)) = band (sh (a4 m c)) := by
  have hb := b.isLt
  have h0' : ¬ b.val % 8 = 0 := h0
  rw [outs_eq m c ((pt b).val - 1) (pt ⟨b.val - 1, by omega⟩).val h (pt ⟨b.val - 1, by omega⟩).isLt rfl]
  exact funext fun k => funext fun j => kept0 m c (b.val - 1) (by omega) k j
theorem before1 (b : Fin 8) (h0 : ¬ (pt b).val % 8 = 0) (h) :
    (fun k j => ((outsAt0 m c ((pt b).val - 1) h).2.2.2.2 : Vec Ideal S512x1024 .bf16) (ix2 k j)) = band (sh (a5 m c)) := by
  have hb := b.isLt
  have h0' : ¬ b.val % 8 = 0 := h0
  rw [outs_eq m c ((pt b).val - 1) (pt ⟨b.val - 1, by omega⟩).val h (pt ⟨b.val - 1, by omega⟩).isLt rfl]
  exact funext fun k => funext fun j => kept1 m c (b.val - 1) (by omega) k j

/-- The mixed output at row `p` of tile `b`. -/
theorem run9 (b : Fin 8) (p : Fin 512) (d : Fin 1024) :
    ((dats m 0 c).arrAt 9 cfg0.N : Vec Ideal S4096x1024 .f32) (ix2 (tok b p) d) = mixA m c (tok b p) d := by
  have he : ((cfg0.win 9).blk (pt b)).view.emb (ix2 p d : S512x1024.Idx) = (ix2 (tok b p) d : S4096x1024.Idx) := by
    funext a
    apply Fin.ext
    match a with
    | ⟨0, _⟩ => show win0_9.index (pt b) 0 * 512 + 1 * p.val = 512 * b.val + p.val; rw [(index_9 b).1]; omega
    | ⟨1, _⟩ => show win0_9.index (pt b) 1 * 1024 + 1 * d.val = d.val; rw [(index_9 b).2]; omega
  have h := (dats m 0 c).arrAt_emb_eq_flushed 9 disjoint9 (pt b) (flush0_9 (pt b)) (ix2 p d : S512x1024.Idx)
  rw [he] at h
  have hcut : ∀ X, (cfg0.win 9).cut (grid0.coords (pt b)) X (ix2 p d : S512x1024.Idx) = (X : Vec Ideal S512x1024 .f32) (ix2 p d) := fun _ => rfl
  refine h.trans ?_
  rw [cast_eq]
  by_cases h0 : (pt b).val % 8 = 0
  · rw [flushed9_A m c (pt b) h0, hcut, out_A9]
    exact congrFun (mix_blk m c b _ _ (shA4 m c b) (shA5 m c b) p) d
  · rw [flushed9_B m c (pt b) h0, hcut, out_B9]
    exact congrFun (mix_blk m c b _ _ (before0 m c b h0 _) (before1 m c b h0 _) p) d

/-- The mixed output. -/
theorem run9' (t : Fin 4096) (d : Fin 1024) :
    ((dats m 0 c).arrAt 9 cfg0.N : Vec Ideal S4096x1024 .f32) (ix2 t d) = mixA m c t d := by
  have ht := t.isLt
  have e : t = tok ⟨t.val / 512, by omega⟩ ⟨t.val % 512, by omega⟩ := Fin.ext (by show t.val = 512 * (t.val / 512) + t.val % 512; omega)
  rw [e]
  exact run9 m c _ _ d

/-- The residual stream at row `p` of tile `b`. -/
theorem run10 (b : Fin 8) (p : Fin 512) (d : Fin 1024) :
    ((dats m 0 c).arrAt 10 cfg0.N : Vec Ideal S4096x1024 .f32) (ix2 (tok b p) d) = x1A m c (tok b p) d := by
  have he : ((cfg0.win 10).blk (pt b)).view.emb (ix2 p d : S512x1024.Idx) = (ix2 (tok b p) d : S4096x1024.Idx) := by
    funext a
    apply Fin.ext
    match a with
    | ⟨0, _⟩ => show win0_10.index (pt b) 0 * 512 + 1 * p.val = 512 * b.val + p.val; rw [(index_10 b).1]; omega
    | ⟨1, _⟩ => show win0_10.index (pt b) 1 * 1024 + 1 * d.val = d.val; rw [(index_10 b).2]; omega
  have h := (dats m 0 c).arrAt_emb_eq_flushed 10 disjoint10 (pt b) (flush0_10 (pt b)) (ix2 p d : S512x1024.Idx)
  rw [he] at h
  have hcut : ∀ X, (cfg0.win 10).cut (grid0.coords (pt b)) X (ix2 p d : S512x1024.Idx) = (X : Vec Ideal S512x1024 .f32) (ix2 p d) := fun _ => rfl
  refine h.trans ?_
  rw [cast_eq]
  by_cases h0 : (pt b).val % 8 = 0
  · rw [flushed10_A m c (pt b) h0, hcut, out_A10]
    exact congrFun (x1_blk m c b _ _ (shA4 m c b) (shA5 m c b) p) d
  · rw [flushed10_B m c (pt b) h0, hcut, out_B10]
    exact congrFun (x1_blk m c b _ _ (before0 m c b h0 _) (before1 m c b h0 _) p) d

/-- The residual stream. -/
theorem run10' (t : Fin 4096) (d : Fin 1024) :
    ((dats m 0 c).arrAt 10 cfg0.N : Vec Ideal S4096x1024 .f32) (ix2 t d) = x1A m c t d := by
  have ht := t.isLt
  have e : t = tok ⟨t.val / 512, by omega⟩ ⟨t.val % 512, by omega⟩ := Fin.ext (by show t.val = 512 * (t.val / 512) + t.val % 512; omega)
  rw [e]
  exact run10 m c _ _ d

/-- Its norm at row `p` of tile `b`. -/
theorem run11 (b : Fin 8) (p : Fin 512) (d : Fin 1024) :
    ((dats m 0 c).arrAt 11 cfg0.N : Vec Ideal S4096x1024 .bf16) (ix2 (tok b p) d) = h2A m c (tok b p) d := by
  have he : ((cfg0.win 11).blk (pt b)).view.emb (ix2 p d : S512x1024.Idx) = (ix2 (tok b p) d : S4096x1024.Idx) := by
    funext a
    apply Fin.ext
    match a with
    | ⟨0, _⟩ => show win0_11.index (pt b) 0 * 512 + 1 * p.val = 512 * b.val + p.val; rw [(index_11 b).1]; omega
    | ⟨1, _⟩ => show win0_11.index (pt b) 1 * 1024 + 1 * d.val = d.val; rw [(index_11 b).2]; omega
  have h := (dats m 0 c).arrAt_emb_eq_flushed 11 disjoint11 (pt b) (flush0_11 (pt b)) (ix2 p d : S512x1024.Idx)
  rw [he] at h
  have hcut : ∀ X, (cfg0.win 11).cut (grid0.coords (pt b)) X (ix2 p d : S512x1024.Idx) = (X : Vec Ideal S512x1024 .bf16) (ix2 p d) := fun _ => rfl
  refine h.trans ?_
  rw [cast_eq]
  by_cases h0 : (pt b).val % 8 = 0
  · rw [flushed11_A m c (pt b) h0, hcut, out_A11]
    rw [x1_blk m c b _ _ (shA4 m c b) (shA5 m c b) p, blk8]
    rfl
  · rw [flushed11_B m c (pt b) h0, hcut, out_B11]
    rw [x1_blk m c b _ _ (before0 m c b h0 _) (before1 m c b h0 _) p, blk8]
    rfl

/-- Its norm. -/
theorem run11' (t : Fin 4096) (d : Fin 1024) :
    ((dats m 0 c).arrAt 11 cfg0.N : Vec Ideal S4096x1024 .bf16) (ix2 t d) = h2A m c t d := by
  have ht := t.isLt
  have e : t = tok ⟨t.val / 512, by omega⟩ ⟨t.val % 512, by omega⟩ := Fin.ext (by show t.val = 512 * (t.val / 512) + t.val % 512; omega)
  rw [e]
  exact run11 m c _ _ d

end Cert.MixIdeal.Value
end
-- ==== Proof.MixRef.lean ====
/-
  The reference of the mixing's forward pass, entry by entry.
-/
module
public import proofs.«01_k».proof.Proof.Gen.MixRefIdeal.Read
public import proofs.«01_k».proof.Proof.MixPay
public import Idealize.ShloMosaic.Lib.Pointwise
public import Idealize.ShloMosaic.Lib.Pointwise.Tactic
public import Idealize.ShloMosaic.Lib.Tactic
@[expose] public section
set_option maxRecDepth 16384
noncomputable section
open Idealize.ShloMosaic Idealize.ShloMosaic.TcCoe Idealize.SL.Sem
open scoped BigOperators
namespace Cert.MixRefIdeal.Read
open Cert.MixRefIdeal Cert.MixRefIdeal.Gen
open Cert.MixIdeal.Value (band mixE nrm x1E lo hi)

/-- The stage `v9`. -/
theorem v9_at (x0 : FVec Ideal S4096x512 .bf16) (x4 : FVec Ideal S8x512x128 .bf16) (t : Fin 4096) (j : Fin 1024) :
    val_main_v9 (F := Ideal) x0 x4 (ix2 t j) = ∑ k : Fin 512, x0 (ix2 t k) * band (fun s k e => x4 (ix3 s k e)) k j := by
  rw [val_main_v9_apply, val_main_v8_apply]
  have ht := t.isLt
  have hj := j.isLt
  refine Finset.sum_congr rfl fun k _ => congrArg₂ (· * ·) ?_ ?_
  · show x0 _ = x0 _
    refine congrArg x0 (funext fun a => Fin.ext ?_)
    match a with
    | ⟨0, _⟩ => show (t.val * 1024 + j.val) / 1024 = t.val; omega
    | ⟨1, _⟩ => rfl
  · show x4 _ = x4 _
    refine congrArg x4 (funext fun a => Fin.ext ?_)
    match a with
    | ⟨0, _⟩ => show (t.val * 1024 + j.val) / 128 % 8 = j.val / 128; omega
    | ⟨1, _⟩ => rfl
    | ⟨2, _⟩ => show (t.val * 1024 + j.val) % 128 = j.val % 128; omega

/-- The stage `v12`. -/
theorem v12_at (x1 : FVec Ideal S4096x512 .bf16) (x5 : FVec Ideal S8x512x128 .bf16) (t : Fin 4096) (j : Fin 1024) :
    val_main_v12 (F := Ideal) x1 x5 (ix2 t j) = ∑ k : Fin 512, x1 (ix2 t k) * band (fun s k e => x5 (ix3 s k e)) k j := by
  rw [val_main_v12_apply, val_main_v11_apply]
  have ht := t.isLt
  have hj := j.isLt
  refine Finset.sum_congr rfl fun k _ => congrArg₂ (· * ·) ?_ ?_
  · show x1 _ = x1 _
    refine congrArg x1 (funext fun a => Fin.ext ?_)
    match a with
    | ⟨0, _⟩ => show (t.val * 1024 + j.val) / 1024 = t.val; omega
    | ⟨1, _⟩ => rfl
  · show x5 _ = x5 _
    refine congrArg x5 (funext fun a => Fin.ext ?_)
    match a with
    | ⟨0, _⟩ => show (t.val * 1024 + j.val) / 128 % 8 = j.val / 128; omega
    | ⟨1, _⟩ => rfl
    | ⟨2, _⟩ => show (t.val * 1024 + j.val) % 128 = j.val % 128; omega

section
variable (x0 x1 : FVec Ideal S4096x512 .bf16) (x2 : FVec Ideal S4096x2048 .bf16) (x3 : FVec Ideal S4096x1024 .f32) (x4 x5 : FVec Ideal S8x512x128 .bf16)
  (x6 : FVec Ideal S1024x1024 .bf16) (x7 x8 : FVec Ideal S1x1024 .f32)

/-- The mixed output, row by row. -/
def mixR (t : Fin 4096) : Fin 1024 → EReal :=
  mixE (fun k => x0 (ix2 t k)) (fun k => x1 (ix2 t k)) (fun j => x2 (ix2 t j)) (band fun s k e => x4 (ix3 s k e)) (band fun s k e => x5 (ix3 s k e)) (fun j d => x6 (ix2 j d))

/-- The residual stream after the mixing, row by row. -/
def x1R (t : Fin 4096) : Fin 1024 → EReal := x1E (fun d => x3 (ix2 t d)) (mixR x0 x1 x2 x4 x5 x6 t) (fun d => x7 (ix2 0 d))

/-- The stage `v15`. -/
theorem v15_at (t : Fin 4096) (d : Fin 1024) : val_main_v15 (F := Ideal) x0 x1 x2 x4 x5 x6 (ix2 t d) = mixR x0 x1 x2 x4 x5 x6 t d := by
  have h9 := v9_at x0 x4
  have h12 := v12_at x1 x5
  unfold mixR mixE val_main_v15 val_main_v14 val_main_v13 val_main_v10 val_main_v5
  generalize val_main_v9 (F := Ideal) x0 x4 = y9 at h9
  generalize val_main_v12 (F := Ideal) x1 x5 = y12 at h12
  unfold val_main_v6 val_main_v7 val_main_v2
  pointwise [dot_S4096x1024_S1024x1024_S4096x1024_1_0_0_1_n_n]
  simp only [h9, h12]
  rfl

/-- The stage `v25`. -/
theorem v25_at (t : Fin 4096) (d : Fin 1024) : val_main_v25 (F := Ideal) x0 x1 x2 x4 x5 x6 (ix2 t d) = nrm (mixR x0 x1 x2 x4 x5 x6 t) d := by
  have h := v15_at x0 x1 x2 x4 x5 x6
  unfold nrm val_main_v25 val_main_v24 val_main_v23 val_main_v22 val_main_v20 val_main_v18 val_main_v17 val_main_v16 val_main_v19 val_main_v21 val_main_cst val_main_cst_0 val_main_cst_1
  generalize val_main_v15 (F := Ideal) x0 x1 x2 x4 x5 x6 = y at h
  pointwise
  simp only [h, zero_add]
  try rfl

/-- The stage `v28`. -/
theorem v28_at (t : Fin 4096) (d : Fin 1024) : val_main_v28 (F := Ideal) x0 x1 x2 x3 x4 x5 x6 x7 (ix2 t d) = x1R x0 x1 x2 x3 x4 x5 x6 x7 t d := by
  have h := v25_at x0 x1 x2 x4 x5 x6
  unfold x1R x1E val_main_v28 val_main_v27 val_main_v26
  generalize val_main_v25 (F := Ideal) x0 x1 x2 x4 x5 x6 = y at h
  pointwise
  rw [h]

/-- The stage `v41`. -/
theorem v41_at (t : Fin 4096) (d : Fin 1024) :
    val_main_v41 (F := Ideal) x0 x1 x2 x3 x4 x5 x6 x7 x8 (ix2 t d) = nrm (x1R x0 x1 x2 x3 x4 x5 x6 x7 t) d * x8 (ix2 0 d) := by
  have h := v28_at x0 x1 x2 x3 x4 x5 x6 x7
  unfold nrm val_main_v41 val_main_v40 val_main_v39 val_main_v38 val_main_v37 val_main_v36 val_main_v35 val_main_v33 val_main_v31 val_main_v30 val_main_v29 val_main_v32 val_main_v34 val_main_cst_2 val_main_cst_3 val_main_cst_4
  generalize val_main_v28 (F := Ideal) x0 x1 x2 x3 x4 x5 x6 x7 = y at h
  pointwise
  simp only [h, zero_add]
  try rfl
end

end Cert.MixRefIdeal.Read
end
-- ==== Proof.MixCert.lean ====
/-
  The certificate of the mixing's forward pass: both programs run, and to the same three results.
-/
module
public import proofs.«01_k».proof.Defs
public import proofs.«01_k».proof.Proof.MixRun
public import proofs.«01_k».proof.Proof.MixRef
public import proofs.«01_k».proof.Proof.Gen.Mix
public import proofs.«01_k».proof.Proof.Gen.MixIdeal
public import proofs.«01_k».proof.Proof.Gen.MixRefIdeal.Run
@[expose] public section
set_option maxRecDepth 16384
noncomputable section
open Idealize.ShloMosaic Idealize.ShloMosaic.TcCoe Idealize.ShloMosaic.Tactic Idealize.SL.Sem

namespace Cert.Proof.Mix
open Cert.MixIdeal Cert.MixIdeal.Gen

/-- The reference terminates with its arguments as they were and every counter at zero. -/
theorem frame_ref : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

section
variable {x0 x0' x1 x1' : FVec Ideal S4096x512 .bf16} {x2 x2' : FVec Ideal S4096x2048 .bf16} {x3 x3' : FVec Ideal S4096x1024 .f32} {x4 x4' x5 x5' : FVec Ideal S8x512x128 .bf16}
  {x6 x6' : FVec Ideal S1024x1024 .bf16} {x7 x7' x8 x8' : FVec Ideal S1x1024 .f32}
  (e0 : x0 = x0') (e1 : x1 = x1') (e2 : x2 = x2') (e3 : x3 = x3') (e4 : x4 = x4') (e5 : x5 = x5') (e6 : x6 = x6') (e7 : x7 = x7') (e8 : x8 = x8')

include e0 e1 e2 e4 e5 e6 in
/-- Equal arguments give the same mixed output. -/
theorem congr_15 : Cert.MixRefIdeal.Read.val_main_v15 (F := Ideal) x0 x1 x2 x4 x5 x6 = Cert.MixRefIdeal.Read.val_main_v15 (F := Ideal) x0' x1' x2' x4' x5' x6' := by
  subst e0 e1 e2 e4 e5 e6
  rfl

include e0 e1 e2 e3 e4 e5 e6 e7 in
/-- Equal arguments give the same residual stream. -/
theorem congr_28 : Cert.MixRefIdeal.Read.val_main_v28 (F := Ideal) x0 x1 x2 x3 x4 x5 x6 x7 = Cert.MixRefIdeal.Read.val_main_v28 (F := Ideal) x0' x1' x2' x3' x4' x5' x6' x7' := by
  subst e0 e1 e2 e3 e4 e5 e6 e7
  rfl

include e0 e1 e2 e3 e4 e5 e6 e7 e8 in
/-- Equal arguments give the same normed residual stream. -/
theorem congr_41 : Cert.MixRefIdeal.Read.val_main_v41 (F := Ideal) x0 x1 x2 x3 x4 x5 x6 x7 x8 = Cert.MixRefIdeal.Read.val_main_v41 (F := Ideal) x0' x1' x2' x3' x4' x5' x6' x7' x8' := by
  subst e0 e1 e2 e3 e4 e5 e6 e7 e8
  rfl

end

/-- The kernel's mixed output is the reference's. -/
theorem eq_15 (m : (ℓ : Loc nD τ sig) → Buf (Elt Ideal) ℓ) (c : Dev nD) :
    Cert.MixRefIdeal.Read.val_main_v15 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) = (Gen.dats m 0 c).arrAt 9 cfg0.N := by
  funext i
  rw [eq_ix2 i]
  exact (Cert.MixRefIdeal.Read.v15_at _ _ _ _ _ _ (i 0) (i 1)).trans (Value.run9' m c (i 0) (i 1)).symm

/-- The kernel's residual stream is the reference's. -/
theorem eq_28 (m : (ℓ : Loc nD τ sig) → Buf (Elt Ideal) ℓ) (c : Dev nD) :
    Cert.MixRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (Gen.dats m 0 c).arrAt 10 cfg0.N := by
  funext i
  rw [eq_ix2 i]
  exact (Cert.MixRefIdeal.Read.v28_at _ _ _ _ _ _ _ _ (i 0) (i 1)).trans (Value.run10' m c (i 0) (i 1)).symm

/-- The kernel's normed residual stream is the reference's. -/
theorem eq_41 (m : (ℓ : Loc nD τ sig) → Buf (Elt Ideal) ℓ) (c : Dev nD) :
    Cert.MixRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = (Gen.dats m 0 c).arrAt 11 cfg0.N := by
  funext i
  rw [eq_ix2 i]
  exact (Cert.MixRefIdeal.Read.v41_at _ _ _ _ _ _ _ _ _ (i 0) (i 1)).trans (Value.run11' m c (i 0) (i 1)).symm

/-- Both programs run to the same three results. -/
theorem algebraic : Cert.algebraic_MixIdeal_MixRefIdeal := by
  intro m ρ m' ρ' _ hin
  refine ⟨fun c => (Gen.dats m 0 c).arrAt 9 cfg0.N, fun c => (Gen.dats m 0 c).arrAt 10 cfg0.N,
    fun c => (Gen.dats m 0 c).arrAt 11 cfg0.N, Value.run_blocks m ρ, ?_⟩
  refine (θ_run _ _ _).mono (fun r h c => ?_) (Cert.MixRefIdeal.Value.run (F := Ideal) m' ρ')
  obtain ⟨r0, r1, r2, k⟩ := h c
  obtain ⟨e0, e1, e2, e3, e4, e5, e6, e7, e8⟩ := hin c
  refine ⟨?_, ?_, ?_, k⟩
  · refine (r0.trans (Cert.MixRefIdeal.Read.val_main_v15_eq (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6)))).trans ?_
    exact (congr_15 e0 e1 e2 e4 e5 e6).trans (eq_15 m c)
  · refine (r1.trans (Cert.MixRefIdeal.Read.val_main_v28_eq (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6))
      (m' ((c.tc : Thread Cert.MixRefIdeal.nD Cert.MixRefIdeal.τ).loc Cert.MixRefIdeal.main_arg7)))).trans ?_
    exact (congr_28 e0 e1 e2 e3 e4 e5 e6 e7).trans (eq_28 m c)
  · refine (r2.trans (Cert.MixRefIdeal.Read.val_main_v41_eq m' c)).trans ?_
    exact (congr_41 e0 e1 e2 e3 e4 e5 e6 e7 e8).trans (eq_41 m c)

end Cert.Proof.Mix
end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Pre_inproj_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpRefIdeal.Run
public import proofs.«01_k».proof.Proof.Gen.MlpRefIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradRefIdeal.Run
public import proofs.«01_k».proof.Proof.Gen.WgradRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_finite
public import proofs.«01_k».proof.Proof.Gen.Pre_mlp_finite
public import Idealize.ShloMosaic.Adequacy
public import Idealize.ShloMosaic.Init
public import proofs.«01_k».proof.Proof.PoolRun
public import proofs.«01_k».proof.Proof.PoolRef2
public import proofs.«01_k».proof.Proof.PoolFin
public import proofs.«01_k».proof.Proof.MlpCert
public import proofs.«01_k».proof.Proof.InprojCert
public import proofs.«01_k».proof.Proof.WgradCert
public import proofs.«01_k».proof.Proof.ProjCert
public import proofs.«01_k».proof.Proof.MixCert

@[expose] public section

noncomputable section

namespace Cert.Proof

open Idealize.ShloMosaic Idealize.SL.Sem
open Cert.KernelIdeal.Value (row col part wts scl Real' duE dwE dpsE)

namespace Pool

open Cert.KernelIdeal

theorem row_surj (n : Fin 4096) : ∃ (b : Fin 2) (t : Fin 2048), n = row b t :=
  ⟨⟨n.val / 2048, by have := n.isLt; omega⟩, ⟨n.val % 2048, by omega⟩, Fin.ext (by show n.val = 2048 * (n.val / 2048) + n.val % 2048; omega)⟩

theorem col_surj (n : Fin 512) : ∃ (g : Fin 4) (c : Fin 128), n = col g c :=
  ⟨⟨n.val / 128, by have := n.isLt; omega⟩, ⟨n.val % 128, by omega⟩, Fin.ext (by show n.val = 128 * (n.val / 128) + n.val % 128; omega)⟩

variable (m : (ℓ : Loc nD τ sig) → Buf (Elt Ideal) ℓ)

/-- The gradient of the pooled input is the reference's. -/
theorem du_eq (c : Dev nD) (h1 : ∀ i, Real' (Value.aY m c i)) (h2 : ∀ i, Real' (Value.aW m c i)) (h3 : ∀ i, Real' (Value.aP m c i)) :
    ((Gen.dats m 0 c).arrAt 4 cfg0.N : Vec Ideal S4096x512 .bf16)
      = Cert.ReferenceIdeal.Read.val_main_v150 (F := Ideal) (Value.aY m c) (Value.aW m c) (Value.aP m c) := by
  funext i
  obtain ⟨b, t, hr⟩ := row_surj (i 0)
  obtain ⟨g, k, hc⟩ := col_surj (i 1)
  obtain rfl : i = ix2 (row b t) (col g k) := by rw [eq_ix2 i, hr, hc]
  exact (Value.du_run m c b g t k).trans (Cert.ReferenceIdeal.Read.v150_at _ _ _ h1 h2 h3 b t g k).symm

/-- The gradient of the mixing matrices is the reference's. -/
theorem dw_eq (c : Dev nD) (h0 : ∀ i, Real' (Value.aU m c i)) :
    ((Gen.dats m 0 c).arrAt 5 cfg0.N : Vec Ideal S4x128x128 .f32)
      = Cert.ReferenceIdeal.Read.val_main_v94 (F := Ideal) (Value.aU m c) (Value.aY m c) (Value.aP m c) := by
  funext i
  rw [eq_ix3 i]
  exact (Value.dw_run m c (i 0) (i 1) (i 2)).trans (Cert.ReferenceIdeal.Read.v94_at _ _ _ (i 0) (i 1) (i 2) h0).symm

/-- The gradient of the scale is the reference's. -/
theorem dps_eq (c : Dev nD) (h0 : ∀ i, Real' (Value.aU m c i)) :
    ((Gen.dats m 0 c).arrAt 6 cfg0.N : Vec Ideal S1x512 .f32)
      = Cert.ReferenceIdeal.Read.val_main_v148 (F := Ideal) (Value.aU m c) (Value.aY m c) (Value.aW m c) := by
  funext i
  obtain ⟨g, k, hc⟩ := col_surj (i 1)
  obtain rfl : i = ix2 0 (col g k) := by rw [eq_ix2 i, hc]; exact congrArg (fun a => ix2 a (col g k)) (Subsingleton.elim (α := Fin 1) _ _)
  exact (Value.dps_run m c g k).trans (Cert.ReferenceIdeal.Read.v148_at _ _ _ g k h0).symm

theorem cong3 {α β γ δ : Type} (f : α → β → γ → δ) {a a' : α} {b b' : β} {c c' : γ} (ha : a = a') (hb : b = b') (hc : c = c') :
    f a b c = f a' b' c' := by
  subst ha hb hc
  rfl

/-- Both programs run to the same three gradients. -/
theorem algebraic : Cert.algebraic_KernelIdeal_ReferenceIdeal_pre_finite := by
  intro m ρ m' ρ' hpre hin
  refine ⟨fun c => (Gen.dats m 0 c).arrAt 4 cfg0.N, fun c => (Gen.dats m 0 c).arrAt 5 cfg0.N,
    fun c => (Gen.dats m 0 c).arrAt 6 cfg0.N, Value.run_blocks m ρ, ?_⟩
  refine (θ_run _ _ _).mono (fun r h c => ?_) (Cert.ReferenceIdeal.Value.run (F := Ideal) m' ρ')
  obtain ⟨r0, r1, r2, k0, k1, k2, k3⟩ := h c
  obtain ⟨e0, e1, e2, e3⟩ := hin c
  obtain ⟨h0, h1, h2, h3⟩ := Cert.Fin.real_args _ _ _ _ (hpre c)
  refine ⟨?_, ?_, ?_, k0, k1, k2, k3⟩
  · refine (r0.trans (Cert.ReferenceIdeal.Read.val_main_v150_eq _)).trans ?_
    exact (cong3 _ e1 e2 e3).trans (du_eq m c h1 h2 h3).symm
  · refine (r1.trans (Cert.ReferenceIdeal.Read.val_main_v94_eq _)).trans ?_
    exact (cong3 _ e0 e1 e3).trans (dw_eq m c h0).symm
  · refine (r2.trans (Cert.ReferenceIdeal.Read.val_main_v148_eq _)).trans ?_
    exact (cong3 _ e0 e1 e2).trans (dps_eq m c h0).symm

end Pool

/-- The reference terminates with its arguments as they were and every counter at zero. -/
theorem frame_ref : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- The block's reference terminates with its arguments as they were and every counter at zero. -/
theorem frame_mlp_ref : Cert.quiescent_MlpRefIdeal := by
  intro m ρ _
  exact (θ_run Cert.MlpRefIdeal.defs _ _).mono (fun r h => ⟨fun c => (h c).2.2.2.2.2, sem_eq_zero_of_no_sems (by decide) r.2⟩)
    (Cert.MlpRefIdeal.Value.run (F := Ideal) m ρ)

/-- The input projection's reference terminates with its arguments as they were and every counter at zero. -/
theorem frame_inproj_ref : Cert.quiescent_InprojRefIdeal := by
  intro m ρ _
  exact (θ_run Cert.InprojRefIdeal.defs _ _).mono (fun r h => ⟨fun c => (h c).2.2.2, sem_eq_zero_of_no_sems (by decide) r.2⟩)
    (Cert.InprojRefIdeal.Value.run (F := Ideal) m ρ)

theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts,
  Cert.Inproj.Gen.facts, Cert.InprojIdeal.Gen.facts, Cert.InprojRefIdeal.Gen.facts,
  Cert.Wgrad.Gen.facts, Cert.WgradIdeal.Gen.facts, Cert.WgradRefIdeal.Gen.facts,
  Cert.Mix.Gen.facts, Cert.MixIdeal.Gen.facts, Cert.MixRefIdeal.Gen.facts,
  Cert.Proj.Gen.facts, Cert.ProjIdeal.Gen.facts, Cert.ProjRefIdeal.Gen.facts,
  Cert.Pre_finite.Gen.facts, Cert.Pre_mlp_finite.Gen.facts, Cert.Pre_inproj_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Mlp.Gen.frame m ρ, fun m ρ _ => Cert.MlpIdeal.Gen.frame m ρ, fun m ρ _ => Cert.MlpIdeal.Gen.frame m ρ,
  frame_mlp_ref, fun m ρ _ => frame_mlp_ref m ρ trivial,
  fun m ρ _ => Cert.Inproj.Gen.frame m ρ, fun m ρ _ => Cert.InprojIdeal.Gen.frame m ρ, fun m ρ _ => Cert.InprojIdeal.Gen.frame m ρ,
  frame_inproj_ref, fun m ρ _ => frame_inproj_ref m ρ trivial,
  Wgrad.frame_kernel, Wgrad.frame_ideal, Wgrad.frame_ref,
  fun m ρ _ => Cert.Mix.Gen.frame m ρ, fun m ρ _ => Cert.MixIdeal.Gen.frame m ρ, Mix.frame_ref,
  fun m ρ _ => Cert.Proj.Gen.frame m ρ, fun m ρ _ => Cert.ProjIdeal.Gen.frame m ρ, Proj.frame_ref,
  trivial, Pool.algebraic, trivial, Mlp.algebraic, trivial, Inproj.algebraic, trivial, Wgrad.algebraic, trivial, Mix.algebraic, trivial, Proj.algebraic⟩

end Cert.Proof

end
